-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_gain [hPre_finite_gain : Cert.Pre_finite_gain.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_gain.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_gain [hPre_finite_gain : Cert.Pre_finite_gain.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_gain.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite_gain [hKernel4Ideal : Cert.Kernel4Ideal.Facts] [hPre_finite_gain : Cert.Pre_finite_gain.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_gain m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite_gain [hReference4Ideal : Cert.Reference4Ideal.Facts] [hPre_finite_gain : Cert.Pre_finite_gain.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_gain m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_v61) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite_gain [hKernel4Ideal : Cert.Kernel4Ideal.Facts] [hReference4Ideal : Cert.Reference4Ideal.Facts] [hPre_finite_gain : Cert.Pre_finite_gain.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_gain m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v153) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_gain : Cert.Pre_finite_gain.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_gain (hKernel4Ideal := hKernel4Ideal) (hPre_finite_gain := hPre_finite_gain)
    ∧ quiescent_Reference4Ideal (hReference4Ideal := hReference4Ideal)
    ∧ quiescent_Reference4Ideal_pre_finite_gain (hReference4Ideal := hReference4Ideal) (hPre_finite_gain := hPre_finite_gain)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_gain (hKernel4Ideal := hKernel4Ideal) (hReference4Ideal := hReference4Ideal) (hPre_finite_gain := hPre_finite_gain)
-- ==== Pre_finite_gain.lean ====
abbrev S8192x2048 : Shape := ⟨2, ![8192, 2048]⟩
abbrev S2048 : Shape := ⟨1, ![2048]⟩
abbrev S4x512x512 : Shape := ⟨3, ![4, 512, 512]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S8192x2048 .f32) (main_arg1 : FVec F S2048 .f32) (main_arg2 : FVec F S4x512x512 .f32) (main_arg3 : FVec F S2048 .f32) (main_arg4 : FVec F S2048 .f32) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  main_v3
-- ==== Kernel.lean ====
abbrev S8192x2048 : Shape := ⟨2, ![8192, 2048]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S1024x2048 : Shape := ⟨2, ![1024, 2048]⟩
abbrev S2x1024x2048 : Shape := ⟨3, ![2, 1024, 2048]⟩
abbrev S2 : Shape := ⟨1, ![2]⟩
abbrev S2x2048x512 : Shape := ⟨3, ![2, 2048, 512]⟩
abbrev S2x512x2048 : Shape := ⟨3, ![2, 512, 2048]⟩
abbrev S_ : Shape := ⟨0, ![]⟩
abbrev S1 : Shape := ⟨1, ![1]⟩
abbrev S1x1024x2048 : Shape := ⟨3, ![1, 1024, 2048]⟩
abbrev S1x2048x512 : Shape := ⟨3, ![1, 2048, 512]⟩
abbrev S2048x512 : Shape := ⟨2, ![2048, 512]⟩
abbrev S1x512x2048 : Shape := ⟨3, ![1, 512, 2048]⟩
abbrev S512x2048 : Shape := ⟨2, ![512, 2048]⟩
abbrev S1024 : Shape := ⟨1, ![1024]⟩
abbrev S1024x1 : Shape := ⟨2, ![1024, 1]⟩
abbrev S256x2048 : Shape := ⟨2, ![256, 2048]⟩
abbrev S256x512 : Shape := ⟨2, ![256, 512]⟩

abbrev nBuf : Space → Nat
  | .hbm => 8
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S1x2048, .f32⟩
  | .hbm, ⟨5, _⟩ => ⟨S2048x11264, .bf16⟩
  | .hbm, ⟨6, _⟩ => ⟨S5632x2048, .bf16⟩
  | .hbm, ⟨7, _⟩ => ⟨S8192x2048, .f32⟩
  | .local _ .vmem, ⟨0, _⟩ => ⟨S1024x2048, .bf16⟩
  | .local _ .vmem, ⟨1, _⟩ => ⟨S2x1024x2048, .f32⟩
  | .local _ .vmem, ⟨2, _⟩ => ⟨S1x2048, .f32⟩
  | .local _ .vmem, ⟨3, _⟩ => ⟨S2x2048x512, .bf16⟩
  | .local _ .vmem, ⟨4, _⟩ => ⟨S2x2048x512, .bf16⟩
  | .local _ .vmem, ⟨5, _⟩ => ⟨S2x512x2048, .bf16⟩
  | .local _ .vmem, ⟨6, _⟩ => ⟨S2x1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_scratch0 : Ref sig .tc := ⟨.vmem, 0, rfl⟩
abbrev cc0_scoped0 : Ref sig .tc := ⟨.vmem, 1, rfl⟩
abbrev cc0_scoped2 : Ref sig .tc := ⟨.vmem, 2, rfl⟩
abbrev cc0_scoped3 : Ref sig .tc := ⟨.vmem, 3, rfl⟩
abbrev cc0_scoped5 : Ref sig .tc := ⟨.vmem, 4, rfl⟩
abbrev cc0_scoped7 : Ref sig .tc := ⟨.vmem, 5, rfl⟩
abbrev cc0_scoped9 : Ref sig .tc := ⟨.vmem, 6, rfl⟩

abbrev nD : Nat := 1
abbrev τ : Topo := Topo.v7x

variable {F : FTy → Type} [FloatOps F]

abbrev grid0 : Pipeline.Grid := .none

def k0_off1 : Fin 1 → Nat :=
  let c0_i32_28_r0 : BitVec 32 := 0#32
  let c2_i32_r0 : BitVec 32 := 2#32
  let v31_r0 : BitVec 32 := Scalar.remui c0_i32_28_r0 c2_i32_r0
  ![v31_r0.toNat]
def k0_off2 : Fin 3 → Nat :=
  let c0_i32_28_r0 : BitVec 32 := 0#32
  let c2_i32_r0 : BitVec 32 := 2#32
  let v31_r0 : BitVec 32 := Scalar.remui c0_i32_28_r0 c2_i32_r0
  let c0_i32_29_r0 : BitVec 32 := 0#32
  let c0_i32_30_r0 : BitVec 32 := 0#32
  ![v31_r0.toNat, 0, 0]
def k0_off3 : Fin 3 → Nat :=
  let c0_i32_35_r0 : BitVec 32 := 0#32
  let c2_i32_36_r0 : BitVec 32 := 2#32
  let v38_r0 : BitVec 32 := Scalar.remui c0_i32_35_r0 c2_i32_36_r0
  let c0_i32_37_r0 : BitVec 32 := 0#32
  let c0_i32_38_r0 : BitVec 32 := 0#32
  ![v38_r0.toNat, 0, 0]
def k0_off4 : Fin 3 → Nat :=
  let c0_i32_50_r0 : BitVec 32 := 0#32
  let c2_i32_51_r0 : BitVec 32 := 2#32
  let v52_r0 : BitVec 32 := Scalar.remui c0_i32_50_r0 c2_i32_51_r0
  let c0_i32_52_r0 : BitVec 32 := 0#32
  let c0_i32_53_r0 : BitVec 32 := 0#32
  ![v52_r0.toNat, 0, 0]
@[reducible] def k0_t1_loop : Scf.Loop 32 :=
  let c0_i32_68_r0 : BitVec 32 := 0#32
  let c88_i32_r0 : BitVec 32 := 88#32
  let v59_r0 : BitVec 32 := Scalar.addi c0_i32_68_r0 c88_i32_r0
  let c1_i32_69_r0 : BitVec 32 := 1#32
  ⟨c0_i32_68_r0, v59_r0, c1_i32_69_r0⟩
def k0_off5 (arg8_r0 : BitVec 32) : Fin 1 → Nat :=
  let c2_i32_297_r0 : BitVec 32 := 2#32
  let v413_r0 : BitVec 32 := Scalar.remui arg8_r0 c2_i32_297_r0
  ![v413_r0.toNat]
def k0_cond1 (k0_t1 : Fin k0_t1_loop.trips) (arg19_r0 : BitVec 32) (arg20_r0 : BitVec 32) : BitVec 1 :=
  let c0_i32_112_r0 : BitVec 32 := 0#32
  let v110_r0 : BitVec 32 := Scalar.addi arg19_r0 c0_i32_112_r0
  let true_124_r0 : BitVec 1 := 1#1
  let c1_i32_123_r0 : BitVec 32 := 1#32
  let v122_r0 : BitVec 32 := Scalar.addi arg20_r0 c1_i32_123_r0
  let v123_r0 : BitVec 32 := Scalar.select true_124_r0 v122_r0 arg20_r0
  let c11_i32_125_r0 : BitVec 32 := 11#32
  let v124_r0 : BitVec 1 := Scalar.cmpi .eq v123_r0 c11_i32_125_r0
  let c1_i32_127_r0 : BitVec 32 := 1#32
  let v126_r0 : BitVec 32 := Scalar.addi arg19_r0 c1_i32_127_r0
  let v127_r0 : BitVec 32 := Scalar.select v124_r0 v126_r0 arg19_r0
  let c8_i32_128_r0 : BitVec 32 := 8#32
  let v128_r0 : BitVec 1 := Scalar.cmpi .eq v127_r0 c8_i32_128_r0
  let c0_i32_129_r0 : BitVec 32 := 0#32
  let v129_r0 : BitVec 32 := Scalar.select v128_r0 c0_i32_129_r0 v127_r0
  let c0_i32_130_r0 : BitVec 32 := 0#32
  let v130_r0 : BitVec 32 := Scalar.addi v129_r0 c0_i32_130_r0
  let v142_r0 : BitVec 1 := Scalar.cmpi .ne v110_r0 v130_r0
  let c0_i32_68_r0 : BitVec 32 := 0#32
  let c1_i32_69_r0 : BitVec 32 := 1#32
  let arg7_r0 : BitVec 32 := Scf.iv c0_i32_68_r0 c1_i32_69_r0 k0_t1
  let c87_i32_141_r0 : BitVec 32 := 87#32
  let v143_r0 : BitVec 1 := Scalar.cmpi .sge arg7_r0 c87_i32_141_r0
  let true_142_r0 : BitVec 1 := 1#1
  let v144_r0 : BitVec 1 := Scalar.xori v143_r0 true_142_r0
  let v145_r0 : BitVec 1 := Scalar.andi v142_r0 v144_r0
  let true_143_r0 : BitVec 1 := 1#1
  let v146_r0 : BitVec 1 := Scalar.andi v145_r0 true_143_r0
  let v147_r0 : BitVec 32 := Scalar.extui v146_r0
  let c0_i32_144_r0 : BitVec 32 := 0#32
  let v148_r0 : BitVec 1 := Scalar.cmpi .ne v147_r0 c0_i32_144_r0
  v148_r0

def k0_off6 (arg8_r0 : BitVec 32) : Fin 3 → Nat :=
  let c2_i32_297_r0 : BitVec 32 := 2#32
  let v413_r0 : BitVec 32 := Scalar.remui arg8_r0 c2_i32_297_r0
  let c0_i32_299_r0 : BitVec 32 := 0#32
  let c0_i32_300_r0 : BitVec 32 := 0#32
  ![v413_r0.toNat, 0, 0]
def k0_off7 (arg19_r0 : BitVec 32) (arg20_r0 : BitVec 32) : Fin 2 → Nat :=
  let c1024_i32_298_r0 : BitVec 32 := 1024#32
  let true_124_r0 : BitVec 1 := 1#1
  let c1_i32_123_r0 : BitVec 32 := 1#32
  let v122_r0 : BitVec 32 := Scalar.addi arg20_r0 c1_i32_123_r0
  let v123_r0 : BitVec 32 := Scalar.select true_124_r0 v122_r0 arg20_r0
  let c11_i32_125_r0 : BitVec 32 := 11#32
  let v124_r0 : BitVec 1 := Scalar.cmpi .eq v123_r0 c11_i32_125_r0
  let c1_i32_127_r0 : BitVec 32 := 1#32
  let v126_r0 : BitVec 32 := Scalar.addi arg19_r0 c1_i32_127_r0
  let v127_r0 : BitVec 32 := Scalar.select v124_r0 v126_r0 arg19_r0
  let c8_i32_128_r0 : BitVec 32 := 8#32
  let v128_r0 : BitVec 1 := Scalar.cmpi .eq v127_r0 c8_i32_128_r0
  let c0_i32_129_r0 : BitVec 32 := 0#32
  let v129_r0 : BitVec 32 := Scalar.select v128_r0 c0_i32_129_r0 v127_r0
  let c0_i32_130_r0 : BitVec 32 := 0#32
  let v130_r0 : BitVec 32 := Scalar.addi v129_r0 c0_i32_130_r0
  let v414_r0 : BitVec 32 := Scalar.muli c1024_i32_298_r0 v130_r0
  let c0_i32_301_r0 : BitVec 32 := 0#32
  ![v414_r0.toNat, 0]
def k0_off8 (arg11_r0 : BitVec 32) : Fin 1 → Nat :=
  let c2_i32_297_r0 : BitVec 32 := 2#32
  let v413_r0 : BitVec 32 := Scalar.remui arg11_r0 c2_i32_297_r0
  ![v413_r0.toNat]
def k0_cond2 (k0_t1 : Fin k0_t1_loop.trips) (arg20_r0 : BitVec 32) : BitVec 1 :=
  let c0_i32_113_r0 : BitVec 32 := 0#32
  let v111_r0 : BitVec 32 := Scalar.addi arg20_r0 c0_i32_113_r0
  let true_124_r0 : BitVec 1 := 1#1
  let c1_i32_123_r0 : BitVec 32 := 1#32
  let v122_r0 : BitVec 32 := Scalar.addi arg20_r0 c1_i32_123_r0
  let v123_r0 : BitVec 32 := Scalar.select true_124_r0 v122_r0 arg20_r0
  let c11_i32_125_r0 : BitVec 32 := 11#32
  let v124_r0 : BitVec 1 := Scalar.cmpi .eq v123_r0 c11_i32_125_r0
  let c0_i32_126_r0 : BitVec 32 := 0#32
  let v125_r0 : BitVec 32 := Scalar.select v124_r0 c0_i32_126_r0 v123_r0
  let c0_i32_131_r0 : BitVec 32 := 0#32
  let v131_r0 : BitVec 32 := Scalar.addi v125_r0 c0_i32_131_r0
  let v152_r0 : BitVec 1 := Scalar.cmpi .ne v111_r0 v131_r0
  let c0_i32_68_r0 : BitVec 32 := 0#32
  let c1_i32_69_r0 : BitVec 32 := 1#32
  let arg7_r0 : BitVec 32 := Scf.iv c0_i32_68_r0 c1_i32_69_r0 k0_t1
  let c87_i32_147_r0 : BitVec 32 := 87#32
  let v153_r0 : BitVec 1 := Scalar.cmpi .sge arg7_r0 c87_i32_147_r0
  let true_148_r0 : BitVec 1 := 1#1
  let v154_r0 : BitVec 1 := Scalar.xori v153_r0 true_148_r0
  let v155_r0 : BitVec 1 := Scalar.andi v152_r0 v154_r0
  let true_149_r0 : BitVec 1 := 1#1
  let v156_r0 : BitVec 1 := Scalar.andi v155_r0 true_149_r0
  let v157_r0 : BitVec 32 := Scalar.extui v156_r0
  let c0_i32_150_r0 : BitVec 32 := 0#32
  let v158_r0 : BitVec 1 := Scalar.cmpi .ne v157_r0 c0_i32_150_r0
  v158_r0

def k0_off9 (arg11_r0 : BitVec 32) : Fin 3 → Nat :=
  let c2_i32_297_r0 : BitVec 32 := 2#32
  let v413_r0 : BitVec 32 := Scalar.remui arg11_r0 c2_i32_297_r0
  let c0_i32_298_r0 : BitVec 32 := 0#32
  let c0_i32_299_r0 : BitVec 32 := 0#32
  ![v413_r0.toNat, 0, 0]
def k0_off10 (arg20_r0 : BitVec 32) : Fin 2 → Nat :=
  let c0_i32_300_r0 : BitVec 32 := 0#32
  let c512_i32_r0 : BitVec 32 := 512#32
  let true_124_r0 : BitVec 1 := 1#1
  let c1_i32_123_r0 : BitVec 32 := 1#32
  let v122_r0 : BitVec 32 := Scalar.addi arg20_r0 c1_i32_123_r0
  let v123_r0 : BitVec 32 := Scalar.select true_124_r0 v122_r0 arg20_r0
  let c11_i32_125_r0 : BitVec 32 := 11#32
  let v124_r0 : BitVec 1 := Scalar.cmpi .eq v123_r0 c11_i32_125_r0
  let c0_i32_126_r0 : BitVec 32 := 0#32
  let v125_r0 : BitVec 32 := Scalar.select v124_r0 c0_i32_126_r0 v123_r0
  let c0_i32_131_r0 : BitVec 32 := 0#32
  let v131_r0 : BitVec 32 := Scalar.addi v125_r0 c0_i32_131_r0
  let v414_r0 : BitVec 32 := Scalar.muli c512_i32_r0 v131_r0
  ![0, v414_r0.toNat]
def k0_off11 (arg13_r0 : BitVec 32) : Fin 1 → Nat :=
  let c2_i32_297_r0 : BitVec 32 := 2#32
  let v413_r0 : BitVec 32 := Scalar.remui arg13_r0 c2_i32_297_r0
  ![v413_r0.toNat]
def k0_cond3 (k0_t1 : Fin k0_t1_loop.trips) (arg20_r0 : BitVec 32) : BitVec 1 :=
  let c11_i32_153_r0 : BitVec 32 := 11#32
  let c0_i32_113_r0 : BitVec 32 := 0#32
  let v111_r0 : BitVec 32 := Scalar.addi arg20_r0 c0_i32_113_r0
  let v162_r0 : BitVec 32 := Scalar.addi c11_i32_153_r0 v111_r0
  let c11_i32_154_r0 : BitVec 32 := 11#32
  let true_124_r0 : BitVec 1 := 1#1
  let c1_i32_123_r0 : BitVec 32 := 1#32
  let v122_r0 : BitVec 32 := Scalar.addi arg20_r0 c1_i32_123_r0
  let v123_r0 : BitVec 32 := Scalar.select true_124_r0 v122_r0 arg20_r0
  let c11_i32_125_r0 : BitVec 32 := 11#32
  let v124_r0 : BitVec 1 := Scalar.cmpi .eq v123_r0 c11_i32_125_r0
  let c0_i32_126_r0 : BitVec 32 := 0#32
  let v125_r0 : BitVec 32 := Scalar.select v124_r0 c0_i32_126_r0 v123_r0
  let c0_i32_131_r0 : BitVec 32 := 0#32
  let v131_r0 : BitVec 32 := Scalar.addi v125_r0 c0_i32_131_r0
  let v163_r0 : BitVec 32 := Scalar.addi c11_i32_154_r0 v131_r0
  let v164_r0 : BitVec 1 := Scalar.cmpi .ne v162_r0 v163_r0
  let c0_i32_68_r0 : BitVec 32 := 0#32
  let c1_i32_69_r0 : BitVec 32 := 1#32
  let arg7_r0 : BitVec 32 := Scf.iv c0_i32_68_r0 c1_i32_69_r0 k0_t1
  let c87_i32_155_r0 : BitVec 32 := 87#32
  let v165_r0 : BitVec 1 := Scalar.cmpi .sge arg7_r0 c87_i32_155_r0
  let true_156_r0 : BitVec 1 := 1#1
  let v166_r0 : BitVec 1 := Scalar.xori v165_r0 true_156_r0
  let v167_r0 : BitVec 1 := Scalar.andi v164_r0 v166_r0
  let true_157_r0 : BitVec 1 := 1#1
  let v168_r0 : BitVec 1 := Scalar.andi v167_r0 true_157_r0
  let v169_r0 : BitVec 32 := Scalar.extui v168_r0
  let c0_i32_158_r0 : BitVec 32 := 0#32
  let v170_r0 : BitVec 1 := Scalar.cmpi .ne v169_r0 c0_i32_158_r0
  v170_r0

def k0_off12 (arg13_r0 : BitVec 32) : Fin 3 → Nat :=
  let c2_i32_297_r0 : BitVec 32 := 2#32
  let v413_r0 : BitVec 32 := Scalar.remui arg13_r0 c2_i32_297_r0
  let c0_i32_299_r0 : BitVec 32 := 0#32
  let c0_i32_300_r0 : BitVec 32 := 0#32
  ![v413_r0.toNat, 0, 0]
def k0_off13 (arg20_r0 : BitVec 32) : Fin 2 → Nat :=
  let c0_i32_301_r0 : BitVec 32 := 0#32
  let c512_i32_r0 : BitVec 32 := 512#32
  let c11_i32_298_r0 : BitVec 32 := 11#32
  let true_124_r0 : BitVec 1 := 1#1
  let c1_i32_123_r0 : BitVec 32 := 1#32
  let v122_r0 : BitVec 32 := Scalar.addi arg20_r0 c1_i32_123_r0
  let v123_r0 : BitVec 32 := Scalar.select true_124_r0 v122_r0 arg20_r0
  let c11_i32_125_r0 : BitVec 32 := 11#32
  let v124_r0 : BitVec 1 := Scalar.cmpi .eq v123_r0 c11_i32_125_r0
  let c0_i32_126_r0 : BitVec 32 := 0#32
  let v125_r0 : BitVec 32 := Scalar.select v124_r0 c0_i32_126_r0 v123_r0
  let c0_i32_131_r0 : BitVec 32 := 0#32
  let v131_r0 : BitVec 32 := Scalar.addi v125_r0 c0_i32_131_r0
  let v414_r0 : BitVec 32 := Scalar.addi c11_i32_298_r0 v131_r0
  let v415_r0 : BitVec 32 := Scalar.muli c512_i32_r0 v414_r0
  ![0, v415_r0.toNat]
def k0_off14 (arg15_r0 : BitVec 32) : Fin 1 → Nat :=
  let c2_i32_297_r0 : BitVec 32 := 2#32
  let v413_r0 : BitVec 32 := Scalar.remui arg15_r0 c2_i32_297_r0
  ![v413_r0.toNat]
def k0_cond4 (k0_t1 : Fin k0_t1_loop.trips) (arg20_r0 : BitVec 32) : BitVec 1 :=
  let c0_i32_113_r0 : BitVec 32 := 0#32
  let v111_r0 : BitVec 32 := Scalar.addi arg20_r0 c0_i32_113_r0
  let true_124_r0 : BitVec 1 := 1#1
  let c1_i32_123_r0 : BitVec 32 := 1#32
  let v122_r0 : BitVec 32 := Scalar.addi arg20_r0 c1_i32_123_r0
  let v123_r0 : BitVec 32 := Scalar.select true_124_r0 v122_r0 arg20_r0
  let c11_i32_125_r0 : BitVec 32 := 11#32
  let v124_r0 : BitVec 1 := Scalar.cmpi .eq v123_r0 c11_i32_125_r0
  let c0_i32_126_r0 : BitVec 32 := 0#32
  let v125_r0 : BitVec 32 := Scalar.select v124_r0 c0_i32_126_r0 v123_r0
  let c0_i32_131_r0 : BitVec 32 := 0#32
  let v131_r0 : BitVec 32 := Scalar.addi v125_r0 c0_i32_131_r0
  let v174_r0 : BitVec 1 := Scalar.cmpi .ne v111_r0 v131_r0
  let c0_i32_68_r0 : BitVec 32 := 0#32
  let c1_i32_69_r0 : BitVec 32 := 1#32
  let arg7_r0 : BitVec 32 := Scf.iv c0_i32_68_r0 c1_i32_69_r0 k0_t1
  let c87_i32_161_r0 : BitVec 32 := 87#32
  let v175_r0 : BitVec 1 := Scalar.cmpi .sge arg7_r0 c87_i32_161_r0
  let true_162_r0 : BitVec 1 := 1#1
  let v176_r0 : BitVec 1 := Scalar.xori v175_r0 true_162_r0
  let v177_r0 : BitVec 1 := Scalar.andi v174_r0 v176_r0
  let true_163_r0 : BitVec 1 := 1#1
  let v178_r0 : BitVec 1 := Scalar.andi v177_r0 true_163_r0
  let v179_r0 : BitVec 32 := Scalar.extui v178_r0
  let c0_i32_164_r0 : BitVec 32 := 0#32
  let v180_r0 : BitVec 1 := Scalar.cmpi .ne v179_r0 c0_i32_164_r0
  v180_r0

def k0_off15 (arg15_r0 : BitVec 32) : Fin 3 → Nat :=
  let c2_i32_297_r0 : BitVec 32 := 2#32
  let v413_r0 : BitVec 32 := Scalar.remui arg15_r0 c2_i32_297_r0
  let c0_i32_298_r0 : BitVec 32 := 0#32
  let c0_i32_299_r0 : BitVec 32 := 0#32
  ![v413_r0.toNat, 0, 0]
def k0_off16 (arg20_r0 : BitVec 32) : Fin 2 → Nat :=
  let c512_i32_r0 : BitVec 32 := 512#32
  let true_124_r0 : BitVec 1 := 1#1
  let c1_i32_123_r0 : BitVec 32 := 1#32
  let v122_r0 : BitVec 32 := Scalar.addi arg20_r0 c1_i32_123_r0
  let v123_r0 : BitVec 32 := Scalar.select true_124_r0 v122_r0 arg20_r0
  let c11_i32_125_r0 : BitVec 32 := 11#32
  let v124_r0 : BitVec 1 := Scalar.cmpi .eq v123_r0 c11_i32_125_r0
  let c0_i32_126_r0 : BitVec 32 := 0#32
  let v125_r0 : BitVec 32 := Scalar.select v124_r0 c0_i32_126_r0 v123_r0
  let c0_i32_131_r0 : BitVec 32 := 0#32
  let v131_r0 : BitVec 32 := Scalar.addi v125_r0 c0_i32_131_r0
  let v414_r0 : BitVec 32 := Scalar.muli c512_i32_r0 v131_r0
  let c0_i32_300_r0 : BitVec 32 := 0#32
  ![v414_r0.toNat, 0]
def k0_off17 (arg9_r0 : BitVec 32) : Fin 1 → Nat :=
  let c2_i32_298_r0 : BitVec 32 := 2#32
  let v414_r0 : BitVec 32 := Scalar.remui arg9_r0 c2_i32_298_r0
  ![v414_r0.toNat]
def k0_cond5 (k0_t1 : Fin k0_t1_loop.trips) (arg19_r0 : BitVec 32) (arg20_r0 : BitVec 32) : BitVec 1 :=
  let c0_i32_112_r0 : BitVec 32 := 0#32
  let v110_r0 : BitVec 32 := Scalar.addi arg19_r0 c0_i32_112_r0
  let true_115_r0 : BitVec 1 := 1#1
  let c1_i32_114_r0 : BitVec 32 := 1#32
  let v112_r0 : BitVec 32 := Scalar.subi arg20_r0 c1_i32_114_r0
  let v113_r0 : BitVec 32 := Scalar.select true_115_r0 v112_r0 arg20_r0
  let c_m1_i32_116_r0 : BitVec 32 := 4294967295#32
  let v114_r0 : BitVec 1 := Scalar.cmpi .eq v113_r0 c_m1_i32_116_r0
  let c1_i32_118_r0 : BitVec 32 := 1#32
  let v116_r0 : BitVec 32 := Scalar.subi arg19_r0 c1_i32_118_r0
  let v117_r0 : BitVec 32 := Scalar.select v114_r0 v116_r0 arg19_r0
  let c_m1_i32_119_r0 : BitVec 32 := 4294967295#32
  let v118_r0 : BitVec 1 := Scalar.cmpi .eq v117_r0 c_m1_i32_119_r0
  let c7_i32_120_r0 : BitVec 32 := 7#32
  let v119_r0 : BitVec 32 := Scalar.select v118_r0 c7_i32_120_r0 v117_r0
  let c0_i32_121_r0 : BitVec 32 := 0#32
  let v120_r0 : BitVec 32 := Scalar.addi v119_r0 c0_i32_121_r0
  let v188_r0 : BitVec 1 := Scalar.cmpi .ne v110_r0 v120_r0
  let c0_i32_68_r0 : BitVec 32 := 0#32
  let c1_i32_69_r0 : BitVec 32 := 1#32
  let arg7_r0 : BitVec 32 := Scf.iv c0_i32_68_r0 c1_i32_69_r0 k0_t1
  let c0_i32_111_r0 : BitVec 32 := 0#32
  let v108_r0 : BitVec 1 := Scalar.cmpi .eq arg7_r0 c0_i32_111_r0
  let v189_r0 : BitVec 1 := Scalar.ori v188_r0 v108_r0
  let c0_i32_169_r0 : BitVec 32 := 0#32
  let v190_r0 : BitVec 1 := Scalar.cmpi .sge arg7_r0 c0_i32_169_r0
  let v191_r0 : BitVec 1 := Scalar.andi v189_r0 v190_r0
  let v192_r0 : BitVec 32 := Scalar.extui v191_r0
  let c0_i32_170_r0 : BitVec 32 := 0#32
  let v193_r0 : BitVec 1 := Scalar.cmpi .ne v192_r0 c0_i32_170_r0
  v193_r0

def k0_off18 (arg9_r0 : BitVec 32) : Fin 3 → Nat :=
  let c2_i32_298_r0 : BitVec 32 := 2#32
  let v414_r0 : BitVec 32 := Scalar.remui arg9_r0 c2_i32_298_r0
  let c0_i32_299_r0 : BitVec 32 := 0#32
  let c0_i32_300_r0 : BitVec 32 := 0#32
  ![v414_r0.toNat, 0, 0]
def k0_off19 (arg19_r0 : BitVec 32) : Fin 2 → Nat :=
  let c1024_i32_297_r0 : BitVec 32 := 1024#32
  let c0_i32_112_r0 : BitVec 32 := 0#32
  let v110_r0 : BitVec 32 := Scalar.addi arg19_r0 c0_i32_112_r0
  let v413_r0 : BitVec 32 := Scalar.muli c1024_i32_297_r0 v110_r0
  let c0_i32_301_r0 : BitVec 32 := 0#32
  ![v413_r0.toNat, 0]
def k0_off20 (arg12_r0 : BitVec 32) : Fin 1 → Nat :=
  let c2_i32_297_r0 : BitVec 32 := 2#32
  let v414_r0 : BitVec 32 := Scalar.remui arg12_r0 c2_i32_297_r0
  ![v414_r0.toNat]
def k0_cond6 (k0_t1 : Fin k0_t1_loop.trips) (arg20_r0 : BitVec 32) : BitVec 1 :=
  let c0_i32_113_r0 : BitVec 32 := 0#32
  let v111_r0 : BitVec 32 := Scalar.addi arg20_r0 c0_i32_113_r0
  let true_115_r0 : BitVec 1 := 1#1
  let c1_i32_114_r0 : BitVec 32 := 1#32
  let v112_r0 : BitVec 32 := Scalar.subi arg20_r0 c1_i32_114_r0
  let v113_r0 : BitVec 32 := Scalar.select true_115_r0 v112_r0 arg20_r0
  let c_m1_i32_116_r0 : BitVec 32 := 4294967295#32
  let v114_r0 : BitVec 1 := Scalar.cmpi .eq v113_r0 c_m1_i32_116_r0
  let c10_i32_117_r0 : BitVec 32 := 10#32
  let v115_r0 : BitVec 32 := Scalar.select v114_r0 c10_i32_117_r0 v113_r0
  let c0_i32_122_r0 : BitVec 32 := 0#32
  let v121_r0 : BitVec 32 := Scalar.addi v115_r0 c0_i32_122_r0
  let v194_r0 : BitVec 1 := Scalar.cmpi .ne v111_r0 v121_r0
  let c0_i32_68_r0 : BitVec 32 := 0#32
  let c1_i32_69_r0 : BitVec 32 := 1#32
  let arg7_r0 : BitVec 32 := Scf.iv c0_i32_68_r0 c1_i32_69_r0 k0_t1
  let c0_i32_111_r0 : BitVec 32 := 0#32
  let v108_r0 : BitVec 1 := Scalar.cmpi .eq arg7_r0 c0_i32_111_r0
  let v195_r0 : BitVec 1 := Scalar.ori v194_r0 v108_r0
  let c0_i32_171_r0 : BitVec 32 := 0#32
  let v196_r0 : BitVec 1 := Scalar.cmpi .sge arg7_r0 c0_i32_171_r0
  let v197_r0 : BitVec 1 := Scalar.andi v195_r0 v196_r0
  let v198_r0 : BitVec 32 := Scalar.extui v197_r0
  let c0_i32_172_r0 : BitVec 32 := 0#32
  let v199_r0 : BitVec 1 := Scalar.cmpi .ne v198_r0 c0_i32_172_r0
  v199_r0

def k0_off21 (arg12_r0 : BitVec 32) : Fin 3 → Nat :=
  let c2_i32_297_r0 : BitVec 32 := 2#32
  let v414_r0 : BitVec 32 := Scalar.remui arg12_r0 c2_i32_297_r0
  let c0_i32_298_r0 : BitVec 32 := 0#32
  let c0_i32_299_r0 : BitVec 32 := 0#32
  ![v414_r0.toNat, 0, 0]
def k0_off22 (arg20_r0 : BitVec 32) : Fin 2 → Nat :=
  let c0_i32_300_r0 : BitVec 32 := 0#32
  let c512_i32_r0 : BitVec 32 := 512#32
  let c0_i32_113_r0 : BitVec 32 := 0#32
  let v111_r0 : BitVec 32 := Scalar.addi arg20_r0 c0_i32_113_r0
  let v413_r0 : BitVec 32 := Scalar.muli c512_i32_r0 v111_r0
  ![0, v413_r0.toNat]
def k0_off23 (arg14_r0 : BitVec 32) : Fin 1 → Nat :=
  let c2_i32_298_r0 : BitVec 32 := 2#32
  let v415_r0 : BitVec 32 := Scalar.remui arg14_r0 c2_i32_298_r0
  ![v415_r0.toNat]
def k0_cond7 (k0_t1 : Fin k0_t1_loop.trips) (arg20_r0 : BitVec 32) : BitVec 1 :=
  let c11_i32_153_r0 : BitVec 32 := 11#32
  let c0_i32_113_r0 : BitVec 32 := 0#32
  let v111_r0 : BitVec 32 := Scalar.addi arg20_r0 c0_i32_113_r0
  let v162_r0 : BitVec 32 := Scalar.addi c11_i32_153_r0 v111_r0
  let c11_i32_173_r0 : BitVec 32 := 11#32
  let true_115_r0 : BitVec 1 := 1#1
  let c1_i32_114_r0 : BitVec 32 := 1#32
  let v112_r0 : BitVec 32 := Scalar.subi arg20_r0 c1_i32_114_r0
  let v113_r0 : BitVec 32 := Scalar.select true_115_r0 v112_r0 arg20_r0
  let c_m1_i32_116_r0 : BitVec 32 := 4294967295#32
  let v114_r0 : BitVec 1 := Scalar.cmpi .eq v113_r0 c_m1_i32_116_r0
  let c10_i32_117_r0 : BitVec 32 := 10#32
  let v115_r0 : BitVec 32 := Scalar.select v114_r0 c10_i32_117_r0 v113_r0
  let c0_i32_122_r0 : BitVec 32 := 0#32
  let v121_r0 : BitVec 32 := Scalar.addi v115_r0 c0_i32_122_r0
  let v200_r0 : BitVec 32 := Scalar.addi c11_i32_173_r0 v121_r0
  let v201_r0 : BitVec 1 := Scalar.cmpi .ne v162_r0 v200_r0
  let c0_i32_68_r0 : BitVec 32 := 0#32
  let c1_i32_69_r0 : BitVec 32 := 1#32
  let arg7_r0 : BitVec 32 := Scf.iv c0_i32_68_r0 c1_i32_69_r0 k0_t1
  let c0_i32_111_r0 : BitVec 32 := 0#32
  let v108_r0 : BitVec 1 := Scalar.cmpi .eq arg7_r0 c0_i32_111_r0
  let v202_r0 : BitVec 1 := Scalar.ori v201_r0 v108_r0
  let c0_i32_174_r0 : BitVec 32 := 0#32
  let v203_r0 : BitVec 1 := Scalar.cmpi .sge arg7_r0 c0_i32_174_r0
  let v204_r0 : BitVec 1 := Scalar.andi v202_r0 v203_r0
  let v205_r0 : BitVec 32 := Scalar.extui v204_r0
  let c0_i32_175_r0 : BitVec 32 := 0#32
  let v206_r0 : BitVec 1 := Scalar.cmpi .ne v205_r0 c0_i32_175_r0
  v206_r0

def k0_off24 (arg14_r0 : BitVec 32) : Fin 3 → Nat :=
  let c2_i32_298_r0 : BitVec 32 := 2#32
  let v415_r0 : BitVec 32 := Scalar.remui arg14_r0 c2_i32_298_r0
  let c0_i32_299_r0 : BitVec 32 := 0#32
  let c0_i32_300_r0 : BitVec 32 := 0#32
  ![v415_r0.toNat, 0, 0]
def k0_off25 (arg20_r0 : BitVec 32) : Fin 2 → Nat :=
  let c0_i32_301_r0 : BitVec 32 := 0#32
  let c512_i32_r0 : BitVec 32 := 512#32
  let c11_i32_297_r0 : BitVec 32 := 11#32
  let c0_i32_113_r0 : BitVec 32 := 0#32
  let v111_r0 : BitVec 32 := Scalar.addi arg20_r0 c0_i32_113_r0
  let v413_r0 : BitVec 32 := Scalar.addi c11_i32_297_r0 v111_r0
  let v414_r0 : BitVec 32 := Scalar.muli c512_i32_r0 v413_r0
  ![0, v414_r0.toNat]
def k0_off26 (arg16_r0 : BitVec 32) : Fin 1 → Nat :=
  let c2_i32_297_r0 : BitVec 32 := 2#32
  let v414_r0 : BitVec 32 := Scalar.remui arg16_r0 c2_i32_297_r0
  ![v414_r0.toNat]
def k0_cond8 (k0_t1 : Fin k0_t1_loop.trips) (arg20_r0 : BitVec 32) : BitVec 1 :=
  let c0_i32_113_r0 : BitVec 32 := 0#32
  let v111_r0 : BitVec 32 := Scalar.addi arg20_r0 c0_i32_113_r0
  let true_115_r0 : BitVec 1 := 1#1
  let c1_i32_114_r0 : BitVec 32 := 1#32
  let v112_r0 : BitVec 32 := Scalar.subi arg20_r0 c1_i32_114_r0
  let v113_r0 : BitVec 32 := Scalar.select true_115_r0 v112_r0 arg20_r0
  let c_m1_i32_116_r0 : BitVec 32 := 4294967295#32
  let v114_r0 : BitVec 1 := Scalar.cmpi .eq v113_r0 c_m1_i32_116_r0
  let c10_i32_117_r0 : BitVec 32 := 10#32
  let v115_r0 : BitVec 32 := Scalar.select v114_r0 c10_i32_117_r0 v113_r0
  let c0_i32_122_r0 : BitVec 32 := 0#32
  let v121_r0 : BitVec 32 := Scalar.addi v115_r0 c0_i32_122_r0
  let v207_r0 : BitVec 1 := Scalar.cmpi .ne v111_r0 v121_r0
  let c0_i32_68_r0 : BitVec 32 := 0#32
  let c1_i32_69_r0 : BitVec 32 := 1#32
  let arg7_r0 : BitVec 32 := Scf.iv c0_i32_68_r0 c1_i32_69_r0 k0_t1
  let c0_i32_111_r0 : BitVec 32 := 0#32
  let v108_r0 : BitVec 1 := Scalar.cmpi .eq arg7_r0 c0_i32_111_r0
  let v208_r0 : BitVec 1 := Scalar.ori v207_r0 v108_r0
  let c0_i32_176_r0 : BitVec 32 := 0#32
  let v209_r0 : BitVec 1 := Scalar.cmpi .sge arg7_r0 c0_i32_176_r0
  let v210_r0 : BitVec 1 := Scalar.andi v208_r0 v209_r0
  let v211_r0 : BitVec 32 := Scalar.extui v210_r0
  let c0_i32_177_r0 : BitVec 32 := 0#32
  let v212_r0 : BitVec 1 := Scalar.cmpi .ne v211_r0 c0_i32_177_r0
  v212_r0

def k0_off27 (arg16_r0 : BitVec 32) : Fin 3 → Nat :=
  let c2_i32_297_r0 : BitVec 32 := 2#32
  let v414_r0 : BitVec 32 := Scalar.remui arg16_r0 c2_i32_297_r0
  let c0_i32_298_r0 : BitVec 32 := 0#32
  let c0_i32_299_r0 : BitVec 32 := 0#32
  ![v414_r0.toNat, 0, 0]
def k0_off28 (arg20_r0 : BitVec 32) : Fin 2 → Nat :=
  let c512_i32_r0 : BitVec 32 := 512#32
  let c0_i32_113_r0 : BitVec 32 := 0#32
  let v111_r0 : BitVec 32 := Scalar.addi arg20_r0 c0_i32_113_r0
  let v413_r0 : BitVec 32 := Scalar.muli c512_i32_r0 v111_r0
  let c0_i32_300_r0 : BitVec 32 := 0#32
  ![v413_r0.toNat, 0]
def k0_off29 (arg9_r0 : BitVec 32) : Fin 3 → Nat :=
  let c2_i32_180_r0 : BitVec 32 := 2#32
  let v219_r0 : BitVec 32 := Scalar.remui arg9_r0 c2_i32_180_r0
  let v413_r0 : Index := Scalar.indexCast v219_r0
  let c0_297_r0 : Index := 0#32
  let c0_298_r0 : Index := 0#32
  ![v413_r0.toNat, 0, 0]
def k0_cond10 (arg20_r0 : BitVec 32) : BitVec 1 :=
  let c0_i32_113_r0 : BitVec 32 := 0#32
  let v111_r0 : BitVec 32 := Scalar.addi arg20_r0 c0_i32_113_r0
  let c0_i32_185_r0 : BitVec 32 := 0#32
  let v224_r0 : BitVec 1 := Scalar.cmpi .eq v111_r0 c0_i32_185_r0
  let v225_r0 : BitVec 32 := Scalar.extui v224_r0
  let c0_i32_186_r0 : BitVec 32 := 0#32
  let v226_r0 : BitVec 1 := Scalar.cmpi .ne v225_r0 c0_i32_186_r0
  v226_r0

def k0_off30 (arg17_r0 : BitVec 32) : Fin 3 → Nat :=
  let c2_i32_184_r0 : BitVec 32 := 2#32
  let v223_r0 : BitVec 32 := Scalar.remui arg17_r0 c2_i32_184_r0
  let v434_r0 : Index := Scalar.indexCast v223_r0
  let c0_306_r0 : Index := 0#32
  let c0_307_r0 : Index := 0#32
  ![v434_r0.toNat, 0, 0]
def k0_off31 (arg12_r0 : BitVec 32) : Fin 3 → Nat :=
  let c2_i32_181_r0 : BitVec 32 := 2#32
  let v220_r0 : BitVec 32 := Scalar.remui arg12_r0 c2_i32_181_r0
  let v228_r0 : Index := Scalar.indexCast v220_r0
  let c0_188_r0 : Index := 0#32
  let c0_189_r0 : Index := 0#32
  ![v228_r0.toNat, 0, 0]

def k0_chk2 (arg12_r0 : BitVec 32) : Prop :=
  (∀ a, (k0_off31 arg12_r0) a + S1x2048x512.size a ≤ S2x2048x512.size a)
theorem k0_off31_inb : ∀ (arg12_r0 : BitVec 32) (k0_hw2 : k0_chk2 arg12_r0), ∀ a, (k0_off31 arg12_r0) a + S1x2048x512.size a ≤ S2x2048x512.size a := fun arg12_r0 k0_hw2 => k0_hw2

def k0_off32 (arg14_r0 : BitVec 32) : Fin 3 → Nat :=
  let c2_i32_182_r0 : BitVec 32 := 2#32
  let v221_r0 : BitVec 32 := Scalar.remui arg14_r0 c2_i32_182_r0
  let v232_r0 : Index := Scalar.indexCast v221_r0
  let c0_190_r0 : Index := 0#32
  let c0_191_r0 : Index := 0#32
  ![v232_r0.toNat, 0, 0]

def k0_chk3 (arg14_r0 : BitVec 32) : Prop :=
  (∀ a, (k0_off32 arg14_r0) a + S1x2048x512.size a ≤ S2x2048x512.size a)
theorem k0_off32_inb : ∀ (arg14_r0 : BitVec 32) (k0_hw3 : k0_chk3 arg14_r0), ∀ a, (k0_off32 arg14_r0) a + S1x2048x512.size a ≤ S2x2048x512.size a := fun arg14_r0 k0_hw3 => k0_hw3

def k0_off33 (arg17_r0 : BitVec 32) : Fin 3 → Nat :=
  let c2_i32_184_r0 : BitVec 32 := 2#32
  let v223_r0 : BitVec 32 := Scalar.remui arg17_r0 c2_i32_184_r0
  let c0_i32_214_r0 : BitVec 32 := 0#32
  let c0_i32_215_r0 : BitVec 32 := 0#32
  ![v223_r0.toNat, 0, 0]

def k0_chk4 (arg17_r0 : BitVec 32) : Prop :=
  (∀ a, (k0_off33 arg17_r0) a + S1x1024x2048.size a ≤ S2x1024x2048.size a)
theorem k0_off33_inb : ∀ (arg17_r0 : BitVec 32) (k0_hw4 : k0_chk4 arg17_r0), ∀ a, (k0_off33 arg17_r0) a + S1x1024x2048.size a ≤ S2x1024x2048.size a := fun arg17_r0 k0_hw4 => k0_hw4

def k0_off34 (arg16_r0 : BitVec 32) : Fin 3 → Nat :=
  let c2_i32_183_r0 : BitVec 32 := 2#32
  let v222_r0 : BitVec 32 := Scalar.remui arg16_r0 c2_i32_183_r0
  let v283_r0 : Index := Scalar.indexCast v222_r0
  let c0_218_r0 : Index := 0#32
  let c0_219_r0 : Index := 0#32
  ![v283_r0.toNat, 0, 0]

def k0_chk5 (arg16_r0 : BitVec 32) : Prop :=
  (∀ a, (k0_off34 arg16_r0) a + S1x512x2048.size a ≤ S2x512x2048.size a)
theorem k0_off34_inb : ∀ (arg16_r0 : BitVec 32) (k0_hw5 : k0_chk5 arg16_r0), ∀ a, (k0_off34 arg16_r0) a + S1x512x2048.size a ≤ S2x512x2048.size a := fun arg16_r0 k0_hw5 => k0_hw5

def k0_off35 (arg17_r0 : BitVec 32) : Fin 1 → Nat :=
  let c2_i32_297_r0 : BitVec 32 := 2#32
  let v413_r0 : BitVec 32 := Scalar.remui arg17_r0 c2_i32_297_r0
  ![v413_r0.toNat]
def k0_cond15 (k0_t1 : Fin k0_t1_loop.trips) (arg19_r0 : BitVec 32) (arg20_r0 : BitVec 32) : BitVec 1 :=
  let c0_i32_112_r0 : BitVec 32 := 0#32
  let v110_r0 : BitVec 32 := Scalar.addi arg19_r0 c0_i32_112_r0
  let true_124_r0 : BitVec 1 := 1#1
  let c1_i32_123_r0 : BitVec 32 := 1#32
  let v122_r0 : BitVec 32 := Scalar.addi arg20_r0 c1_i32_123_r0
  let v123_r0 : BitVec 32 := Scalar.select true_124_r0 v122_r0 arg20_r0
  let c11_i32_125_r0 : BitVec 32 := 11#32
  let v124_r0 : BitVec 1 := Scalar.cmpi .eq v123_r0 c11_i32_125_r0
  let c1_i32_127_r0 : BitVec 32 := 1#32
  let v126_r0 : BitVec 32 := Scalar.addi arg19_r0 c1_i32_127_r0
  let v127_r0 : BitVec 32 := Scalar.select v124_r0 v126_r0 arg19_r0
  let c8_i32_128_r0 : BitVec 32 := 8#32
  let v128_r0 : BitVec 1 := Scalar.cmpi .eq v127_r0 c8_i32_128_r0
  let c0_i32_129_r0 : BitVec 32 := 0#32
  let v129_r0 : BitVec 32 := Scalar.select v128_r0 c0_i32_129_r0 v127_r0
  let c0_i32_130_r0 : BitVec 32 := 0#32
  let v130_r0 : BitVec 32 := Scalar.addi v129_r0 c0_i32_130_r0
  let v347_r0 : BitVec 1 := Scalar.cmpi .ne v110_r0 v130_r0
  let c0_i32_68_r0 : BitVec 32 := 0#32
  let c1_i32_69_r0 : BitVec 32 := 1#32
  let arg7_r0 : BitVec 32 := Scf.iv c0_i32_68_r0 c1_i32_69_r0 k0_t1
  let c87_i32_r0 : BitVec 32 := 87#32
  let v109_r0 : BitVec 1 := Scalar.cmpi .eq arg7_r0 c87_i32_r0
  let v348_r0 : BitVec 1 := Scalar.ori v347_r0 v109_r0
  let v349_r0 : BitVec 32 := Scalar.extui v348_r0
  let c0_i32_265_r0 : BitVec 32 := 0#32
  let v350_r0 : BitVec 1 := Scalar.cmpi .ne v349_r0 c0_i32_265_r0
  v350_r0

def k0_off36 (arg19_r0 : BitVec 32) : Fin 2 → Nat :=
  let c1024_i32_298_r0 : BitVec 32 := 1024#32
  let c0_i32_112_r0 : BitVec 32 := 0#32
  let v110_r0 : BitVec 32 := Scalar.addi arg19_r0 c0_i32_112_r0
  let v414_r0 : BitVec 32 := Scalar.muli c1024_i32_298_r0 v110_r0
  let c0_i32_299_r0 : BitVec 32 := 0#32
  ![v414_r0.toNat, 0]
def k0_off37 (arg17_r0 : BitVec 32) : Fin 3 → Nat :=
  let c2_i32_297_r0 : BitVec 32 := 2#32
  let v413_r0 : BitVec 32 := Scalar.remui arg17_r0 c2_i32_297_r0
  let c0_i32_300_r0 : BitVec 32 := 0#32
  let c0_i32_301_r0 : BitVec 32 := 0#32
  ![v413_r0.toNat, 0, 0]
def k0_off38 (arg18_r0 : BitVec 32) : Fin 1 → Nat :=
  let c2_i32_297_r0 : BitVec 32 := 2#32
  let v413_r0 : BitVec 32 := Scalar.remui arg18_r0 c2_i32_297_r0
  ![v413_r0.toNat]
def k0_cond20 (k0_t1 : Fin k0_t1_loop.trips) (arg19_r0 : BitVec 32) (arg20_r0 : BitVec 32) : BitVec 1 :=
  let c0_i32_112_r0 : BitVec 32 := 0#32
  let v110_r0 : BitVec 32 := Scalar.addi arg19_r0 c0_i32_112_r0
  let true_115_r0 : BitVec 1 := 1#1
  let c1_i32_114_r0 : BitVec 32 := 1#32
  let v112_r0 : BitVec 32 := Scalar.subi arg20_r0 c1_i32_114_r0
  let v113_r0 : BitVec 32 := Scalar.select true_115_r0 v112_r0 arg20_r0
  let c_m1_i32_116_r0 : BitVec 32 := 4294967295#32
  let v114_r0 : BitVec 1 := Scalar.cmpi .eq v113_r0 c_m1_i32_116_r0
  let c1_i32_118_r0 : BitVec 32 := 1#32
  let v116_r0 : BitVec 32 := Scalar.subi arg19_r0 c1_i32_118_r0
  let v117_r0 : BitVec 32 := Scalar.select v114_r0 v116_r0 arg19_r0
  let c_m1_i32_119_r0 : BitVec 32 := 4294967295#32
  let v118_r0 : BitVec 1 := Scalar.cmpi .eq v117_r0 c_m1_i32_119_r0
  let c7_i32_120_r0 : BitVec 32 := 7#32
  let v119_r0 : BitVec 32 := Scalar.select v118_r0 c7_i32_120_r0 v117_r0
  let c0_i32_121_r0 : BitVec 32 := 0#32
  let v120_r0 : BitVec 32 := Scalar.addi v119_r0 c0_i32_121_r0
  let v378_r0 : BitVec 1 := Scalar.cmpi .ne v110_r0 v120_r0
  let c0_i32_68_r0 : BitVec 32 := 0#32
  let c1_i32_69_r0 : BitVec 32 := 1#32
  let arg7_r0 : BitVec 32 := Scf.iv c0_i32_68_r0 c1_i32_69_r0 k0_t1
  let c0_i32_111_r0 : BitVec 32 := 0#32
  let v108_r0 : BitVec 1 := Scalar.cmpi .eq arg7_r0 c0_i32_111_r0
  let true_280_r0 : BitVec 1 := 1#1
  let v379_r0 : BitVec 1 := Scalar.xori v108_r0 true_280_r0
  let v380_r0 : BitVec 1 := Scalar.andi v378_r0 v379_r0
  let v381_r0 : BitVec 32 := Scalar.extui v380_r0
  let c0_i32_281_r0 : BitVec 32 := 0#32
  let v382_r0 : BitVec 1 := Scalar.cmpi .ne v381_r0 c0_i32_281_r0
  v382_r0

def k0_off39 (arg19_r0 : BitVec 32) (arg20_r0 : BitVec 32) : Fin 2 → Nat :=
  let c1024_i32_298_r0 : BitVec 32 := 1024#32
  let true_115_r0 : BitVec 1 := 1#1
  let c1_i32_114_r0 : BitVec 32 := 1#32
  let v112_r0 : BitVec 32 := Scalar.subi arg20_r0 c1_i32_114_r0
  let v113_r0 : BitVec 32 := Scalar.select true_115_r0 v112_r0 arg20_r0
  let c_m1_i32_116_r0 : BitVec 32 := 4294967295#32
  let v114_r0 : BitVec 1 := Scalar.cmpi .eq v113_r0 c_m1_i32_116_r0
  let c1_i32_118_r0 : BitVec 32 := 1#32
  let v116_r0 : BitVec 32 := Scalar.subi arg19_r0 c1_i32_118_r0
  let v117_r0 : BitVec 32 := Scalar.select v114_r0 v116_r0 arg19_r0
  let c_m1_i32_119_r0 : BitVec 32 := 4294967295#32
  let v118_r0 : BitVec 1 := Scalar.cmpi .eq v117_r0 c_m1_i32_119_r0
  let c7_i32_120_r0 : BitVec 32 := 7#32
  let v119_r0 : BitVec 32 := Scalar.select v118_r0 c7_i32_120_r0 v117_r0
  let c0_i32_121_r0 : BitVec 32 := 0#32
  let v120_r0 : BitVec 32 := Scalar.addi v119_r0 c0_i32_121_r0
  let v414_r0 : BitVec 32 := Scalar.muli c1024_i32_298_r0 v120_r0
  let c0_i32_299_r0 : BitVec 32 := 0#32
  ![v414_r0.toNat, 0]
def k0_off40 (arg18_r0 : BitVec 32) : Fin 3 → Nat :=
  let c2_i32_297_r0 : BitVec 32 := 2#32
  let v413_r0 : BitVec 32 := Scalar.remui arg18_r0 c2_i32_297_r0
  let c0_i32_300_r0 : BitVec 32 := 0#32
  let c0_i32_301_r0 : BitVec 32 := 0#32
  ![v413_r0.toNat, 0, 0]

def k0_chk1_0 (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) : Prop :=
  (∀ (k0_h1 : k0_cond1 k0_t1 arg19_r0 arg20_r0 = 1#1), ∀ a, (k0_off5 arg8_r0) a + S1.size a ≤ S2.size a) ∧
  (∀ (k0_h1 : k0_cond1 k0_t1 arg19_r0 arg20_r0 = 1#1), ∀ a, (k0_off6 arg8_r0) a + S1x1024x2048.size a ≤ S2x1024x2048.size a) ∧
  (∀ (k0_h1 : k0_cond1 k0_t1 arg19_r0 arg20_r0 = 1#1), ∀ a, (k0_off7 arg19_r0 arg20_r0) a + S1024x2048.size a ≤ S8192x2048.size a) ∧
  (∀ (k0_h2 : k0_cond2 k0_t1 arg20_r0 = 1#1), ∀ a, (k0_off8 arg11_r0) a + S1.size a ≤ S2.size a) ∧
  (∀ (k0_h2 : k0_cond2 k0_t1 arg20_r0 = 1#1), ∀ a, (k0_off9 arg11_r0) a + S1x2048x512.size a ≤ S2x2048x512.size a) ∧
  (∀ (k0_h2 : k0_cond2 k0_t1 arg20_r0 = 1#1), ∀ a, (k0_off10 arg20_r0) a + S2048x512.size a ≤ S2048x11264.size a) ∧
  (∀ (k0_h2 : k0_cond2 k0_t1 arg20_r0 = 1#1), ∀ (hinb : ∀ a, (k0_off10 arg20_r0) a + S2048x512.size a ≤ S2048x11264.size a), (Rect.unit (s := S2048x11264) (k0_off10 arg20_r0) S2048x512.size hinb).WholeWords (EltTy.packing .bf16)) ∧
  (∀ (k0_h2 : k0_cond2 k0_t1 arg20_r0 = 1#1), ∀ (hinb : ∀ a, (k0_off9 arg11_r0) a + S1x2048x512.size a ≤ S2x2048x512.size a), (Rect.unit (s := S2x2048x512) (k0_off9 arg11_r0) S1x2048x512.size hinb).WholeWords (EltTy.packing .bf16)) ∧
  (∀ (k0_h3 : k0_cond3 k0_t1 arg20_r0 = 1#1), ∀ a, (k0_off11 arg13_r0) a + S1.size a ≤ S2.size a) ∧
  (∀ (k0_h3 : k0_cond3 k0_t1 arg20_r0 = 1#1), ∀ a, (k0_off12 arg13_r0) a + S1x2048x512.size a ≤ S2x2048x512.size a) ∧
  (∀ (k0_h3 : k0_cond3 k0_t1 arg20_r0 = 1#1), ∀ a, (k0_off13 arg20_r0) a + S2048x512.size a ≤ S2048x11264.size a) ∧
  (∀ (k0_h3 : k0_cond3 k0_t1 arg20_r0 = 1#1), ∀ (hinb : ∀ a, (k0_off13 arg20_r0) a + S2048x512.size a ≤ S2048x11264.size a), (Rect.unit (s := S2048x11264) (k0_off13 arg20_r0) S2048x512.size hinb).WholeWords (EltTy.packing .bf16)) ∧
  (∀ (k0_h3 : k0_cond3 k0_t1 arg20_r0 = 1#1), ∀ (hinb : ∀ a, (k0_off12 arg13_r0) a + S1x2048x512.size a ≤ S2x2048x512.size a), (Rect.unit (s := S2x2048x512) (k0_off12 arg13_r0) S1x2048x512.size hinb).WholeWords (EltTy.packing .bf16)) ∧
  (∀ (k0_h4 : k0_cond4 k0_t1 arg20_r0 = 1#1), ∀ a, (k0_off14 arg15_r0) a + S1.size a ≤ S2.size a) ∧
  (∀ (k0_h4 : k0_cond4 k0_t1 arg20_r0 = 1#1), ∀ a, (k0_off15 arg15_r0) a + S1x512x2048.size a ≤ S2x512x2048.size a) ∧
  (∀ (k0_h4 : k0_cond4 k0_t1 arg20_r0 = 1#1), ∀ a, (k0_off16 arg20_r0) a + S512x2048.size a ≤ S5632x2048.size a) ∧
  (∀ (k0_h4 : k0_cond4 k0_t1 arg20_r0 = 1#1), ∀ (hinb : ∀ a, (k0_off16 arg20_r0) a + S512x2048.size a ≤ S5632x2048.size a), (Rect.unit (s := S5632x2048) (k0_off16 arg20_r0) S512x2048.size hinb).WholeWords (EltTy.packing .bf16)) ∧
  (∀ (k0_h4 : k0_cond4 k0_t1 arg20_r0 = 1#1), ∀ (hinb : ∀ a, (k0_off15 arg15_r0) a + S1x512x2048.size a ≤ S2x512x2048.size a), (Rect.unit (s := S2x512x2048) (k0_off15 arg15_r0) S1x512x2048.size hinb).WholeWords (EltTy.packing .bf16)) ∧
  (∀ (k0_h5 : k0_cond5 k0_t1 arg19_r0 arg20_r0 = 1#1), ∀ a, (k0_off17 arg9_r0) a + S1.size a ≤ S2.size a) ∧
  (∀ (k0_h5 : k0_cond5 k0_t1 arg19_r0 arg20_r0 = 1#1), ∀ a, (k0_off18 arg9_r0) a + S1x1024x2048.size a ≤ S2x1024x2048.size a) ∧
  (∀ (k0_h5 : k0_cond5 k0_t1 arg19_r0 arg20_r0 = 1#1), ∀ a, (k0_off19 arg19_r0) a + S1024x2048.size a ≤ S8192x2048.size a) ∧
  (∀ (k0_h6 : k0_cond6 k0_t1 arg20_r0 = 1#1), ∀ a, (k0_off20 arg12_r0) a + S1.size a ≤ S2.size a) ∧
  (∀ (k0_h6 : k0_cond6 k0_t1 arg20_r0 = 1#1), ∀ a, (k0_off21 arg12_r0) a + S1x2048x512.size a ≤ S2x2048x512.size a) ∧
  (∀ (k0_h6 : k0_cond6 k0_t1 arg20_r0 = 1#1), ∀ a, (k0_off22 arg20_r0) a + S2048x512.size a ≤ S2048x11264.size a) ∧
  (∀ (k0_h6 : k0_cond6 k0_t1 arg20_r0 = 1#1), ∀ (hinb : ∀ a, (k0_off22 arg20_r0) a + S2048x512.size a ≤ S2048x11264.size a), (Rect.unit (s := S2048x11264) (k0_off22 arg20_r0) S2048x512.size hinb).WholeWords (EltTy.packing .bf16)) ∧
  (∀ (k0_h6 : k0_cond6 k0_t1 arg20_r0 = 1#1), ∀ (hinb : ∀ a, (k0_off21 arg12_r0) a + S1x2048x512.size a ≤ S2x2048x512.size a), (Rect.unit (s := S2x2048x512) (k0_off21 arg12_r0) S1x2048x512.size hinb).WholeWords (EltTy.packing .bf16)) ∧
  (∀ (k0_h7 : k0_cond7 k0_t1 arg20_r0 = 1#1), ∀ a, (k0_off23 arg14_r0) a + S1.size a ≤ S2.size a) ∧
  (∀ (k0_h7 : k0_cond7 k0_t1 arg20_r0 = 1#1), ∀ a, (k0_off24 arg14_r0) a + S1x2048x512.size a ≤ S2x2048x512.size a) ∧
  (∀ (k0_h7 : k0_cond7 k0_t1 arg20_r0 = 1#1), ∀ a, (k0_off25 arg20_r0) a + S2048x512.size a ≤ S2048x11264.size a) ∧
  (∀ (k0_h7 : k0_cond7 k0_t1 arg20_r0 = 1#1), ∀ (hinb : ∀ a, (k0_off25 arg20_r0) a + S2048x512.size a ≤ S2048x11264.size a), (Rect.unit (s := S2048x11264) (k0_off25 arg20_r0) S2048x512.size hinb).WholeWords (EltTy.packing .bf16)) ∧
  (∀ (k0_h7 : k0_cond7 k0_t1 arg20_r0 = 1#1), ∀ (hinb : ∀ a, (k0_off24 arg14_r0) a + S1x2048x512.size a ≤ S2x2048x512.size a), (Rect.unit (s := S2x2048x512) (k0_off24 arg14_r0) S1x2048x512.size hinb).WholeWords (EltTy.packing .bf16)) ∧
  (∀ (k0_h8 : k0_cond8 k0_t1 arg20_r0 = 1#1), ∀ a, (k0_off26 arg16_r0) a + S1.size a ≤ S2.size a)
def k0_chk1_1 (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) : Prop :=
  (∀ (k0_h8 : k0_cond8 k0_t1 arg20_r0 = 1#1), ∀ a, (k0_off27 arg16_r0) a + S1x512x2048.size a ≤ S2x512x2048.size a) ∧
  (∀ (k0_h8 : k0_cond8 k0_t1 arg20_r0 = 1#1), ∀ a, (k0_off28 arg20_r0) a + S512x2048.size a ≤ S5632x2048.size a) ∧
  (∀ (k0_h8 : k0_cond8 k0_t1 arg20_r0 = 1#1), ∀ (hinb : ∀ a, (k0_off28 arg20_r0) a + S512x2048.size a ≤ S5632x2048.size a), (Rect.unit (s := S5632x2048) (k0_off28 arg20_r0) S512x2048.size hinb).WholeWords (EltTy.packing .bf16)) ∧
  (∀ (k0_h8 : k0_cond8 k0_t1 arg20_r0 = 1#1), ∀ (hinb : ∀ a, (k0_off27 arg16_r0) a + S1x512x2048.size a ≤ S2x512x2048.size a), (Rect.unit (s := S2x512x2048) (k0_off27 arg16_r0) S1x512x2048.size hinb).WholeWords (EltTy.packing .bf16)) ∧
  (∀ (k0_h10 : k0_cond10 arg20_r0 = 1#1), ∀ a, (k0_off29 arg9_r0) a + S1x1024x2048.size a ≤ S2x1024x2048.size a) ∧
  (∀ (k0_h10 : k0_cond10 arg20_r0 = 1#1), ∀ a, (k0_off30 arg17_r0) a + S1x1024x2048.size a ≤ S2x1024x2048.size a) ∧
  (∀ (k0_h15 : k0_cond15 k0_t1 arg19_r0 arg20_r0 = 1#1), ∀ a, (k0_off35 arg17_r0) a + S1.size a ≤ S2.size a) ∧
  (∀ (k0_h15 : k0_cond15 k0_t1 arg19_r0 arg20_r0 = 1#1), ∀ a, (k0_off36 arg19_r0) a + S1024x2048.size a ≤ S8192x2048.size a) ∧
  (∀ (k0_h15 : k0_cond15 k0_t1 arg19_r0 arg20_r0 = 1#1), ∀ a, (k0_off37 arg17_r0) a + S1x1024x2048.size a ≤ S2x1024x2048.size a) ∧
  (∀ (k0_h20 : k0_cond20 k0_t1 arg19_r0 arg20_r0 = 1#1), ∀ a, (k0_off38 arg18_r0) a + S1.size a ≤ S2.size a) ∧
  (∀ (k0_h20 : k0_cond20 k0_t1 arg19_r0 arg20_r0 = 1#1), ∀ a, (k0_off39 arg19_r0 arg20_r0) a + S1024x2048.size a ≤ S8192x2048.size a) ∧
  (∀ (k0_h20 : k0_cond20 k0_t1 arg19_r0 arg20_r0 = 1#1), ∀ a, (k0_off40 arg18_r0) a + S1x1024x2048.size a ≤ S2x1024x2048.size a)
def k0_chk1 (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) : Prop :=
  k0_chk1_0 k0_t1 arg8_r0 arg9_r0 arg11_r0 arg12_r0 arg13_r0 arg14_r0 arg15_r0 arg16_r0 arg17_r0 arg18_r0 arg19_r0 arg20_r0 ∧
  k0_chk1_1 k0_t1 arg8_r0 arg9_r0 arg11_r0 arg12_r0 arg13_r0 arg14_r0 arg15_r0 arg16_r0 arg17_r0 arg18_r0 arg19_r0 arg20_r0
theorem k0_off5_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h1 : k0_cond1 k0_t1 arg19_r0 arg20_r0 = 1#1), ∀ a, (k0_off5 arg8_r0) a + S1.size a ≤ S2.size a := fun k0_t1 arg8_r0 arg9_r0 arg11_r0 arg12_r0 arg13_r0 arg14_r0 arg15_r0 arg16_r0 arg17_r0 arg18_r0 arg19_r0 arg20_r0 k0_hw1 k0_h1 => k0_hw1.1.1 k0_h1
theorem k0_off6_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h1 : k0_cond1 k0_t1 arg19_r0 arg20_r0 = 1#1), ∀ a, (k0_off6 arg8_r0) a + S1x1024x2048.size a ≤ S2x1024x2048.size a := fun k0_t1 arg8_r0 arg9_r0 arg11_r0 arg12_r0 arg13_r0 arg14_r0 arg15_r0 arg16_r0 arg17_r0 arg18_r0 arg19_r0 arg20_r0 k0_hw1 k0_h1 => k0_hw1.1.2.1 k0_h1
theorem k0_off7_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h1 : k0_cond1 k0_t1 arg19_r0 arg20_r0 = 1#1), ∀ a, (k0_off7 arg19_r0 arg20_r0) a + S1024x2048.size a ≤ S8192x2048.size a := fun k0_t1 arg8_r0 arg9_r0 arg11_r0 arg12_r0 arg13_r0 arg14_r0 arg15_r0 arg16_r0 arg17_r0 arg18_r0 arg19_r0 arg20_r0 k0_hw1 k0_h1 => k0_hw1.1.2.2.1 k0_h1
theorem k0_off8_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h2 : k0_cond2 k0_t1 arg20_r0 = 1#1), ∀ a, (k0_off8 arg11_r0) a + S1.size a ≤ S2.size a := fun k0_t1 arg8_r0 arg9_r0 arg11_r0 arg12_r0 arg13_r0 arg14_r0 arg15_r0 arg16_r0 arg17_r0 arg18_r0 arg19_r0 arg20_r0 k0_hw1 k0_h2 => k0_hw1.1.2.2.2.1 k0_h2
theorem k0_off9_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h2 : k0_cond2 k0_t1 arg20_r0 = 1#1), ∀ a, (k0_off9 arg11_r0) a + S1x2048x512.size a ≤ S2x2048x512.size a := fun k0_t1 arg8_r0 arg9_r0 arg11_r0 arg12_r0 arg13_r0 arg14_r0 arg15_r0 arg16_r0 arg17_r0 arg18_r0 arg19_r0 arg20_r0 k0_hw1 k0_h2 => k0_hw1.1.2.2.2.2.1 k0_h2
theorem k0_off10_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h2 : k0_cond2 k0_t1 arg20_r0 = 1#1), ∀ a, (k0_off10 arg20_r0) a + S2048x512.size a ≤ S2048x11264.size a := fun k0_t1 arg8_r0 arg9_r0 arg11_r0 arg12_r0 arg13_r0 arg14_r0 arg15_r0 arg16_r0 arg17_r0 arg18_r0 arg19_r0 arg20_r0 k0_hw1 k0_h2 => k0_hw1.1.2.2.2.2.2.1 k0_h2
theorem k0_off10_wordsbf16 : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h2 : k0_cond2 k0_t1 arg20_r0 = 1#1), (Rect.unit (s := S2048x11264) (k0_off10 arg20_r0) S2048x512.size (k0_off10_inb k0_t1 arg8_r0 arg9_r0 arg11_r0 arg12_r0 arg13_r0 arg14_r0 arg15_r0 arg16_r0 arg17_r0 arg18_r0 arg19_r0 arg20_r0 k0_hw1 k0_h2)).WholeWords (EltTy.packing .bf16) := fun k0_t1 arg8_r0 arg9_r0 arg11_r0 arg12_r0 arg13_r0 arg14_r0 arg15_r0 arg16_r0 arg17_r0 arg18_r0 arg19_r0 arg20_r0 k0_hw1 k0_h2 => k0_hw1.1.2.2.2.2.2.2.1 k0_h2 (k0_off10_inb k0_t1 arg8_r0 arg9_r0 arg11_r0 arg12_r0 arg13_r0 arg14_r0 arg15_r0 arg16_r0 arg17_r0 arg18_r0 arg19_r0 arg20_r0 k0_hw1 k0_h2)
theorem k0_off9_wordsbf16 : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h2 : k0_cond2 k0_t1 arg20_r0 = 1#1), (Rect.unit (s := S2x2048x512) (k0_off9 arg11_r0) S1x2048x512.size (k0_off9_inb k0_t1 arg8_r0 arg9_r0 arg11_r0 arg12_r0 arg13_r0 arg14_r0 arg15_r0 arg16_r0 arg17_r0 arg18_r0 arg19_r0 arg20_r0 k0_hw1 k0_h2)).WholeWords (EltTy.packing .bf16) := fun k0_t1 arg8_r0 arg9_r0 arg11_r0 arg12_r0 arg13_r0 arg14_r0 arg15_r0 arg16_r0 arg17_r0 arg18_r0 arg19_r0 arg20_r0 k0_hw1 k0_h2 => k0_hw1.1.2.2.2.2.2.2.2.1 k0_h2 (k0_off9_inb k0_t1 arg8_r0 arg9_r0 arg11_r0 arg12_r0 arg13_r0 arg14_r0 arg15_r0 arg16_r0 arg17_r0 arg18_r0 arg19_r0 arg20_r0 k0_hw1 k0_h2)
theorem k0_off11_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h3 : k0_cond3 k0_t1 arg20_r0 = 1#1), ∀ a, (k0_off11 arg13_r0) a + S1.size a ≤ S2.size a := fun k0_t1 arg8_r0 arg9_r0 arg11_r0 arg12_r0 arg13_r0 arg14_r0 arg15_r0 arg16_r0 arg17_r0 arg18_r0 arg19_r0 arg20_r0 k0_hw1 k0_h3 => k0_hw1.1.2.2.2.2.2.2.2.2.1 k0_h3
theorem k0_off12_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h3 : k0_cond3 k0_t1 arg20_r0 = 1#1), ∀ a, (k0_off12 arg13_r0) a + S1x2048x512.size a ≤ S2x2048x512.size a := fun k0_t1 arg8_r0 arg9_r0 arg11_r0 arg12_r0 arg13_r0 arg14_r0 arg15_r0 arg16_r0 arg17_r0 arg18_r0 arg19_r0 arg20_r0 k0_hw1 k0_h3 => k0_hw1.1.2.2.2.2.2.2.2.2.2.1 k0_h3
theorem k0_off13_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h3 : k0_cond3 k0_t1 arg20_r0 = 1#1), ∀ a, (k0_off13 arg20_r0) a + S2048x512.size a ≤ S2048x11264.size a := fun k0_t1 arg8_r0 arg9_r0 arg11_r0 arg12_r0 arg13_r0 arg14_r0 arg15_r0 arg16_r0 arg17_r0 arg18_r0 arg19_r0 arg20_r0 k0_hw1 k0_h3 => k0_hw1.1.2.2.2.2.2.2.2.2.2.2.1 k0_h3
theorem k0_off13_wordsbf16 : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h3 : k0_cond3 k0_t1 arg20_r0 = 1#1), (Rect.unit (s := S2048x11264) (k0_off13 arg20_r0) S2048x512.size (k0_off13_inb k0_t1 arg8_r0 arg9_r0 arg11_r0 arg12_r0 arg13_r0 arg14_r0 arg15_r0 arg16_r0 arg17_r0 arg18_r0 arg19_r0 arg20_r0 k0_hw1 k0_h3)).WholeWords (EltTy.packing .bf16) := fun k0_t1 arg8_r0 arg9_r0 arg11_r0 arg12_r0 arg13_r0 arg14_r0 arg15_r0 arg16_r0 arg17_r0 arg18_r0 arg19_r0 arg20_r0 k0_hw1 k0_h3 => k0_hw1.1.2.2.2.2.2.2.2.2.2.2.2.1 k0_h3 (k0_off13_inb k0_t1 arg8_r0 arg9_r0 arg11_r0 arg12_r0 arg13_r0 arg14_r0 arg15_r0 arg16_r0 arg17_r0 arg18_r0 arg19_r0 arg20_r0 k0_hw1 k0_h3)
theorem k0_off12_wordsbf16 : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h3 : k0_cond3 k0_t1 arg20_r0 = 1#1), (Rect.unit (s := S2x2048x512) (k0_off12 arg13_r0) S1x2048x512.size (k0_off12_inb k0_t1 arg8_r0 arg9_r0 arg11_r0 arg12_r0 arg13_r0 arg14_r0 arg15_r0 arg16_r0 arg17_r0 arg18_r0 arg19_r0 arg20_r0 k0_hw1 k0_h3)).WholeWords (EltTy.packing .bf16) := fun k0_t1 arg8_r0 arg9_r0 arg11_r0 arg12_r0 arg13_r0 arg14_r0 arg15_r0 arg16_r0 arg17_r0 arg18_r0 arg19_r0 arg20_r0 k0_hw1 k0_h3 => k0_hw1.1.2.2.2.2.2.2.2.2.2.2.2.2.1 k0_h3 (k0_off12_inb k0_t1 arg8_r0 arg9_r0 arg11_r0 arg12_r0 arg13_r0 arg14_r0 arg15_r0 arg16_r0 arg17_r0 arg18_r0 arg19_r0 arg20_r0 k0_hw1 k0_h3)
theorem k0_off14_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h4 : k0_cond4 k0_t1 arg20_r0 = 1#1), ∀ a, (k0_off14 arg15_r0) a + S1.size a ≤ S2.size a := fun k0_t1 arg8_r0 arg9_r0 arg11_r0 arg12_r0 arg13_r0 arg14_r0 arg15_r0 arg16_r0 arg17_r0 arg18_r0 arg19_r0 arg20_r0 k0_hw1 k0_h4 => k0_hw1.1.2.2.2.2.2.2.2.2.2.2.2.2.2.1 k0_h4
theorem k0_off15_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h4 : k0_cond4 k0_t1 arg20_r0 = 1#1), ∀ a, (k0_off15 arg15_r0) a + S1x512x2048.size a ≤ S2x512x2048.size a := fun k0_t1 arg8_r0 arg9_r0 arg11_r0 arg12_r0 arg13_r0 arg14_r0 arg15_r0 arg16_r0 arg17_r0 arg18_r0 arg19_r0 arg20_r0 k0_hw1 k0_h4 => k0_hw1.1.2.2.2.2.2.2.2.2.2.2.2.2.2.2.1 k0_h4
theorem k0_off16_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h4 : k0_cond4 k0_t1 arg20_r0 = 1#1), ∀ a, (k0_off16 arg20_r0) a + S512x2048.size a ≤ S5632x2048.size a := fun k0_t1 arg8_r0 arg9_r0 arg11_r0 arg12_r0 arg13_r0 arg14_r0 arg15_r0 arg16_r0 arg17_r0 arg18_r0 arg19_r0 arg20_r0 k0_hw1 k0_h4 => k0_hw1.1.2.2.2.2.2.2.2.2.2.2.2.2.2.2.2.1 k0_h4
theorem k0_off16_wordsbf16 : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h4 : k0_cond4 k0_t1 arg20_r0 = 1#1), (Rect.unit (s := S5632x2048) (k0_off16 arg20_r0) S512x2048.size (k0_off16_inb k0_t1 arg8_r0 arg9_r0 arg11_r0 arg12_r0 arg13_r0 arg14_r0 arg15_r0 arg16_r0 arg17_r0 arg18_r0 arg19_r0 arg20_r0 k0_hw1 k0_h4)).WholeWords (EltTy.packing .bf16) := fun k0_t1 arg8_r0 arg9_r0 arg11_r0 arg12_r0 arg13_r0 arg14_r0 arg15_r0 arg16_r0 arg17_r0 arg18_r0 arg19_r0 arg20_r0 k0_hw1 k0_h4 => k0_hw1.1.2.2.2.2.2.2.2.2.2.2.2.2.2.2.2.2.1 k0_h4 (k0_off16_inb k0_t1 arg8_r0 arg9_r0 arg11_r0 arg12_r0 arg13_r0 arg14_r0 arg15_r0 arg16_r0 arg17_r0 arg18_r0 arg19_r0 arg20_r0 k0_hw1 k0_h4)
theorem k0_off15_wordsbf16 : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h4 : k0_cond4 k0_t1 arg20_r0 = 1#1), (Rect.unit (s := S2x512x2048) (k0_off15 arg15_r0) S1x512x2048.size (k0_off15_inb k0_t1 arg8_r0 arg9_r0 arg11_r0 arg12_r0 arg13_r0 arg14_r0 arg15_r0 arg16_r0 arg17_r0 arg18_r0 arg19_r0 arg20_r0 k0_hw1 k0_h4)).WholeWords (EltTy.packing .bf16) := fun k0_t1 arg8_r0 arg9_r0 arg11_r0 arg12_r0 arg13_r0 arg14_r0 arg15_r0 arg16_r0 arg17_r0 arg18_r0 arg19_r0 arg20_r0 k0_hw1 k0_h4 => k0_hw1.1.2.2.2.2.2.2.2.2.2.2.2.2.2.2.2.2.2.1 k0_h4 (k0_off15_inb k0_t1 arg8_r0 arg9_r0 arg11_r0 arg12_r0 arg13_r0 arg14_r0 arg15_r0 arg16_r0 arg17_r0 arg18_r0 arg19_r0 arg20_r0 k0_hw1 k0_h4)
theorem k0_off17_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h5 : k0_cond5 k0_t1 arg19_r0 arg20_r0 = 1#1), ∀ a, (k0_off17 arg9_r0) a + S1.size a ≤ S2.size a := fun k0_t1 arg8_r0 arg9_r0 arg11_r0 arg12_r0 arg13_r0 arg14_r0 arg15_r0 arg16_r0 arg17_r0 arg18_r0 arg19_r0 arg20_r0 k0_hw1 k0_h5 => k0_hw1.1.2.2.2.2.2.2.2.2.2.2.2.2.2.2.2.2.2.2.1 k0_h5
theorem k0_off18_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h5 : k0_cond5 k0_t1 arg19_r0 arg20_r0 = 1#1), ∀ a, (k0_off18 arg9_r0) a + S1x1024x2048.size a ≤ S2x1024x2048.size a := fun k0_t1 arg8_r0 arg9_r0 arg11_r0 arg12_r0 arg13_r0 arg14_r0 arg15_r0 arg16_r0 arg17_r0 arg18_r0 arg19_r0 arg20_r0 k0_hw1 k0_h5 => k0_hw1.1.2.2.2.2.2.2.2.2.2.2.2.2.2.2.2.2.2.2.2.1 k0_h5
theorem k0_off19_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h5 : k0_cond5 k0_t1 arg19_r0 arg20_r0 = 1#1), ∀ a, (k0_off19 arg19_r0) a + S1024x2048.size a ≤ S8192x2048.size a := fun k0_t1 arg8_r0 arg9_r0 arg11_r0 arg12_r0 arg13_r0 arg14_r0 arg15_r0 arg16_r0 arg17_r0 arg18_r0 arg19_r0 arg20_r0 k0_hw1 k0_h5 => k0_hw1.1.2.2.2.2.2.2.2.2.2.2.2.2.2.2.2.2.2.2.2.2.1 k0_h5
theorem k0_off20_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h6 : k0_cond6 k0_t1 arg20_r0 = 1#1), ∀ a, (k0_off20 arg12_r0) a + S1.size a ≤ S2.size a := fun k0_t1 arg8_r0 arg9_r0 arg11_r0 arg12_r0 arg13_r0 arg14_r0 arg15_r0 arg16_r0 arg17_r0 arg18_r0 arg19_r0 arg20_r0 k0_hw1 k0_h6 => k0_hw1.1.2.2.2.2.2.2.2.2.2.2.2.2.2.2.2.2.2.2.2.2.2.1 k0_h6
theorem k0_off21_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h6 : k0_cond6 k0_t1 arg20_r0 = 1#1), ∀ a, (k0_off21 arg12_r0) a + S1x2048x512.size a ≤ S2x2048x512.size a := fun k0_t1 arg8_r0 arg9_r0 arg11_r0 arg12_r0 arg13_r0 arg14_r0 arg15_r0 arg16_r0 arg17_r0 arg18_r0 arg19_r0 arg20_r0 k0_hw1 k0_h6 => k0_hw1.1.2.2.2.2.2.2.2.2.2.2.2.2.2.2.2.2.2.2.2.2.2.2.1 k0_h6
theorem k0_off22_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h6 : k0_cond6 k0_t1 arg20_r0 = 1#1), ∀ a, (k0_off22 arg20_r0) a + S2048x512.size a ≤ S2048x11264.size a := fun k0_t1 arg8_r0 arg9_r0 arg11_r0 arg12_r0 arg13_r0 arg14_r0 arg15_r0 arg16_r0 arg17_r0 arg18_r0 arg19_r0 arg20_r0 k0_hw1 k0_h6 => k0_hw1.1.2.2.2.2.2.2.2.2.2.2.2.2.2.2.2.2.2.2.2.2.2.2.2.1 k0_h6
theorem k0_off22_wordsbf16 : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h6 : k0_cond6 k0_t1 arg20_r0 = 1#1), (Rect.unit (s := S2048x11264) (k0_off22 arg20_r0) S2048x512.size (k0_off22_inb k0_t1 arg8_r0 arg9_r0 arg11_r0 arg12_r0 arg13_r0 arg14_r0 arg15_r0 arg16_r0 arg17_r0 arg18_r0 arg19_r0 arg20_r0 k0_hw1 k0_h6)).WholeWords (EltTy.packing .bf16) := fun k0_t1 arg8_r0 arg9_r0 arg11_r0 arg12_r0 arg13_r0 arg14_r0 arg15_r0 arg16_r0 arg17_r0 arg18_r0 arg19_r0 arg20_r0 k0_hw1 k0_h6 => k0_hw1.1.2.2.2.2.2.2.2.2.2.2.2.2.2.2.2.2.2.2.2.2.2.2.2.2.1 k0_h6 (k0_off22_inb k0_t1 arg8_r0 arg9_r0 arg11_r0 arg12_r0 arg13_r0 arg14_r0 arg15_r0 arg16_r0 arg17_r0 arg18_r0 arg19_r0 arg20_r0 k0_hw1 k0_h6)
theorem k0_off21_wordsbf16 : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h6 : k0_cond6 k0_t1 arg20_r0 = 1#1), (Rect.unit (s := S2x2048x512) (k0_off21 arg12_r0) S1x2048x512.size (k0_off21_inb k0_t1 arg8_r0 arg9_r0 arg11_r0 arg12_r0 arg13_r0 arg14_r0 arg15_r0 arg16_r0 arg17_r0 arg18_r0 arg19_r0 arg20_r0 k0_hw1 k0_h6)).WholeWords (EltTy.packing .bf16) := fun k0_t1 arg8_r0 arg9_r0 arg11_r0 arg12_r0 arg13_r0 arg14_r0 arg15_r0 arg16_r0 arg17_r0 arg18_r0 arg19_r0 arg20_r0 k0_hw1 k0_h6 => k0_hw1.1.2.2.2.2.2.2.2.2.2.2.2.2.2.2.2.2.2.2.2.2.2.2.2.2.2.1 k0_h6 (k0_off21_inb k0_t1 arg8_r0 arg9_r0 arg11_r0 arg12_r0 arg13_r0 arg14_r0 arg15_r0 arg16_r0 arg17_r0 arg18_r0 arg19_r0 arg20_r0 k0_hw1 k0_h6)
theorem k0_off23_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h7 : k0_cond7 k0_t1 arg20_r0 = 1#1), ∀ a, (k0_off23 arg14_r0) a + S1.size a ≤ S2.size a := fun k0_t1 arg8_r0 arg9_r0 arg11_r0 arg12_r0 arg13_r0 arg14_r0 arg15_r0 arg16_r0 arg17_r0 arg18_r0 arg19_r0 arg20_r0 k0_hw1 k0_h7 => k0_hw1.1.2.2.2.2.2.2.2.2.2.2.2.2.2.2.2.2.2.2.2.2.2.2.2.2.2.2.1 k0_h7
theorem k0_off24_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h7 : k0_cond7 k0_t1 arg20_r0 = 1#1), ∀ a, (k0_off24 arg14_r0) a + S1x2048x512.size a ≤ S2x2048x512.size a := fun k0_t1 arg8_r0 arg9_r0 arg11_r0 arg12_r0 arg13_r0 arg14_r0 arg15_r0 arg16_r0 arg17_r0 arg18_r0 arg19_r0 arg20_r0 k0_hw1 k0_h7 => k0_hw1.1.2.2.2.2.2.2.2.2.2.2.2.2.2.2.2.2.2.2.2.2.2.2.2.2.2.2.2.1 k0_h7
theorem k0_off25_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h7 : k0_cond7 k0_t1 arg20_r0 = 1#1), ∀ a, (k0_off25 arg20_r0) a + S2048x512.size a ≤ S2048x11264.size a := fun k0_t1 arg8_r0 arg9_r0 arg11_r0 arg12_r0 arg13_r0 arg14_r0 arg15_r0 arg16_r0 arg17_r0 arg18_r0 arg19_r0 arg20_r0 k0_hw1 k0_h7 => k0_hw1.1.2.2.2.2.2.2.2.2.2.2.2.2.2.2.2.2.2.2.2.2.2.2.2.2.2.2.2.2.1 k0_h7
theorem k0_off25_wordsbf16 : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h7 : k0_cond7 k0_t1 arg20_r0 = 1#1), (Rect.unit (s := S2048x11264) (k0_off25 arg20_r0) S2048x512.size (k0_off25_inb k0_t1 arg8_r0 arg9_r0 arg11_r0 arg12_r0 arg13_r0 arg14_r0 arg15_r0 arg16_r0 arg17_r0 arg18_r0 arg19_r0 arg20_r0 k0_hw1 k0_h7)).WholeWords (EltTy.packing .bf16) := fun k0_t1 arg8_r0 arg9_r0 arg11_r0 arg12_r0 arg13_r0 arg14_r0 arg15_r0 arg16_r0 arg17_r0 arg18_r0 arg19_r0 arg20_r0 k0_hw1 k0_h7 => k0_hw1.1.2.2.2.2.2.2.2.2.2.2.2.2.2.2.2.2.2.2.2.2.2.2.2.2.2.2.2.2.2.1 k0_h7 (k0_off25_inb k0_t1 arg8_r0 arg9_r0 arg11_r0 arg12_r0 arg13_r0 arg14_r0 arg15_r0 arg16_r0 arg17_r0 arg18_r0 arg19_r0 arg20_r0 k0_hw1 k0_h7)
theorem k0_off24_wordsbf16 : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h7 : k0_cond7 k0_t1 arg20_r0 = 1#1), (Rect.unit (s := S2x2048x512) (k0_off24 arg14_r0) S1x2048x512.size (k0_off24_inb k0_t1 arg8_r0 arg9_r0 arg11_r0 arg12_r0 arg13_r0 arg14_r0 arg15_r0 arg16_r0 arg17_r0 arg18_r0 arg19_r0 arg20_r0 k0_hw1 k0_h7)).WholeWords (EltTy.packing .bf16) := fun k0_t1 arg8_r0 arg9_r0 arg11_r0 arg12_r0 arg13_r0 arg14_r0 arg15_r0 arg16_r0 arg17_r0 arg18_r0 arg19_r0 arg20_r0 k0_hw1 k0_h7 => k0_hw1.1.2.2.2.2.2.2.2.2.2.2.2.2.2.2.2.2.2.2.2.2.2.2.2.2.2.2.2.2.2.2.1 k0_h7 (k0_off24_inb k0_t1 arg8_r0 arg9_r0 arg11_r0 arg12_r0 arg13_r0 arg14_r0 arg15_r0 arg16_r0 arg17_r0 arg18_r0 arg19_r0 arg20_r0 k0_hw1 k0_h7)
theorem k0_off26_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h8 : k0_cond8 k0_t1 arg20_r0 = 1#1), ∀ a, (k0_off26 arg16_r0) a + S1.size a ≤ S2.size a := fun k0_t1 arg8_r0 arg9_r0 arg11_r0 arg12_r0 arg13_r0 arg14_r0 arg15_r0 arg16_r0 arg17_r0 arg18_r0 arg19_r0 arg20_r0 k0_hw1 k0_h8 => k0_hw1.1.2.2.2.2.2.2.2.2.2.2.2.2.2.2.2.2.2.2.2.2.2.2.2.2.2.2.2.2.2.2.2 k0_h8
theorem k0_off27_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h8 : k0_cond8 k0_t1 arg20_r0 = 1#1), ∀ a, (k0_off27 arg16_r0) a + S1x512x2048.size a ≤ S2x512x2048.size a := fun k0_t1 arg8_r0 arg9_r0 arg11_r0 arg12_r0 arg13_r0 arg14_r0 arg15_r0 arg16_r0 arg17_r0 arg18_r0 arg19_r0 arg20_r0 k0_hw1 k0_h8 => k0_hw1.2.1 k0_h8
theorem k0_off28_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h8 : k0_cond8 k0_t1 arg20_r0 = 1#1), ∀ a, (k0_off28 arg20_r0) a + S512x2048.size a ≤ S5632x2048.size a := fun k0_t1 arg8_r0 arg9_r0 arg11_r0 arg12_r0 arg13_r0 arg14_r0 arg15_r0 arg16_r0 arg17_r0 arg18_r0 arg19_r0 arg20_r0 k0_hw1 k0_h8 => k0_hw1.2.2.1 k0_h8
theorem k0_off28_wordsbf16 : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h8 : k0_cond8 k0_t1 arg20_r0 = 1#1), (Rect.unit (s := S5632x2048) (k0_off28 arg20_r0) S512x2048.size (k0_off28_inb k0_t1 arg8_r0 arg9_r0 arg11_r0 arg12_r0 arg13_r0 arg14_r0 arg15_r0 arg16_r0 arg17_r0 arg18_r0 arg19_r0 arg20_r0 k0_hw1 k0_h8)).WholeWords (EltTy.packing .bf16) := fun k0_t1 arg8_r0 arg9_r0 arg11_r0 arg12_r0 arg13_r0 arg14_r0 arg15_r0 arg16_r0 arg17_r0 arg18_r0 arg19_r0 arg20_r0 k0_hw1 k0_h8 => k0_hw1.2.2.2.1 k0_h8 (k0_off28_inb k0_t1 arg8_r0 arg9_r0 arg11_r0 arg12_r0 arg13_r0 arg14_r0 arg15_r0 arg16_r0 arg17_r0 arg18_r0 arg19_r0 arg20_r0 k0_hw1 k0_h8)
theorem k0_off27_wordsbf16 : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h8 : k0_cond8 k0_t1 arg20_r0 = 1#1), (Rect.unit (s := S2x512x2048) (k0_off27 arg16_r0) S1x512x2048.size (k0_off27_inb k0_t1 arg8_r0 arg9_r0 arg11_r0 arg12_r0 arg13_r0 arg14_r0 arg15_r0 arg16_r0 arg17_r0 arg18_r0 arg19_r0 arg20_r0 k0_hw1 k0_h8)).WholeWords (EltTy.packing .bf16) := fun k0_t1 arg8_r0 arg9_r0 arg11_r0 arg12_r0 arg13_r0 arg14_r0 arg15_r0 arg16_r0 arg17_r0 arg18_r0 arg19_r0 arg20_r0 k0_hw1 k0_h8 => k0_hw1.2.2.2.2.1 k0_h8 (k0_off27_inb k0_t1 arg8_r0 arg9_r0 arg11_r0 arg12_r0 arg13_r0 arg14_r0 arg15_r0 arg16_r0 arg17_r0 arg18_r0 arg19_r0 arg20_r0 k0_hw1 k0_h8)
theorem k0_off29_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h10 : k0_cond10 arg20_r0 = 1#1), ∀ a, (k0_off29 arg9_r0) a + S1x1024x2048.size a ≤ S2x1024x2048.size a := fun k0_t1 arg8_r0 arg9_r0 arg11_r0 arg12_r0 arg13_r0 arg14_r0 arg15_r0 arg16_r0 arg17_r0 arg18_r0 arg19_r0 arg20_r0 k0_hw1 k0_h10 => k0_hw1.2.2.2.2.2.1 k0_h10
theorem k0_off30_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h10 : k0_cond10 arg20_r0 = 1#1), ∀ a, (k0_off30 arg17_r0) a + S1x1024x2048.size a ≤ S2x1024x2048.size a := fun k0_t1 arg8_r0 arg9_r0 arg11_r0 arg12_r0 arg13_r0 arg14_r0 arg15_r0 arg16_r0 arg17_r0 arg18_r0 arg19_r0 arg20_r0 k0_hw1 k0_h10 => k0_hw1.2.2.2.2.2.2.1 k0_h10
theorem k0_off35_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h15 : k0_cond15 k0_t1 arg19_r0 arg20_r0 = 1#1), ∀ a, (k0_off35 arg17_r0) a + S1.size a ≤ S2.size a := fun k0_t1 arg8_r0 arg9_r0 arg11_r0 arg12_r0 arg13_r0 arg14_r0 arg15_r0 arg16_r0 arg17_r0 arg18_r0 arg19_r0 arg20_r0 k0_hw1 k0_h15 => k0_hw1.2.2.2.2.2.2.2.1 k0_h15
theorem k0_off36_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h15 : k0_cond15 k0_t1 arg19_r0 arg20_r0 = 1#1), ∀ a, (k0_off36 arg19_r0) a + S1024x2048.size a ≤ S8192x2048.size a := fun k0_t1 arg8_r0 arg9_r0 arg11_r0 arg12_r0 arg13_r0 arg14_r0 arg15_r0 arg16_r0 arg17_r0 arg18_r0 arg19_r0 arg20_r0 k0_hw1 k0_h15 => k0_hw1.2.2.2.2.2.2.2.2.1 k0_h15
theorem k0_off37_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h15 : k0_cond15 k0_t1 arg19_r0 arg20_r0 = 1#1), ∀ a, (k0_off37 arg17_r0) a + S1x1024x2048.size a ≤ S2x1024x2048.size a := fun k0_t1 arg8_r0 arg9_r0 arg11_r0 arg12_r0 arg13_r0 arg14_r0 arg15_r0 arg16_r0 arg17_r0 arg18_r0 arg19_r0 arg20_r0 k0_hw1 k0_h15 => k0_hw1.2.2.2.2.2.2.2.2.2.1 k0_h15
theorem k0_off38_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h20 : k0_cond20 k0_t1 arg19_r0 arg20_r0 = 1#1), ∀ a, (k0_off38 arg18_r0) a + S1.size a ≤ S2.size a := fun k0_t1 arg8_r0 arg9_r0 arg11_r0 arg12_r0 arg13_r0 arg14_r0 arg15_r0 arg16_r0 arg17_r0 arg18_r0 arg19_r0 arg20_r0 k0_hw1 k0_h20 => k0_hw1.2.2.2.2.2.2.2.2.2.2.1 k0_h20
theorem k0_off39_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h20 : k0_cond20 k0_t1 arg19_r0 arg20_r0 = 1#1), ∀ a, (k0_off39 arg19_r0 arg20_r0) a + S1024x2048.size a ≤ S8192x2048.size a := fun k0_t1 arg8_r0 arg9_r0 arg11_r0 arg12_r0 arg13_r0 arg14_r0 arg15_r0 arg16_r0 arg17_r0 arg18_r0 arg19_r0 arg20_r0 k0_hw1 k0_h20 => k0_hw1.2.2.2.2.2.2.2.2.2.2.2.1 k0_h20
theorem k0_off40_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg8_r0 arg9_r0 arg11_r0 arg12_r0 arg13_r0 arg14_r0 arg15_r0 arg16_r0 arg17_r0 arg18_r0 arg19_r0 arg20_r0), ∀ (k0_h20 : k0_cond20 k0_t1 arg19_r0 arg20_r0 = 1#1), ∀ a, (k0_off40 arg18_r0) a + S1x1024x2048.size a ≤ S2x1024x2048.size a := fun k0_t1 arg8_r0 arg9_r0 arg11_r0 arg12_r0 arg13_r0 arg14_r0 arg15_r0 arg16_r0 arg17_r0 arg18_r0 arg19_r0 arg20_r0 k0_hw1 k0_h20 => k0_hw1.2.2.2.2.2.2.2.2.2.2.2.2 k0_h20

def k0_off41 (v60_10_r0 : BitVec 32) : Fin 1 → Nat :=
  let c2_i32_107_r0 : BitVec 32 := 2#32
  let v101_r0 : BitVec 32 := Scalar.remui v60_10_r0 c2_i32_107_r0
  ![v101_r0.toNat]

def k0_off42 (v60_12_r0 : BitVec 32) (v60_11_r0 : BitVec 32) : Fin 2 → Nat :=
  let c1024_i32_r0 : BitVec 32 := 1024#32
  let true_72_r0 : BitVec 1 := 1#1
  let c1_i32_71_r0 : BitVec 32 := 1#32
  let v61_r0 : BitVec 32 := Scalar.subi v60_12_r0 c1_i32_71_r0
  let v62_r0 : BitVec 32 := Scalar.select true_72_r0 v61_r0 v60_12_r0
  let c_m1_i32_73_r0 : BitVec 32 := 4294967295#32
  let v63_r0 : BitVec 1 := Scalar.cmpi .eq v62_r0 c_m1_i32_73_r0
  let c1_i32_75_r0 : BitVec 32 := 1#32
  let v65_r0 : BitVec 32 := Scalar.subi v60_11_r0 c1_i32_75_r0
  let v66_r0 : BitVec 32 := Scalar.select v63_r0 v65_r0 v60_11_r0
  let c_m1_i32_76_r0 : BitVec 32 := 4294967295#32
  let v67_r0 : BitVec 1 := Scalar.cmpi .eq v66_r0 c_m1_i32_76_r0
  let c7_i32_77_r0 : BitVec 32 := 7#32
  let v68_r0 : BitVec 32 := Scalar.select v67_r0 c7_i32_77_r0 v66_r0
  let c0_i32_78_r0 : BitVec 32 := 0#32
  let v69_r0 : BitVec 32 := Scalar.addi v68_r0 c0_i32_78_r0
  let v102_r0 : BitVec 32 := Scalar.muli c1024_i32_r0 v69_r0
  let c0_i32_108_r0 : BitVec 32 := 0#32
  ![v102_r0.toNat, 0]

def k0_chk7 (v60_12_r0 : BitVec 32) (v60_11_r0 : BitVec 32) : Prop :=
  (∀ a, (k0_off42 v60_12_r0 v60_11_r0) a + S1024x2048.size a ≤ S8192x2048.size a)
theorem k0_off42_inb : ∀ (v60_12_r0 : BitVec 32) (v60_11_r0 : BitVec 32) (k0_hw7 : k0_chk7 v60_12_r0 v60_11_r0), ∀ a, (k0_off42 v60_12_r0 v60_11_r0) a + S1024x2048.size a ≤ S8192x2048.size a := fun v60_12_r0 v60_11_r0 k0_hw7 => k0_hw7

def k0_off43 (v60_10_r0 : BitVec 32) : Fin 3 → Nat :=
  let c2_i32_107_r0 : BitVec 32 := 2#32
  let v101_r0 : BitVec 32 := Scalar.remui v60_10_r0 c2_i32_107_r0
  let c0_i32_109_r0 : BitVec 32 := 0#32
  let c0_i32_110_r0 : BitVec 32 := 0#32
  ![v101_r0.toNat, 0, 0]

def k0_chk6 (v60_10_r0 : BitVec 32) : Prop :=
  (∀ a, (k0_off41 v60_10_r0) a + S1.size a ≤ S2.size a) ∧
  (∀ a, (k0_off43 v60_10_r0) a + S1x1024x2048.size a ≤ S2x1024x2048.size a)
theorem k0_off41_inb : ∀ (v60_10_r0 : BitVec 32) (k0_hw6 : k0_chk6 v60_10_r0), ∀ a, (k0_off41 v60_10_r0) a + S1.size a ≤ S2.size a := fun v60_10_r0 k0_hw6 => k0_hw6.1
theorem k0_off43_inb : ∀ (v60_10_r0 : BitVec 32) (k0_hw6 : k0_chk6 v60_10_r0), ∀ a, (k0_off43 v60_10_r0) a + S1x1024x2048.size a ≤ S2x1024x2048.size a := fun v60_10_r0 k0_hw6 => k0_hw6.2
-- ==== ReferenceIdeal.lean ====
abbrev S8192x2048 : Shape := ⟨2, ![8192, 2048]⟩
abbrev S2048 : Shape := ⟨1, ![2048]⟩
abbrev S2048x11264 : Shape := ⟨2, ![2048, 11264]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x11264 : Shape := ⟨2, ![8192, 11264]⟩
abbrev S8192x5632 : Shape := ⟨2, ![8192, 5632]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x11264, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S_, .f32⟩
  | .hbm, ⟨26, _⟩ => ⟨S8192x5632, .f32⟩
  | .hbm, ⟨27, _⟩ => ⟨S8192x5632, .f32⟩
  | .hbm, ⟨28, _⟩ => ⟨S_, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x2048, .f32⟩
  | .hbm, ⟨34, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Kernel2.lean ====
abbrev S8192x2048 : Shape := ⟨2, ![8192, 2048]⟩
abbrev S2x2048x2048 : Shape := ⟨3, ![2, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2x2048x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048x2048, .f32⟩
  | .local _ .vmem, ⟨5, _⟩ => ⟨S512x2048, .f32⟩
  | .local _ .vmem, ⟨6, _⟩ => ⟨S512x2048, .f32⟩
  | .local _ .vmem, ⟨7, _⟩ => ⟨S2048x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S8192x2048 : Shape := ⟨2, ![8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2x2048x2048, .f32⟩
  | .hbm, ⟨3, _⟩ => ⟨S8192x2048, .f32⟩
  | .hbm, ⟨4, _⟩ => ⟨S1x2048x2048, .f32⟩
  | .hbm, ⟨5, _⟩ => ⟨S2048x2048, .f32⟩
  | .hbm, ⟨6, _⟩ => ⟨S8192x2048, .f32⟩
  | .hbm, ⟨7, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S8192x2048 : Shape := ⟨2, ![8192, 2048]⟩
abbrev S2048 : Shape := ⟨1, ![2048]⟩
abbrev S2x2048x6160 : Shape := ⟨3, ![2, 2048, 6160]⟩
abbrev S16 : Shape := ⟨1, ![16]⟩
abbrev S128 : Shape := ⟨1, ![128]⟩
abbrev S_ : Shape := ⟨0, ![]⟩
abbrev S128x128 : Shape := ⟨2, ![128, 128]⟩
abbrev S2x6160x2048 : Shape := ⟨3, ![2, 6160, 2048]⟩
abbrev S1x16x2048 : Shape := ⟨3, ![1, 16, 2048]⟩
abbrev S16x2048 : Shape := ⟨2, ![16, 2048]⟩
abbrev S128x2048 : Shape := ⟨2, ![128, 2048]⟩
abbrev S1x128 : Shape := ⟨2, ![1, 128]⟩
abbrev S16x128 : Shape := ⟨2, ![16, 128]⟩
abbrev S6144 : Shape := ⟨1, ![6144]⟩
abbrev S1x6144 : Shape := ⟨2, ![1, 6144]⟩
abbrev S1x2048 : Shape := ⟨2, ![1, 2048]⟩
abbrev S8192x6144 : Shape := ⟨2, ![8192, 6144]⟩
abbrev S16x8192 : Shape := ⟨2, ![16, 8192]⟩
abbrev S1024x2048 : Shape := ⟨2, ![1024, 2048]⟩
abbrev S1x1024x2048 : Shape := ⟨3, ![1, 1024, 2048]⟩
abbrev S1x1024 : Shape := ⟨2, ![1, 1024]⟩
abbrev S1024x1024 : Shape := ⟨2, ![1024, 1024]⟩
abbrev S16x1024 : Shape := ⟨2, ![16, 1024]⟩
abbrev S8x128 : Shape := ⟨2, ![8, 128]⟩
abbrev S1024 : Shape := ⟨1, ![1024]⟩
abbrev S1024x1 : Shape := ⟨2, ![1024, 1]⟩
abbrev S1024x128 : Shape := ⟨2, ![1024, 128]⟩
abbrev S128x1024 : Shape := ⟨2, ![128, 1024]⟩
abbrev S256x2048 : Shape := ⟨2, ![256, 2048]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 43
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x6160, .f32⟩
  | .hbm, ⟨3, _⟩ => ⟨S16, .f32⟩
  | .hbm, ⟨4, _⟩ => ⟨S128, .f32⟩
  | .hbm, ⟨5, _⟩ => ⟨S128, .f32⟩
  | .hbm, ⟨6, _⟩ => ⟨S_, .bf16⟩
  | .hbm, ⟨7, _⟩ => ⟨S128x128, .bf16⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .bf16⟩
  | .hbm, ⟨15, _⟩ => ⟨S128x128, .bf16⟩
  | .hbm, ⟨16, _⟩ => ⟨S128x128, .bf16⟩
  | .hbm, ⟨17, _⟩ => ⟨S2x6160x2048, .f32⟩
  | .hbm, ⟨18, _⟩ => ⟨S1x16x2048, .f32⟩
  | .hbm, ⟨19, _⟩ => ⟨S16x2048, .f32⟩
  | .hbm, ⟨20, _⟩ => ⟨S_, .i32⟩
  | .hbm, ⟨21, _⟩ => ⟨S_, .f32⟩
  | .hbm, ⟨22, _⟩ => ⟨S128x2048, .f32⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S1x128, .f32⟩
  | .hbm, ⟨31, _⟩ => ⟨S16x128, .f32⟩
  | .hbm, ⟨32, _⟩ => ⟨S2048, .f32⟩
  | .hbm, ⟨33, _⟩ => ⟨S1x128, .f32⟩
  | .hbm, ⟨34, _⟩ => ⟨S16x128, .f32⟩
  | .hbm, ⟨35, _⟩ => ⟨S2048, .f32⟩
  | .hbm, ⟨36, _⟩ => ⟨S_, .f32⟩
  | .hbm, ⟨37, _⟩ => ⟨S2048, .f32⟩
  | .hbm, ⟨38, _⟩ => ⟨S6144, .f32⟩
  | .hbm, ⟨39, _⟩ => ⟨S1x6144, .f32⟩
  | .hbm, ⟨40, _⟩ => ⟨S1x2048, .f32⟩
  | .hbm, ⟨41, _⟩ => ⟨S8192x6144, .bf16⟩
  | .hbm, ⟨42, _⟩ => ⟨S16x8192, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1024x2048, .f32⟩
  | .local _ .vmem, ⟨4, _⟩ => ⟨S1x1024x2048, .f32⟩
  | .local _ .vmem, ⟨5, _⟩ => ⟨S1x1024, .f32⟩
  | .local _ .vmem, ⟨6, _⟩ => ⟨S1x1024, .f32⟩
  | .local _ .vmem, ⟨7, _⟩ => ⟨S128x2048, .f32⟩
  | .local _ .vmem, ⟨8, _⟩ => ⟨S1x128, .f32⟩
  | .local _ .vmem, ⟨9, _⟩ => ⟨S128x128, .bf16⟩
  | .local _ .vmem, ⟨10, _⟩ => ⟨S1024x1024, .bf16⟩
  | .local _ .vmem, ⟨11, _⟩ => ⟨S1024x1024, .bf16⟩
  | .local _ .vmem, ⟨12, _⟩ => ⟨S16x1024, .f32⟩
  | .local _ .vmem, ⟨13, _⟩ => ⟨S16x1024, .f32⟩
  | .local _ .vmem, ⟨14, _⟩ => ⟨S1024x2048, .bf16⟩
  | .local _ .vmem, ⟨15, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_cst : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_call1_v0 : Ref sig .tc := ⟨.hbm, 21, rfl⟩
abbrev main_v5 : Ref sig .tc := ⟨.hbm, 22, rfl⟩
abbrev main_c_0 : Ref sig .tc := ⟨.hbm, 23, rfl⟩
abbrev main_call2_v0 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20_0 : Ref sig .tc := ⟨.hbm, 41, rfl⟩
abbrev main_v20_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S8192x2048 : Shape := ⟨2, ![8192, 2048]⟩
abbrev S2048 : Shape := ⟨1, ![2048]⟩
abbrev S2x2048x6160 : Shape := ⟨3, ![2, 2048, 6160]⟩
abbrev S16 : Shape := ⟨1, ![16]⟩
abbrev S128 : Shape := ⟨1, ![128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x6160 : Shape := ⟨3, ![1, 2048, 6160]⟩
abbrev S2048x6160 : Shape := ⟨2, ![2048, 6160]⟩
abbrev S8192x6160 : Shape := ⟨2, ![8192, 6160]⟩
abbrev S8192x16x128 : Shape := ⟨3, ![8192, 16, 128]⟩
abbrev S8192x16 : Shape := ⟨2, ![8192, 16]⟩
abbrev S8192x16x1 : Shape := ⟨3, ![8192, 16, 1]⟩
abbrev S1x1x128 : Shape := ⟨3, ![1, 1, 128]⟩
abbrev S1x16 : Shape := ⟨2, ![1, 16]⟩
abbrev S16x8192 : Shape := ⟨2, ![16, 8192]⟩
abbrev S8192x6144 : Shape := ⟨2, ![8192, 6144]⟩

abbrev nBuf : Space → Nat
  | .hbm => 96
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x6160, .f32⟩
  | .hbm, ⟨3, _⟩ => ⟨S16, .f32⟩
  | .hbm, ⟨4, _⟩ => ⟨S128, .f32⟩
  | .hbm, ⟨5, _⟩ => ⟨S128, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x6160, .f32⟩
  | .hbm, ⟨23, _⟩ => ⟨S2048x6160, .f32⟩
  | .hbm, ⟨24, _⟩ => ⟨S8192x6160, .f32⟩
  | .hbm, ⟨25, _⟩ => ⟨S8192x2048, .f32⟩
  | .hbm, ⟨26, _⟩ => ⟨S8192x16x128, .f32⟩
  | .hbm, ⟨27, _⟩ => ⟨S8192x16x128, .f32⟩
  | .hbm, ⟨28, _⟩ => ⟨S_, .f32⟩
  | .hbm, ⟨29, _⟩ => ⟨S8192x16, .f32⟩
  | .hbm, ⟨30, _⟩ => ⟨S8192x16x1, .f32⟩
  | .hbm, ⟨31, _⟩ => ⟨S_, .f32⟩
  | .hbm, ⟨32, _⟩ => ⟨S8192x16x1, .f32⟩
  | .hbm, ⟨33, _⟩ => ⟨S8192x16x1, .f32⟩
  | .hbm, ⟨34, _⟩ => ⟨S_, .f32⟩
  | .hbm, ⟨35, _⟩ => ⟨S8192x16x1, .f32⟩
  | .hbm, ⟨36, _⟩ => ⟨S8192x16x1, .f32⟩
  | .hbm, ⟨37, _⟩ => ⟨S8192x16x1, .f32⟩
  | .hbm, ⟨38, _⟩ => ⟨S8192x16x128, .f32⟩
  | .hbm, ⟨39, _⟩ => ⟨S8192x16x128, .f32⟩
  | .hbm, ⟨40, _⟩ => ⟨S1x1x128, .f32⟩
  | .hbm, ⟨41, _⟩ => ⟨S8192x16x128, .f32⟩
  | .hbm, ⟨42, _⟩ => ⟨S8192x16x128, .f32⟩
  | .hbm, ⟨43, _⟩ => ⟨S8192x2048, .f32⟩
  | .hbm, ⟨44, _⟩ => ⟨S8192x16x128, .f32⟩
  | .hbm, ⟨45, _⟩ => ⟨S8192x16x128, .f32⟩
  | .hbm, ⟨46, _⟩ => ⟨S_, .f32⟩
  | .hbm, ⟨47, _⟩ => ⟨S8192x16, .f32⟩
  | .hbm, ⟨48, _⟩ => ⟨S8192x16x1, .f32⟩
  | .hbm, ⟨49, _⟩ => ⟨S_, .f32⟩
  | .hbm, ⟨50, _⟩ => ⟨S8192x16x1, .f32⟩
  | .hbm, ⟨51, _⟩ => ⟨S8192x16x1, .f32⟩
  | .hbm, ⟨52, _⟩ => ⟨S_, .f32⟩
  | .hbm, ⟨53, _⟩ => ⟨S8192x16x1, .f32⟩
  | .hbm, ⟨54, _⟩ => ⟨S8192x16x1, .f32⟩
  | .hbm, ⟨55, _⟩ => ⟨S8192x16x1, .f32⟩
  | .hbm, ⟨56, _⟩ => ⟨S8192x16x128, .f32⟩
  | .hbm, ⟨57, _⟩ => ⟨S8192x16x128, .f32⟩
  | .hbm, ⟨58, _⟩ => ⟨S1x1x128, .f32⟩
  | .hbm, ⟨59, _⟩ => ⟨S8192x16x128, .f32⟩
  | .hbm, ⟨60, _⟩ => ⟨S8192x16x128, .f32⟩
  | .hbm, ⟨61, _⟩ => ⟨S8192x2048, .f32⟩
  | .hbm, ⟨62, _⟩ => ⟨S8192x16, .f32⟩
  | .hbm, ⟨63, _⟩ => ⟨S1x16, .f32⟩
  | .hbm, ⟨64, _⟩ => ⟨S8192x16, .f32⟩
  | .hbm, ⟨65, _⟩ => ⟨S8192x16, .f32⟩
  | .hbm, ⟨66, _⟩ => ⟨S8192x16, .f32⟩
  | .hbm, ⟨67, _⟩ => ⟨S_, .f32⟩
  | .hbm, ⟨68, _⟩ => ⟨S8192x16, .f32⟩
  | .hbm, ⟨69, _⟩ => ⟨S8192x16, .f32⟩
  | .hbm, ⟨70, _⟩ => ⟨S8192x16, .f32⟩
  | .hbm, ⟨71, _⟩ => ⟨S8192x16, .f32⟩
  | .hbm, ⟨72, _⟩ => ⟨S8192x16, .i1⟩
  | .hbm, ⟨73, _⟩ => ⟨S8192x16, .f32⟩
  | .hbm, ⟨74, _⟩ => ⟨S8192x16, .f32⟩
  | .hbm, ⟨75, _⟩ => ⟨S8192x16, .f32⟩
  | .hbm, ⟨76, _⟩ => ⟨S8192x16, .f32⟩
  | .hbm, ⟨77, _⟩ => ⟨S8192x16, .f32⟩
  | .hbm, ⟨78, _⟩ => ⟨S8192x16, .f32⟩
  | .hbm, ⟨79, _⟩ => ⟨S8192x16, .f32⟩
  | .hbm, ⟨80, _⟩ => ⟨S8192x16, .f32⟩
  | .hbm, ⟨81, _⟩ => ⟨S8192x16, .f32⟩
  | .hbm, ⟨82, _⟩ => ⟨S_, .f32⟩
  | .hbm, ⟨83, _⟩ => ⟨S_, .f32⟩
  | .hbm, ⟨84, _⟩ => ⟨S8192x16, .f32⟩
  | .hbm, ⟨85, _⟩ => ⟨S16x8192, .f32⟩
  | .hbm, ⟨86, _⟩ => ⟨S8192x2048, .f32⟩
  | .hbm, ⟨87, _⟩ => ⟨S_, .f32⟩
  | .hbm, ⟨88, _⟩ => ⟨S8192x2048, .f32⟩
  | .hbm, ⟨89, _⟩ => ⟨S8192x2048, .f32⟩
  | .hbm, ⟨90, _⟩ => ⟨S8192x2048, .f32⟩
  | .hbm, ⟨91, _⟩ => ⟨S8192x6144, .f32⟩
  | .hbm, ⟨92, _⟩ => ⟨S8192x6144, .bf16⟩
  | .hbm, ⟨93, _⟩ => ⟨S_, .f32⟩
  | .hbm, ⟨94, _⟩ => ⟨S16x8192, .f32⟩
  | .hbm, ⟨95, _⟩ => ⟨S16x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_call0_v0 : Ref sig .tc := ⟨.hbm, 66, rfl⟩
abbrev main_call0_call0_cst : Ref sig .tc := ⟨.hbm, 67, rfl⟩
abbrev main_call0_call0_v0 : Ref sig .tc := ⟨.hbm, 68, rfl⟩
abbrev main_call0_call0_v1 : Ref sig .tc := ⟨.hbm, 69, rfl⟩
abbrev main_call0_call0_v2 : Ref sig .tc := ⟨.hbm, 70, rfl⟩
abbrev main_call0_call0_v3 : Ref sig .tc := ⟨.hbm, 71, rfl⟩
abbrev main_call0_call0_v4 : Ref sig .tc := ⟨.hbm, 72, rfl⟩
abbrev main_call0_call0_v5 : Ref sig .tc := ⟨.hbm, 73, rfl⟩
abbrev main_call0_call0_v6 : Ref sig .tc := ⟨.hbm, 74, rfl⟩
abbrev main_call0_call0_v7 : Ref sig .tc := ⟨.hbm, 75, rfl⟩
abbrev main_call0_call0_v8 : Ref sig .tc := ⟨.hbm, 76, rfl⟩
abbrev main_call0_call0_v9 : Ref sig .tc := ⟨.hbm, 77, rfl⟩
abbrev main_call0_call0_v10 : Ref sig .tc := ⟨.hbm, 78, rfl⟩
abbrev main_call0_call0_v11 : Ref sig .tc := ⟨.hbm, 79, rfl⟩
abbrev main_call0_v1 : Ref sig .tc := ⟨.hbm, 80, rfl⟩
abbrev main_v51 : Ref sig .tc := ⟨.hbm, 81, rfl⟩
abbrev main_call1_call0_cst : Ref sig .tc := ⟨.hbm, 82, rfl⟩
abbrev main_call1_call0_v0 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_8 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_9 : Ref sig .tc := ⟨.hbm, 93, rfl⟩
abbrev main_v60 : Ref sig .tc := ⟨.hbm, 94, rfl⟩
abbrev main_v61 : Ref sig .tc := ⟨.hbm, 95, rfl⟩

abbrev nD : Nat := 1
abbrev τ : Topo := Topo.v7x

variable {F : FTy → Type} [FloatOps F]
-- ==== Kernel4.lean ====
abbrev S8192x2048 : Shape := ⟨2, ![8192, 2048]⟩
abbrev S2048 : Shape := ⟨1, ![2048]⟩
abbrev S4x512x512 : Shape := ⟨3, ![4, 512, 512]⟩
abbrev S1x2048 : Shape := ⟨2, ![1, 2048]⟩
abbrev S512x2048 : Shape := ⟨2, ![512, 2048]⟩
abbrev S544x2048 : Shape := ⟨2, ![544, 2048]⟩
abbrev S544x512 : Shape := ⟨2, ![544, 512]⟩
abbrev S32x2048 : Shape := ⟨2, ![32, 2048]⟩
abbrev S512 : Shape := ⟨1, ![512]⟩
abbrev S512x1 : Shape := ⟨2, ![512, 1]⟩
abbrev S512x512 : Shape := ⟨2, ![512, 512]⟩
abbrev S1x512x512 : Shape := ⟨3, ![1, 512, 512]⟩
abbrev S1x512 : Shape := ⟨2, ![1, 512]⟩
abbrev S520x512 : Shape := ⟨2, ![520, 512]⟩
abbrev S528x512 : Shape := ⟨2, ![528, 512]⟩
abbrev S536x512 : Shape := ⟨2, ![536, 512]⟩

abbrev nBuf : Space → Nat
  | .hbm => 10
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x512x512, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S4x512x512, .bf16⟩
  | .hbm, ⟨7, _⟩ => ⟨S1x2048, .f32⟩
  | .hbm, ⟨8, _⟩ => ⟨S1x2048, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S4x512x512, .bf16⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S544x2048, .f32⟩
  | .local _ .vmem, ⟨9, _⟩ => ⟨S544x512, .f32⟩
  | .local _ .vmem, ⟨10, _⟩ => ⟨S544x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8192x2048 : Shape := ⟨2, ![8192, 2048]⟩
abbrev S2048 : Shape := ⟨1, ![2048]⟩
abbrev S4x512x512 : Shape := ⟨3, ![4, 512, 512]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8193x2048 : Shape := ⟨2, ![8193, 2048]⟩
abbrev S8193x512 : Shape := ⟨2, ![8193, 512]⟩
abbrev S8192x512 : Shape := ⟨2, ![8192, 512]⟩
abbrev S8192x4x512 : Shape := ⟨3, ![8192, 4, 512]⟩
abbrev S4x512x8192 : Shape := ⟨3, ![4, 512, 8192]⟩

abbrev nBuf : Space → Nat
  | .hbm => 201
  | .vmem => 0
  | .smem => 0
  | _ => 0

abbrev hbmTy0_0 (i : Nat) : BufTy := match i % 128 with
  | 0 => ⟨S8192x2048, .f32⟩
  | 1 => ⟨S2048, .f32⟩
  | 2 => ⟨S4x512x512, .f32⟩
  | 3 => ⟨S2048, .f32⟩
  | 4 => ⟨S2048, .f32⟩
  | 5 => ⟨S8192x2048, .f32⟩
  | 6 => ⟨S_, .f32⟩
  | 7 => ⟨S8192, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192x1, .f32⟩
  | 14 => ⟨S8192x1, .f32⟩
  | 15 => ⟨S8192x1, .f32⟩
  | 16 => ⟨S8192x2048, .f32⟩
  | 17 => ⟨S8192x2048, .f32⟩
  | 18 => ⟨S1x2048, .f32⟩
  | 19 => ⟨S8192x2048, .f32⟩
  | 20 => ⟨S8192x2048, .f32⟩
  | 21 => ⟨S_, .f32⟩
  | 22 => ⟨S1x2048, .f32⟩
  | 23 => ⟨S_, .f32⟩
  | 24 => ⟨S_, .f32⟩
  | 25 => ⟨S8192x2048, .f32⟩
  | 26 => ⟨S8193x2048, .f32⟩
  | 27 => ⟨S8192, .i32⟩
  | 28 => ⟨S8193x512, .f32⟩
  | 29 => ⟨S_, .i32⟩
  | 30 => ⟨S8192, .i32⟩
  | 31 => ⟨S8192, .i32⟩
  | 32 => ⟨S_, .i32⟩
  | 33 => ⟨S8192, .i32⟩
  | 34 => ⟨S8192, .i32⟩
  | 35 => ⟨S_, .i32⟩
  | 36 => ⟨S8192, .i32⟩
  | 37 => ⟨S8192, .i32⟩
  | 38 => ⟨S_, .i32⟩
  | 39 => ⟨S8192, .i32⟩
  | 40 => ⟨S8192, .i32⟩
  | 41 => ⟨S8192, .i32⟩
  | 42 => ⟨S8192, .f32⟩
  | 43 => ⟨S_, .i32⟩
  | 44 => ⟨S8192, .i32⟩
  | 45 => ⟨S8192, .i32⟩
  | 46 => ⟨S_, .i32⟩
  | 47 => ⟨S8192, .i32⟩
  | 48 => ⟨S8192, .i1⟩
  | 49 => ⟨S_, .i32⟩
  | 50 => ⟨S8192, .i32⟩
  | 51 => ⟨S8192, .i32⟩
  | 52 => ⟨S8192, .i32⟩
  | 53 => ⟨S8192x1, .i32⟩
  | 54 => ⟨S8192x512, .f32⟩
  | 55 => ⟨S_, .i32⟩
  | 56 => ⟨S8192, .i32⟩
  | 57 => ⟨S8192, .i1⟩
  | 58 => ⟨S_, .i32⟩
  | 59 => ⟨S8192, .i32⟩
  | 60 => ⟨S8192, .i32⟩
  | 61 => ⟨S8192, .i32⟩
  | 62 => ⟨S8192x1, .i32⟩
  | 63 => ⟨S8192x512, .f32⟩
  | 64 => ⟨S8192x512, .f32⟩
  | 65 => ⟨S8192x1, .f32⟩
  | 66 => ⟨S8192x512, .f32⟩
  | 67 => ⟨S8192x512, .f32⟩
  | 68 => ⟨S8193x512, .f32⟩
  | 69 => ⟨S_, .i32⟩
  | 70 => ⟨S8192, .i32⟩
  | 71 => ⟨S8192, .i32⟩
  | 72 => ⟨S_, .i32⟩
  | 73 => ⟨S8192, .i32⟩
  | 74 => ⟨S8192, .i32⟩
  | 75 => ⟨S_, .i32⟩
  | 76 => ⟨S8192, .i32⟩
  | 77 => ⟨S8192, .i32⟩
  | 78 => ⟨S_, .i32⟩
  | 79 => ⟨S8192, .i32⟩
  | 80 => ⟨S8192, .i32⟩
  | 81 => ⟨S8192, .i32⟩
  | 82 => ⟨S8192, .f32⟩
  | 83 => ⟨S_, .i32⟩
  | 84 => ⟨S8192, .i32⟩
  | 85 => ⟨S8192, .i32⟩
  | 86 => ⟨S_, .i32⟩
  | 87 => ⟨S8192, .i32⟩
  | 88 => ⟨S8192, .i1⟩
  | 89 => ⟨S_, .i32⟩
  | 90 => ⟨S8192, .i32⟩
  | 91 => ⟨S8192, .i32⟩
  | 92 => ⟨S8192, .i32⟩
  | 93 => ⟨S8192x1, .i32⟩
  | 94 => ⟨S8192x512, .f32⟩
  | 95 => ⟨S_, .i32⟩
  | 96 => ⟨S8192, .i32⟩
  | 97 => ⟨S8192, .i1⟩
  | 98 => ⟨S_, .i32⟩
  | 99 => ⟨S8192, .i32⟩
  | 100 => ⟨S8192, .i32⟩
  | 101 => ⟨S8192, .i32⟩
  | 102 => ⟨S8192x1, .i32⟩
  | 103 => ⟨S8192x512, .f32⟩
  | 104 => ⟨S8192x512, .f32⟩
  | 105 => ⟨S8192x1, .f32⟩
  | 106 => ⟨S8192x512, .f32⟩
  | 107 => ⟨S8192x512, .f32⟩
  | 108 => ⟨S8193x512, .f32⟩
  | 109 => ⟨S_, .i32⟩
  | 110 => ⟨S8192, .i32⟩
  | 111 => ⟨S8192, .i32⟩
  | 112 => ⟨S_, .i32⟩
  | 113 => ⟨S8192, .i32⟩
  | 114 => ⟨S8192, .i32⟩
  | 115 => ⟨S_, .i32⟩
  | 116 => ⟨S8192, .i32⟩
  | 117 => ⟨S8192, .i32⟩
  | 118 => ⟨S_, .i32⟩
  | 119 => ⟨S8192, .i32⟩
  | 120 => ⟨S8192, .i32⟩
  | 121 => ⟨S8192, .i32⟩
  | 122 => ⟨S8192, .f32⟩
  | 123 => ⟨S_, .i32⟩
  | 124 => ⟨S8192, .i32⟩
  | 125 => ⟨S8192, .i32⟩
  | 126 => ⟨S_, .i32⟩
  | 127 => ⟨S8192, .i32⟩
  | _ => ⟨S8192x2048, .f32⟩

abbrev hbmTy0_1 (i : Nat) : BufTy := match i % 128 with
  | 0 => ⟨S8192, .i1⟩
  | 1 => ⟨S_, .i32⟩
  | 2 => ⟨S8192, .i32⟩
  | 3 => ⟨S8192, .i32⟩
  | 4 => ⟨S8192, .i32⟩
  | 5 => ⟨S8192x1, .i32⟩
  | 6 => ⟨S8192x512, .f32⟩
  | 7 => ⟨S_, .i32⟩
  | 8 => ⟨S8192, .i32⟩
  | 9 => ⟨S8192, .i1⟩
  | 10 => ⟨S_, .i32⟩
  | 11 => ⟨S8192, .i32⟩
  | 12 => ⟨S8192, .i32⟩
  | 13 => ⟨S8192, .i32⟩
  | 14 => ⟨S8192x1, .i32⟩
  | 15 => ⟨S8192x512, .f32⟩
  | 16 => ⟨S8192x512, .f32⟩
  | 17 => ⟨S8192x1, .f32⟩
  | 18 => ⟨S8192x512, .f32⟩
  | 19 => ⟨S8192x512, .f32⟩
  | 20 => ⟨S8193x512, .f32⟩
  | 21 => ⟨S_, .i32⟩
  | 22 => ⟨S8192, .i32⟩
  | 23 => ⟨S8192, .i32⟩
  | 24 => ⟨S_, .i32⟩
  | 25 => ⟨S8192, .i32⟩
  | 26 => ⟨S8192, .i32⟩
  | 27 => ⟨S_, .i32⟩
  | 28 => ⟨S8192, .i32⟩
  | 29 => ⟨S8192, .i32⟩
  | 30 => ⟨S_, .i32⟩
  | 31 => ⟨S8192, .i32⟩
  | 32 => ⟨S8192, .i32⟩
  | 33 => ⟨S8192, .i32⟩
  | 34 => ⟨S8192, .f32⟩
  | 35 => ⟨S_, .i32⟩
  | 36 => ⟨S8192, .i32⟩
  | 37 => ⟨S8192, .i32⟩
  | 38 => ⟨S_, .i32⟩
  | 39 => ⟨S8192, .i32⟩
  | 40 => ⟨S8192, .i1⟩
  | 41 => ⟨S_, .i32⟩
  | 42 => ⟨S8192, .i32⟩
  | 43 => ⟨S8192, .i32⟩
  | 44 => ⟨S8192, .i32⟩
  | 45 => ⟨S8192x1, .i32⟩
  | 46 => ⟨S8192x512, .f32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S8192x1, .i32⟩
  | 55 => ⟨S8192x512, .f32⟩
  | 56 => ⟨S8192x512, .f32⟩
  | 57 => ⟨S8192x1, .f32⟩
  | 58 => ⟨S8192x512, .f32⟩
  | 59 => ⟨S8192x512, .f32⟩
  | 60 => ⟨S8192x2048, .f32⟩
  | 61 => ⟨S8192x2048, .f32⟩
  | 62 => ⟨S8192x4x512, .f32⟩
  | 63 => ⟨S4x512x8192, .f32⟩
  | 64 => ⟨S8192x4x512, .f32⟩
  | 65 => ⟨S8192x2048, .f32⟩
  | 66 => ⟨S1x2048, .f32⟩
  | 67 => ⟨S8192x2048, .f32⟩
  | 68 => ⟨S8192x2048, .f32⟩
  | 69 => ⟨S1x2048, .f32⟩
  | 70 => ⟨S8192x2048, .f32⟩
  | 71 => ⟨S8192x2048, .f32⟩
  | 72 => ⟨S8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_call0_call0_cst : Ref sig .tc := ⟨.hbm, 23, rfl⟩
abbrev main_call0_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_9 : Ref sig .tc := ⟨.hbm, 55, rfl⟩
abbrev main_v37 : Ref sig .tc := ⟨.hbm, 56, rfl⟩
abbrev main_v38 : Ref sig .tc := ⟨.hbm, 57, rfl⟩
abbrev main_c_10 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_11 : Ref sig .tc := ⟨.hbm, 69, rfl⟩
abbrev main_v49 : Ref sig .tc := ⟨.hbm, 70, rfl⟩
abbrev main_v50 : Ref sig .tc := ⟨.hbm, 71, rfl⟩
abbrev main_c_12 : Ref sig .tc := ⟨.hbm, 72, rfl⟩
abbrev main_v51 : Ref sig .tc := ⟨.hbm, 73, rfl⟩
abbrev main_v52 : Ref sig .tc := ⟨.hbm, 74, rfl⟩
abbrev main_c_13 : Ref sig .tc := ⟨.hbm, 75, rfl⟩
abbrev main_v53 : Ref sig .tc := ⟨.hbm, 76, rfl⟩
abbrev main_v54 : Ref sig .tc := ⟨.hbm, 77, rfl⟩
abbrev main_c_14 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_15 : Ref sig .tc := ⟨.hbm, 83, rfl⟩
abbrev main_v59 : Ref sig .tc := ⟨.hbm, 84, rfl⟩
abbrev main_v60 : Ref sig .tc := ⟨.hbm, 85, rfl⟩
abbrev main_c_16 : Ref sig .tc := ⟨.hbm, 86, rfl⟩
abbrev main_v61 : Ref sig .tc := ⟨.hbm, 87, rfl⟩
abbrev main_v62 : Ref sig .tc := ⟨.hbm, 88, rfl⟩
abbrev main_c_17 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_18 : Ref sig .tc := ⟨.hbm, 95, rfl⟩
abbrev main_v68 : Ref sig .tc := ⟨.hbm, 96, rfl⟩
abbrev main_v69 : Ref sig .tc := ⟨.hbm, 97, rfl⟩
abbrev main_c_19 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_20 : Ref sig .tc := ⟨.hbm, 109, rfl⟩
abbrev main_v80 : Ref sig .tc := ⟨.hbm, 110, rfl⟩
abbrev main_v81 : Ref sig .tc := ⟨.hbm, 111, rfl⟩
abbrev main_c_21 : Ref sig .tc := ⟨.hbm, 112, rfl⟩
abbrev main_v82 : Ref sig .tc := ⟨.hbm, 113, rfl⟩
abbrev main_v83 : Ref sig .tc := ⟨.hbm, 114, rfl⟩
abbrev main_c_22 : Ref sig .tc := ⟨.hbm, 115, rfl⟩
abbrev main_v84 : Ref sig .tc := ⟨.hbm, 116, rfl⟩
abbrev main_v85 : Ref sig .tc := ⟨.hbm, 117, rfl⟩
abbrev main_c_23 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_c_24 : Ref sig .tc := ⟨.hbm, 123, rfl⟩
abbrev main_v90 : Ref sig .tc := ⟨.hbm, 124, rfl⟩
abbrev main_v91 : Ref sig .tc := ⟨.hbm, 125, rfl⟩
abbrev main_c_25 : Ref sig .tc := ⟨.hbm, 126, rfl⟩
abbrev main_v92 : Ref sig .tc := ⟨.hbm, 127, rfl⟩
abbrev main_v93 : Ref sig .tc := ⟨.hbm, 128, rfl⟩
abbrev main_c_26 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_c_27 : Ref sig .tc := ⟨.hbm, 135, rfl⟩
abbrev main_v99 : Ref sig .tc := ⟨.hbm, 136, rfl⟩
abbrev main_v100 : Ref sig .tc := ⟨.hbm, 137, rfl⟩
abbrev main_c_28 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_c_29 : Ref sig .tc := ⟨.hbm, 149, rfl⟩
abbrev main_v111 : Ref sig .tc := ⟨.hbm, 150, rfl⟩
abbrev main_v112 : Ref sig .tc := ⟨.hbm, 151, rfl⟩
abbrev main_c_30 : Ref sig .tc := ⟨.hbm, 152, rfl⟩
abbrev main_v113 : Ref sig .tc := ⟨.hbm, 153, rfl⟩
abbrev main_v114 : Ref sig .tc := ⟨.hbm, 154, rfl⟩
abbrev main_c_31 : Ref sig .tc := ⟨.hbm, 155, rfl⟩
abbrev main_v115 : Ref sig .tc := ⟨.hbm, 156, rfl⟩
abbrev main_v116 : Ref sig .tc := ⟨.hbm, 157, rfl⟩
abbrev main_c_32 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_c_33 : Ref sig .tc := ⟨.hbm, 163, rfl⟩
abbrev main_v121 : Ref sig .tc := ⟨.hbm, 164, rfl⟩
abbrev main_v122 : Ref sig .tc := ⟨.hbm, 165, rfl⟩
abbrev main_c_34 : Ref sig .tc := ⟨.hbm, 166, rfl⟩
abbrev main_v123 : Ref sig .tc := ⟨.hbm, 167, rfl⟩
abbrev main_v124 : Ref sig .tc := ⟨.hbm, 168, rfl⟩
abbrev main_c_35 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_c_36 : Ref sig .tc := ⟨.hbm, 175, rfl⟩
abbrev main_v130 : Ref sig .tc := ⟨.hbm, 176, rfl⟩
abbrev main_v131 : Ref sig .tc := ⟨.hbm, 177, rfl⟩
abbrev main_c_37 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩

abbrev nD : Nat := 1
abbrev τ : Topo := Topo.v7x

variable {F : FTy → Type} [FloatOps F]
-- ==== Proof.Words.lean ====
/-
  The words the pipelined loop carries, in closed form. The 88 trips go over the grid 8 x 11 in row-major order: trip
  `k` works on row block `k / 11` and feed-forward tile `k % 11`. The loop carries thirteen 32-bit words (the running
  slot counters of each operand and the two grid indices); `carry k` says what they are before trip `k`. Everything the
  body computes from them (the conditions of its transfers, the offsets of its slices, its range checks, the words it
  carries on) is then a finite statement over the 88 trips.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.Proof.Ffn

open Cert.KernelIdeal Cert.KernelIdeal.Gen
open Idealize.ShloMosaic
open Idealize.ShloMosaic.TcCoe Idealize.ShloMosaic.Tactic

/-- The words the loop carries before trip `k`, in the order the loop lists them. -/
def w8 (k : ℕ) : BitVec 32 := BitVec.ofNat 32 (min (1 + k / 11) 8)
def w9 (k : ℕ) : BitVec 32 := BitVec.ofNat 32 (k / 11)
def w10 (k : ℕ) : BitVec 32 := BitVec.ofNat 32 (k / 88)
def w11 (k : ℕ) : BitVec 32 := BitVec.ofNat 32 (min (k + 1) 88)
def w12 (k : ℕ) : BitVec 32 := BitVec.ofNat 32 k
def w18 (k : ℕ) : BitVec 32 := BitVec.ofNat 32 ((k - 1) / 11)
def w19 (k : ℕ) : BitVec 32 := BitVec.ofNat 32 (k / 11 % 8)
def w20 (k : ℕ) : BitVec 32 := BitVec.ofNat 32 (k % 11)

/-- The thirteen carried words before trip `k`. -/
abbrev carry (k : ℕ) : BitVec 32 × BitVec 32 × BitVec 32 × BitVec 32 × BitVec 32 × BitVec 32 × BitVec 32 × BitVec 32 × BitVec 32 × BitVec 32 × BitVec 32 × BitVec 32 × BitVec 32 :=
  (w8 k, w9 k, w10 k, w11 k, w12 k, w11 k, w12 k, w11 k, w12 k, w9 k, w18 k, w19 k, w20 k)

theorem trips_eq : k0_t1_loop.trips = 88 := by decide +kernel

/-- Offsets of the slot `s` of a two-slot buffer, and of its semaphore. -/
abbrev sOff (s : Fin 2) : Fin 3 → Nat := ![s.val, 0, 0]
abbrev semOff (s : Fin 2) : Fin 1 → Nat := ![s.val]
/-- Offsets of the blocks: 1024 rows of the activations, 512 columns of the gate half and of the up half, 512 rows. -/
abbrev xOff (b : Fin 8) : Fin 2 → Nat := ![1024 * b.val, 0]
abbrev gOff (b : Fin 11) : Fin 2 → Nat := ![0, 512 * b.val]
abbrev uOff (b : Fin 11) : Fin 2 → Nat := ![0, 5632 + 512 * b.val]
abbrev dOff (b : Fin 11) : Fin 2 → Nat := ![512 * b.val, 0]

section Off
variable (k : Fin k0_t1_loop.trips)

theorem off5_eq : k0_off5 (w8 k.val) = semOff (Ring.sl 2 (k.val / 11 + 1)) := by revert k; decide +kernel
theorem off6_eq : k0_off6 (w8 k.val) = sOff (Ring.sl 2 (k.val / 11 + 1)) := by revert k; decide +kernel
theorem off7_eq : k0_off7 (w19 k.val) (w20 k.val) = xOff (Ring.bk 8 ((k.val + 1) / 11)) := by revert k; decide +kernel
theorem off8_eq : k0_off8 (w11 k.val) = semOff (Ring.sl 2 (k.val + 1)) := by revert k; decide +kernel
theorem off9_eq : k0_off9 (w11 k.val) = sOff (Ring.sl 2 (k.val + 1)) := by revert k; decide +kernel
theorem off10_eq : k0_off10 (w20 k.val) = gOff (Ring.bk 11 (k.val + 1)) := by revert k; decide +kernel
theorem off11_eq : k0_off11 (w11 k.val) = semOff (Ring.sl 2 (k.val + 1)) := by revert k; decide +kernel
theorem off12_eq : k0_off12 (w11 k.val) = sOff (Ring.sl 2 (k.val + 1)) := by revert k; decide +kernel
theorem off13_eq : k0_off13 (w20 k.val) = uOff (Ring.bk 11 (k.val + 1)) := by revert k; decide +kernel
theorem off14_eq : k0_off14 (w11 k.val) = semOff (Ring.sl 2 (k.val + 1)) := by revert k; decide +kernel
theorem off15_eq : k0_off15 (w11 k.val) = sOff (Ring.sl 2 (k.val + 1)) := by revert k; decide +kernel
theorem off16_eq : k0_off16 (w20 k.val) = dOff (Ring.bk 11 (k.val + 1)) := by revert k; decide +kernel
theorem off17_eq : k0_off17 (w9 k.val) = semOff (Ring.sl 2 (k.val / 11)) := by revert k; decide +kernel
theorem off18_eq : k0_off18 (w9 k.val) = sOff (Ring.sl 2 (k.val / 11)) := by revert k; decide +kernel
theorem off19_eq : k0_off19 (w19 k.val) = xOff (Ring.bk 8 (k.val / 11)) := by revert k; decide +kernel
theorem off20_eq : k0_off20 (w12 k.val) = semOff (Ring.sl 2 k.val) := by revert k; decide +kernel
theorem off21_eq : k0_off21 (w12 k.val) = sOff (Ring.sl 2 k.val) := by revert k; decide +kernel
theorem off22_eq : k0_off22 (w20 k.val) = gOff (Ring.bk 11 k.val) := by revert k; decide +kernel
theorem off23_eq : k0_off23 (w12 k.val) = semOff (Ring.sl 2 k.val) := by revert k; decide +kernel
theorem off24_eq : k0_off24 (w12 k.val) = sOff (Ring.sl 2 k.val) := by revert k; decide +kernel
theorem off25_eq : k0_off25 (w20 k.val) = uOff (Ring.bk 11 k.val) := by revert k; decide +kernel
theorem off26_eq : k0_off26 (w12 k.val) = semOff (Ring.sl 2 k.val) := by revert k; decide +kernel
theorem off27_eq : k0_off27 (w12 k.val) = sOff (Ring.sl 2 k.val) := by revert k; decide +kernel
theorem off28_eq : k0_off28 (w20 k.val) = dOff (Ring.bk 11 k.val) := by revert k; decide +kernel
theorem off29_eq : k0_off29 (w9 k.val) = sOff (Ring.sl 2 (k.val / 11)) := by revert k; decide +kernel
theorem off30_eq : k0_off30 (w9 k.val) = sOff (Ring.sl 2 (k.val / 11)) := by revert k; decide +kernel
theorem off31_eq : k0_off31 (w12 k.val) = sOff (Ring.sl 2 k.val) := by revert k; decide +kernel
theorem off32_eq : k0_off32 (w12 k.val) = sOff (Ring.sl 2 k.val) := by revert k; decide +kernel
theorem off33_eq : k0_off33 (w9 k.val) = sOff (Ring.sl 2 (k.val / 11)) := by revert k; decide +kernel
theorem off34_eq : k0_off34 (w12 k.val) = sOff (Ring.sl 2 k.val) := by revert k; decide +kernel
theorem off35_eq : k0_off35 (w9 k.val) = semOff (Ring.sl 2 (k.val / 11)) := by revert k; decide +kernel
theorem off36_eq : k0_off36 (w19 k.val) = xOff (Ring.bk 8 (k.val / 11)) := by revert k; decide +kernel
theorem off37_eq : k0_off37 (w9 k.val) = sOff (Ring.sl 2 (k.val / 11)) := by revert k; decide +kernel
theorem off38_eq : k0_off38 (w18 k.val) = semOff (Ring.sl 2 ((k.val - 1) / 11)) := by revert k; decide +kernel
theorem off39_eq : 0 < k.val → k0_off39 (w19 k.val) (w20 k.val) = xOff (Ring.bk 8 ((k.val - 1) / 11)) := by revert k; decide +kernel
theorem off40_eq : k0_off40 (w18 k.val) = sOff (Ring.sl 2 ((k.val - 1) / 11)) := by revert k; decide +kernel

/-- When each transfer is issued or waited, and when the row block is new. -/
theorem cond1_iff : k0_cond1 k (w19 k.val) (w20 k.val) = 1#1 ↔ k.val % 11 = 10 ∧ k.val < 87 := by revert k; decide +kernel
theorem cond2_iff : k0_cond2 k (w20 k.val) = 1#1 ↔ k.val < 87 := by revert k; decide +kernel
theorem cond3_iff : k0_cond3 k (w20 k.val) = 1#1 ↔ k.val < 87 := by revert k; decide +kernel
theorem cond4_iff : k0_cond4 k (w20 k.val) = 1#1 ↔ k.val < 87 := by revert k; decide +kernel
theorem cond5_iff : k0_cond5 k (w19 k.val) (w20 k.val) = 1#1 ↔ k.val % 11 = 0 := by revert k; decide +kernel
theorem cond6_true : k0_cond6 k (w20 k.val) = 1#1 := by revert k; decide +kernel
theorem cond7_true : k0_cond7 k (w20 k.val) = 1#1 := by revert k; decide +kernel
theorem cond8_true : k0_cond8 k (w20 k.val) = 1#1 := by revert k; decide +kernel
theorem cond10_iff : k0_cond10 (w20 k.val) = 1#1 ↔ k.val % 11 = 0 := by revert k; decide +kernel
theorem cond15_iff : k0_cond15 k (w19 k.val) (w20 k.val) = 1#1 ↔ k.val % 11 = 10 := by revert k; decide +kernel
theorem cond20_iff : k0_cond20 k (w19 k.val) (w20 k.val) = 1#1 ↔ k.val % 11 = 0 ∧ 0 < k.val := by revert k; decide +kernel

/-- The range checks of a trip. -/
theorem chk1_true : k0_chk1 k (w8 k.val) (w9 k.val) (w11 k.val) (w12 k.val) (w11 k.val) (w12 k.val) (w11 k.val) (w12 k.val) (w9 k.val) (w18 k.val) (w19 k.val) (w20 k.val) := by revert k; decide +kernel
theorem chk2_true : k0_chk2 (w12 k.val) := by revert k; decide +kernel
theorem chk3_true : k0_chk3 (w12 k.val) := by revert k; decide +kernel
theorem chk4_true : k0_chk4 (w9 k.val) := by revert k; decide +kernel
theorem chk5_true : k0_chk5 (w12 k.val) := by revert k; decide +kernel

end Off

/-- The words the loop starts from, and the checks after it. -/
theorem chk6_end : k0_chk6 (w18 88) := by decide +kernel
theorem chk7_end : k0_chk7 (w20 88) (w19 88) := by decide +kernel
theorem off41_end : k0_off41 (w18 88) = semOff 1 := by decide +kernel
theorem off42_end : k0_off42 (w20 88) (w19 88) = xOff 7 := by decide +kernel
theorem off43_end : k0_off43 (w18 88) = sOff 1 := by decide +kernel

end Cert.Proof.Ffn
-- ==== Proof.Names.lean ====
/-
  Names for what the body slices: the blocks of the arrays in HBM, the two slots of each operand's buffer, and the
  slots' semaphores; and the equations by which the slices the program spells are these names.
-/
module

public import proofs.«01_k».proof.Proof.Words

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

abbrev xM : Memref sig .tc .hbm S8192x2048 .f32 := Memref.whole main_arg0
abbrev gwM : Memref sig .tc .hbm S1x2048 .f32 := Memref.whole main_v0
abbrev wM : Memref sig .tc .hbm S2048x11264 .bf16 := Memref.whole main_v1
abbrev dM : Memref sig .tc .hbm S5632x2048 .bf16 := Memref.whole main_v2
abbrev yM : Memref sig .tc .hbm S8192x2048 .f32 := Memref.whole main_v3
abbrev hM : Memref sig .tc .vmem S1024x2048 .bf16 := Memref.whole cc0_scratch0
abbrev xB : Memref sig .tc .vmem S2x1024x2048 .f32 := Memref.whole cc0_scoped0
abbrev gwB : Memref sig .tc .vmem S1x2048 .f32 := Memref.whole cc0_scoped2
abbrev gB : Memref sig .tc .vmem S2x2048x512 .bf16 := Memref.whole cc0_scoped3
abbrev uB : Memref sig .tc .vmem S2x2048x512 .bf16 := Memref.whole cc0_scoped5
abbrev dB : Memref sig .tc .vmem S2x512x2048 .bf16 := Memref.whole cc0_scoped7
abbrev yB : Memref sig .tc .vmem S2x1024x2048 .f32 := Memref.whole cc0_scoped9

theorem sOffA_inb (s : Fin 2) : ∀ a, sOff s a + S1x1024x2048.size a ≤ S2x1024x2048.size a := by revert s; decide +kernel
theorem sOffG_inb (s : Fin 2) : ∀ a, sOff s a + S1x2048x512.size a ≤ S2x2048x512.size a := by revert s; decide +kernel
theorem sOffD_inb (s : Fin 2) : ∀ a, sOff s a + S1x512x2048.size a ≤ S2x512x2048.size a := by revert s; decide +kernel
theorem semOff_inb (s : Fin 2) : ∀ a, semOff s a + S1.size a ≤ S2.size a := by revert s; decide +kernel
theorem xOff_inb (b : Fin 8) : ∀ a, xOff b a + S1024x2048.size a ≤ S8192x2048.size a := by revert b; decide +kernel
theorem gOff_inb (b : Fin 11) : ∀ a, gOff b a + S2048x512.size a ≤ S2048x11264.size a := by revert b; decide +kernel
theorem uOff_inb (b : Fin 11) : ∀ a, uOff b a + S2048x512.size a ≤ S2048x11264.size a := by revert b; decide +kernel
theorem dOff_inb (b : Fin 11) : ∀ a, dOff b a + S512x2048.size a ≤ S5632x2048.size a := by revert b; decide +kernel

/-- Row block `b` of the activations, and of the result. -/
def xblk (b : Fin 8) : Memref sig .tc .hbm S1024x2048 .f32 :=
  xM.slice (Rect.unit (s := S8192x2048) (xOff b) S1024x2048.size (xOff_inb b)) (fun _ => rfl)
def yblk (b : Fin 8) : Memref sig .tc .hbm S1024x2048 .f32 :=
  yM.slice (Rect.unit (s := S8192x2048) (xOff b) S1024x2048.size (xOff_inb b)) (fun _ => rfl)
/-- Column block `b` of the gate half and of the up half of the first weights, row block `b` of the second. -/
def gblk (b : Fin 11) : Memref sig .tc .hbm S2048x512 .bf16 :=
  wM.slice (Rect.unit (s := S2048x11264) (gOff b) S2048x512.size (gOff_inb b)) (fun _ => rfl)
def ublk (b : Fin 11) : Memref sig .tc .hbm S2048x512 .bf16 :=
  wM.slice (Rect.unit (s := S2048x11264) (uOff b) S2048x512.size (uOff_inb b)) (fun _ => rfl)
def dblk (b : Fin 11) : Memref sig .tc .hbm S512x2048 .bf16 :=
  dM.slice (Rect.unit (s := S5632x2048) (dOff b) S512x2048.size (dOff_inb b)) (fun _ => rfl)

/-- Slot `s` of each operand's buffer. -/
def xslot (s : Fin 2) : Memref sig .tc .vmem S1024x2048 .f32 :=
  (xB.slice (Rect.unit (s := S2x1024x2048) (sOff s) S1x1024x2048.size (sOffA_inb s)) (fun _ => rfl)).squeeze S1024x2048 squeezes_S1x1024x2048_S1024x2048
def yslot (s : Fin 2) : Memref sig .tc .vmem S1024x2048 .f32 :=
  (yB.slice (Rect.unit (s := S2x1024x2048) (sOff s) S1x1024x2048.size (sOffA_inb s)) (fun _ => rfl)).squeeze S1024x2048 squeezes_S1x1024x2048_S1024x2048
def gslot (s : Fin 2) : Memref sig .tc .vmem S2048x512 .bf16 :=
  (gB.slice (Rect.unit (s := S2x2048x512) (sOff s) S1x2048x512.size (sOffG_inb s)) (fun _ => rfl)).squeeze S2048x512 squeezes_S1x2048x512_S2048x512
def uslot (s : Fin 2) : Memref sig .tc .vmem S2048x512 .bf16 :=
  (uB.slice (Rect.unit (s := S2x2048x512) (sOff s) S1x2048x512.size (sOffG_inb s)) (fun _ => rfl)).squeeze S2048x512 squeezes_S1x2048x512_S2048x512
def dslot (s : Fin 2) : Memref sig .tc .vmem S512x2048 .bf16 :=
  (dB.slice (Rect.unit (s := S2x512x2048) (sOff s) S1x512x2048.size (sOffD_inb s)) (fun _ => rfl)).squeeze S512x2048 squeezes_S1x512x2048_S512x2048

/-- Slot `s`'s semaphore, for each operand. -/
def xsem (s : Fin 2) : DmaSems sig S_ := (cc0_scoped1.slice (Rect.unit (s := S2) (semOff s) S1.size (semOff_inb s))).squeeze S_ squeezes_S1_S_
def gsem (s : Fin 2) : DmaSems sig S_ := (cc0_scoped4.slice (Rect.unit (s := S2) (semOff s) S1.size (semOff_inb s))).squeeze S_ squeezes_S1_S_
def usem (s : Fin 2) : DmaSems sig S_ := (cc0_scoped6.slice (Rect.unit (s := S2) (semOff s) S1.size (semOff_inb s))).squeeze S_ squeezes_S1_S_
def dsem (s : Fin 2) : DmaSems sig S_ := (cc0_scoped8.slice (Rect.unit (s := S2) (semOff s) S1.size (semOff_inb s))).squeeze S_ squeezes_S1_S_
def ysem (s : Fin 2) : DmaSems sig S_ := (cc0_scoped10.slice (Rect.unit (s := S2) (semOff s) S1.size (semOff_inb s))).squeeze S_ squeezes_S1_S_

instance (s : Fin 2) : ClosedOff (sOff s) := ⟨sOff s, rfl⟩
instance (b : Fin 8) : ClosedOff (xOff b) := ⟨xOff b, rfl⟩
instance (b : Fin 11) : ClosedOff (gOff b) := ⟨gOff b, rfl⟩
instance (b : Fin 11) : ClosedOff (uOff b) := ⟨uOff b, rfl⟩
instance (b : Fin 11) : ClosedOff (dOff b) := ⟨dOff b, rfl⟩

section Canon
variable (k : Fin k0_t1_loop.trips)

instance : ClosedOff (k0_off29 (w9 k.val)) := ⟨sOff (Ring.sl 2 (k.val / 11)), off29_eq k⟩
instance : ClosedOff (k0_off30 (w9 k.val)) := ⟨sOff (Ring.sl 2 (k.val / 11)), off30_eq k⟩
instance : ClosedOff (k0_off31 (w12 k.val)) := ⟨sOff (Ring.sl 2 k.val), off31_eq k⟩
instance : ClosedOff (k0_off32 (w12 k.val)) := ⟨sOff (Ring.sl 2 k.val), off32_eq k⟩
instance : ClosedOff (k0_off33 (w9 k.val)) := ⟨sOff (Ring.sl 2 (k.val / 11)), off33_eq k⟩
instance : ClosedOff (k0_off34 (w12 k.val)) := ⟨sOff (Ring.sl 2 k.val), off34_eq k⟩

theorem xsem_congr {off : Fin 1 → Nat} {s : Fin 2} (e : off = semOff s) (hh) :
    (cc0_scoped1.slice (Rect.unit (s := S2) off S1.size hh)).squeeze S_ squeezes_S1_S_ = xsem s :=
  congrArg (fun A : DmaSems sig S1 => A.squeeze S_ squeezes_S1_S_) (SemArray.slice_unit_congr _ e _ _)
theorem gsem_congr {off : Fin 1 → Nat} {s : Fin 2} (e : off = semOff s) (hh) :
    (cc0_scoped4.slice (Rect.unit (s := S2) off S1.size hh)).squeeze S_ squeezes_S1_S_ = gsem s :=
  congrArg (fun A : DmaSems sig S1 => A.squeeze S_ squeezes_S1_S_) (SemArray.slice_unit_congr _ e _ _)
theorem usem_congr {off : Fin 1 → Nat} {s : Fin 2} (e : off = semOff s) (hh) :
    (cc0_scoped6.slice (Rect.unit (s := S2) off S1.size hh)).squeeze S_ squeezes_S1_S_ = usem s :=
  congrArg (fun A : DmaSems sig S1 => A.squeeze S_ squeezes_S1_S_) (SemArray.slice_unit_congr _ e _ _)
theorem dsem_congr {off : Fin 1 → Nat} {s : Fin 2} (e : off = semOff s) (hh) :
    (cc0_scoped8.slice (Rect.unit (s := S2) off S1.size hh)).squeeze S_ squeezes_S1_S_ = dsem s :=
  congrArg (fun A : DmaSems sig S1 => A.squeeze S_ squeezes_S1_S_) (SemArray.slice_unit_congr _ e _ _)
theorem ysem_congr {off : Fin 1 → Nat} {s : Fin 2} (e : off = semOff s) (hh) :
    (cc0_scoped10.slice (Rect.unit (s := S2) off S1.size hh)).squeeze S_ squeezes_S1_S_ = ysem s :=
  congrArg (fun A : DmaSems sig S1 => A.squeeze S_ squeezes_S1_S_) (SemArray.slice_unit_congr _ e _ _)
theorem xslot_congr {off : Fin 3 → Nat} {s : Fin 2} (e : off = sOff s) (hh hs) :
    (xB.slice (Rect.unit (s := S2x1024x2048) off S1x1024x2048.size hh) hs).squeeze S1024x2048 squeezes_S1x1024x2048_S1024x2048 = xslot s :=
  congrArg (fun M : Memref sig .tc .vmem S1x1024x2048 .f32 => M.squeeze S1024x2048 squeezes_S1x1024x2048_S1024x2048) (Memref.slice_unit_congr _ e _ _ _ _)
theorem yslot_congr {off : Fin 3 → Nat} {s : Fin 2} (e : off = sOff s) (hh hs) :
    (yB.slice (Rect.unit (s := S2x1024x2048) off S1x1024x2048.size hh) hs).squeeze S1024x2048 squeezes_S1x1024x2048_S1024x2048 = yslot s :=
  congrArg (fun M : Memref sig .tc .vmem S1x1024x2048 .f32 => M.squeeze S1024x2048 squeezes_S1x1024x2048_S1024x2048) (Memref.slice_unit_congr _ e _ _ _ _)
theorem gslot_congr {off : Fin 3 → Nat} {s : Fin 2} (e : off = sOff s) (hh hs) :
    (gB.slice (Rect.unit (s := S2x2048x512) off S1x2048x512.size hh) hs).squeeze S2048x512 squeezes_S1x2048x512_S2048x512 = gslot s :=
  congrArg (fun M : Memref sig .tc .vmem S1x2048x512 .bf16 => M.squeeze S2048x512 squeezes_S1x2048x512_S2048x512) (Memref.slice_unit_congr _ e _ _ _ _)
theorem uslot_congr {off : Fin 3 → Nat} {s : Fin 2} (e : off = sOff s) (hh hs) :
    (uB.slice (Rect.unit (s := S2x2048x512) off S1x2048x512.size hh) hs).squeeze S2048x512 squeezes_S1x2048x512_S2048x512 = uslot s :=
  congrArg (fun M : Memref sig .tc .vmem S1x2048x512 .bf16 => M.squeeze S2048x512 squeezes_S1x2048x512_S2048x512) (Memref.slice_unit_congr _ e _ _ _ _)
theorem dslot_congr {off : Fin 3 → Nat} {s : Fin 2} (e : off = sOff s) (hh hs) :
    (dB.slice (Rect.unit (s := S2x512x2048) off S1x512x2048.size hh) hs).squeeze S512x2048 squeezes_S1x512x2048_S512x2048 = dslot s :=
  congrArg (fun M : Memref sig .tc .vmem S1x512x2048 .bf16 => M.squeeze S512x2048 squeezes_S1x512x2048_S512x2048) (Memref.slice_unit_congr _ e _ _ _ _)
theorem xblk_congr {off : Fin 2 → Nat} {b : Fin 8} (e : off = xOff b) (hh hs) :
    xM.slice (Rect.unit (s := S8192x2048) off S1024x2048.size hh) hs = xblk b := Memref.slice_unit_congr _ e _ _ hs (fun _ => rfl)
theorem yblk_congr {off : Fin 2 → Nat} {b : Fin 8} (e : off = xOff b) (hh hs) :
    yM.slice (Rect.unit (s := S8192x2048) off S1024x2048.size hh) hs = yblk b := Memref.slice_unit_congr _ e _ _ hs (fun _ => rfl)
theorem gblk_congr {off : Fin 2 → Nat} {b : Fin 11} (e : off = gOff b) (hh hs) :
    wM.slice (Rect.unit (s := S2048x11264) off S2048x512.size hh) hs = gblk b := Memref.slice_unit_congr _ e _ _ hs (fun _ => rfl)
theorem ublk_congr {off : Fin 2 → Nat} {b : Fin 11} (e : off = uOff b) (hh hs) :
    wM.slice (Rect.unit (s := S2048x11264) off S2048x512.size hh) hs = ublk b := Memref.slice_unit_congr _ e _ _ hs (fun _ => rfl)
theorem dblk_congr {off : Fin 2 → Nat} {b : Fin 11} (e : off = dOff b) (hh hs) :
    dM.slice (Rect.unit (s := S5632x2048) off S512x2048.size hh) hs = dblk b := Memref.slice_unit_congr _ e _ _ hs (fun _ => rfl)

/-- Trip `k`'s slices. Activations: -/
@[sl_canon] theorem c5 (hh) : (cc0_scoped1.slice (Rect.unit (s := S2) (k0_off5 (w8 k.val)) S1.size hh)).squeeze S_ squeezes_S1_S_ = xsem (Ring.sl 2 (k.val / 11 + 1)) := xsem_congr (off5_eq k) _
@[sl_canon] theorem c6 (hh hs) : (xB.slice (Rect.unit (s := S2x1024x2048) (k0_off6 (w8 k.val)) S1x1024x2048.size hh) hs).squeeze S1024x2048 squeezes_S1x1024x2048_S1024x2048 = xslot (Ring.sl 2 (k.val / 11 + 1)) := xslot_congr (off6_eq k) _ _
@[sl_canon] theorem c7 (hh hs) : xM.slice (Rect.unit (s := S8192x2048) (k0_off7 (w19 k.val) (w20 k.val)) S1024x2048.size hh) hs = xblk (Ring.bk 8 ((k.val + 1) / 11)) := xblk_congr (off7_eq k) _ _
@[sl_canon] theorem c17 (hh) : (cc0_scoped1.slice (Rect.unit (s := S2) (k0_off17 (w9 k.val)) S1.size hh)).squeeze S_ squeezes_S1_S_ = xsem (Ring.sl 2 (k.val / 11)) := xsem_congr (off17_eq k) _
@[sl_canon] theorem c18 (hh hs) : (xB.slice (Rect.unit (s := S2x1024x2048) (k0_off18 (w9 k.val)) S1x1024x2048.size hh) hs).squeeze S1024x2048 squeezes_S1x1024x2048_S1024x2048 = xslot (Ring.sl 2 (k.val / 11)) := xslot_congr (off18_eq k) _ _
@[sl_canon] theorem c19 (hh hs) : xM.slice (Rect.unit (s := S8192x2048) (k0_off19 (w19 k.val)) S1024x2048.size hh) hs = xblk (Ring.bk 8 (k.val / 11)) := xblk_congr (off19_eq k) _ _
/-- Gate weights: -/
@[sl_canon] theorem c8 (hh) : (cc0_scoped4.slice (Rect.unit (s := S2) (k0_off8 (w11 k.val)) S1.size hh)).squeeze S_ squeezes_S1_S_ = gsem (Ring.sl 2 (k.val + 1)) := gsem_congr (off8_eq k) _
@[sl_canon] theorem c9 (hh hs) : (gB.slice (Rect.unit (s := S2x2048x512) (k0_off9 (w11 k.val)) S1x2048x512.size hh) hs).squeeze S2048x512 squeezes_S1x2048x512_S2048x512 = gslot (Ring.sl 2 (k.val + 1)) := gslot_congr (off9_eq k) _ _
@[sl_canon] theorem c10 (hh hs) : wM.slice (Rect.unit (s := S2048x11264) (k0_off10 (w20 k.val)) S2048x512.size hh) hs = gblk (Ring.bk 11 (k.val + 1)) := gblk_congr (off10_eq k) _ _
@[sl_canon] theorem c20 (hh) : (cc0_scoped4.slice (Rect.unit (s := S2) (k0_off20 (w12 k.val)) S1.size hh)).squeeze S_ squeezes_S1_S_ = gsem (Ring.sl 2 k.val) := gsem_congr (off20_eq k) _
@[sl_canon] theorem c21 (hh hs) : (gB.slice (Rect.unit (s := S2x2048x512) (k0_off21 (w12 k.val)) S1x2048x512.size hh) hs).squeeze S2048x512 squeezes_S1x2048x512_S2048x512 = gslot (Ring.sl 2 k.val) := gslot_congr (off21_eq k) _ _
@[sl_canon] theorem c22 (hh hs) : wM.slice (Rect.unit (s := S2048x11264) (k0_off22 (w20 k.val)) S2048x512.size hh) hs = gblk (Ring.bk 11 k.val) := gblk_congr (off22_eq k) _ _
/-- Up weights: -/
@[sl_canon] theorem c11 (hh) : (cc0_scoped6.slice (Rect.unit (s := S2) (k0_off11 (w11 k.val)) S1.size hh)).squeeze S_ squeezes_S1_S_ = usem (Ring.sl 2 (k.val + 1)) := usem_congr (off11_eq k) _
@[sl_canon] theorem c12 (hh hs) : (uB.slice (Rect.unit (s := S2x2048x512) (k0_off12 (w11 k.val)) S1x2048x512.size hh) hs).squeeze S2048x512 squeezes_S1x2048x512_S2048x512 = uslot (Ring.sl 2 (k.val + 1)) := uslot_congr (off12_eq k) _ _
@[sl_canon] theorem c13 (hh hs) : wM.slice (Rect.unit (s := S2048x11264) (k0_off13 (w20 k.val)) S2048x512.size hh) hs = ublk (Ring.bk 11 (k.val + 1)) := ublk_congr (off13_eq k) _ _
@[sl_canon] theorem c23 (hh) : (cc0_scoped6.slice (Rect.unit (s := S2) (k0_off23 (w12 k.val)) S1.size hh)).squeeze S_ squeezes_S1_S_ = usem (Ring.sl 2 k.val) := usem_congr (off23_eq k) _
@[sl_canon] theorem c24 (hh hs) : (uB.slice (Rect.unit (s := S2x2048x512) (k0_off24 (w12 k.val)) S1x2048x512.size hh) hs).squeeze S2048x512 squeezes_S1x2048x512_S2048x512 = uslot (Ring.sl 2 k.val) := uslot_congr (off24_eq k) _ _
@[sl_canon] theorem c25 (hh hs) : wM.slice (Rect.unit (s := S2048x11264) (k0_off25 (w20 k.val)) S2048x512.size hh) hs = ublk (Ring.bk 11 k.val) := ublk_congr (off25_eq k) _ _
/-- Down weights: -/
@[sl_canon] theorem c14 (hh) : (cc0_scoped8.slice (Rect.unit (s := S2) (k0_off14 (w11 k.val)) S1.size hh)).squeeze S_ squeezes_S1_S_ = dsem (Ring.sl 2 (k.val + 1)) := dsem_congr (off14_eq k) _
@[sl_canon] theorem c15 (hh hs) : (dB.slice (Rect.unit (s := S2x512x2048) (k0_off15 (w11 k.val)) S1x512x2048.size hh) hs).squeeze S512x2048 squeezes_S1x512x2048_S512x2048 = dslot (Ring.sl 2 (k.val + 1)) := dslot_congr (off15_eq k) _ _
@[sl_canon] theorem c16 (hh hs) : dM.slice (Rect.unit (s := S5632x2048) (k0_off16 (w20 k.val)) S512x2048.size hh) hs = dblk (Ring.bk 11 (k.val + 1)) := dblk_congr (off16_eq k) _ _
@[sl_canon] theorem c26 (hh) : (cc0_scoped8.slice (Rect.unit (s := S2) (k0_off26 (w12 k.val)) S1.size hh)).squeeze S_ squeezes_S1_S_ = dsem (Ring.sl 2 k.val) := dsem_congr (off26_eq k) _
@[sl_canon] theorem c27 (hh hs) : (dB.slice (Rect.unit (s := S2x512x2048) (k0_off27 (w12 k.val)) S1x512x2048.size hh) hs).squeeze S512x2048 squeezes_S1x512x2048_S512x2048 = dslot (Ring.sl 2 k.val) := dslot_congr (off27_eq k) _ _
@[sl_canon] theorem c28 (hh hs) : dM.slice (Rect.unit (s := S5632x2048) (k0_off28 (w20 k.val)) S512x2048.size hh) hs = dblk (Ring.bk 11 k.val) := dblk_congr (off28_eq k) _ _
/-- Result: -/
@[sl_canon] theorem c33 (hh hs) : (yB.slice (Rect.unit (s := S2x1024x2048) (k0_off33 (w9 k.val)) S1x1024x2048.size hh) hs).squeeze S1024x2048 squeezes_S1x1024x2048_S1024x2048 = yslot (Ring.sl 2 (k.val / 11)) := yslot_congr (off33_eq k) _ _
@[sl_canon] theorem c35 (hh) : (cc0_scoped10.slice (Rect.unit (s := S2) (k0_off35 (w9 k.val)) S1.size hh)).squeeze S_ squeezes_S1_S_ = ysem (Ring.sl 2 (k.val / 11)) := ysem_congr (off35_eq k) _
@[sl_canon] theorem c36 (hh hs) : yM.slice (Rect.unit (s := S8192x2048) (k0_off36 (w19 k.val)) S1024x2048.size hh) hs = yblk (Ring.bk 8 (k.val / 11)) := yblk_congr (off36_eq k) _ _
@[sl_canon] theorem c37 (hh hs) : (yB.slice (Rect.unit (s := S2x1024x2048) (k0_off37 (w9 k.val)) S1x1024x2048.size hh) hs).squeeze S1024x2048 squeezes_S1x1024x2048_S1024x2048 = yslot (Ring.sl 2 (k.val / 11)) := yslot_congr (off37_eq k) _ _
@[sl_canon] theorem c38 (hh) : (cc0_scoped10.slice (Rect.unit (s := S2) (k0_off38 (w18 k.val)) S1.size hh)).squeeze S_ squeezes_S1_S_ = ysem (Ring.sl 2 ((k.val - 1) / 11)) := ysem_congr (off38_eq k) _
@[sl_canon] theorem c39 (hk : 0 < k.val) (hh hs) : yM.slice (Rect.unit (s := S8192x2048) (k0_off39 (w19 k.val) (w20 k.val)) S1024x2048.size hh) hs = yblk (Ring.bk 8 ((k.val - 1) / 11)) := yblk_congr (off39_eq k hk) _ _
@[sl_canon] theorem c40 (hh hs) : (yB.slice (Rect.unit (s := S2x1024x2048) (k0_off40 (w18 k.val)) S1x1024x2048.size hh) hs).squeeze S1024x2048 squeezes_S1x1024x2048_S1024x2048 = yslot (Ring.sl 2 ((k.val - 1) / 11)) := yslot_congr (off40_eq k) _ _

end Canon

/-- The slices before the loop (slot 0, block 0) and after it (slot 1, block 7). -/
@[sl_canon] theorem p1x (hh) : (cc0_scoped1.slice (Rect.unit (s := S2) k0_off1 S1.size hh)).squeeze S_ squeezes_S1_S_ = xsem 0 := xsem_congr (by decide +kernel) _
@[sl_canon] theorem p1g (hh) : (cc0_scoped4.slice (Rect.unit (s := S2) k0_off1 S1.size hh)).squeeze S_ squeezes_S1_S_ = gsem 0 := gsem_congr (by decide +kernel) _
@[sl_canon] theorem p1u (hh) : (cc0_scoped6.slice (Rect.unit (s := S2) k0_off1 S1.size hh)).squeeze S_ squeezes_S1_S_ = usem 0 := usem_congr (by decide +kernel) _
@[sl_canon] theorem p1d (hh) : (cc0_scoped8.slice (Rect.unit (s := S2) k0_off1 S1.size hh)).squeeze S_ squeezes_S1_S_ = dsem 0 := dsem_congr (by decide +kernel) _
@[sl_canon] theorem p2 (hh hs) : (xB.slice (Rect.unit (s := S2x1024x2048) k0_off2 S1x1024x2048.size hh) hs).squeeze S1024x2048 squeezes_S1x1024x2048_S1024x2048 = xslot 0 := xslot_congr (by decide +kernel) _ _
@[sl_canon] theorem p3g (hh hs) : (gB.slice (Rect.unit (s := S2x2048x512) k0_off3 S1x2048x512.size hh) hs).squeeze S2048x512 squeezes_S1x2048x512_S2048x512 = gslot 0 := gslot_congr (by decide +kernel) _ _
@[sl_canon] theorem p3u (hh hs) : (uB.slice (Rect.unit (s := S2x2048x512) k0_off3 S1x2048x512.size hh) hs).squeeze S2048x512 squeezes_S1x2048x512_S2048x512 = uslot 0 := uslot_congr (by decide +kernel) _ _
@[sl_canon] theorem p4 (hh hs) : (dB.slice (Rect.unit (s := S2x512x2048) k0_off4 S1x512x2048.size hh) hs).squeeze S512x2048 squeezes_S1x512x2048_S512x2048 = dslot 0 := dslot_congr (by decide +kernel) _ _
@[sl_canon] theorem px (hh hs) : xM.slice (Rect.unit (s := S8192x2048) ![0, 0] S1024x2048.size hh) hs = xblk 0 := xblk_congr (by decide +kernel) _ _
@[sl_canon] theorem pg (hh hs) : wM.slice (Rect.unit (s := S2048x11264) ![0, 0] S2048x512.size hh) hs = gblk 0 := gblk_congr (by decide +kernel) _ _
@[sl_canon] theorem pu (hh hs) : wM.slice (Rect.unit (s := S2048x11264) ![0, 5632] S2048x512.size hh) hs = ublk 0 := ublk_congr (by decide +kernel) _ _
@[sl_canon] theorem pd (hh hs) : dM.slice (Rect.unit (s := S5632x2048) ![0, 0] S512x2048.size hh) hs = dblk 0 := dblk_congr (by decide +kernel) _ _
@[sl_canon] theorem e41 (hh) : (cc0_scoped10.slice (Rect.unit (s := S2) (k0_off41 (w18 88)) S1.size hh)).squeeze S_ squeezes_S1_S_ = ysem 1 := ysem_congr off41_end _
@[sl_canon] theorem e42 (hh hs) : yM.slice (Rect.unit (s := S8192x2048) (k0_off42 (w20 88) (w19 88)) S1024x2048.size hh) hs = yblk 7 := yblk_congr off42_end _ _
@[sl_canon] theorem e43 (hh hs) : (yB.slice (Rect.unit (s := S2x1024x2048) (k0_off43 (w18 88)) S1x1024x2048.size hh) hs).squeeze S1024x2048 squeezes_S1x1024x2048_S1024x2048 = yslot 1 := yslot_congr off43_end _ _

end Cert.Proof.Ffn
-- ==== Proof.Pieces.lean ====
/-
  The pieces the trips are stated with: a block at home, a slot held, a slot's semaphore at zero, a block in flight.
-/
module

public import proofs.«01_k».proof.Proof.Names

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The ghost state: the pipeline library's, beside the counters the kernel's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

section Pieces
variable (c : Dev nD)

abbrev BX := Buf (Elt F) (xM.view.loc (c : Thread nD τ))
abbrev BW := Buf (Elt F) (wM.view.loc (c : Thread nD τ))
abbrev BD := Buf (Elt F) (dM.view.loc (c : Thread nD τ))

/-- A semaphore at zero. -/
abbrev cellP (s : DmaSems sig S_) : sProp 𝕄 := semVal ((c : Thread nD τ), SemLoc.dma s.sem) 0
/-- A memref's elements at contents `f`. -/
abbrev ownP {sp : Space} {S : Shape} {t : EltTy} (M : Memref sig .tc sp S t) (f : Buf (Elt F) (M.view.loc (c : Thread nD τ))) : sProp 𝕄 :=
  M.view.loc (c : Thread nD τ) ↦[M.view.set]{fullShare} f
/-- A memref's elements at anything. -/
abbrev anyP {sp : Space} {S : Shape} {t : EltTy} (M : Memref sig .tc sp S t) : sProp 𝕄 :=
  iprop(∃ f, ownP (F := F) c M f)
/-- A memref's elements, reading as `v`. -/
abbrev valP {sp : Space} {S : Shape} {t : EltTy} (M : Memref sig .tc sp S t) (v : S.Idx → Elt F t) : sProp 𝕄 :=
  iprop(∃ f, ⌜M.view.read (Elt F) f = v⌝ ∗ ownP (F := F) c M f)

/-- A transfer in flight: the slot `dst` (issued over contents `f`) with the block `src` of an array at `X`. -/
abbrev flightP {sp sp' : Space} {S : Shape} {t : EltTy} (src : Memref sig .tc sp S t) (dst : Memref sig .tc sp' S t) (s : DmaSems sig S_) (N : ℕ)
    (X : Buf (Elt F) (src.view.loc (c : Thread nD τ))) (f : Buf (Elt F) (dst.view.loc (c : Thread nD τ))) : sProp 𝕄 :=
  Transfers.Flight countersEmb (c : Thread nD τ) (SemLoc.dma s.sem) () N
    iprop(ownP (F := F) c dst (dst.view.writes (Elt F) f [⟨Rect.whole S, ReadAs.same.apply (src.view.read (Elt F) X)⟩]) ∗ ownP (F := F) c src X)

abbrev BY := Buf (Elt F) (yM.view.loc (c : Thread nD τ))
abbrev fX (s : Fin 2) := Buf (Elt F) ((xslot s).view.loc (c : Thread nD τ))
abbrev fG (s : Fin 2) := Buf (Elt F) ((gslot s).view.loc (c : Thread nD τ))
abbrev fU (s : Fin 2) := Buf (Elt F) ((uslot s).view.loc (c : Thread nD τ))
abbrev fD (s : Fin 2) := Buf (Elt F) ((dslot s).view.loc (c : Thread nD τ))
abbrev fY (s : Fin 2) := Buf (Elt F) ((yslot s).view.loc (c : Thread nD τ))

/-- Block `b` of each array read, at home. -/
abbrev xHome (X : BX (F := F) c) (b : Fin 8) : sProp 𝕄 := ownP (F := F) c (xblk b) X
abbrev gHome (X : BW (F := F) c) (b : Fin 11) : sProp 𝕄 := ownP (F := F) c (gblk b) X
abbrev uHome (X : BW (F := F) c) (b : Fin 11) : sProp 𝕄 := ownP (F := F) c (ublk b) X
abbrev dHome (X : BD (F := F) c) (b : Fin 11) : sProp 𝕄 := ownP (F := F) c (dblk b) X
/-- Block `b` of each array read, in flight to slot `s`. -/
abbrev xFly (X : BX (F := F) c) (s : Fin 2) (b : Fin 8) (f : fX (F := F) c s) : sProp 𝕄 := flightP (F := F) c (xblk b) (xslot s) (xsem s) 262144 X f
abbrev gFly (X : BW (F := F) c) (s : Fin 2) (b : Fin 11) (f : fG (F := F) c s) : sProp 𝕄 := flightP (F := F) c (gblk b) (gslot s) (gsem s) 65536 X f
abbrev uFly (X : BW (F := F) c) (s : Fin 2) (b : Fin 11) (f : fU (F := F) c s) : sProp 𝕄 := flightP (F := F) c (ublk b) (uslot s) (usem s) 65536 X f
abbrev dFly (X : BD (F := F) c) (s : Fin 2) (b : Fin 11) (f : fD (F := F) c s) : sProp 𝕄 := flightP (F := F) c (dblk b) (dslot s) (dsem s) 65536 X f

/-- A result slot in flight to block `b` of the result, which stood at `Y`. -/
abbrev yFly (Y : BY (F := F) c) (s : Fin 2) (b : Fin 8) (f : fY (F := F) c s) : sProp 𝕄 :=
  Transfers.Flight countersEmb (c : Thread nD τ) (SemLoc.dma (ysem s).sem) () 262144
    iprop(ownP (F := F) c (yblk b) ((yblk b).view.writes (Elt F) Y [⟨Rect.whole S1024x2048, ReadAs.same.apply ((yslot s).view.read (Elt F) f)⟩]) ∗ ownP (F := F) c (yslot s) f)

/-- What the body has still to wait for, whatever it is. -/
abbrev owesP : sProp 𝕄 := iprop(∃ W, owes (c : Thread nD τ) 0 W)
/-- The weight blocks of trip `n` in flight to their slots. -/
abbrev wFly (XW : BW (F := F) c) (XD : BD (F := F) c) (n : ℕ) : sProp 𝕄 :=
  iprop(∃ fg fu fd, gFly (F := F) c XW (Ring.sl 2 n) (Ring.bk 11 n) fg ∗ uFly (F := F) c XW (Ring.sl 2 n) (Ring.bk 11 n) fu ∗ dFly (F := F) c XD (Ring.sl 2 n) (Ring.bk 11 n) fd)
/-- The weight slots of trip `n` free, their semaphores at zero. -/
abbrev wFree (n : ℕ) : sProp 𝕄 :=
  iprop((anyP (F := F) c (gslot (Ring.sl 2 n)) ∗ anyP (F := F) c (uslot (Ring.sl 2 n)) ∗ anyP (F := F) c (dslot (Ring.sl 2 n)))
    ∗ cellP (F := F) c (gsem (Ring.sl 2 n)) ∗ cellP (F := F) c (usem (Ring.sl 2 n)) ∗ cellP (F := F) c (dsem (Ring.sl 2 n)))
/-- The weight blocks of trip `n` at home. -/
abbrev wHome (XW : BW (F := F) c) (XD : BD (F := F) c) (n : ℕ) : sProp 𝕄 :=
  iprop(gHome (F := F) c XW (Ring.bk 11 n) ∗ uHome (F := F) c XW (Ring.bk 11 n) ∗ dHome (F := F) c XD (Ring.bk 11 n))
/-- A slot of activations, and a slot of results, free. -/
abbrev xFree (i : ℕ) : sProp 𝕄 := iprop(anyP (F := F) c (xslot (Ring.sl 2 i)) ∗ cellP (F := F) c (xsem (Ring.sl 2 i)))
abbrev yFree (i : ℕ) : sProp 𝕄 := iprop(anyP (F := F) c (yslot (Ring.sl 2 i)) ∗ cellP (F := F) c (ysem (Ring.sl 2 i)))
/-- Row block `i` of the activations in flight to its slot. -/
abbrev xIn (X : BX (F := F) c) (i : ℕ) : sProp 𝕄 := iprop(∃ f, xFly (F := F) c X (Ring.sl 2 i) (Ring.bk 8 i) f)
/-- Row block `i` of the result, at `v`, in flight home. -/
abbrev yOut (i : ℕ) (v : S1024x2048.Idx → Elt F .f32) : sProp 𝕄 :=
  iprop(∃ Y f, ⌜(yslot (Ring.sl 2 i)).view.read (Elt F) f = v⌝ ∗ yFly (F := F) c Y (Ring.sl 2 i) (Ring.bk 8 i) f)

end Pieces

/-- One trip of the loop, at the words it carries. -/
abbrev tripG (v37 v44 v51 : BitVec 32) (k : Fin k0_t1_loop.trips) : Prog (TpuEff nD τ sig (Elt F) Λ₀ .tc) (BitVec 32 × BitVec 32 × BitVec 32 × BitVec 32 × BitVec 32 × BitVec 32 × BitVec 32 × BitVec 32 × BitVec 32 × BitVec 32 × BitVec 32 × BitVec 32 × BitVec 32) :=
  k0_t1_body (F := F) xM (Memref.isWhole_whole _) gwM (Memref.isWhole_whole _) wM (Memref.isWhole_whole _) wM (Memref.isWhole_whole _) dM (Memref.isWhole_whole _) yM (Memref.isWhole_whole _) hM (Memref.isWhole_whole _) xB (Memref.isWhole_whole _) cc0_scoped1 gwB (Memref.isWhole_whole _) gB (Memref.isWhole_whole _) cc0_scoped4 uB (Memref.isWhole_whole _) cc0_scoped6 dB (Memref.isWhole_whole _) cc0_scoped8 yB (Memref.isWhole_whole _) cc0_scoped10 cc0_scoped11 v37 v44 v51 k (carry k.val)

end Cert.Proof.Ffn
-- ==== Proof.Values.lean ====
/-
  What a trip computes: the normalized rows, one tile's contribution to a row block, and what the slots' loads and
  stores read as.
-/
module

public import proofs.«01_k».proof.Proof.Pieces
public import Idealize.ShloMosaic.Lib.VecWindow
public import Idealize.ShloMosaic.Lib.Pipeline.Value

@[expose] public section

set_option maxRecDepth 16384

noncomputable section

namespace Cert.Proof.Ffn

open Cert.KernelIdeal Cert.KernelIdeal.Gen
open Idealize.ShloMosaic
open Idealize.ShloMosaic.TcCoe Idealize.ShloMosaic.Tactic

variable {F : FTy → Type} [FloatOps F]

theorem castA : S1024x2048.ShapeCasts S1x1024x2048 := shapeCasts_S1024x2048_S1x1024x2048
theorem castG : S2048x512.ShapeCasts S1x2048x512 := shapeCasts_S1x2048x512_S2048x512.symm
theorem castD : S512x2048.ShapeCasts S1x512x2048 := shapeCasts_S1x512x2048_S512x2048.symm

/-- A row block normalized and scaled, rounded for the product. -/
def normV (x : FVec F S1024x2048 .f32) (g : FVec F S1x2048 .f32) : FVec F S1024x2048 .bf16 := k0_pay2 (shapeCast S1x1024x2048 x castA) g

/-- The 256 rows from `o` of a row block. -/
def win {α : Type} (o : ℕ) (ho : ∀ a, (![o, 0] : Fin 2 → ℕ) a + S256x2048.size a ≤ S1024x2048.size a) (v : S1024x2048.Idx → α) : S256x2048.Idx → α :=
  VecWindow.window v ![o, 0] S256x2048.size ho

/-- The 256 rows from `o` of the result after one tile. -/
def chunk (o : ℕ) (ho : ∀ a, (![o, 0] : Fin 2 → ℕ) a + S256x2048.size a ≤ S1024x2048.size a) (h : FVec F S1024x2048 .bf16)
    (g u : FVec F S2048x512 .bf16) (d : FVec F S512x2048 .bf16) (y : FVec F S1024x2048 .f32) : FVec F S256x2048 .f32 :=
  k0_pay8 (k0_pay4 (win o ho h) (shapeCast S1x2048x512 g castG) (shapeCast S1x2048x512 u castG)) (win o ho y) (shapeCast S1x512x2048 d castD)

/-- A row block of the result after one tile of gate, up and down weights. -/
def stepV (h : FVec F S1024x2048 .bf16) (g u : FVec F S2048x512 .bf16) (d : FVec F S512x2048 .bf16) (y : FVec F S1024x2048 .f32) : FVec F S1024x2048 .f32 :=
  VecWindow.put (VecWindow.put (VecWindow.put (VecWindow.put y
    ![0, 0] S256x2048.size (chunk 0 inb_S1024x2048_S256x2048_0_0 h g u d y))
    ![256, 0] S256x2048.size (chunk 256 inb_S1024x2048_S256x2048_256_0 h g u d y))
    ![512, 0] S256x2048.size (chunk 512 inb_S1024x2048_S256x2048_512_0 h g u d y))
    ![768, 0] S256x2048.size (chunk 768 inb_S1024x2048_S256x2048_768_0 h g u d y)

section Loads
variable (c : Dev nD)

/-- A load of a slot through its buffer is what the slot reads, with a leading axis. -/
theorem gload {s : Fin 2} {off : Fin 3 → ℕ} (e : off = sOff s) (inb) (f : fG (F := F) c s) :
    gB.view.readAt (Elt F) (Rect.unit (s := S2x2048x512) off S1x2048x512.size inb).toLoadRect f = shapeCast S1x2048x512 ((gslot s).view.read (Elt F) f) castG := by
  subst e
  exact (shapeCast_shapeCast _ shapeCasts_S1x2048x512_S2048x512 castG).symm
theorem uload {s : Fin 2} {off : Fin 3 → ℕ} (e : off = sOff s) (inb) (f : fU (F := F) c s) :
    uB.view.readAt (Elt F) (Rect.unit (s := S2x2048x512) off S1x2048x512.size inb).toLoadRect f = shapeCast S1x2048x512 ((uslot s).view.read (Elt F) f) castG := by
  subst e
  exact (shapeCast_shapeCast _ shapeCasts_S1x2048x512_S2048x512 castG).symm
theorem dload {s : Fin 2} {off : Fin 3 → ℕ} (e : off = sOff s) (inb) (f : fD (F := F) c s) :
    dB.view.readAt (Elt F) (Rect.unit (s := S2x512x2048) off S1x512x2048.size inb).toLoadRect f = shapeCast S1x512x2048 ((dslot s).view.read (Elt F) f) castD := by
  subst e
  exact (shapeCast_shapeCast _ shapeCasts_S1x512x2048_S512x2048 castD).symm
theorem xload {s : Fin 2} {off : Fin 3 → ℕ} (e : off = sOff s) (inb) (f : fX (F := F) c s) :
    xB.view.readAt (Elt F) (Rect.unit (s := S2x1024x2048) off S1x1024x2048.size inb).toLoadRect f = shapeCast S1x1024x2048 ((xslot s).view.read (Elt F) f) castA := by
  subst e
  exact (shapeCast_shapeCast _ shapeCasts_S1x1024x2048_S1024x2048 castA).symm

/-- A store of a whole result slot through its buffer leaves the payload, without its leading axis. -/
theorem ystore {s : Fin 2} {off : Fin 3 → ℕ} (e : off = sOff s) (inb) (f : fY (F := F) c s) (w : FVec F S1x1024x2048 .f32) :
    (yslot s).view.read (Elt F) ((yB.access (Rect.unit (s := S2x1024x2048) off S1x1024x2048.size inb)).write (Elt F) f w Finset.univ)
      = shapeCast S1024x2048 w shapeCasts_S1x1024x2048_S1024x2048 := by
  subst e
  show shapeCast S1024x2048 ((yB.access (Rect.unit (s := S2x1024x2048) (sOff s) S1x1024x2048.size inb)).read (Elt F)
    ((yB.access (Rect.unit (s := S2x1024x2048) (sOff s) S1x1024x2048.size inb)).write (Elt F) f w Finset.univ)) _ = _
  exact congrArg (fun z => shapeCast S1024x2048 z shapeCasts_S1x1024x2048_S1024x2048) (View.read_write_univ (v := yB.access (Rect.unit (s := S2x1024x2048) (sOff s) S1x1024x2048.size inb)) f w)

theorem pay3_back (x : FVec F S1024x2048 .f32) : shapeCast S1024x2048 (k0_pay3 (shapeCast S1x1024x2048 x castA)) shapeCasts_S1x1024x2048_S1024x2048 = x := by
  show shapeCast S1024x2048 (shapeCast S1x1024x2048 (shapeCast S1024x2048 (shapeCast S1x1024x2048 x castA) _) _) _ = x
  rw [shapeCast_shapeCast, shapeCast_shapeCast]

end Loads

/-- The trip's four row stores, over a slot reading as `y`: the row block after the tile. -/
theorem stores4 (v : View sig .tc .vmem S1024x2048 .f32) (f : v.ty.Contents (Elt F)) (h : FVec F S1024x2048 .bf16)
    (g u : FVec F S2048x512 .bf16) (d : FVec F S512x2048 .bf16) (y : FVec F S1024x2048 .f32) (hy : v.read (Elt F) f = y)
    {w0 w1 w2 w3 : FVec F S256x2048 .f32}
    (h0 : w0 = chunk 0 inb_S1024x2048_S256x2048_0_0 h g u d y) (h1 : w1 = chunk 256 inb_S1024x2048_S256x2048_256_0 h g u d y)
    (h2 : w2 = chunk 512 inb_S1024x2048_S256x2048_512_0 h g u d y) (h3 : w3 = chunk 768 inb_S1024x2048_S256x2048_768_0 h g u d y) :
    v.read (Elt F) (v.writes (Elt F) f [⟨Rect.unit (s := S1024x2048) ![768, 0] S256x2048.size inb_S1024x2048_S256x2048_768_0, w3⟩,
      ⟨Rect.unit (s := S1024x2048) ![512, 0] S256x2048.size inb_S1024x2048_S256x2048_512_0, w2⟩,
      ⟨Rect.unit (s := S1024x2048) ![256, 0] S256x2048.size inb_S1024x2048_S256x2048_256_0, w1⟩,
      ⟨Rect.unit (s := S1024x2048) ![0, 0] S256x2048.size inb_S1024x2048_S256x2048_0_0, w0⟩]) = stepV h g u d y := by
  subst h0 h1 h2 h3 hy
  rw [View.read_writes_cons_put v f _ _ _ rfl, View.read_writes_cons_put v f _ _ _ rfl, View.read_writes_cons_put v f _ _ _ rfl,
    View.read_writes_cons_put v f _ _ _ rfl]
  rfl

/-- The rows a load of 256 of a normalized block reads. -/
theorem hload {o : ℕ} (ho) (v : View sig .tc .vmem S1024x2048 .bf16) (f : v.ty.Contents (Elt F)) :
    v.readAt (Elt F) (Rect.unit (s := S1024x2048) ![o, 0] S256x2048.size ho).toLoadRect f = win o ho (v.read (Elt F) f) :=
  View.readAt_unit v f ho rfl ho
theorem yload {o : ℕ} (ho) (v : View sig .tc .vmem S1024x2048 .f32) (f : v.ty.Contents (Elt F)) :
    v.readAt (Elt F) (Rect.unit (s := S1024x2048) ![o, 0] S256x2048.size ho).toLoadRect f = win o ho (v.read (Elt F) f) :=
  View.readAt_unit v f ho rfl ho

/-- One chunk, from the loads the trip makes of the slots. -/
theorem chunk_of (c : Dev nD) {o : ℕ} (ho) (k : Fin k0_t1_loop.trips) (g u : FVec F S2048x512 .bf16) (d : FVec F S512x2048 .bf16)
    (y : FVec F S1024x2048 .f32) (h : FVec F S1024x2048 .bf16)
    {hr : FVec F S256x2048 .bf16} {yr : FVec F S256x2048 .f32} {i1 i2 i3}
    {fg : fG (F := F) c (Ring.sl 2 k.val)} {fu : fU (F := F) c (Ring.sl 2 k.val)} {fd : fD (F := F) c (Ring.sl 2 k.val)}
    (eh : hr = win o ho h) (ey : yr = win o ho y) :
    k0_pay8 (k0_pay4 hr
        (gB.view.readAt (Elt F) (Rect.unit (s := S2x2048x512) (k0_off31 (w12 k.val)) S1x2048x512.size i1).toLoadRect
          ((gslot (Ring.sl 2 k.val)).view.writes (Elt F) fg [⟨Rect.whole S2048x512, ReadAs.same.apply g⟩]))
        (uB.view.readAt (Elt F) (Rect.unit (s := S2x2048x512) (k0_off32 (w12 k.val)) S1x2048x512.size i2).toLoadRect
          ((uslot (Ring.sl 2 k.val)).view.writes (Elt F) fu [⟨Rect.whole S2048x512, ReadAs.same.apply u⟩])))
      yr
      (dB.view.readAt (Elt F) (Rect.unit (s := S2x512x2048) (k0_off34 (w12 k.val)) S1x512x2048.size i3).toLoadRect
          ((dslot (Ring.sl 2 k.val)).view.writes (Elt F) fd [⟨Rect.whole S512x2048, ReadAs.same.apply d⟩]))
      = chunk o ho h g u d y := by
  rw [gload c (off31_eq k), uload c (off32_eq k), dload c (off34_eq k), View.read_writes_whole, View.read_writes_whole, View.read_writes_whole, eh, ey]
  rfl

/-- The normalized rows a first trip stores. -/
theorem norm_of (c : Dev nD) (X : BX (F := F) c) (s : Fin 2) (b : Fin 8) {off : Fin 3 → ℕ} {i1} (e : off = sOff s)
    {gw : FVec F S1x2048 .f32} {fgw : Buf (Elt F) (gwB.view.loc (c : Thread nD τ))} (hgw : gwB.view.read (Elt F) fgw = gw) {fx : fX (F := F) c s} :
    k0_pay2 (xB.view.readAt (Elt F) (Rect.unit (s := S2x1024x2048) off S1x1024x2048.size i1).toLoadRect
          ((xslot s).view.writes (Elt F) fx [⟨Rect.whole S1024x2048, ReadAs.same.apply ((xblk b).view.read (Elt F) X)⟩]))
        (gwB.view.readAt (Elt F) (Rect.unit (s := S1x2048) ![0, 0] S1x2048.size inb_S1x2048_S1x2048_0_0).toLoadRect fgw)
      = normV ((xblk b).view.read (Elt F) X) gw := by
  rw [xload c e, View.read_writes_whole, View.readAt_full, hgw]
  rfl

/-- The rows stored whole read back whole, -/
theorem hAll (v : View sig .tc .vmem S1024x2048 .bf16) (f : v.ty.Contents (Elt F)) {w h : FVec F S1024x2048 .bf16} (e : w = h) :
    v.read (Elt F) (v.writes (Elt F) f [⟨Rect.unit (s := S1024x2048) ![0, 0] S1024x2048.size inb_S1024x2048_S1024x2048_0_0, w⟩]) = h :=
  (View.read_writes_full v f _ w []).trans e
/-- and 256 at a time. -/
theorem hCov (v : View sig .tc .vmem S1024x2048 .bf16) {w h : FVec F S1024x2048 .bf16} (e : w = h) {o : ℕ} (ho) :
    v.readCov (Val := Elt F) [⟨Rect.unit (s := S1024x2048) ![0, 0] S1024x2048.size inb_S1024x2048_S1024x2048_0_0, w⟩]
      (Rect.unit (s := S1024x2048) ![o, 0] S256x2048.size ho).toLoadRect = win o ho h :=
  (hload ho v _).trans (congrArg (win o ho) (hAll v _ e))

/-- The result slot after a first trip's copy of the activations. -/
theorem xcopy_of (c : Dev nD) (X : BX (F := F) c) (s : Fin 2) (b : Fin 8) {off off' : Fin 3 → ℕ} {i1 i2} (e : off = sOff s)
    (e' : off' = sOff s) {fx : fX (F := F) c s} {fy : fY (F := F) c s} :
    (yslot s).view.read (Elt F) ((yB.access (Rect.unit (s := S2x1024x2048) off' S1x1024x2048.size i2)).write (Elt F) fy
      (k0_pay3 (xB.view.readAt (Elt F) (Rect.unit (s := S2x1024x2048) off S1x1024x2048.size i1).toLoadRect
          ((xslot s).view.writes (Elt F) fx [⟨Rect.whole S1024x2048, ReadAs.same.apply ((xblk b).view.read (Elt F) X)⟩])))
      Finset.univ) = (xblk b).view.read (Elt F) X := by
  rw [ystore c e', xload c e, View.read_writes_whole, pay3_back]

end Cert.Proof.Ffn
-- ==== Proof.TripA.lean ====
/-
  The first trip.
-/
module

public import proofs.«01_k».proof.Proof.Values

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

set_option maxHeartbeats 4000000 in
set_option sl_exec.respelt true in
/-- The first trip: the first row block's activations arrive, are normalized and copied to the result slot, and the first tile is added. -/
theorem tripA (c : Dev nD) (XW : BW (F := F) c) (XD : BD (F := F) c) (v37 v44 v51 : BitVec 32) (k : Fin k0_t1_loop.trips) (hk0 : k.val = 0) (X : BX (F := F) c) (gw : FVec F S1x2048 .f32) :
    iprop(owesP (F := F) c
      ∗ wFly (F := F) c XW XD k.val
      ∗ wFree (F := F) c (k.val + 1)
      ∗ wHome (F := F) c XW XD (k.val + 1)
      ∗ valP (F := F) c gwB gw
      ∗ anyP (F := F) c hM
      ∗ anyP (F := F) c (yslot (Ring.sl 2 (k.val / 11)))
      ∗ xIn (F := F) c X (k.val / 11))
    ⊢ wp frame (wpE (defs₀ (F := F)) 𝒱₀ (c : Thread nD τ) none) Set.univ (tripG v37 v44 v51 k) (fun r => iprop(⌜r = carry (k.val + 1)⌝
      ∗ owesP (F := F) c
      ∗ wFly (F := F) c XW XD (k.val + 1)
      ∗ wFree (F := F) c k.val
      ∗ wHome (F := F) c XW XD k.val
      ∗ valP (F := F) c gwB gw
      ∗ valP (F := F) c hM (normV ((xblk (Ring.bk 8 (k.val / 11))).view.read (Elt F) X) gw)
      ∗ xFree (F := F) c (k.val / 11)
      ∗ xHome (F := F) c X (Ring.bk 8 (k.val / 11))
      ∗ valP (F := F) c (yslot (Ring.sl 2 (k.val / 11))) (stepV (normV ((xblk (Ring.bk 8 (k.val / 11))).view.read (Elt F) X) gw) ((gblk (Ring.bk 11 k.val)).view.read (Elt F) XW) ((ublk (Ring.bk 11 k.val)).view.read (Elt F) XW) ((dblk (Ring.bk 11 k.val)).view.read (Elt F) XD) ((xblk (Ring.bk 8 (k.val / 11))).view.read (Elt F) X)))) := by
  have k87 : k.val < 87 := by
    have := k.isLt; have := trips_eq; omega
  have hc1 : ¬ k0_cond1 k (w19 k.val) (w20 k.val) = 1#1 := by rw [cond1_iff]; omega
  have hc2 := (cond2_iff k).2 k87
  have hc3 := (cond3_iff k).2 k87
  have hc4 := (cond4_iff k).2 k87
  have hc5 : k0_cond5 k (w19 k.val) (w20 k.val) = 1#1 := by rw [cond5_iff]; omega
  have hc6 := cond6_true k
  have hc7 := cond7_true k
  have hc8 := cond8_true k
  have hc10 : k0_cond10 (w20 k.val) = 1#1 := by rw [cond10_iff]; omega
  have hc15 : ¬ k0_cond15 k (w19 k.val) (w20 k.val) = 1#1 := by rw [cond15_iff]; omega
  have hc20 : ¬ k0_cond20 k (w19 k.val) (w20 k.val) = 1#1 := by rw [cond20_iff]; omega
  have hk1 := chk1_true k
  have hk2 := chk2_true k
  have hk3 := chk3_true k
  have hk4 := chk4_true k
  have hk5 := chk5_true k
  iintro ⟨⟨%W, HW⟩, ⟨%fg, %fu, %fd, HG, HU, HD⟩, ⟨⟨⟨%fg1, Hg1⟩, ⟨%fu1, Hu1⟩, ⟨%fd1, Hd1⟩⟩, Hcg, Hcu, Hcd⟩, ⟨Hbg, Hbu, Hbd⟩, ⟨%fgw, %hgw, Hgw⟩, ⟨%fh, Hh⟩, ⟨%fy, Hy⟩, ⟨%fx, HX⟩⟩
  dsimp only [tripG, carry]
  sl_unfold [k0_t1_body]
  sl_exec
  sl_step
  isplitr
  · ipureintro
    clear * - k
    simp only [carry, Prod.mk.injEq]
    revert k; decide +kernel
  isplitl [HW]
  · iexists _; iexact HW
  isplitl [Hcg Hcu Hcd]
  · iexists _; iexists _; iexists _
    isplitl [Hcg]
    · iexact Hcg
    isplitl [Hcu]
    · iexact Hcu
    iexact Hcd
  isplitl [HG_dst HU_dst HD_dst HG HU HD]
  · isplitl [HG_dst HU_dst HD_dst]
    · isplitl [HG_dst]
      · iexists _; iexact HG_dst
      isplitl [HU_dst]
      · iexists _; iexact HU_dst
      iexists _; iexact HD_dst
    isplitl [HG]
    · iexact HG
    isplitl [HU]
    · iexact HU
    iexact HD
  isplitl [HG_src HU_src HD_src]
  · isplitl [HG_src]
    · iexact HG_src
    isplitl [HU_src]
    · iexact HU_src
    iexact HD_src
  isplitl [Hgw]
  · iexists _
    isplitr
    rotate_left
    · iexact Hgw
    ipureintro; exact hgw
  isplitl [Hh]
  · iexists _
    isplitr
    rotate_left
    · iexact Hh
    ipureintro; exact hAll _ _ (norm_of c X _ _ (off29_eq k) hgw)
  isplitl [HX_dst HX]
  · isplitl [HX_dst]
    · iexists _; iexact HX_dst
    iexact HX
  isplitl [HX_src]
  · iexact HX_src
  iexists _
  isplitr
  rotate_left
  · iexact Hy
  · ipureintro
    refine stores4 _ _ _ _ _ _ _ (xcopy_of c X _ _ (off29_eq k) (off30_eq k)) ?_ ?_ ?_ ?_
    · refine chunk_of c _ k _ _ _ _ _ ?_ ?_
      · exact hCov _ (norm_of c X _ _ (off29_eq k) hgw) _
      · exact (yload _ _ _).trans (congrArg (win _ _) (xcopy_of c X _ _ (off29_eq k) (off30_eq k)))
    · refine chunk_of c _ k _ _ _ _ _ ?_ ?_
      · exact hCov _ (norm_of c X _ _ (off29_eq k) hgw) _
      · exact (yload _ _ _).trans (congrArg (win _ _) (xcopy_of c X _ _ (off29_eq k) (off30_eq k)))
    · refine chunk_of c _ k _ _ _ _ _ ?_ ?_
      · exact hCov _ (norm_of c X _ _ (off29_eq k) hgw) _
      · exact (yload _ _ _).trans (congrArg (win _ _) (xcopy_of c X _ _ (off29_eq k) (off30_eq k)))
    · refine chunk_of c _ k _ _ _ _ _ ?_ ?_
      · exact hCov _ (norm_of c X _ _ (off29_eq k) hgw) _
      · exact (yload _ _ _).trans (congrArg (win _ _) (xcopy_of c X _ _ (off29_eq k) (off30_eq k)))

end Cert.Proof.Ffn
-- ==== Proof.TripB.lean ====
/-
  A trip that begins a row block after the first.
-/
module

public import proofs.«01_k».proof.Proof.Values

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

set_option maxHeartbeats 4000000 in
set_option sl_exec.respelt true in
/-- A trip that begins a later row block: as the first trip, and the previous row block's result has gone home. -/
theorem tripB (c : Dev nD) (XW : BW (F := F) c) (XD : BD (F := F) c) (v37 v44 v51 : BitVec 32) (k : Fin k0_t1_loop.trips) (hj0 : k.val % 11 = 0) (hk0 : 0 < k.val) (X : BX (F := F) c) (gw : FVec F S1x2048 .f32) (yp : FVec F S1024x2048 .f32) :
    iprop(owesP (F := F) c
      ∗ wFly (F := F) c XW XD k.val
      ∗ wFree (F := F) c (k.val + 1)
      ∗ wHome (F := F) c XW XD (k.val + 1)
      ∗ valP (F := F) c gwB gw
      ∗ anyP (F := F) c hM
      ∗ anyP (F := F) c (yslot (Ring.sl 2 (k.val / 11)))
      ∗ xIn (F := F) c X (k.val / 11)
      ∗ yOut (F := F) c ((k.val - 1) / 11) yp)
    ⊢ wp frame (wpE (defs₀ (F := F)) 𝒱₀ (c : Thread nD τ) none) Set.univ (tripG v37 v44 v51 k) (fun r => iprop(⌜r = carry (k.val + 1)⌝
      ∗ owesP (F := F) c
      ∗ wFly (F := F) c XW XD (k.val + 1)
      ∗ wFree (F := F) c k.val
      ∗ wHome (F := F) c XW XD k.val
      ∗ valP (F := F) c gwB gw
      ∗ valP (F := F) c hM (normV ((xblk (Ring.bk 8 (k.val / 11))).view.read (Elt F) X) gw)
      ∗ xFree (F := F) c (k.val / 11)
      ∗ xHome (F := F) c X (Ring.bk 8 (k.val / 11))
      ∗ yFree (F := F) c ((k.val - 1) / 11)
      ∗ valP (F := F) c (yblk (Ring.bk 8 ((k.val - 1) / 11))) yp
      ∗ valP (F := F) c (yslot (Ring.sl 2 (k.val / 11))) (stepV (normV ((xblk (Ring.bk 8 (k.val / 11))).view.read (Elt F) X) gw) ((gblk (Ring.bk 11 k.val)).view.read (Elt F) XW) ((ublk (Ring.bk 11 k.val)).view.read (Elt F) XW) ((dblk (Ring.bk 11 k.val)).view.read (Elt F) XD) ((xblk (Ring.bk 8 (k.val / 11))).view.read (Elt F) X)))) := by
  have k87 : k.val < 87 := by
    have := k.isLt; have := trips_eq; omega
  have hc1 : ¬ k0_cond1 k (w19 k.val) (w20 k.val) = 1#1 := by rw [cond1_iff]; omega
  have hc2 := (cond2_iff k).2 k87
  have hc3 := (cond3_iff k).2 k87
  have hc4 := (cond4_iff k).2 k87
  have hc5 : k0_cond5 k (w19 k.val) (w20 k.val) = 1#1 := by rw [cond5_iff]; omega
  have hc6 := cond6_true k
  have hc7 := cond7_true k
  have hc8 := cond8_true k
  have hc10 : k0_cond10 (w20 k.val) = 1#1 := by rw [cond10_iff]; omega
  have hc15 : ¬ k0_cond15 k (w19 k.val) (w20 k.val) = 1#1 := by rw [cond15_iff]; omega
  have hc20 : k0_cond20 k (w19 k.val) (w20 k.val) = 1#1 := by rw [cond20_iff]; omega
  have hk1 := chk1_true k
  have hk2 := chk2_true k
  have hk3 := chk3_true k
  have hk4 := chk4_true k
  have hk5 := chk5_true k
  iintro ⟨⟨%W, HW⟩, ⟨%fg, %fu, %fd, HG, HU, HD⟩, ⟨⟨⟨%fg1, Hg1⟩, ⟨%fu1, Hu1⟩, ⟨%fd1, Hd1⟩⟩, Hcg, Hcu, Hcd⟩, ⟨Hbg, Hbu, Hbd⟩, ⟨%fgw, %hgw, Hgw⟩, ⟨%fh, Hh⟩, ⟨%fy, Hy⟩, ⟨%fx, HX⟩, ⟨%Y, %fp, %hp, HY⟩⟩
  dsimp only [tripG, carry]
  sl_unfold [k0_t1_body]
  sl_exec
  sl_step
  isplitr
  · ipureintro
    clear * - k
    simp only [carry, Prod.mk.injEq]
    revert k; decide +kernel
  isplitl [HW]
  · iexists _; iexact HW
  isplitl [Hcg Hcu Hcd]
  · iexists _; iexists _; iexists _
    isplitl [Hcg]
    · iexact Hcg
    isplitl [Hcu]
    · iexact Hcu
    iexact Hcd
  isplitl [HG_dst HU_dst HD_dst HG HU HD]
  · isplitl [HG_dst HU_dst HD_dst]
    · isplitl [HG_dst]
      · iexists _; iexact HG_dst
      isplitl [HU_dst]
      · iexists _; iexact HU_dst
      iexists _; iexact HD_dst
    isplitl [HG]
    · iexact HG
    isplitl [HU]
    · iexact HU
    iexact HD
  isplitl [HG_src HU_src HD_src]
  · isplitl [HG_src]
    · iexact HG_src
    isplitl [HU_src]
    · iexact HU_src
    iexact HD_src
  isplitl [Hgw]
  · iexists _
    isplitr
    rotate_left
    · iexact Hgw
    ipureintro; exact hgw
  isplitl [Hh]
  · iexists _
    isplitr
    rotate_left
    · iexact Hh
    ipureintro; exact hAll _ _ (norm_of c X _ _ (off29_eq k) hgw)
  isplitl [HX_dst HX]
  · isplitl [HX_dst]
    · iexists _; iexact HX_dst
    iexact HX
  isplitl [HX_src]
  · iexact HX_src
  isplitl [HY_src HY]
  · isplitl [HY_src]
    · iexists _; iexact HY_src
    iexact HY
  isplitl [HY_dst]
  · iexists _
    isplitr
    rotate_left
    · iexact HY_dst
    ipureintro; exact (View.read_writes_whole _ _ _).trans hp
  iexists _
  isplitr
  rotate_left
  · iexact Hy
  · ipureintro
    refine stores4 _ _ _ _ _ _ _ (xcopy_of c X _ _ (off29_eq k) (off30_eq k)) ?_ ?_ ?_ ?_
    · refine chunk_of c _ k _ _ _ _ _ ?_ ?_
      · exact hCov _ (norm_of c X _ _ (off29_eq k) hgw) _
      · exact (yload _ _ _).trans (congrArg (win _ _) (xcopy_of c X _ _ (off29_eq k) (off30_eq k)))
    · refine chunk_of c _ k _ _ _ _ _ ?_ ?_
      · exact hCov _ (norm_of c X _ _ (off29_eq k) hgw) _
      · exact (yload _ _ _).trans (congrArg (win _ _) (xcopy_of c X _ _ (off29_eq k) (off30_eq k)))
    · refine chunk_of c _ k _ _ _ _ _ ?_ ?_
      · exact hCov _ (norm_of c X _ _ (off29_eq k) hgw) _
      · exact (yload _ _ _).trans (congrArg (win _ _) (xcopy_of c X _ _ (off29_eq k) (off30_eq k)))
    · refine chunk_of c _ k _ _ _ _ _ ?_ ?_
      · exact hCov _ (norm_of c X _ _ (off29_eq k) hgw) _
      · exact (yload _ _ _).trans (congrArg (win _ _) (xcopy_of c X _ _ (off29_eq k) (off30_eq k)))

end Cert.Proof.Ffn
-- ==== Proof.TripC.lean ====
/-
  A trip inside a row block.
-/
module

public import proofs.«01_k».proof.Proof.Values

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

set_option maxHeartbeats 4000000 in
set_option sl_exec.respelt true in
/-- A trip inside a row block: one more tile is added to the result slot. -/
theorem tripC (c : Dev nD) (XW : BW (F := F) c) (XD : BD (F := F) c) (v37 v44 v51 : BitVec 32) (k : Fin k0_t1_loop.trips) (hj0 : 0 < k.val % 11) (hj : k.val % 11 < 10) (h : FVec F S1024x2048 .bf16) (y : FVec F S1024x2048 .f32) :
    iprop(owesP (F := F) c
      ∗ wFly (F := F) c XW XD k.val
      ∗ wFree (F := F) c (k.val + 1)
      ∗ wHome (F := F) c XW XD (k.val + 1)
      ∗ valP (F := F) c hM h
      ∗ valP (F := F) c (yslot (Ring.sl 2 (k.val / 11))) y)
    ⊢ wp frame (wpE (defs₀ (F := F)) 𝒱₀ (c : Thread nD τ) none) Set.univ (tripG v37 v44 v51 k) (fun r => iprop(⌜r = carry (k.val + 1)⌝
      ∗ owesP (F := F) c
      ∗ wFly (F := F) c XW XD (k.val + 1)
      ∗ wFree (F := F) c k.val
      ∗ wHome (F := F) c XW XD k.val
      ∗ valP (F := F) c hM h
      ∗ valP (F := F) c (yslot (Ring.sl 2 (k.val / 11))) (stepV h ((gblk (Ring.bk 11 k.val)).view.read (Elt F) XW) ((ublk (Ring.bk 11 k.val)).view.read (Elt F) XW) ((dblk (Ring.bk 11 k.val)).view.read (Elt F) XD) y))) := by
  have k87 : k.val < 87 := by
    have := k.isLt; have := trips_eq; omega
  have hc1 : ¬ k0_cond1 k (w19 k.val) (w20 k.val) = 1#1 := by rw [cond1_iff]; omega
  have hc2 := (cond2_iff k).2 k87
  have hc3 := (cond3_iff k).2 k87
  have hc4 := (cond4_iff k).2 k87
  have hc5 : ¬ k0_cond5 k (w19 k.val) (w20 k.val) = 1#1 := by rw [cond5_iff]; omega
  have hc6 := cond6_true k
  have hc7 := cond7_true k
  have hc8 := cond8_true k
  have hc10 : ¬ k0_cond10 (w20 k.val) = 1#1 := by rw [cond10_iff]; omega
  have hc15 : ¬ k0_cond15 k (w19 k.val) (w20 k.val) = 1#1 := by rw [cond15_iff]; omega
  have hc20 : ¬ k0_cond20 k (w19 k.val) (w20 k.val) = 1#1 := by rw [cond20_iff]; omega
  have hk1 := chk1_true k
  have hk2 := chk2_true k
  have hk3 := chk3_true k
  have hk4 := chk4_true k
  have hk5 := chk5_true k
  iintro ⟨⟨%W, HW⟩, ⟨%fg, %fu, %fd, HG, HU, HD⟩, ⟨⟨⟨%fg1, Hg1⟩, ⟨%fu1, Hu1⟩, ⟨%fd1, Hd1⟩⟩, Hcg, Hcu, Hcd⟩, ⟨Hbg, Hbu, Hbd⟩, ⟨%fh, %hh, Hh⟩, ⟨%fy, %hy, Hy⟩⟩
  dsimp only [tripG, carry]
  sl_unfold [k0_t1_body]
  sl_exec
  sl_step
  isplitr
  · ipureintro
    clear * - k
    simp only [carry, Prod.mk.injEq]
    revert k; decide +kernel
  isplitl [HW]
  · iexists _; iexact HW
  isplitl [Hcg Hcu Hcd]
  · iexists _; iexists _; iexists _
    isplitl [Hcg]
    · iexact Hcg
    isplitl [Hcu]
    · iexact Hcu
    iexact Hcd
  isplitl [HG_dst HU_dst HD_dst HG HU HD]
  · isplitl [HG_dst HU_dst HD_dst]
    · isplitl [HG_dst]
      · iexists _; iexact HG_dst
      isplitl [HU_dst]
      · iexists _; iexact HU_dst
      iexists _; iexact HD_dst
    isplitl [HG]
    · iexact HG
    isplitl [HU]
    · iexact HU
    iexact HD
  isplitl [HG_src HU_src HD_src]
  · isplitl [HG_src]
    · iexact HG_src
    isplitl [HU_src]
    · iexact HU_src
    iexact HD_src
  isplitl [Hh]
  · iexists _
    isplitr
    rotate_left
    · iexact Hh
    ipureintro; exact hh
  iexists _
  isplitr
  rotate_left
  · iexact Hy
  · ipureintro
    refine stores4 _ _ _ _ _ _ _ hy ?_ ?_ ?_ ?_
    · refine chunk_of c _ k _ _ _ _ _ ?_ ?_
      · exact (hload _ _ _).trans (congrArg (win _ _) hh)
      · exact (yload _ _ _).trans (congrArg (win _ _) hy)
    · refine chunk_of c _ k _ _ _ _ _ ?_ ?_
      · exact (hload _ _ _).trans (congrArg (win _ _) hh)
      · exact (yload _ _ _).trans (congrArg (win _ _) hy)
    · refine chunk_of c _ k _ _ _ _ _ ?_ ?_
      · exact (hload _ _ _).trans (congrArg (win _ _) hh)
      · exact (yload _ _ _).trans (congrArg (win _ _) hy)
    · refine chunk_of c _ k _ _ _ _ _ ?_ ?_
      · exact (hload _ _ _).trans (congrArg (win _ _) hh)
      · exact (yload _ _ _).trans (congrArg (win _ _) hy)

end Cert.Proof.Ffn
-- ==== Proof.TripD.lean ====
/-
  A trip that ends a row block before the last.
-/
module

public import proofs.«01_k».proof.Proof.Values

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

set_option maxHeartbeats 4000000 in
set_option sl_exec.respelt true in
/-- A trip that ends a row block: the last tile is added, the result starts for home and the next row block's activations are called for. -/
theorem tripD (c : Dev nD) (XW : BW (F := F) c) (XD : BD (F := F) c) (v37 v44 v51 : BitVec 32) (k : Fin k0_t1_loop.trips) (hj : k.val % 11 = 10) (k87 : k.val < 87) (X : BX (F := F) c) (h : FVec F S1024x2048 .bf16) (y : FVec F S1024x2048 .f32) :
    iprop(owesP (F := F) c
      ∗ wFly (F := F) c XW XD k.val
      ∗ wFree (F := F) c (k.val + 1)
      ∗ wHome (F := F) c XW XD (k.val + 1)
      ∗ valP (F := F) c hM h
      ∗ valP (F := F) c (yslot (Ring.sl 2 (k.val / 11))) y
      ∗ xFree (F := F) c (k.val / 11 + 1)
      ∗ xHome (F := F) c X (Ring.bk 8 ((k.val + 1) / 11))
      ∗ cellP (F := F) c (ysem (Ring.sl 2 (k.val / 11)))
      ∗ anyP (F := F) c (yblk (Ring.bk 8 (k.val / 11))))
    ⊢ wp frame (wpE (defs₀ (F := F)) 𝒱₀ (c : Thread nD τ) none) Set.univ (tripG v37 v44 v51 k) (fun r => iprop(⌜r = carry (k.val + 1)⌝
      ∗ owesP (F := F) c
      ∗ wFly (F := F) c XW XD (k.val + 1)
      ∗ wFree (F := F) c k.val
      ∗ wHome (F := F) c XW XD k.val
      ∗ valP (F := F) c hM h
      ∗ (∃ f, xFly (F := F) c X (Ring.sl 2 (k.val / 11 + 1)) (Ring.bk 8 ((k.val + 1) / 11)) f)
      ∗ yOut (F := F) c (k.val / 11) (stepV h ((gblk (Ring.bk 11 k.val)).view.read (Elt F) XW) ((ublk (Ring.bk 11 k.val)).view.read (Elt F) XW) ((dblk (Ring.bk 11 k.val)).view.read (Elt F) XD) y))) := by
  have hc1 : k0_cond1 k (w19 k.val) (w20 k.val) = 1#1 := by rw [cond1_iff]; omega
  have hc2 := (cond2_iff k).2 k87
  have hc3 := (cond3_iff k).2 k87
  have hc4 := (cond4_iff k).2 k87
  have hc5 : ¬ k0_cond5 k (w19 k.val) (w20 k.val) = 1#1 := by rw [cond5_iff]; omega
  have hc6 := cond6_true k
  have hc7 := cond7_true k
  have hc8 := cond8_true k
  have hc10 : ¬ k0_cond10 (w20 k.val) = 1#1 := by rw [cond10_iff]; omega
  have hc15 : k0_cond15 k (w19 k.val) (w20 k.val) = 1#1 := by rw [cond15_iff]; omega
  have hc20 : ¬ k0_cond20 k (w19 k.val) (w20 k.val) = 1#1 := by rw [cond20_iff]; omega
  have hk1 := chk1_true k
  have hk2 := chk2_true k
  have hk3 := chk3_true k
  have hk4 := chk4_true k
  have hk5 := chk5_true k
  iintro ⟨⟨%W, HW⟩, ⟨%fg, %fu, %fd, HG, HU, HD⟩, ⟨⟨⟨%fg1, Hg1⟩, ⟨%fu1, Hu1⟩, ⟨%fd1, Hd1⟩⟩, Hcg, Hcu, Hcd⟩, ⟨Hbg, Hbu, Hbd⟩, ⟨%fh, %hh, Hh⟩, ⟨%fy, %hy, Hy⟩, ⟨⟨%fx1, Hx1⟩, Hcx⟩, Hbx, Hcy, ⟨%Y, Hby⟩⟩
  dsimp only [tripG, carry]
  sl_unfold [k0_t1_body]
  sl_exec
  sl_step
  isplitr
  · ipureintro
    clear * - k
    simp only [carry, Prod.mk.injEq]
    revert k; decide +kernel
  isplitl [HW]
  · iexists _; iexact HW
  isplitl [Hcg Hcu Hcd]
  · iexists _; iexists _; iexists _
    isplitl [Hcg]
    · iexact Hcg
    isplitl [Hcu]
    · iexact Hcu
    iexact Hcd
  isplitl [HG_dst HU_dst HD_dst HG HU HD]
  · isplitl [HG_dst HU_dst HD_dst]
    · isplitl [HG_dst]
      · iexists _; iexact HG_dst
      isplitl [HU_dst]
      · iexists _; iexact HU_dst
      iexists _; iexact HD_dst
    isplitl [HG]
    · iexact HG
    isplitl [HU]
    · iexact HU
    iexact HD
  isplitl [HG_src HU_src HD_src]
  · isplitl [HG_src]
    · iexact HG_src
    isplitl [HU_src]
    · iexact HU_src
    iexact HD_src
  isplitl [Hh]
  · iexists _
    isplitr
    rotate_left
    · iexact Hh
    ipureintro; exact hh
  isplitl [Hcx]
  · iexists _; iexact Hcx
  iexists _
  iexists _
  isplitr
  rotate_left
  · iexact Hcy
  · ipureintro
    refine stores4 _ _ _ _ _ _ _ hy ?_ ?_ ?_ ?_
    · refine chunk_of c _ k _ _ _ _ _ ?_ ?_
      · exact (hload _ _ _).trans (congrArg (win _ _) hh)
      · exact (yload _ _ _).trans (congrArg (win _ _) hy)
    · refine chunk_of c _ k _ _ _ _ _ ?_ ?_
      · exact (hload _ _ _).trans (congrArg (win _ _) hh)
      · exact (yload _ _ _).trans (congrArg (win _ _) hy)
    · refine chunk_of c _ k _ _ _ _ _ ?_ ?_
      · exact (hload _ _ _).trans (congrArg (win _ _) hh)
      · exact (yload _ _ _).trans (congrArg (win _ _) hy)
    · refine chunk_of c _ k _ _ _ _ _ ?_ ?_
      · exact (hload _ _ _).trans (congrArg (win _ _) hh)
      · exact (yload _ _ _).trans (congrArg (win _ _) hy)

end Cert.Proof.Ffn
-- ==== Proof.TripE.lean ====
/-
  The last trip.
-/
module

public import proofs.«01_k».proof.Proof.Values

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

set_option maxHeartbeats 4000000 in
set_option sl_exec.respelt true in
/-- The last trip: the last tile is added and the last result starts for home; nothing more is called for. -/
theorem tripE (c : Dev nD) (XW : BW (F := F) c) (XD : BD (F := F) c) (v37 v44 v51 : BitVec 32) (k : Fin k0_t1_loop.trips) (hk : k.val = 87) (h : FVec F S1024x2048 .bf16) (y : FVec F S1024x2048 .f32) :
    iprop(owesP (F := F) c
      ∗ wFly (F := F) c XW XD k.val
      ∗ valP (F := F) c hM h
      ∗ valP (F := F) c (yslot (Ring.sl 2 (k.val / 11))) y
      ∗ cellP (F := F) c (ysem (Ring.sl 2 (k.val / 11)))
      ∗ anyP (F := F) c (yblk (Ring.bk 8 (k.val / 11))))
    ⊢ wp frame (wpE (defs₀ (F := F)) 𝒱₀ (c : Thread nD τ) none) Set.univ (tripG v37 v44 v51 k) (fun r => iprop(⌜r = carry (k.val + 1)⌝
      ∗ owesP (F := F) c
      ∗ wFree (F := F) c k.val
      ∗ wHome (F := F) c XW XD k.val
      ∗ valP (F := F) c hM h
      ∗ yOut (F := F) c (k.val / 11) (stepV h ((gblk (Ring.bk 11 k.val)).view.read (Elt F) XW) ((ublk (Ring.bk 11 k.val)).view.read (Elt F) XW) ((dblk (Ring.bk 11 k.val)).view.read (Elt F) XD) y))) := by
  have hc1 : ¬ k0_cond1 k (w19 k.val) (w20 k.val) = 1#1 := by rw [cond1_iff]; omega
  have hc2 : ¬ k0_cond2 k (w20 k.val) = 1#1 := by rw [cond2_iff]; omega
  have hc3 : ¬ k0_cond3 k (w20 k.val) = 1#1 := by rw [cond3_iff]; omega
  have hc4 : ¬ k0_cond4 k (w20 k.val) = 1#1 := by rw [cond4_iff]; omega
  have hc5 : ¬ k0_cond5 k (w19 k.val) (w20 k.val) = 1#1 := by rw [cond5_iff]; omega
  have hc6 := cond6_true k
  have hc7 := cond7_true k
  have hc8 := cond8_true k
  have hc10 : ¬ k0_cond10 (w20 k.val) = 1#1 := by rw [cond10_iff]; omega
  have hc15 : k0_cond15 k (w19 k.val) (w20 k.val) = 1#1 := by rw [cond15_iff]; omega
  have hc20 : ¬ k0_cond20 k (w19 k.val) (w20 k.val) = 1#1 := by rw [cond20_iff]; omega
  have hk1 := chk1_true k
  have hk2 := chk2_true k
  have hk3 := chk3_true k
  have hk4 := chk4_true k
  have hk5 := chk5_true k
  iintro ⟨⟨%W, HW⟩, ⟨%fg, %fu, %fd, HG, HU, HD⟩, ⟨%fh, %hh, Hh⟩, ⟨%fy, %hy, Hy⟩, Hcy, ⟨%Y, Hby⟩⟩
  dsimp only [tripG, carry]
  sl_unfold [k0_t1_body]
  sl_exec
  sl_step
  isplitr
  · ipureintro
    clear * - k
    simp only [carry, Prod.mk.injEq]
    revert k; decide +kernel
  isplitl [HW]
  · iexists _; iexact HW
  isplitl [HG_dst HU_dst HD_dst HG HU HD]
  · isplitl [HG_dst HU_dst HD_dst]
    · isplitl [HG_dst]
      · iexists _; iexact HG_dst
      isplitl [HU_dst]
      · iexists _; iexact HU_dst
      iexists _; iexact HD_dst
    isplitl [HG]
    · iexact HG
    isplitl [HU]
    · iexact HU
    iexact HD
  isplitl [HG_src HU_src HD_src]
  · isplitl [HG_src]
    · iexact HG_src
    isplitl [HU_src]
    · iexact HU_src
    iexact HD_src
  isplitl [Hh]
  · iexists _
    isplitr
    rotate_left
    · iexact Hh
    ipureintro; exact hh
  iexists _
  iexists _
  isplitr
  rotate_left
  · iexact Hcy
  · ipureintro
    refine stores4 _ _ _ _ _ _ _ hy ?_ ?_ ?_ ?_
    · refine chunk_of c _ k _ _ _ _ _ ?_ ?_
      · exact (hload _ _ _).trans (congrArg (win _ _) hh)
      · exact (yload _ _ _).trans (congrArg (win _ _) hy)
    · refine chunk_of c _ k _ _ _ _ _ ?_ ?_
      · exact (hload _ _ _).trans (congrArg (win _ _) hh)
      · exact (yload _ _ _).trans (congrArg (win _ _) hy)
    · refine chunk_of c _ k _ _ _ _ _ ?_ ?_
      · exact (hload _ _ _).trans (congrArg (win _ _) hh)
      · exact (yload _ _ _).trans (congrArg (win _ _) hy)
    · refine chunk_of c _ k _ _ _ _ _ ?_ ?_
      · exact (hload _ _ _).trans (congrArg (win _ _) hh)
      · exact (yload _ _ _).trans (congrArg (win _ _) hy)

end Cert.Proof.Ffn
-- ==== Proof.Loop.lean ====
/-
  The loop's invariant: where each block, slot and semaphore stands before trip `n`, and that a trip takes it to the next.
-/
module

public import proofs.«01_k».proof.Proof.TripA
public import proofs.«01_k».proof.Proof.TripB
public import proofs.«01_k».proof.Proof.TripC
public import proofs.«01_k».proof.Proof.TripD
public import proofs.«01_k».proof.Proof.TripE

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Families

theorem insB {n : ℕ} (Φ : Fin n → sProp 𝕄) (a : Fin n) {s : Finset (Fin n)} (h : a ∉ s) : bigSep (insert a s) Φ = iprop(Φ a ∗ bigSep s Φ) := BI.bigSep_insert h
theorem ersB {n : ℕ} (Φ : Fin n → sProp 𝕄) (a : Fin n) {s : Finset (Fin n)} (h : a ∈ s) : bigSep s Φ = iprop(Φ a ∗ bigSep (s.erase a) Φ) := BI.bigSep_erase h
/-- A member out of the family, -/
theorem takeB {n : ℕ} (Φ : Fin n → sProp 𝕄) (a : Fin n) : bigSep Finset.univ Φ ⊢ iprop(Φ a ∗ bigSep (Finset.univ.erase a) Φ) := by
  rw [ersB Φ a (Finset.mem_univ a)]
/-- and back. -/
theorem putB {n : ℕ} (Φ : Fin n → sProp 𝕄) (a : Fin n) : iprop(Φ a ∗ bigSep (Finset.univ.erase a) Φ) ⊢ bigSep Finset.univ Φ := by
  rw [← ersB Φ a (Finset.mem_univ a)]
/-- One member out and another away. -/
theorem swapB {n : ℕ} (Φ : Fin n → sProp 𝕄) (a b : Fin n) (h : a ≠ b) : bigSep (Finset.univ.erase a) Φ ⊢ iprop(Φ b ∗ (Φ a -∗ bigSep (Finset.univ.erase b) Φ)) := by
  rw [ersB Φ b (Finset.mem_erase.2 ⟨h.symm, Finset.mem_univ b⟩), ersB Φ a (s := Finset.univ.erase b) (Finset.mem_erase.2 ⟨h, Finset.mem_univ a⟩),
    Finset.erase_right_comm]
  iintro ⟨Hb, Hr⟩
  isplitl [Hb]; · iexact Hb
  iintro Ha
  isplitl [Ha]; · iexact Ha
  iexact Hr

end Families

theorem bk11_mod (k : ℕ) : Ring.bk 11 (k % 11) = Ring.bk 11 k := Fin.ext (by simp [Fin.ofNat])
theorem bk11_ne (k : ℕ) : Ring.bk 11 k ≠ Ring.bk 11 (k + 1) := fun h => by
  have := congrArg Fin.val h
  simp only [Fin.ofNat] at this
  omega
theorem bk8_val {i : ℕ} (h : i < 8) : (Ring.bk 8 i).val = i := Nat.mod_eq_of_lt h
theorem sl2_add (i : ℕ) : Ring.sl 2 (i + 1 + 1) = Ring.sl 2 i := Fin.ext (by simp [Fin.ofNat]; omega)
theorem wFree_add (c : Dev nD) (n : ℕ) : wFree (F := F) c (n + 1 + 1) = wFree (F := F) c n := by
  unfold wFree; rw [sl2_add]
theorem xFree_add (c : Dev nD) (n : ℕ) : xFree (F := F) c (n + 1 + 1) = xFree (F := F) c n := by
  unfold xFree; rw [sl2_add]
theorem yFree_add (c : Dev nD) (n : ℕ) : yFree (F := F) c (n + 1 + 1) = yFree (F := F) c n := by
  unfold yFree; rw [sl2_add]

section State
variable (c : Dev nD) (X : BX (F := F) c) (gw : FVec F S1x2048 .f32) (XW : BW (F := F) c) (XD : BD (F := F) c)

/-- Row block `i` normalized, -/
def nrm (i : ℕ) : FVec F S1024x2048 .bf16 := normV ((xblk (Ring.bk 8 i)).view.read (Elt F) X) gw
/-- and its result after the first `j` tiles. -/
def accV (i : ℕ) : ℕ → FVec F S1024x2048 .f32
  | 0 => (xblk (Ring.bk 8 i)).view.read (Elt F) X
  | j + 1 => stepV (nrm c X gw i) ((gblk (Ring.bk 11 j)).view.read (Elt F) XW) ((ublk (Ring.bk 11 j)).view.read (Elt F) XW)
      ((dblk (Ring.bk 11 j)).view.read (Elt F) XD) (accV i j)

/-- The three weight blocks of one tile at home. -/
abbrev home3 (b : Fin 11) : sProp 𝕄 := iprop(gHome (F := F) c XW b ∗ uHome (F := F) c XW b ∗ dHome (F := F) c XD b)
/-- Block `b` of the result once `i` row blocks are home. -/
def outP (i : ℕ) (b : Fin 8) : sProp 𝕄 :=
  if b.val < i then valP (F := F) c (yblk b) (accV c X gw XW XD b.val 11) else anyP (F := F) c (yblk b)

/-- The weights before trip `n`, -/
def wSt (n : ℕ) : sProp 𝕄 :=
  if n < 88 then iprop(wFly (F := F) c XW XD n ∗ wFree (F := F) c (n + 1) ∗ bigSep (Finset.univ.erase (Ring.bk 11 n)) (home3 c XW XD))
  else iprop(wFree (F := F) c n ∗ wFree (F := F) c (n + 1) ∗ bigSep Finset.univ (home3 c XW XD))
/-- the activations, -/
def xSt (n : ℕ) : sProp 𝕄 :=
  if n % 11 = 0 ∧ n < 88 then iprop(xIn (F := F) c X (n / 11) ∗ xFree (F := F) c (n / 11 + 1) ∗ bigSep (Finset.univ.erase (Ring.bk 8 (n / 11))) (xHome (F := F) c X))
  else iprop(xFree (F := F) c (n / 11) ∗ xFree (F := F) c (n / 11 + 1) ∗ bigSep Finset.univ (xHome (F := F) c X))
/-- and the normalized rows and the result. -/
def ySt (n : ℕ) : sProp 𝕄 :=
  if n = 0 then iprop(anyP (F := F) c hM ∗ yFree (F := F) c 0 ∗ yFree (F := F) c 1 ∗ bigSep Finset.univ (outP c X gw XW XD 0))
  else if n % 11 = 0 then iprop(anyP (F := F) c hM ∗ yFree (F := F) c (n / 11) ∗ yOut (F := F) c (n / 11 - 1) (accV c X gw XW XD (n / 11 - 1) 11)
    ∗ bigSep (Finset.univ.erase (Ring.bk 8 (n / 11 - 1))) (outP c X gw XW XD (n / 11)))
  else iprop(valP (F := F) c hM (nrm c X gw (n / 11)) ∗ valP (F := F) c (yslot (Ring.sl 2 (n / 11))) (accV c X gw XW XD (n / 11) (n % 11))
    ∗ cellP (F := F) c (ysem (Ring.sl 2 (n / 11))) ∗ yFree (F := F) c (n / 11 + 1) ∗ bigSep Finset.univ (outP c X gw XW XD (n / 11)))

/-- Everything before trip `n`. -/
def stAll (n : ℕ) : sProp 𝕄 :=
  iprop(owesP (F := F) c ∗ valP (F := F) c gwB gw ∗ wSt c XW XD n ∗ xSt c X n ∗ ySt c X gw XW XD n)

theorem wSt_lt {n : ℕ} (h : n < 88) : wSt c XW XD n
    = iprop(wFly (F := F) c XW XD n ∗ wFree (F := F) c (n + 1) ∗ bigSep (Finset.univ.erase (Ring.bk 11 n)) (home3 c XW XD)) := if_pos h
theorem wSt_end {n : ℕ} (h : ¬ n < 88) : wSt c XW XD n
    = iprop(wFree (F := F) c n ∗ wFree (F := F) c (n + 1) ∗ bigSep Finset.univ (home3 c XW XD)) := if_neg h
theorem xSt_first {n : ℕ} (h : n % 11 = 0 ∧ n < 88) : xSt c X n
    = iprop(xIn (F := F) c X (n / 11) ∗ xFree (F := F) c (n / 11 + 1) ∗ bigSep (Finset.univ.erase (Ring.bk 8 (n / 11))) (xHome (F := F) c X)) := if_pos h
theorem xSt_in {n : ℕ} (h : ¬ (n % 11 = 0 ∧ n < 88)) : xSt c X n
    = iprop(xFree (F := F) c (n / 11) ∗ xFree (F := F) c (n / 11 + 1) ∗ bigSep Finset.univ (xHome (F := F) c X)) := if_neg h
theorem ySt_zero : ySt c X gw XW XD 0
    = iprop(anyP (F := F) c hM ∗ yFree (F := F) c 0 ∗ yFree (F := F) c 1 ∗ bigSep Finset.univ (outP c X gw XW XD 0)) := if_pos rfl
theorem ySt_first {n : ℕ} (h0 : 0 < n) (h : n % 11 = 0) : ySt c X gw XW XD n
    = iprop(anyP (F := F) c hM ∗ yFree (F := F) c (n / 11) ∗ yOut (F := F) c (n / 11 - 1) (accV c X gw XW XD (n / 11 - 1) 11)
      ∗ bigSep (Finset.univ.erase (Ring.bk 8 (n / 11 - 1))) (outP c X gw XW XD (n / 11))) := (if_neg (by omega)).trans (if_pos h)
theorem ySt_in {n : ℕ} (h : n % 11 ≠ 0) : ySt c X gw XW XD n
    = iprop(valP (F := F) c hM (nrm c X gw (n / 11)) ∗ valP (F := F) c (yslot (Ring.sl 2 (n / 11))) (accV c X gw XW XD (n / 11) (n % 11))
      ∗ cellP (F := F) c (ysem (Ring.sl 2 (n / 11))) ∗ yFree (F := F) c (n / 11 + 1) ∗ bigSep Finset.univ (outP c X gw XW XD (n / 11))) :=
  (if_neg (by omega)).trans (if_neg h)

theorem outP_done {i : ℕ} (b : Fin 8) (h : b.val < i) : outP c X gw XW XD i b = valP (F := F) c (yblk b) (accV c X gw XW XD b.val 11) := if_pos h
theorem outP_todo {i : ℕ} (b : Fin 8) (h : ¬ b.val < i) : outP c X gw XW XD i b = anyP (F := F) c (yblk b) := if_neg h
theorem outP_open {i : ℕ} (h : i < 8) : outP c X gw XW XD i (Ring.bk 8 i) ⊢ anyP (F := F) c (yblk (Ring.bk 8 i)) := by
  rw [outP_todo c X gw XW XD _ (by rw [bk8_val h]; omega)]
/-- The other blocks do not see block `i` leave. -/
theorem outP_rest {i : ℕ} (hi : i < 8) : bigSep (Finset.univ.erase (Ring.bk 8 i)) (outP c X gw XW XD i)
    = bigSep (Finset.univ.erase (Ring.bk 8 i)) (outP c X gw XW XD (i + 1)) := bigSep_congr fun b hb => by
  have hne : b.val ≠ i := fun h => (Finset.ne_of_mem_erase hb) (Fin.ext (h.trans (bk8_val hi).symm))
  by_cases h : b.val < i
  · rw [outP_done c X gw XW XD b h, outP_done c X gw XW XD b (by omega)]
  · rw [outP_todo c X gw XW XD b h, outP_todo c X gw XW XD b (by omega)]

/-- One more tile, at the trip's own block. -/
theorem accV_step {i k : ℕ} : stepV (nrm c X gw i) ((gblk (Ring.bk 11 k)).view.read (Elt F) XW) ((ublk (Ring.bk 11 k)).view.read (Elt F) XW)
      ((dblk (Ring.bk 11 k)).view.read (Elt F) XD) (accV c X gw XW XD i (k % 11)) = accV c X gw XW XD i (k % 11 + 1) := by
  rw [accV, bk11_mod]

/-- The weight blocks: the next trip's out, this trip's away. -/
theorem wNext (n : ℕ) : bigSep (Finset.univ.erase (Ring.bk 11 n)) (home3 c XW XD)
    ⊢ iprop(wHome (F := F) c XW XD (n + 1) ∗ (wHome (F := F) c XW XD n -∗ bigSep (Finset.univ.erase (Ring.bk 11 (n + 1))) (home3 c XW XD))) :=
  swapB (home3 c XW XD) _ _ (bk11_ne n)

variable (v37 v44 v51 : BitVec 32)

abbrev goalP (k : Fin k0_t1_loop.trips) : Prop :=
  stAll c X gw XW XD k.val ⊢ wp frame (wpE (defs₀ (F := F)) 𝒱₀ (c : Thread nD τ) none) Set.univ (tripG v37 v44 v51 k)
    (fun r => iprop(⌜r = carry (k.val + 1)⌝ ∗ stAll c X gw XW XD (k.val + 1)))

/-- A trip inside a row block. -/
theorem stepC (k : Fin k0_t1_loop.trips) (h0 : 0 < k.val % 11) (h1 : k.val % 11 < 10) : goalP c X gw XW XD v37 v44 v51 k := by
  have k87 : k.val < 87 := by
    have := k.isLt; have := trips_eq; omega
  have hd : (k.val + 1) / 11 = k.val / 11 := by omega
  have hm : (k.val + 1) % 11 = k.val % 11 + 1 := by omega
  have T := tripC (F := F) c XW XD v37 v44 v51 k h0 h1 (nrm c X gw (k.val / 11)) (accV c X gw XW XD (k.val / 11) (k.val % 11))
  rw [accV_step] at T
  unfold goalP stAll
  rw [wSt_lt c XW XD (show k.val < 88 by omega), wSt_lt c XW XD (show k.val + 1 < 88 by omega), xSt_in c X (show ¬ (k.val % 11 = 0 ∧ k.val < 88) by omega),
    xSt_in c X (show ¬ ((k.val + 1) % 11 = 0 ∧ k.val + 1 < 88) by omega), ySt_in c X gw XW XD (show k.val % 11 ≠ 0 by omega),
    ySt_in c X gw XW XD (show (k.val + 1) % 11 ≠ 0 by omega), hd, hm]
  iintro ⟨HW, Hgw, ⟨Hfly, Hfree, Hhome⟩, HX, Hh, Hy, Hcy, Hyo, Hout⟩
  ihave Hn := (wNext c XW XD k.val) $$ Hhome
  icases Hn with ⟨Hn, Hback⟩
  iapply (wp_wand_r Idealize.ShloMosaic.frame (wpE (defs₀ (F := F)) 𝒱₀ (c : Thread nD τ) none) Set.univ)
  isplitl [HW Hfly Hfree Hn Hh Hy]
  · iapply T
    isplitl [HW]; · iexact HW
    isplitl [Hfly]; · iexact Hfly
    isplitl [Hfree]; · iexact Hfree
    isplitl [Hn]; · iexact Hn
    isplitl [Hh]; · iexact Hh
    iexact Hy
  · iintro %r ⟨%hr, HW, Hfly, Hfree, Hhome, Hh, Hy⟩
    isplitr; · ipureintro; exact hr
    isplitl [HW]; · iexact HW
    isplitl [Hgw]; · iexact Hgw
    isplitl [Hfly Hfree Hhome Hback]
    · isplitl [Hfly]; · iexact Hfly
      isplitl [Hfree]; · irw [wFree_add]; iexact Hfree
      iapply Hback; iexact Hhome
    isplitl [HX]; · iexact HX
    isplitl [Hh]; · iexact Hh
    isplitl [Hy]; · iexact Hy
    isplitl [Hcy]; · iexact Hcy
    isplitl [Hyo]; · iexact Hyo
    iexact Hout

/-- The trip ending a row block before the last. -/
theorem stepD (k : Fin k0_t1_loop.trips) (h1 : k.val % 11 = 10) (k87 : k.val < 87) : goalP c X gw XW XD v37 v44 v51 k := by
  have hd : (k.val + 1) / 11 = k.val / 11 + 1 := by omega
  have hm : (k.val + 1) % 11 = 0 := by omega
  have hi : k.val / 11 < 7 := by omega
  have T := tripD (F := F) c XW XD v37 v44 v51 k h1 k87 X (nrm c X gw (k.val / 11)) (accV c X gw XW XD (k.val / 11) (k.val % 11))
  rw [accV_step, hd, h1] at T
  unfold goalP stAll
  rw [wSt_lt c XW XD (show k.val < 88 by omega), wSt_lt c XW XD (show k.val + 1 < 88 by omega), xSt_in c X (show ¬ (k.val % 11 = 0 ∧ k.val < 88) by omega),
    xSt_first c X (show (k.val + 1) % 11 = 0 ∧ k.val + 1 < 88 by omega), ySt_in c X gw XW XD (show k.val % 11 ≠ 0 by omega),
    ySt_first c X gw XW XD (show 0 < k.val + 1 by omega) hm, hd, h1, Nat.add_sub_cancel, ← outP_rest c X gw XW XD (show k.val / 11 < 8 by omega)]
  iintro ⟨HW, Hgw, ⟨Hfly, Hfree, Hhome⟩, ⟨Hx, Hx1, Hxh⟩, Hh, Hy, Hcy, Hyo, Hout⟩
  ihave Hn := (wNext c XW XD k.val) $$ Hhome
  icases Hn with ⟨Hn, Hback⟩
  ihave Hxn := (takeB (xHome (F := F) c X) (Ring.bk 8 (k.val / 11 + 1))) $$ Hxh
  icases Hxn with ⟨Hxn, Hxh⟩
  ihave Hon := (takeB (outP c X gw XW XD (k.val / 11)) (Ring.bk 8 (k.val / 11))) $$ Hout
  icases Hon with ⟨Hon, Hout⟩
  ihave Hon := (outP_open c X gw XW XD (show k.val / 11 < 8 by omega)) $$ Hon
  iapply (wp_wand_r Idealize.ShloMosaic.frame (wpE (defs₀ (F := F)) 𝒱₀ (c : Thread nD τ) none) Set.univ)
  isplitl [HW Hfly Hfree Hn Hh Hy Hx1 Hxn Hcy Hon]
  · iapply T
    isplitl [HW]; · iexact HW
    isplitl [Hfly]; · iexact Hfly
    isplitl [Hfree]; · iexact Hfree
    isplitl [Hn]; · iexact Hn
    isplitl [Hh]; · iexact Hh
    isplitl [Hy]; · iexact Hy
    isplitl [Hx1]; · iexact Hx1
    isplitl [Hxn]; · iexact Hxn
    isplitl [Hcy]; · iexact Hcy
    iexact Hon
  · iintro %r ⟨%hr, HW, Hfly, Hfree, Hhome, Hh, Hxi, Hy⟩
    isplitr; · ipureintro; exact hr
    isplitl [HW]; · iexact HW
    isplitl [Hgw]; · iexact Hgw
    isplitl [Hfly Hfree Hhome Hback]
    · isplitl [Hfly]; · iexact Hfly
      isplitl [Hfree]; · irw [wFree_add]; iexact Hfree
      iapply Hback; iexact Hhome
    isplitl [Hxi Hx Hxh]
    · isplitl [Hxi]; · iexact Hxi
      isplitl [Hx]; · irw [xFree_add]; iexact Hx
      iexact Hxh
    isplitl [Hh]; · icases Hh with ⟨%f, -, Hh⟩; iexists f; iexact Hh
    isplitl [Hyo]; · iexact Hyo
    isplitl [Hy]; · iexact Hy
    iexact Hout

/-- The last trip. -/
theorem stepE (k : Fin k0_t1_loop.trips) (hk : k.val = 87) : goalP c X gw XW XD v37 v44 v51 k := by
  have T := tripE (F := F) c XW XD v37 v44 v51 k hk (nrm c X gw (k.val / 11)) (accV c X gw XW XD (k.val / 11) (k.val % 11))
  rw [accV_step] at T
  unfold goalP stAll
  have hd : k.val / 11 = 7 := by omega
  have hm : k.val % 11 = 10 := by omega
  have hd' : (k.val + 1) / 11 = 7 + 1 := by omega
  rw [hd, hm] at T
  rw [wSt_lt c XW XD (show k.val < 88 by omega), wSt_end c XW XD (show ¬ k.val + 1 < 88 by omega), xSt_in c X (show ¬ (k.val % 11 = 0 ∧ k.val < 88) by omega),
    xSt_in c X (show ¬ ((k.val + 1) % 11 = 0 ∧ k.val + 1 < 88) by omega), ySt_in c X gw XW XD (show k.val % 11 ≠ 0 by omega),
    ySt_first c X gw XW XD (show 0 < k.val + 1 by omega) (show (k.val + 1) % 11 = 0 by omega), hd', hd, hm, Nat.add_sub_cancel,
    ← outP_rest c X gw XW XD (show 7 < 8 by omega)]
  iintro ⟨HW, Hgw, ⟨Hfly, Hfree, Hhome⟩, ⟨Hx, Hx1, Hxh⟩, Hh, Hy, Hcy, Hyo, Hout⟩
  ihave Hon := (takeB (outP c X gw XW XD 7) (Ring.bk 8 7)) $$ Hout
  icases Hon with ⟨Hon, Hout⟩
  ihave Hon := (outP_open c X gw XW XD (show 7 < 8 by omega)) $$ Hon
  iapply (wp_wand_r Idealize.ShloMosaic.frame (wpE (defs₀ (F := F)) 𝒱₀ (c : Thread nD τ) none) Set.univ)
  isplitl [HW Hfly Hh Hy Hcy Hon]
  · iapply T
    isplitl [HW]; · iexact HW
    isplitl [Hfly]; · iexact Hfly
    isplitl [Hh]; · iexact Hh
    isplitl [Hy]; · iexact Hy
    isplitl [Hcy]; · iexact Hcy
    iexact Hon
  · iintro %r ⟨%hr, HW, Hfree', Hhome', Hh, Hy⟩
    isplitr; · ipureintro; exact hr
    isplitl [HW]; · iexact HW
    isplitl [Hgw]; · iexact Hgw
    isplitl [Hfree Hfree' Hhome Hhome']
    · isplitl [Hfree]; · iexact Hfree
      isplitl [Hfree']; · irw [wFree_add]; iexact Hfree'
      iapply (putB (home3 c XW XD) (Ring.bk 11 k.val))
      isplitl [Hhome']; · iexact Hhome'
      iexact Hhome
    isplitl [Hx Hx1 Hxh]
    · isplitl [Hx1]; · iexact Hx1
      isplitl [Hx]; · irw [xFree_add]; iexact Hx
      iexact Hxh
    isplitl [Hh]; · icases Hh with ⟨%f, -, Hh⟩; iexists f; iexact Hh
    isplitl [Hyo]; · iexact Hyo
    isplitl [Hy]; · iexact Hy
    iexact Hout

/-- The first trip. -/
theorem stepA (k : Fin k0_t1_loop.trips) (hk : k.val = 0) : goalP c X gw XW XD v37 v44 v51 k := by
  have T := tripA (F := F) c XW XD v37 v44 v51 k hk X gw
  rw [show stepV (normV ((xblk (Ring.bk 8 (k.val / 11))).view.read (Elt F) X) gw) ((gblk (Ring.bk 11 k.val)).view.read (Elt F) XW) ((ublk (Ring.bk 11 k.val)).view.read (Elt F) XW)
      ((dblk (Ring.bk 11 k.val)).view.read (Elt F) XD) ((xblk (Ring.bk 8 (k.val / 11))).view.read (Elt F) X) = accV c X gw XW XD (k.val / 11) (k.val % 11 + 1) from by
    rw [← accV_step, show k.val % 11 = 0 by omega]; rfl] at T
  have hd : k.val / 11 = 0 := by omega
  have hm : k.val % 11 = 0 := by omega
  unfold goalP stAll
  rw [wSt_lt c XW XD (show k.val < 88 by omega), wSt_lt c XW XD (show k.val + 1 < 88 by omega), xSt_first c X (show k.val % 11 = 0 ∧ k.val < 88 by omega),
    xSt_in c X (show ¬ ((k.val + 1) % 11 = 0 ∧ k.val + 1 < 88) by omega), show ySt c X gw XW XD k.val = ySt c X gw XW XD 0 by rw [hk], ySt_zero,
    ySt_in c X gw XW XD (show (k.val + 1) % 11 ≠ 0 by omega), show (k.val + 1) / 11 = 0 by omega, show (k.val + 1) % 11 = 0 + 1 by omega, hd]
  rw [hd, hm] at T
  iintro ⟨HW, Hgw, ⟨Hfly, Hfree, Hhome⟩, ⟨Hxi, Hx1, Hxh⟩, Hh, ⟨Hy, Hcy⟩, Hyo, Hout⟩
  ihave Hn := (wNext c XW XD k.val) $$ Hhome
  icases Hn with ⟨Hn, Hback⟩
  iapply (wp_wand_r Idealize.ShloMosaic.frame (wpE (defs₀ (F := F)) 𝒱₀ (c : Thread nD τ) none) Set.univ)
  isplitl [HW Hfly Hfree Hn Hgw Hh Hy Hxi]
  · iapply T
    isplitl [HW]; · iexact HW
    isplitl [Hfly]; · iexact Hfly
    isplitl [Hfree]; · iexact Hfree
    isplitl [Hn]; · iexact Hn
    isplitl [Hgw]; · iexact Hgw
    isplitl [Hh]; · iexact Hh
    isplitl [Hy]; · iexact Hy
    iexact Hxi
  · iintro %r ⟨%hr, HW, Hfly, Hfree, Hhome, Hgw, Hh, Hx, Hxb, Hy⟩
    isplitr; · ipureintro; exact hr
    isplitl [HW]; · iexact HW
    isplitl [Hgw]; · iexact Hgw
    isplitl [Hfly Hfree Hhome Hback]
    · isplitl [Hfly]; · iexact Hfly
      isplitl [Hfree]; · irw [wFree_add]; iexact Hfree
      iapply Hback; iexact Hhome
    isplitl [Hx Hx1 Hxb Hxh]
    · isplitl [Hx]; · iexact Hx
      isplitl [Hx1]; · iexact Hx1
      iapply (putB (xHome (F := F) c X) (Ring.bk 8 0))
      isplitl [Hxb]; · iexact Hxb
      iexact Hxh
    isplitl [Hh]; · iexact Hh
    isplitl [Hy]; · iexact Hy
    isplitl [Hcy]; · iexact Hcy
    isplitl [Hyo]; · iexact Hyo
    iexact Hout

/-- A trip beginning a row block after the first. -/
theorem stepB (k : Fin k0_t1_loop.trips) (hm : k.val % 11 = 0) (h0 : 0 < k.val) : goalP c X gw XW XD v37 v44 v51 k := by
  have k87 : k.val < 87 := by
    have := k.isLt; have := trips_eq; omega
  obtain ⟨i, hi⟩ : ∃ i, k.val / 11 = i + 1 := ⟨k.val / 11 - 1, by omega⟩
  have hi7 : i < 7 := by omega
  have T := tripB (F := F) c XW XD v37 v44 v51 k hm h0 X gw (accV c X gw XW XD i 11)
  rw [show stepV (normV ((xblk (Ring.bk 8 (k.val / 11))).view.read (Elt F) X) gw) ((gblk (Ring.bk 11 k.val)).view.read (Elt F) XW) ((ublk (Ring.bk 11 k.val)).view.read (Elt F) XW)
      ((dblk (Ring.bk 11 k.val)).view.read (Elt F) XD) ((xblk (Ring.bk 8 (k.val / 11))).view.read (Elt F) X) = accV c X gw XW XD (k.val / 11) (k.val % 11 + 1) from by
    rw [← accV_step, hm]; rfl, hm, hi, show (k.val - 1) / 11 = i by omega] at T
  unfold goalP stAll
  rw [wSt_lt c XW XD (show k.val < 88 by omega), wSt_lt c XW XD (show k.val + 1 < 88 by omega), xSt_first c X (show k.val % 11 = 0 ∧ k.val < 88 by omega),
    xSt_in c X (show ¬ ((k.val + 1) % 11 = 0 ∧ k.val + 1 < 88) by omega), ySt_first c X gw XW XD h0 hm,
    ySt_in c X gw XW XD (show (k.val + 1) % 11 ≠ 0 by omega), show (k.val + 1) / 11 = i + 1 by omega, show (k.val + 1) % 11 = 0 + 1 by omega, hi, Nat.add_sub_cancel]
  iintro ⟨HW, Hgw, ⟨Hfly, Hfree, Hhome⟩, ⟨Hxi, Hx1, Hxh⟩, Hh, ⟨Hy, Hcy⟩, Hyo, Hout⟩
  ihave Hn := (wNext c XW XD k.val) $$ Hhome
  icases Hn with ⟨Hn, Hback⟩
  iapply (wp_wand_r Idealize.ShloMosaic.frame (wpE (defs₀ (F := F)) 𝒱₀ (c : Thread nD τ) none) Set.univ)
  isplitl [HW Hfly Hfree Hn Hgw Hh Hy Hxi Hyo]
  · iapply T
    isplitl [HW]; · iexact HW
    isplitl [Hfly]; · iexact Hfly
    isplitl [Hfree]; · iexact Hfree
    isplitl [Hn]; · iexact Hn
    isplitl [Hgw]; · iexact Hgw
    isplitl [Hh]; · iexact Hh
    isplitl [Hy]; · iexact Hy
    isplitl [Hxi]; · iexact Hxi
    iexact Hyo
  · iintro %r ⟨%hr, HW, Hfly, Hfree, Hhome, Hgw, Hh, Hx, Hxb, Hyf, Hyb, Hy⟩
    isplitr; · ipureintro; exact hr
    isplitl [HW]; · iexact HW
    isplitl [Hgw]; · iexact Hgw
    isplitl [Hfly Hfree Hhome Hback]
    · isplitl [Hfly]; · iexact Hfly
      isplitl [Hfree]; · irw [wFree_add]; iexact Hfree
      iapply Hback; iexact Hhome
    isplitl [Hx Hx1 Hxb Hxh]
    · isplitl [Hx]; · iexact Hx
      isplitl [Hx1]; · iexact Hx1
      iapply (putB (xHome (F := F) c X) (Ring.bk 8 (i + 1)))
      isplitl [Hxb]; · iexact Hxb
      iexact Hxh
    isplitl [Hh]; · iexact Hh
    isplitl [Hy]; · iexact Hy
    isplitl [Hcy]; · iexact Hcy
    isplitl [Hyf]; · irw [yFree_add]; iexact Hyf
    iapply (putB (outP c X gw XW XD (i + 1)) (Ring.bk 8 i))
    isplitl [Hyb]
    · irw [outP_done c X gw XW XD (i := i + 1) (Ring.bk 8 i) (by rw [bk8_val (show i < 8 by omega)]; omega), bk8_val (show i < 8 by omega)]
      iexact Hyb
    iexact Hout

/-- Any trip. -/
theorem stepAll (k : Fin k0_t1_loop.trips) : goalP c X gw XW XD v37 v44 v51 k := by
  have hk : k.val < 88 := by
    have := k.isLt; have := trips_eq; omega
  by_cases h0 : k.val = 0
  · exact stepA c X gw XW XD v37 v44 v51 k h0
  by_cases h87 : k.val = 87
  · exact stepE c X gw XW XD v37 v44 v51 k h87
  by_cases hb : k.val % 11 = 0
  · exact stepB c X gw XW XD v37 v44 v51 k hb (by omega)
  by_cases hd : k.val % 11 = 10
  · exact stepD c X gw XW XD v37 v44 v51 k hd (by omega)
  exact stepC c X gw XW XD v37 v44 v51 k (by omega) (by omega)

end State

end Cert.Proof.Ffn
-- ==== Proof.Chunk.lean ====
module

public import proofs.«01_k».proof.Proof.Values
public import Idealize.ShloMosaic.Lib.ValueIdx
public import Idealize.ShloMosaic.Lib.ValueLayout
public import Idealize.ShloMosaic.Lib.ValueLayoutCasts
public import Idealize.ShloMosaic.Lib.StackMember
public import Idealize.ShloMosaic.PureOps.Ideal.Laws

/-! The values of a trip at exact arithmetic, one element at a time.

A row of the block is normalised, multiplied with 512 columns of the gate and of the up weights, and the 512
products, after the gating, are multiplied with 512 rows of the down weights and added to the output row. -/

@[expose] public section
set_option maxRecDepth 16384
noncomputable section
namespace Cert.Proof.Ffn
open Idealize.ShloMosaic Idealize.SL.Sem Cert.KernelIdeal Cert.KernelIdeal.Gen
open Idealize.ShloMosaic.ValueIdx

/-- The reciprocal root mean square of a row. -/
def rowScale (x : Fin 2048 → EReal) : EReal :=
  Ideal.rsqrt (Ideal.div (∑ k, x k * x k) (Ideal.ofBits .f32 0x45000000#32) + Ideal.ofBits .f32 0x358637BD#32)

/-- A row normalised and weighted. -/
def rowNorm (x g : Fin 2048 → EReal) (k : Fin 2048) : EReal := x k * rowScale x * g k

/-- A hidden unit: the gate's product, gated, times the up product. -/
def hidden (h wg wu : Fin 2048 → EReal) : EReal :=
  (∑ k, h k * wg k) * Ideal.logistic (∑ k, h k * wg k) * ∑ k, h k * wu k

/-- A matrix product into zeros at an element. -/
theorem mm_apply {m k n : ℕ} {φ ψ : FTy} (prec : Option ContractPrecision)
    (A : FVec Ideal ⟨2, ![m, k]⟩ φ) (B : FVec Ideal ⟨2, ![k, n]⟩ ψ) (a : Fin m) (b : Fin n) :
    FloatOps.matmul (F := Ideal) (DotDims.plain m k n) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have c2 := contrEquiv1_symm_val (DotDims.plain m k n) k rfl rfl c
  congr 1
  · refine congrArg A (funext fun ax => Fin.ext ?_)
    match ax with
    | ⟨0, _⟩ => simp [DotDims.lhsIdx, DotDims.plain]; rfl
    | ⟨1, _⟩ => simp [DotDims.lhsIdx, DotDims.plain]; exact c2
  · refine congrArg B (funext fun ax => Fin.ext ?_)
    match ax with
    | ⟨0, _⟩ => simp [DotDims.rhsIdx, DotDims.plain]; exact c2
    | ⟨1, _⟩ => simp [DotDims.rhsIdx, DotDims.plain]; rfl

/-- Row `r` of a matrix. -/
def row {a b : ℕ} (v : (⟨2, ![a, b]⟩ : Shape).Idx → EReal) (r : Fin a) (k : Fin b) : EReal := v (ix2 r k)
/-- Column `q` of a matrix. -/
def col {a b : ℕ} (v : (⟨2, ![a, b]⟩ : Shape).Idx → EReal) (q : Fin b) (k : Fin a) : EReal := v (ix2 k q)

/-- A column's broadcast along the rows. -/
theorem colBroadcast_apply {a b : ℕ} (hb : b ≠ 1) (ha : a ≠ 1) (v : (⟨2, ![a, 1]⟩ : Shape).Idx → EReal)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ => exact (if_neg ha).symm
  | ⟨1, _⟩ => rfl

/-- The normalised block at an element. -/
theorem normV_apply (x : FVec Ideal S1024x2048 .f32) (g : FVec Ideal S1x2048 .f32) (i : Fin 1024) (k : Fin 2048) :
    normV (F := Ideal) x g (ix2 i k) = rowNorm (row x i) (row g 0) k := by
  unfold normV k0_pay2 k0_pay1
  dsimp only
  rw [shapeCast_shapeCast, shapeCast_self, shapeCast_self]
  show x (ix2 i k) * broadcastTo S1024x2048 _ _ (ix2 i k) * broadcastTo S1024x2048 g _ (ix2 i k) = _
  rw [colBroadcast_apply (by decide) (by decide), broadcastTo_1b_ab_apply]
  show x (ix2 i k) * Ideal.rsqrt (Ideal.div (shapeCast S1024x1 _ _ (ix2 i (0 : Fin 1))) (Ideal.ofBits .f32 0x45000000#32) + Ideal.ofBits .f32 0x358637BD#32) * _ = _
  rw [shapeCast_a_a1_apply]
  refine congrArg (fun z => x (ix2 i k) * Ideal.rsqrt (Ideal.div z (Ideal.ofBits .f32 0x45000000#32) + Ideal.ofBits .f32 0x358637BD#32) * g (ix2 0 k)) ?_
  refine (Ideal.multiReduction_add_single (mulf x x) _ reduces_S1024x2048_S1024 _ _ (ix1 i)).trans (Finset.sum_congr rfl fun c _ => ?_)
  have el : reduces_S1024x2048_S1024.lift (ix1 i) c = ix2 i c := by
    funext ax
    match ax with
    | ⟨0, _⟩ => rfl
    | ⟨1, _⟩ => rfl
  show x _ * x _ = x _ * x _
  rw [el]
  rfl

/-- The gated hidden units of 256 rows at an element. -/
theorem pay4_apply (h : FVec Ideal S256x2048 .bf16) (g u : FVec Ideal S2048x512 .bf16) (p : Fin 256) (f : Fin 512) :
    k0_pay4 (F := Ideal) h (shapeCast S1x2048x512 g castG) (shapeCast S1x2048x512 u castG) (ix2 p f) = hidden (row h p) (col g f) (col u f) := by
  unfold k0_pay4
  rw [shapeCast_shapeCast, shapeCast_shapeCast]
  have e (w : FVec Ideal S2048x512 .bf16) : matmul dot_S256x2048_S2048x512_S256x512_1_0_0_1_n_n none h w (constant (F := Ideal) S256x512 .f32 0x00000000#32) (ix2 p f)
      = ∑ k, row h p k * col w f k := mm_apply none h w p f
  show matmul _ _ h g _ (ix2 p f) * Ideal.logistic (matmul _ _ h g _ (ix2 p f)) * matmul _ _ h u _ (ix2 p f) = _
  rw [e, e]
  rfl

/-- The rows of a window are rows of the block. -/
theorem row_win {o : ℕ} (ho) (v : S1024x2048.Idx → EReal) (p : Fin 256) (i : Fin 1024) (e : i.val = o + p.val) :
    row (win o ho v) p = row v i := by
  funext k
  refine congrArg v (funext fun ax => Fin.ext ?_)
  match ax with
  | ⟨0, _⟩ => show o + 1 * p.val = i.val; omega
  | ⟨1, _⟩ => show 0 + 1 * k.val = k.val; omega

/-- What one tile leaves at an element, from that element's row. -/
def rowStep (h : Fin 2048 → EReal) (g u : FVec Ideal S2048x512 .bf16) (d : FVec Ideal S512x2048 .bf16) (q : Fin 2048) : EReal :=
  ∑ f : Fin 512, hidden h (col g f) (col u f) * d (ix2 f q)

theorem chunk_apply {o : ℕ} (ho) (h : FVec Ideal S1024x2048 .bf16) (g u : FVec Ideal S2048x512 .bf16) (d : FVec Ideal S512x2048 .bf16)
    (y : FVec Ideal S1024x2048 .f32) (p : Fin 256) (q : Fin 2048) (i : Fin 1024) (e : i.val = o + p.val) :
    chunk (F := Ideal) o ho h g u d y (ix2 p q) = y (ix2 i q) + rowStep (row h i) g u d q := by
  unfold chunk k0_pay8
  rw [shapeCast_self, shapeCast_shapeCast]
  have em (w : FVec Ideal S256x512 .bf16) : matmul dot_S256x512_S512x2048_S256x2048_1_0_0_1_n_n none w d (constant (F := Ideal) S256x2048 .f32 0x00000000#32) (ix2 p q)
      = ∑ f : Fin 512, w (ix2 p f) * d (ix2 f q) := mm_apply none w d p q
  show row (win o ho y) p q + matmul _ _ _ d _ (ix2 p q) = _
  rw [em, row_win ho y p i e]
  refine congrArg (y (ix2 i q) + ·) (Finset.sum_congr rfl fun f _ => ?_)
  rw [pay4_apply, row_win ho h p i e]

/-- A stored window of 256 rows at an element: inside, -/
theorem put_in {o : ℕ} (x : S1024x2048.Idx → EReal) (w : S256x2048.Idx → EReal) (i : Fin 1024) (q : Fin 2048) (p : Fin 256) (e : i.val = o + p.val) :
    VecWindow.put x ![o, 0] S256x2048.size w (ix2 i q) = w (ix2 p q) := by
  have hin : ∀ a, (![o, 0] : Fin 2 → ℕ) a ≤ ((ix2 i q : S1024x2048.Idx) a).val ∧ ((ix2 i q : S1024x2048.Idx) a).val < (![o, 0] : Fin 2 → ℕ) a + S256x2048.size a := by
    intro a
    match a with
    | ⟨0, _⟩ => exact ⟨(by show o ≤ i.val; omega), (by show i.val < o + 256; omega)⟩
    | ⟨1, _⟩ => exact ⟨Nat.zero_le _, (by show q.val < 0 + 2048; omega)⟩
  unfold VecWindow.put
  refine (dif_pos hin).trans (congrArg w (funext fun ax => Fin.ext ?_))
  match ax with
  | ⟨0, _⟩ => show i.val - o = p.val; omega
  | ⟨1, _⟩ => show q.val - 0 = q.val; omega
/-- and outside. -/
theorem put_out {o : ℕ} (x : S1024x2048.Idx → EReal) (w : S256x2048.Idx → EReal) (i : Fin 1024) (q : Fin 2048) (e : i.val < o ∨ o + 256 ≤ i.val) :
    VecWindow.put x ![o, 0] S256x2048.size w (ix2 i q) = x (ix2 i q) := by
  unfold VecWindow.put
  refine dif_neg fun hin => ?_
  have h0 : o ≤ i.val ∧ i.val < o + 256 := hin 0
  omega

/-- A block after one tile at an element. -/
theorem stepV_apply (h : FVec Ideal S1024x2048 .bf16) (g u : FVec Ideal S2048x512 .bf16) (d : FVec Ideal S512x2048 .bf16)
    (y : FVec Ideal S1024x2048 .f32) (i : Fin 1024) (q : Fin 2048) :
    stepV (F := Ideal) h g u d y (ix2 i q) = y (ix2 i q) + rowStep (row h i) g u d q := by
  unfold stepV
  have hi := i.isLt
  by_cases h3 : 768 ≤ i.val
  · rw [put_in _ _ i q ⟨i.val - 768, by omega⟩ (by show i.val = 768 + (i.val - 768); omega)]
    exact chunk_apply _ h g u d y _ q i (by show i.val = 768 + (i.val - 768); omega)
  rw [put_out _ _ i q (by omega)]
  by_cases h2 : 512 ≤ i.val
  · rw [put_in _ _ i q ⟨i.val - 512, by omega⟩ (by show i.val = 512 + (i.val - 512); omega)]
    exact chunk_apply _ h g u d y _ q i (by show i.val = 512 + (i.val - 512); omega)
  rw [put_out _ _ i q (by omega)]
  by_cases h1 : 256 ≤ i.val
  · rw [put_in _ _ i q ⟨i.val - 256, by omega⟩ (by show i.val = 256 + (i.val - 256); omega)]
    exact chunk_apply _ h g u d y _ q i (by show i.val = 256 + (i.val - 256); omega)
  rw [put_out _ _ i q (by omega), put_in _ _ i q ⟨i.val, by omega⟩ (by show i.val = 0 + i.val; omega)]
  exact chunk_apply _ h g u d y _ q i (by show i.val = 0 + i.val; omega)

end Cert.Proof.Ffn
-- ==== Proof.Total.lean ====
/-
  The row blocks at exact arithmetic: after all eleven tiles an element is its activation plus the sum over the 5632
  hidden units.
-/
module

public import proofs.«01_k».proof.Proof.Loop
public import proofs.«01_k».proof.Proof.Chunk

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.ShloMosaic.ValueIdx

/-- Hidden unit `f`'s gate column, -/
def gateCol (f : Fin 5632) : Fin 11264 := ⟨f.val, by omega⟩
/-- and its up column. -/
def upCol (f : Fin 5632) : Fin 11264 := ⟨5632 + f.val, by omega⟩

/-- Hidden unit `f`'s part of an element. -/
def unitAt (h : Fin 2048 → EReal) (W : FVec Ideal S2048x11264 .f32) (D : FVec Ideal S5632x2048 .f32) (q : Fin 2048) (f : Fin 5632) : EReal :=
  hidden h (col W (gateCol f)) (col W (upCol f)) * D (ix2 f q)

/-- The layer's result at an element. -/
def ffnAt (X : FVec Ideal S8192x2048 .f32) (g : Fin 2048 → EReal) (W : FVec Ideal S2048x11264 .f32) (D : FVec Ideal S5632x2048 .f32)
    (r : Fin 8192) (q : Fin 2048) : EReal :=
  row X r q + ∑ f : Fin 5632, unitAt (rowNorm (row X r) g) W D q f

/-- A sum over tiles of 512 is the sum over all. -/
theorem sum_tiles (φ : ℕ → EReal) (n : ℕ) : ∑ t ∈ Finset.range n, ∑ f : Fin 512, φ (512 * t + f.val) = ∑ f ∈ Finset.range (512 * n), φ f := by
  induction n with
  | zero => rfl
  | succ n ih =>
    rw [Finset.sum_range_succ, ih, Nat.mul_succ, Finset.sum_range_add, Finset.sum_range (fun x => φ (512 * n + x))]

theorem sum_eleven (φ : Fin 5632 → EReal) :
    ∑ t ∈ Finset.range 11, ∑ f : Fin 512, φ ⟨512 * (Ring.bk 11 t).val + f.val, by have := (Ring.bk 11 t).isLt; omega⟩ = ∑ f : Fin 5632, φ f := by
  have h := sum_tiles (fun i => if hi : i < 5632 then φ ⟨i, hi⟩ else 0) 11
  rw [show 512 * 11 = 5632 from rfl, Finset.sum_range (n := 5632)] at h
  refine (Finset.sum_congr rfl fun t ht => Finset.sum_congr rfl fun f _ => ?_).trans (h.trans (Finset.sum_congr rfl fun f _ => dif_pos f.isLt))
  have ht' : t < 11 := Finset.mem_range.1 ht
  have e : (Ring.bk 11 t).val = t := Nat.mod_eq_of_lt ht'
  have hf := f.isLt
  refine Eq.trans ?_ (dif_pos (show 512 * t + f.val < 5632 by omega)).symm
  exact congrArg φ (Fin.ext (by show 512 * (Ring.bk 11 t).val + f.val = 512 * t + f.val; rw [e]))

section Blocks
variable (c : Dev nD)

/-- Row `i` of block `b`. -/
def blkRow (b : Fin 8) (i : Fin 1024) : Fin 8192 := ⟨1024 * b.val + i.val, by omega⟩
/-- Hidden unit `f` of tile `t`. -/
def tileUnit (t : Fin 11) (f : Fin 512) : Fin 5632 := ⟨512 * t.val + f.val, by omega⟩

theorem xblk_apply (X : BX (F := Ideal) c) (b : Fin 8) (i : Fin 1024) (q : Fin 2048) :
    (xblk b).view.read (Elt Ideal) X (ix2 i q) = (X : FVec Ideal S8192x2048 .f32) (ix2 (blkRow b i) q) := by
  show (X : FVec Ideal S8192x2048 .f32) ((Rect.unit (s := S8192x2048) (xOff b) S1024x2048.size (xOff_inb b)).emb (ix2 i q)) = _
  refine congrArg (X : FVec Ideal S8192x2048 .f32) (funext fun ax => Fin.ext ?_)
  match ax with
  | ⟨0, _⟩ => show 1024 * b.val + 1 * i.val = 1024 * b.val + i.val; omega
  | ⟨1, _⟩ => show 0 + 1 * q.val = q.val; omega
theorem yblk_apply (Y : BY (F := Ideal) c) (b : Fin 8) (i : Fin 1024) (q : Fin 2048) :
    (yblk b).view.read (Elt Ideal) Y (ix2 i q) = (Y : FVec Ideal S8192x2048 .f32) (ix2 (blkRow b i) q) := by
  show (Y : FVec Ideal S8192x2048 .f32) ((Rect.unit (s := S8192x2048) (xOff b) S1024x2048.size (xOff_inb b)).emb (ix2 i q)) = _
  refine congrArg (Y : FVec Ideal S8192x2048 .f32) (funext fun ax => Fin.ext ?_)
  match ax with
  | ⟨0, _⟩ => show 1024 * b.val + 1 * i.val = 1024 * b.val + i.val; omega
  | ⟨1, _⟩ => show 0 + 1 * q.val = q.val; omega
theorem gblk_col (W : BW (F := Ideal) c) (t : Fin 11) (f : Fin 512) :
    col ((gblk t).view.read (Elt Ideal) W) f = col (W : FVec Ideal S2048x11264 .bf16) (gateCol (tileUnit t f)) := by
  funext k
  show (W : FVec Ideal S2048x11264 .bf16) ((Rect.unit (s := S2048x11264) (gOff t) S2048x512.size (gOff_inb t)).emb (ix2 k f)) = _
  refine congrArg (W : FVec Ideal S2048x11264 .bf16) (funext fun ax => Fin.ext ?_)
  match ax with
  | ⟨0, _⟩ => show 0 + 1 * k.val = k.val; omega
  | ⟨1, _⟩ => show 512 * t.val + 1 * f.val = 512 * t.val + f.val; omega
theorem ublk_col (W : BW (F := Ideal) c) (t : Fin 11) (f : Fin 512) :
    col ((ublk t).view.read (Elt Ideal) W) f = col (W : FVec Ideal S2048x11264 .bf16) (upCol (tileUnit t f)) := by
  funext k
  show (W : FVec Ideal S2048x11264 .bf16) ((Rect.unit (s := S2048x11264) (uOff t) S2048x512.size (uOff_inb t)).emb (ix2 k f)) = _
  refine congrArg (W : FVec Ideal S2048x11264 .bf16) (funext fun ax => Fin.ext ?_)
  match ax with
  | ⟨0, _⟩ => show 0 + 1 * k.val = k.val; omega
  | ⟨1, _⟩ => show 5632 + 512 * t.val + 1 * f.val = 5632 + (512 * t.val + f.val); omega
theorem dblk_apply (D : BD (F := Ideal) c) (t : Fin 11) (f : Fin 512) (q : Fin 2048) :
    (dblk t).view.read (Elt Ideal) D (ix2 f q) = (D : FVec Ideal S5632x2048 .bf16) (ix2 (tileUnit t f) q) := by
  show (D : FVec Ideal S5632x2048 .bf16) ((Rect.unit (s := S5632x2048) (dOff t) S512x2048.size (dOff_inb t)).emb (ix2 f q)) = _
  refine congrArg (D : FVec Ideal S5632x2048 .bf16) (funext fun ax => Fin.ext ?_)
  match ax with
  | ⟨0, _⟩ => show 512 * t.val + 1 * f.val = 512 * t.val + f.val; omega
  | ⟨1, _⟩ => show 0 + 1 * q.val = q.val; omega

variable (X : BX (F := Ideal) c) (gw : FVec Ideal S1x2048 .f32) (W : BW (F := Ideal) c) (D : BD (F := Ideal) c)

/-- A normalised row of a block is a normalised row of the array. -/
theorem nrm_row (b : Fin 8) (i : Fin 1024) :
    row (nrm (F := Ideal) c X gw b.val) i = rowNorm (row (X : FVec Ideal S8192x2048 .f32) (blkRow b i)) (row gw 0) := by
  funext k
  have hb : Ring.bk 8 b.val = b := Fin.ext (bk8_val b.isLt)
  show normV ((xblk (Ring.bk 8 b.val)).view.read (Elt Ideal) X) gw (ix2 i k) = _
  rw [hb, normV_apply]
  exact congrArg (fun z => rowNorm z (row gw 0) k) (funext fun j => xblk_apply c X b i j)

/-- What tile `t` adds to an element. -/
theorem tile_apply (b : Fin 8) (i : Fin 1024) (q : Fin 2048) (t : Fin 11) :
    rowStep (row (nrm (F := Ideal) c X gw b.val) i) ((gblk t).view.read (Elt Ideal) W) ((ublk t).view.read (Elt Ideal) W) ((dblk t).view.read (Elt Ideal) D) q
      = ∑ f : Fin 512, unitAt (rowNorm (row (X : FVec Ideal S8192x2048 .f32) (blkRow b i)) (row gw 0)) W D q (tileUnit t f) := by
  refine Finset.sum_congr rfl fun f _ => ?_
  rw [nrm_row, gblk_col, ublk_col, dblk_apply]
  rfl

/-- An element after `j` tiles. -/
theorem accV_apply (b : Fin 8) (i : Fin 1024) (q : Fin 2048) (j : ℕ) :
    accV (F := Ideal) c X gw W D b.val j (ix2 i q)
      = row (a := 8192) (b := 2048) X (blkRow b i) q
        + ∑ t ∈ Finset.range j, ∑ f : Fin 512, unitAt (rowNorm (row (X : FVec Ideal S8192x2048 .f32) (blkRow b i)) (row gw 0)) W D q (tileUnit (Ring.bk 11 t) f) := by
  induction j with
  | zero =>
    have hb : Ring.bk 8 b.val = b := Fin.ext (bk8_val b.isLt)
    show (xblk (Ring.bk 8 b.val)).view.read (Elt Ideal) X (ix2 i q) = _
    rw [hb, xblk_apply, Finset.range_zero, Finset.sum_empty, add_zero]
    rfl
  | succ j ih =>
    show stepV (nrm c X gw b.val) _ _ _ (accV c X gw W D b.val j) (ix2 i q) = _
    rw [stepV_apply, ih, Finset.sum_range_succ, ← add_assoc]
    exact congrArg₂ (fun a z : EReal => a + z) rfl (tile_apply c X gw W D b i q _)

/-- An element of the finished block. -/
theorem accV_done (b : Fin 8) (i : Fin 1024) (q : Fin 2048) :
    accV (F := Ideal) c X gw W D b.val 11 (ix2 i q) = ffnAt X (row gw 0) W D (blkRow b i) q :=
  (accV_apply c X gw W D b i q 11).trans (congrArg (fun z : EReal => row (a := 8192) (b := 2048) X (blkRow b i) q + z) (sum_eleven _))

end Blocks

end Cert.Proof.Ffn
-- ==== Proof.Ref.lean ====
/-
  The reference's result at exact arithmetic, one element at a time.
-/
module

public import proofs.«01_k».proof.Proof.Total
public import proofs.«01_k».proof.Proof.Gen.ReferenceIdeal.Run
public import Idealize.ShloMosaic.Lib.IdealHost

@[expose] public section

set_option maxRecDepth 16384

noncomputable section

namespace Cert.Proof.Ffn

open Cert.ReferenceIdeal Cert.ReferenceIdeal.Gen
open Idealize.ShloMosaic
open Idealize.ShloMosaic.ValueIdx

section Ref
variable (X : FVec Ideal S8192x2048 .f32) (g : FVec Ideal S2048 .f32) (W : FVec Ideal S2048x11264 .f32) (D : FVec Ideal S5632x2048 .f32)

/-- The reference's normalised activations, -/
def refNorm : FVec Ideal S8192x2048 .f32 :=
  mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))
/-- their product with the gate and up weights, -/
def refProd : FVec Ideal S8192x11264 .f32 := Host.dotGeneral dot_S8192x2048_S2048x11264_S8192x11264_1_0_0_1_n_n none (refNorm X g) W
/-- its gate half, -/
def refGate : FVec Ideal S8192x5632 .f32 := extractStridedSlice S8192x5632 ![0, 0] (refProd X g W) slices_S8192x11264_S8192x5632_0_0
/-- its up half, -/
def refUp : FVec Ideal S8192x5632 .f32 := extractStridedSlice S8192x5632 ![0, 5632] (refProd X g W) slices_S8192x11264_S8192x5632_0_5632
/-- the hidden units -/
def refHidden : FVec Ideal S8192x5632 .f32 :=
  mulf (mulf (refGate X g W) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (refGate X g W)))))) (refUp X g W)
/-- and the result. -/
def refOut : FVec Ideal S8192x2048 .f32 := addf X (Host.dotGeneral dot_S8192x5632_S5632x2048_S8192x2048_1_0_0_1_n_n none (refHidden X g W) D)

theorem refNorm_apply (r : Fin 8192) (k : Fin 2048) : refNorm X g (ix2 r k) = rowNorm (row X r) (fun j => g (ix1 j)) k := by
  show X (ix2 r k) * broadcastInDim S8192x2048 _ _ _ (ix2 r k) * broadcastInDim S8192x2048 _ _ _ (ix2 r k) = _
  rw [broadcastInDim_apply (j := ix2 r k) (k := ix2 r (0 : Fin 1)) (dims := ![0, 1]) (h := bcast_S8192x1_S8192x2048_0_1) (hk := fun a => by
      match a with
      | ⟨0, _⟩ => rfl
      | ⟨1, _⟩ => rfl),
    broadcastInDim_apply (j := ix2 r k) (k := ix2 (0 : Fin 1) k) (dims := ![0, 1]) (h := bcast_S1x2048_S8192x2048_0_1) (hk := fun a => by
      match a with
      | ⟨0, _⟩ => rfl
      | ⟨1, _⟩ => rfl),
    broadcastInDim_apply (j := ix2 (0 : Fin 1) k) (k := ix1 k) (dims := ![1]) (h := bcast_S2048_S1x2048_1) (hk := fun a => by
      match a with
      | ⟨0, _⟩ => rfl)]
  show X (ix2 r k) * Ideal.rsqrt (Ideal.div (broadcastInDim S8192x1 _ _ _ (ix2 r (0 : Fin 1))) (Ideal.ofBits .f32 0x45000000#32) + Ideal.ofBits .f32 0x358637BD#32) * g (ix1 k) = _
  rw [broadcastInDim_apply (j := ix2 r (0 : Fin 1)) (k := ix1 r) (dims := ![0]) (h := bcast_S8192_S8192x1_0) (hk := fun a => by
      match a with
      | ⟨0, _⟩ => rfl)]
  refine congrArg (fun z => X (ix2 r k) * Ideal.rsqrt (Ideal.div z (Ideal.ofBits .f32 0x45000000#32) + Ideal.ofBits .f32 0x358637BD#32) * g (ix1 k)) ?_
  have hr : Shape.Reduces S8192x2048 [1] S8192 := by decide
  rw [hostReduceAdd_apply, Ideal.hostReduceAdd_single _ hr]
  show Ideal.ofBits .f32 0x00000000#32 + _ = _
  rw [Ideal.ofBits_zero_f32, zero_add]
  refine Finset.sum_congr rfl fun c _ => ?_
  have el : hr.lift (ix1 r) c = ix2 r c := by
    funext ax
    match ax with
    | ⟨0, _⟩ => rfl
    | ⟨1, _⟩ => rfl
  rw [el]
  rfl

theorem refProd_apply (r : Fin 8192) (f : Fin 11264) : refProd X g W (ix2 r f) = ∑ k, rowNorm (row X r) (fun j => g (ix1 j)) k * col W f k :=
  (StackMember.dotGeneral_plain_apply none (refNorm X g) W r f).trans (Finset.sum_congr rfl fun k _ => congrArg (· * _) (refNorm_apply X g r k))

theorem refGate_apply (r : Fin 8192) (f : Fin 5632) : refGate X g W (ix2 r f) = ∑ k, rowNorm (row X r) (fun j => g (ix1 j)) k * col W (gateCol f) k :=
  (slice2_axis1_apply 0 _ _ r f (gateCol f) (Nat.zero_add _).symm).trans (refProd_apply X g W r (gateCol f))
theorem refUp_apply (r : Fin 8192) (f : Fin 5632) : refUp X g W (ix2 r f) = ∑ k, rowNorm (row X r) (fun j => g (ix1 j)) k * col W (upCol f) k :=
  (slice2_axis1_apply 5632 _ _ r f (upCol f) rfl).trans (refProd_apply X g W r (upCol f))

theorem refHidden_apply (r : Fin 8192) (f : Fin 5632) :
    refHidden X g W (ix2 r f) = hidden (rowNorm (row X r) fun j => g (ix1 j)) (col W (gateCol f)) (col W (upCol f)) := by
  show refGate X g W (ix2 r f) * Ideal.div (Ideal.ofBits .f32 0x3F800000#32) (Ideal.ofBits .f32 0x3F800000#32 + Ideal.exp (-refGate X g W (ix2 r f))) * refUp X g W (ix2 r f) = _
  rw [Ideal.ofBits_one_f32, refGate_apply, refUp_apply]
  rfl

/-- The reference's result at an element. -/
theorem refOut_apply (r : Fin 8192) (q : Fin 2048) : refOut X g W D (ix2 r q) = ffnAt X (fun j => g (ix1 j)) W D r q :=
  congrArg (X (ix2 r q) + ·) ((StackMember.dotGeneral_plain_apply none (refHidden X g W) D r q).trans
    (Finset.sum_congr rfl fun f _ => congrArg (· * D (ix2 f q)) (refHidden_apply X g W r f)))

end Ref

end Cert.Proof.Ffn
-- ==== Proof.Out.lean ====
/-
  The attention's output projection: the weight is rounded once into a scratch buffer at the first row block and kept
  there, and every row block is its rows of `x` plus its rows of `o` times that weight. At exact arithmetic this is the
  reference's `x + o · w`.
-/
module

public import proofs.«01_k».proof.Proof.Gen.Kernel2Ideal.Value
public import proofs.«01_k».proof.Proof.Gen.Reference2Ideal.Run
public import proofs.«01_k».proof.Proof.Ref

@[expose] public section

set_option maxRecDepth 16384

noncomputable section

namespace Cert.Proof.Out

open Cert.Kernel2Ideal Cert.Kernel2Ideal.Gen Cert.Kernel2Ideal.Value
open Idealize.ShloMosaic
open Idealize.ShloMosaic.TcCoe
open Idealize.ShloMosaic.ValueIdx

theorem zero2 : (![0, 0] : Fin 2 → Nat) = fun _ => 0 := funext fun a => by fin_cases a <;> rfl
theorem zero3 : (![0, 0, 0] : Fin 3 → Nat) = fun _ => 0 := funext fun a => by fin_cases a <;> rfl

section Points
variable {F : FTy → Type} [FloatOps F] (m : (ℓ : Loc nD τ sig) → Buf (Elt F) ℓ)

/-- The rounded weight the first point keeps. -/
def weight (c : Dev nD) : Vec F S2048x2048 .bf16 := k0_pay1 (iblk m c 2 t0_0)

/-- The first point leaves the rounded weight in the scratch buffer -/
theorem kept_A (c : Dev nD) (i : grid0.Coords) (a1 : Memref sig .tc .vmem S512x2048 .f32) (h1 : a1.IsWhole)
    (a2 : Memref sig .tc .vmem S512x2048 .bf16) (h2 : a2.IsWhole) (a3 : Memref sig .tc .vmem S1x2048x2048 .f32) (h3 : a3.IsWhole)
    (a4 : Memref sig .tc .vmem S512x2048 .f32) (h4 : a4.IsWhole) (a5 : Memref sig .tc .vmem S2048x2048 .bf16) (h5 : a5.IsWhole)
    (hc : cond0_0 i) (x0 : Vec F S512x2048 .f32) (x1 : Vec F S512x2048 .bf16) (x2 : Vec F S1x2048x2048 .f32) :
    sout0_A_0 c i a1 h1 a2 h2 a3 h3 a4 h4 a5 h5 hc x0 x1 x2 = k0_pay1 x2 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero zero2]
  simp only [View.readAt_eq_ld, h3.read_unread, View.ld_unit_zero (S := S1x2048x2048) zero3]

/-- and its row block, -/
theorem left_A (c : Dev nD) (i : grid0.Coords) (a1 : Memref sig .tc .vmem S512x2048 .f32) (h1 : a1.IsWhole)
    (a2 : Memref sig .tc .vmem S512x2048 .bf16) (h2 : a2.IsWhole) (a3 : Memref sig .tc .vmem S1x2048x2048 .f32) (h3 : a3.IsWhole)
    (a4 : Memref sig .tc .vmem S512x2048 .f32) (h4 : a4.IsWhole) (a5 : Memref sig .tc .vmem S2048x2048 .bf16) (h5 : a5.IsWhole)
    (hc : cond0_0 i) (x0 : Vec F S512x2048 .f32) (x1 : Vec F S512x2048 .bf16) (x2 : Vec F S1x2048x2048 .f32) :
    out0_A_3 c i a1 h1 a2 h2 a3 h3 a4 h4 a5 h5 hc x0 x1 x2 = k0_pay2 x0 x1 (k0_pay1 x2) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero zero2, View.readCov_unit_zero (S := S2048x2048) _ zero2]
  simp only [View.readAt_eq_ld, h1.read_unread, h2.read_unread, h3.read_unread, View.ld_unit_zero (S := S1x2048x2048) zero3,
    View.ld_unit_zero (S := S512x2048) zero2]

/-- and a later point its row block over the weight kept. -/
theorem left_B (c : Dev nD) (i : grid0.Coords) (a1 : Memref sig .tc .vmem S512x2048 .f32) (h1 : a1.IsWhole)
    (a2 : Memref sig .tc .vmem S512x2048 .bf16) (h2 : a2.IsWhole) (a3 : Memref sig .tc .vmem S1x2048x2048 .f32) (h3 : a3.IsWhole)
    (a4 : Memref sig .tc .vmem S512x2048 .f32) (h4 : a4.IsWhole) (a5 : Memref sig .tc .vmem S2048x2048 .bf16) (h5 : a5.IsWhole)
    (hc : ¬cond0_0 i) (x0 : Vec F S512x2048 .f32) (x1 : Vec F S512x2048 .bf16) (x2 : Vec F S1x2048x2048 .f32) (w : Vec F S2048x2048 .bf16) :
    out0_B_3 c i a1 h1 a2 h2 a3 h3 a4 h4 a5 h5 hc x0 x1 x2 w = k0_pay2 x0 x1 w := by
  unfold out0_B_3
  rw [View.read_writes_eq_canon _ _ _ (cover0_B_3 c i a1 h1 a2 h2 a3 h3 a4 h4 a5 h5 hc x0 x1 x2 w)]
  unfold kernelRun0_B
  dsimp only
  sl_unfold_words
  rw [View.canon_unit_zero zero2]
  simp only [View.readAt_eq_ld, h1.read_unread, h2.read_unread, h5.read_unread, View.ld_unit_zero (S := S2048x2048) zero2,
    View.ld_unit_zero (S := S512x2048) zero2]

/-- Every point leaves the weight kept, -/
theorem kept_eq (c : Dev nD) (n : ℕ) : ∀ h : n < cfg0.N, (outsAt0 m c n h).2 = weight m c := by
  induction n with
  | zero =>
    intro h
    rw [outsAt0_A m c ⟨0, h⟩ rfl]
    dsimp only
    rw [kept_A]
    rfl
  | succ n ih =>
    intro h
    have hN : cfg0.N = 16 := N_0
    have hB : ¬(⟨n + 1, h⟩ : Fin cfg0.N).val % 16 = 0 := by dsimp only; omega
    rw [outsAt0_B m c ⟨n + 1, h⟩ hB]
    dsimp only
    unfold sout0_B_0
    exact ih _

/-- and its row block. -/
theorem left_eq (c : Dev nD) (t : Fin cfg0.N) : (outsAt0 m c t.val t.isLt).1 = k0_pay2 (iblk m c 0 t) (iblk m c 1 t) (weight m c) := by
  have hN : cfg0.N = 16 := N_0
  by_cases h0 : t.val % 16 = 0
  · have h0' : t = t0_0 := Fin.ext (by have := t.isLt; show t.val = 0; omega)
    rw [outsAt0_A m c t h0]
    dsimp only
    rw [left_A, h0']
    rfl
  · rw [outsAt0_B m c t h0]
    dsimp only
    rw [left_B, kept_eq]

end Points

section Value
variable (m : (ℓ : Loc nD τ sig) → Buf (Elt Ideal) ℓ) (c : Dev nD)

/-- The reference's result. -/
def refOut (x : FVec Ideal S8192x2048 .f32) (o : FVec Ideal S8192x2048 .bf16) (w : FVec Ideal S2x2048x2048 .f32) : FVec Ideal S8192x2048 .f32 :=
  fun y => x y + ∑ k : Fin 2048, o (ix2 (y 0) k) * w (ix3 0 k (y 1))

theorem pay2_apply (x : FVec Ideal S512x2048 .f32) (o : FVec Ideal S512x2048 .bf16) (w : FVec Ideal S2048x2048 .bf16) (r : Fin 512) (q : Fin 2048) :
    k0_pay2 (F := Ideal) x o w (ix2 r q) = (x (ix2 r q) : EReal) + ∑ k : Fin 2048, (o (ix2 r k) : EReal) * w (ix2 k q) := by
  refine congrArg₂ (fun a z : EReal => a + z) rfl ?_
  exact Ffn.mm_apply none o w r q

theorem pay1_apply (w : FVec Ideal S1x2048x2048 .f32) (k q : Fin 2048) : (k0_pay1 (F := Ideal) w (ix2 k q) : EReal) = w (ix3 0 k q) := by
  unfold k0_pay1
  rw [shapeCast_self]
  exact shapeCast_1ab_ab_apply _ _ _ _

/-- Point `t` takes row block `t` of `x` and of `o` -/
theorem index_rows : ∀ t : Fin cfg0.N, win0_0.index t (0 : Fin 2) = t.val ∧ win0_0.index t (1 : Fin 2) = 0
    ∧ win0_1.index t (0 : Fin 2) = t.val ∧ win0_1.index t (1 : Fin 2) = 0 := (by decide +kernel : ∀ t : Fin grid0.N, _)
/-- and the first of the two weights. -/
theorem index_weight : win0_2.index t0_0 (0 : Fin 3) = 0 ∧ win0_2.index t0_0 (1 : Fin 3) = 0 ∧ win0_2.index t0_0 (2 : Fin 3) = 0 := by decide +kernel

theorem xblk_apply (t : Fin cfg0.N) (r : Fin 512) (q : Fin 2048) (R : Fin 8192) (hR : R.val = 512 * t.val + r.val) :
    iblk m c 0 t (ix2 r q) = (m ((c : Thread nD τ).loc main_arg0) : FVec Ideal S8192x2048 .f32) (ix2 R q) := by
  obtain ⟨e0, e1, -⟩ := index_rows t
  refine congrArg (m ((c : Thread nD τ).loc main_arg0) : FVec Ideal S8192x2048 .f32) (funext fun ax => Fin.ext ?_)
  match ax with
  | ⟨0, _⟩ => show win0_0.index t (0 : Fin 2) * 512 + 1 * r.val = R.val; omega
  | ⟨1, _⟩ => show win0_0.index t (1 : Fin 2) * 2048 + 1 * q.val = q.val; omega
theorem oblk_apply (t : Fin cfg0.N) (r : Fin 512) (q : Fin 2048) (R : Fin 8192) (hR : R.val = 512 * t.val + r.val) :
    iblk m c 1 t (ix2 r q) = (m ((c : Thread nD τ).loc main_arg1) : FVec Ideal S8192x2048 .bf16) (ix2 R q) := by
  obtain ⟨-, -, e0, e1⟩ := index_rows t
  refine congrArg (m ((c : Thread nD τ).loc main_arg1) : FVec Ideal S8192x2048 .bf16) (funext fun ax => Fin.ext ?_)
  match ax with
  | ⟨0, _⟩ => show win0_1.index t (0 : Fin 2) * 512 + 1 * r.val = R.val; omega
  | ⟨1, _⟩ => show win0_1.index t (1 : Fin 2) * 2048 + 1 * q.val = q.val; omega
theorem weight_apply (k q : Fin 2048) :
    (weight m c (ix2 k q) : EReal) = (m ((c : Thread nD τ).loc main_arg2) : FVec Ideal S2x2048x2048 .f32) (ix3 0 k q) := by
  obtain ⟨e0, e1, e2⟩ := index_weight
  refine (pay1_apply (iblk m c 2 t0_0) k q).trans ?_
  refine congrArg (m ((c : Thread nD τ).loc main_arg2) : FVec Ideal S2x2048x2048 .f32) (funext fun ax => Fin.ext ?_)
  match ax with
  | ⟨0, _⟩ => show win0_2.index t0_0 (0 : Fin 3) * 1 + 1 * 0 = 0; omega
  | ⟨1, _⟩ => show win0_2.index t0_0 (1 : Fin 3) * 2048 + 1 * k.val = k.val; omega
  | ⟨2, _⟩ => show win0_2.index t0_0 (2 : Fin 3) * 2048 + 1 * q.val = q.val; omega

/-- The kernel's result is the reference's. -/
theorem out_eq : G3 m c = refOut (m ((c : Thread nD τ).loc main_arg0)) (m ((c : Thread nD τ).loc main_arg1)) (m ((c : Thread nD τ).loc main_arg2)) := by
  refine funext fun (y : S8192x2048.Idx) => ?_
  obtain ⟨R, q, rfl⟩ : ∃ (R : Fin 8192) (q : Fin 2048), y = ix2 R q := ⟨y 0, y 1, eq_ix2 y⟩
  have hN : cfg0.N = 16 := N_0
  have hR := R.isLt
  have hq := q.isLt
  have hp : pt3Of (ix2 R q) = R.val / 512 := by
    show 1 * (R.val / 512 - 0) + 1 * (q.val / 2048 - 0) = R.val / 512
    omega
  have hlt : R.val / 512 < cfg0.N := by omega
  have hl : loc3Of (ix2 R q) = ix2 (⟨R.val % 512, by omega⟩ : Fin 512) q := by
    funext ax; apply Fin.ext
    match ax with
    | ⟨0, _⟩ => rfl
    | ⟨1, _⟩ => exact Nat.mod_eq_of_lt hq
  unfold G3
  rw [dif_pos (by rw [hp]; exact hlt), hl, fold0_congr m c _ _ (R.val / 512) (by omega) hp, ← outsAt0_sweep m c (R.val / 512) hlt,
    left_eq m c ⟨R.val / 512, hlt⟩]
  refine (pay2_apply _ _ _ _ _).trans ?_
  refine congrArg₂ (fun a z : EReal => a + z) (xblk_apply m c _ _ q R (by show R.val = 512 * (R.val / 512) + R.val % 512; omega)) ?_
  refine Finset.sum_congr rfl fun k _ => ?_
  exact congrArg₂ (fun a z : EReal => a * z) (oblk_apply m c _ _ k R (by show R.val = 512 * (R.val / 512) + R.val % 512; omega)) (weight_apply m c k q)

/-- What the reference's operations compute. -/
theorem refOut_eq (x : FVec Ideal S8192x2048 .f32) (o : FVec Ideal S8192x2048 .bf16) (w : FVec Ideal S2x2048x2048 .f32) :
    addf x (Host.dotGeneral Cert.Reference2Ideal.dot_S8192x2048_S2048x2048_S8192x2048_1_0_0_1_n_n none
      (extf .f32 o Cert.Reference2Ideal.Gen.bitsLt_bf16_f32)
      (shapeCast _ (extractStridedSlice Cert.Reference2Ideal.S1x2048x2048 ![0, 0, 0] w Cert.Reference2Ideal.Facts₀.slices_S2x2048x2048_S1x2048x2048_0_0_0)
        Cert.Reference2Ideal.Facts₀.shapeCasts_S1x2048x2048_S2048x2048)) = refOut x o w := by
  refine funext fun (y : S8192x2048.Idx) => ?_
  obtain ⟨R, q, rfl⟩ : ∃ (R : Fin 8192) (q : Fin 2048), y = ix2 R q := ⟨y 0, y 1, eq_ix2 y⟩
  refine congrArg₂ (fun a z : EReal => a + z) rfl ?_
  refine (StackMember.dotGeneral_plain_apply _ _ _ _ _).trans ?_
  refine Finset.sum_congr rfl fun k _ => ?_
  refine congrArg₂ (fun a z : EReal => a * z) rfl ?_
  refine (shapeCast_1ab_ab_apply _ _ _ _).trans ?_
  refine congrArg w (funext fun ax => Fin.ext ?_)
  match ax with
  | ⟨0, _⟩ => rfl
  | ⟨1, _⟩ => exact Nat.zero_add _
  | ⟨2, _⟩ => exact Nat.zero_add _

end Value

end Cert.Proof.Out
-- ==== Proof.Body.lean ====
/-
  The kernel's body: the weights of the norm come in, the first blocks start, the 88 trips of the loop, and the wait for
  the last result.
-/
module

public import proofs.«01_k».proof.Proof.Loop

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Body
variable (c : Dev nD) (X : BX (F := F) c) (gwf : Buf (Elt F) (gwM.view.loc (c : Thread nD τ))) (XW : BW (F := F) c) (XD : BD (F := F) c)

/-- The norm's weights as the body reads them. -/
abbrev gwOf : FVec F S1x2048 .f32 := gwM.view.read (Elt F) gwf

/-- The arrays at home block by block, every slot free, every semaphore at zero; the result's blocks at `R`. -/
def restP (R : Fin 8 → sProp 𝕄) : sProp 𝕄 :=
  iprop(ownP (F := F) c gwM gwf ∗ anyP (F := F) c gwB ∗ cellP (F := F) c cc0_scoped11 ∗ anyP (F := F) c hM
    ∗ (bigSep Finset.univ (xHome (F := F) c X) ∗ xFree (F := F) c 0 ∗ xFree (F := F) c 1)
    ∗ (bigSep Finset.univ (home3 c XW XD) ∗ wFree (F := F) c 0 ∗ wFree (F := F) c 1)
    ∗ bigSep Finset.univ R ∗ yFree (F := F) c 0 ∗ yFree (F := F) c 1)
/-- What the body is handed: the result's blocks at anything; -/
def bodyPre : sProp 𝕄 := restP c X gwf XW XD (fun b => anyP (F := F) c (yblk b))
/-- what it hands back: the result's blocks at their sums. -/
def bodyPost : sProp 𝕄 := restP c X gwf XW XD (fun b : Fin 8 => valP (F := F) c (yblk b) (accV c X (gwOf c gwf) XW XD b.val 11))

/-- The loop's invariant: the words it carries, and the state. -/
def loopI (gw : FVec F S1x2048 .f32) (k : ℕ) (acc : BitVec 32 × BitVec 32 × BitVec 32 × BitVec 32 × BitVec 32 × BitVec 32 × BitVec 32 × BitVec 32 × BitVec 32 × BitVec 32 × BitVec 32 × BitVec 32 × BitVec 32) : sProp 𝕄 :=
  iprop(⌜acc = carry k⌝ ∗ stAll c X gw XW XD k)

theorem sl0 : Ring.sl 2 0 = 0 := Fin.ext (by rfl)
theorem bk11_0 : Ring.bk 11 0 = 0 := Fin.ext (by rfl)
theorem sl7 : Ring.sl 2 7 = 1 := Fin.ext (by rfl)
theorem bk8_7 : Ring.bk 8 7 = 7 := Fin.ext (by rfl)
theorem bk8_0 : Ring.bk 8 0 = 0 := Fin.ext (by rfl)

/-- The state the loop starts in. -/
theorem st_zero (gw : FVec F S1x2048 .f32) : stAll c X gw XW XD 0
    = iprop(owesP (F := F) c ∗ valP (F := F) c gwB gw
      ∗ (wFly (F := F) c XW XD 0 ∗ wFree (F := F) c 1 ∗ bigSep (Finset.univ.erase (Ring.bk 11 0)) (home3 c XW XD))
      ∗ (xIn (F := F) c X 0 ∗ xFree (F := F) c 1 ∗ bigSep (Finset.univ.erase (Ring.bk 8 0)) (xHome (F := F) c X))
      ∗ anyP (F := F) c hM ∗ yFree (F := F) c 0 ∗ yFree (F := F) c 1 ∗ bigSep Finset.univ (fun b => anyP (F := F) c (yblk b))) := by
  unfold stAll
  rw [wSt_lt c XW XD (show 0 < 88 by omega), xSt_first c X (show 0 % 11 = 0 ∧ 0 < 88 by omega), ySt_zero]
  rfl
/-- The state it ends in. -/
theorem st_end (gw : FVec F S1x2048 .f32) : stAll c X gw XW XD 88
    = iprop(owesP (F := F) c ∗ valP (F := F) c gwB gw
      ∗ (wFree (F := F) c 0 ∗ wFree (F := F) c 1 ∗ bigSep Finset.univ (home3 c XW XD))
      ∗ (xFree (F := F) c 0 ∗ xFree (F := F) c 1 ∗ bigSep Finset.univ (xHome (F := F) c X))
      ∗ anyP (F := F) c hM ∗ yFree (F := F) c 0 ∗ yOut (F := F) c 7 (accV c X gw XW XD 7 11)
      ∗ bigSep (Finset.univ.erase (Ring.bk 8 7)) (outP c X gw XW XD 8)) := by
  unfold stAll
  rw [wSt_end c XW XD (show ¬ 88 < 88 by omega), xSt_in c X (show ¬ (88 % 11 = 0 ∧ 88 < 88) by omega), ySt_first c X gw XW XD (show 0 < 88 by omega) (show 88 % 11 = 0 by omega)]
  rfl
theorem out_all (gw : FVec F S1x2048 .f32) : bigSep Finset.univ (outP c X gw XW XD 8)
    = bigSep Finset.univ (fun b : Fin 8 => valP (F := F) c (yblk b) (accV c X gw XW XD b.val 11)) :=
  bigSep_congr fun b _ => outP_done c X gw XW XD b b.isLt

set_option maxHeartbeats 4000000 in
set_option sl_exec.respelt true in
/-- The body, from the arrays' blocks at home to the result's blocks at their sums. -/
theorem bodyRun : iprop(owesP (F := F) c ∗ bodyPre c X gwf XW XD) ⊢ wp frame (wpE (defs₀ (F := F)) 𝒱₀ (c : Thread nD τ) none) Set.univ (bodyAt0 (F := F) t0_0)
    (fun _ => iprop(owesP (F := F) c ∗ bodyPost c X gwf XW XD)) := by
  unfold bodyPre restP
  iintro ⟨⟨%W, HW⟩, Hgw, ⟨%fw, Hgb⟩, Hcw, Hh, ⟨Hxh, ⟨⟨%fx, Hx0⟩, Hcx⟩, Hx1⟩, ⟨Hwh, ⟨⟨⟨%fg, Hg0⟩, ⟨%fu, Hu0⟩, ⟨%fd, Hd0⟩⟩, Hcg, Hcu, Hcd⟩, Hw1⟩, Hout, Hy0, Hy1⟩
  ihave Hxt := (takeB (xHome (F := F) c X) (Ring.bk 8 0)) $$ Hxh
  icases Hxt with ⟨Hxb, Hxh⟩
  ihave Hwt := (takeB (home3 c XW XD) (Ring.bk 11 0)) $$ Hwh
  icases Hwt with ⟨⟨Hgh, Huh, Hdh⟩, Hwh⟩
  rw [sl0, bk8_0, bk11_0]
  sl_exec
  sl_for (loopI c X XW XD (gwOf c gwf)) $$ [Hh Hx1 Hw1 Hout Hy0 Hy1 Hxh Hwh Hgb HW Hcx Hcg Hcu Hcd]
  · intro k acc
    unfold loopI
    iintro ⟨%he, H⟩
    subst he
    iapply (stepAll c X (gwOf c gwf) XW XD 1#32 1#32 1#32 k)
    iexact H
  · unfold loopI
    irw [st_zero c X XW XD (gwOf c gwf)]
    isplitr; · ipureintro; rfl
    isplitl [HW]; · iexists _; iexact HW
    isplitl [Hgb]
    · iexists _
      isplitr
      rotate_left
      · iexact Hgb
      ipureintro
      exact View.read_writes_whole _ _ _
    isplitl [Hcg Hcu Hcd Hw1 Hwh]
    · isplitl [Hcg Hcu Hcd]
      · iexists _, _, _
        isplitl [Hcg]; · iexact Hcg
        isplitl [Hcu]; · iexact Hcu
        iexact Hcd
      isplitl [Hw1]; · iexact Hw1
      iexact Hwh
    isplitl [Hcx Hx1 Hxh]
    · isplitl [Hcx]; · iexists _; iexact Hcx
      isplitl [Hx1]; · iexact Hx1
      iexact Hxh
    isplitl [Hh]; · iexact Hh
    isplitl [Hy0]; · iexact Hy0
    isplitl [Hy1]; · iexact Hy1
    iexact Hout
  iintro %acc HI
  unfold loopI
  rw [show Scf.trips k0_t1_loop.lb k0_t1_loop.ub k0_t1_loop.st = 88 from trips_eq, st_end c X XW XD (gwOf c gwf)]
  icases HI with ⟨%he, ⟨%W', HW⟩, ⟨%fw', -, Hgb⟩, ⟨Hw0, Hw1, Hwh⟩, ⟨Hx0, Hx1, Hxh⟩, Hh, Hy0, ⟨%Y, %fy, %hy, Hyo⟩, Hout⟩
  have hk6 := chk6_end
  have hk7 := chk7_end
  subst he
  dsimp only [carry]
  sl_exec
  sl_step
  unfold bodyPost restP
  isplitl [HW]; · iexists _; iexact HW
  isplitl [Hgw]; · iexact Hgw
  isplitl [Hgb]; · iexists _; iexact Hgb
  isplitl [Hcw]; · iexact Hcw
  isplitl [Hh]; · iexact Hh
  isplitl [Hxh Hx0 Hx1]
  · isplitl [Hxh]; · iexact Hxh
    isplitl [Hx0]; · iexact Hx0
    iexact Hx1
  isplitl [Hwh Hw0 Hw1]
  · isplitl [Hwh]; · iexact Hwh
    isplitl [Hw0]; · iexact Hw0
    iexact Hw1
  isplitl [Hyo_dst Hout]
  · irw [← out_all c X XW XD (gwOf c gwf)]
    iapply (putB (outP c X (gwOf c gwf) XW XD 8) (Ring.bk 8 7))
    isplitl [Hyo_dst]
    · irw [outP_done c X (gwOf c gwf) XW XD (i := 8) (Ring.bk 8 7) (by decide)]
      iexists _
      isplitr
      rotate_left
      · iexact Hyo_dst
      ipureintro
      exact (View.read_writes_whole _ _ _).trans hy
    iexact Hout
  isplitl [Hy0]; · iexact Hy0
  isplitl [Hyo_src]; · iexists _; iexact Hyo_src
  iexact Hyo

end Body

end Cert.Proof.Ffn
-- ==== Proof.Split.lean ====
/-
  The arrays and buffers by pieces: each array of the call is its blocks, each two-slot buffer its slots.
-/
module

public import proofs.«01_k».proof.Proof.Body

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## Element sets -/

abbrev setA (b : Fin 8) : Finset S8192x2048.Idx := (Rect.unit (s := S8192x2048) (xOff b) S1024x2048.size (xOff_inb b)).set
abbrev setG (b : Fin 11) : Finset S2048x11264.Idx := (Rect.unit (s := S2048x11264) (gOff b) S2048x512.size (gOff_inb b)).set
abbrev setU (b : Fin 11) : Finset S2048x11264.Idx := (Rect.unit (s := S2048x11264) (uOff b) S2048x512.size (uOff_inb b)).set
abbrev setD (b : Fin 11) : Finset S5632x2048.Idx := (Rect.unit (s := S5632x2048) (dOff b) S512x2048.size (dOff_inb b)).set
abbrev slotA (s : Fin 2) : Finset S2x1024x2048.Idx := (Rect.unit (s := S2x1024x2048) (sOff s) S1x1024x2048.size (sOffA_inb s)).set
abbrev slotG (s : Fin 2) : Finset S2x2048x512.Idx := (Rect.unit (s := S2x2048x512) (sOff s) S1x2048x512.size (sOffG_inb s)).set
abbrev slotD (s : Fin 2) : Finset S2x512x2048.Idx := (Rect.unit (s := S2x512x2048) (sOff s) S1x512x2048.size (sOffD_inb s)).set

theorem mem_setA (b : Fin 8) (y : S8192x2048.Idx) : y ∈ setA b ↔ 1024 * b.val ≤ (y 0).val ∧ (y 0).val < 1024 * b.val + 1024 := by
  rw [Rect.mem_set_unit]
  have h1 : (y 1).val < 2048 := (y 1).isLt
  constructor
  · intro H; exact H 0
  · intro H i; fin_cases i
    · exact H
    · show 0 ≤ (y 1).val ∧ (y 1).val < 0 + 2048; omega
theorem mem_setG (b : Fin 11) (y : S2048x11264.Idx) : y ∈ setG b ↔ 512 * b.val ≤ (y 1).val ∧ (y 1).val < 512 * b.val + 512 := by
  rw [Rect.mem_set_unit]
  have h1 : (y 0).val < 2048 := (y 0).isLt
  constructor
  · intro H; exact H 1
  · intro H i; fin_cases i
    · show 0 ≤ (y 0).val ∧ (y 0).val < 0 + 2048; omega
    · exact H
theorem mem_setU (b : Fin 11) (y : S2048x11264.Idx) : y ∈ setU b ↔ 5632 + 512 * b.val ≤ (y 1).val ∧ (y 1).val < 5632 + 512 * b.val + 512 := by
  rw [Rect.mem_set_unit]
  have h1 : (y 0).val < 2048 := (y 0).isLt
  constructor
  · intro H; exact H 1
  · intro H i; fin_cases i
    · show 0 ≤ (y 0).val ∧ (y 0).val < 0 + 2048; omega
    · exact H
theorem mem_setD (b : Fin 11) (y : S5632x2048.Idx) : y ∈ setD b ↔ 512 * b.val ≤ (y 0).val ∧ (y 0).val < 512 * b.val + 512 := by
  rw [Rect.mem_set_unit]
  have h1 : (y 1).val < 2048 := (y 1).isLt
  constructor
  · intro H; exact H 0
  · intro H i; fin_cases i
    · exact H
    · show 0 ≤ (y 1).val ∧ (y 1).val < 0 + 2048; omega

/-- A rank-three rectangle that fixes the first coordinate and takes the others whole. -/
theorem mem_slot {a b : Nat} (s : Fin 2) (inb) (y : (⟨3, ![2, a, b]⟩ : Shape).Idx) :
    y ∈ (Rect.unit (s := (⟨3, ![2, a, b]⟩ : Shape)) (sOff s) (⟨3, ![1, a, b]⟩ : Shape).size inb).set ↔ (y 0).val = s.val := by
  rw [Rect.mem_set_unit]
  have h1 : (y 1).val < a := (y 1).isLt
  have h2 : (y 2).val < b := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + a; omega
    · show 0 ≤ (y 2).val ∧ (y 2).val < 0 + b; omega
theorem slot_disjoint {a b : Nat} (inb : ∀ s : Fin 2, _) (s s' : Fin 2) (hne : s ≠ s') :
    Disjoint (Rect.unit (s := (⟨3, ![2, a, b]⟩ : Shape)) (sOff s) (⟨3, ![1, a, b]⟩ : Shape).size (inb s)).set
      (Rect.unit (s := (⟨3, ![2, a, b]⟩ : Shape)) (sOff s') (⟨3, ![1, a, b]⟩ : Shape).size (inb s')).set := by
  rw [Finset.disjoint_left]; intro y hy hy'; rw [mem_slot] at hy hy'; exact hne (Fin.ext (hy.symm.trans hy'))
theorem slot_cover {a b : Nat} (inb : ∀ s : Fin 2, _) :
    (Finset.univ : Finset (Fin 2)).biUnion (fun s => (Rect.unit (s := (⟨3, ![2, a, b]⟩ : Shape)) (sOff s) (⟨3, ![1, a, b]⟩ : Shape).size (inb s)).set) = Finset.univ := by
  ext y; simp only [Finset.mem_biUnion, Finset.mem_univ, true_and, iff_true]
  exact ⟨⟨(y 0).val, (y 0).isLt⟩, by rw [mem_slot]⟩

theorem setA_disjoint (b b' : Fin 8) (hne : b ≠ b') : Disjoint (setA b) (setA b') := by
  rw [Finset.disjoint_left]; intro y hy hy'; rw [mem_setA] at hy hy'; exact hne (Fin.ext (by omega))
theorem setA_cover : (Finset.univ : Finset (Fin 8)).biUnion setA = Finset.univ := by
  ext y; simp only [Finset.mem_biUnion, Finset.mem_univ, true_and, iff_true]
  have h : (y 0).val < 8192 := (y 0).isLt
  exact ⟨⟨(y 0).val / 1024, by omega⟩, by rw [mem_setA]; dsimp only; omega⟩
theorem setD_disjoint (b b' : Fin 11) (hne : b ≠ b') : Disjoint (setD b) (setD b') := by
  rw [Finset.disjoint_left]; intro y hy hy'; rw [mem_setD] at hy hy'; exact hne (Fin.ext (by omega))
theorem setD_cover : (Finset.univ : Finset (Fin 11)).biUnion setD = Finset.univ := by
  ext y; simp only [Finset.mem_biUnion, Finset.mem_univ, true_and, iff_true]
  have h : (y 0).val < 5632 := (y 0).isLt
  exact ⟨⟨(y 0).val / 512, by omega⟩, by rw [mem_setD]; dsimp only; omega⟩
theorem setG_disjoint (b b' : Fin 11) (hne : b ≠ b') : Disjoint (setG b) (setG b') := by
  rw [Finset.disjoint_left]; intro y hy hy'; rw [mem_setG] at hy hy'; exact hne (Fin.ext (by omega))
theorem setU_disjoint (b b' : Fin 11) (hne : b ≠ b') : Disjoint (setU b) (setU b') := by
  rw [Finset.disjoint_left]; intro y hy hy'; rw [mem_setU] at hy hy'; exact hne (Fin.ext (by omega))
theorem setGU_disjoint : Disjoint ((Finset.univ : Finset (Fin 11)).biUnion setG) ((Finset.univ : Finset (Fin 11)).biUnion setU) := by
  rw [Finset.disjoint_left]; intro y hy hy'
  simp only [Finset.mem_biUnion, Finset.mem_univ, true_and, mem_setG, mem_setU] at hy hy'
  obtain ⟨b, hb⟩ := hy; obtain ⟨b', hb'⟩ := hy'; have := b.isLt; omega
theorem setGU_cover : (Finset.univ : Finset (Fin 11)).biUnion setG ∪ (Finset.univ : Finset (Fin 11)).biUnion setU = Finset.univ := by
  ext y; simp only [Finset.mem_union, Finset.mem_biUnion, Finset.mem_univ, true_and, iff_true, mem_setG, mem_setU]
  have h : (y 1).val < 11264 := (y 1).isLt
  by_cases hl : (y 1).val < 5632
  · exact Or.inl ⟨⟨(y 1).val / 512, by omega⟩, by dsimp only; omega⟩
  · exact Or.inr ⟨⟨((y 1).val - 5632) / 512, by omega⟩, by dsimp only; omega⟩

theorem xblk_set (b : Fin 8) : (xblk b).view.set = setA b := View.set_slice_whole _ _
theorem yblk_set (b : Fin 8) : (yblk b).view.set = setA b := View.set_slice_whole _ _
theorem gblk_set (b : Fin 11) : (gblk b).view.set = setG b := View.set_slice_whole _ _
theorem ublk_set (b : Fin 11) : (ublk b).view.set = setU b := View.set_slice_whole _ _
theorem dblk_set (b : Fin 11) : (dblk b).view.set = setD b := View.set_slice_whole _ _
theorem xslot_set (s : Fin 2) : (xslot s).view.set = slotA s := (View.set_reshape _ _).trans (View.set_slice_whole _ _)
theorem yslot_set (s : Fin 2) : (yslot s).view.set = slotA s := (View.set_reshape _ _).trans (View.set_slice_whole _ _)
theorem gslot_set (s : Fin 2) : (gslot s).view.set = slotG s := (View.set_reshape _ _).trans (View.set_slice_whole _ _)
theorem uslot_set (s : Fin 2) : (uslot s).view.set = slotG s := (View.set_reshape _ _).trans (View.set_slice_whole _ _)
theorem dslot_set (s : Fin 2) : (dslot s).view.set = slotD s := (View.set_reshape _ _).trans (View.set_slice_whole _ _)

/-! ## Arrays by blocks -/

theorem fin2B (Φ : Fin 2 → sProp 𝕄) : bigSep Finset.univ Φ = iprop(Φ 0 ∗ Φ 1) := BI.bigSep_fin_two Φ
theorem monoB {n : ℕ} (Φ Ψ : Fin n → sProp 𝕄) (h : ∀ b, iprop(Φ b ⊢ Ψ b)) : iprop(bigSep Finset.univ Φ ⊢ bigSep Finset.univ Ψ) :=
  bigSep_mono fun b _ => h b
theorem eqB {P Q : sProp 𝕄} (h : P ⊢ Q) (h' : Q ⊢ P) : P = Q := BI.equiv_iff.mp ⟨h, h'⟩
theorem sepB {n : ℕ} (Φ Ψ : Fin n → sProp 𝕄) : bigSep Finset.univ (fun i => iprop(Φ i ∗ Ψ i)) = iprop(bigSep Finset.univ Φ ∗ bigSep Finset.univ Ψ) :=
  bigSep_sep Finset.univ Φ Ψ
theorem unionB {ℓ : Loc nD τ sig} {I J : Finset (Idx ℓ)} (h : Disjoint I J) (f : Buf (Elt F) ℓ) :
    (ℓ ↦[I ∪ J]{fullShare} f : sProp 𝕄) = iprop((ℓ ↦[I]{fullShare} f) ∗ ℓ ↦[J]{fullShare} f) :=
  eqB (pointsTo_union h).1 (pointsTo_union h).2
theorem famB {ℓ : Loc nD τ sig} {n : ℕ} (K : Fin n → Finset (Idx ℓ)) (h : ∀ b b', b ≠ b' → Disjoint (K b) (K b')) (f : Buf (Elt F) ℓ) :
    (ℓ ↦[Finset.univ.biUnion K]{fullShare} f : sProp 𝕄) = bigSep Finset.univ (fun b => (ℓ ↦[K b]{fullShare} f : sProp 𝕄)) :=
  pointsTo_biUnion Finset.univ K fun b _ b' _ => h b b'
theorem wholeB {ℓ : Loc nD τ sig} {n : ℕ} (K : Fin n → Finset (Idx ℓ)) (h : ∀ b b', b ≠ b' → Disjoint (K b) (K b')) (hc : Finset.univ.biUnion K = Finset.univ) (f : Buf (Elt F) ℓ) :
    (ℓ ↦{fullShare} f : sProp 𝕄) = bigSep Finset.univ (fun b => (ℓ ↦[K b]{fullShare} f : sProp 𝕄)) := by
  rw [← famB K h f, hc]
/-- Blocks held at contents of their own, each with a fact about its elements, are the buffer at some contents with every fact. -/
theorem joinB {ℓ : Loc nD τ sig} {n : ℕ} (K : Fin n → Finset (Idx ℓ)) (h : ∀ b b', b ≠ b' → Disjoint (K b) (K b')) (hc : Finset.univ.biUnion K = Finset.univ)
    (P : Fin n → Buf (Elt F) ℓ → Prop) (hP : ∀ b f g, (∀ i ∈ K b, g i = f i) → P b f → P b g) (f₀ : Buf (Elt F) ℓ) :
    bigSep Finset.univ (fun b => iprop(∃ f : Buf (Elt F) ℓ, ⌜P b f⌝ ∗ (ℓ ↦[K b]{fullShare} f : sProp 𝕄)))
      ⊢ (iprop(∃ g : Buf (Elt F) ℓ, ⌜∀ b, P b g⌝ ∗ (ℓ ↦{fullShare} g : sProp 𝕄)) : sProp 𝕄) := by
  have hne : Nonempty (Buf (Elt F) ℓ) := ⟨f₀⟩
  have key : ∀ s : Finset (Fin n), bigSep s (fun b => iprop(∃ f : Buf (Elt F) ℓ, ⌜P b f⌝ ∗ (ℓ ↦[K b]{fullShare} f : sProp 𝕄)))
      ⊢ (iprop(∃ g : Buf (Elt F) ℓ, ⌜∀ b ∈ s, P b g⌝ ∗ (ℓ ↦[s.biUnion K]{fullShare} g : sProp 𝕄)) : sProp 𝕄) := by
    intro s
    induction s using Finset.induction_on with
    | empty =>
      iintro -
      iexists f₀
      isplitr
      · ipureintro; intro b hb; exact absurd hb (Finset.notMem_empty b)
      · rw [Finset.biUnion_empty, pointsTo_empty]; iempintro
    | insert t s ht ih =>
      rw [insB _ t ht, Finset.biUnion_insert]
      have hd : Disjoint (K t) (s.biUnion K) :=
        (Finset.disjoint_biUnion_right _ _ _).mpr fun t' ht' => h t t' fun e => ht (e ▸ ht')
      iintro ⟨⟨%f, %hf, Ht⟩, HS⟩
      ihave H := ih $$ HS
      icases H with ⟨%g, %hg, HS⟩
      iexists (s.biUnion K).piecewise g f
      isplitr
      · ipureintro
        intro b hb
        rcases Finset.mem_insert.mp hb with rfl | hb
        · exact hP b f _ (fun i hi => Finset.piecewise_eq_of_notMem _ _ _ (Finset.disjoint_left.mp hd hi)) hf
        · exact hP b g _ (fun i hi => Finset.piecewise_eq_of_mem _ _ _ (Finset.mem_biUnion.mpr ⟨b, hb, hi⟩)) (hg b hb)
      iapply (pointsTo_join hd)
      isplitl [Ht]; · iexact Ht
      iexact HS
  have e := key Finset.univ
  rw [hc] at e
  iintro H
  ihave H := e $$ H
  icases H with ⟨%g, %hg, H⟩
  iexists g
  isplitr
  · ipureintro; exact fun b => hg b (Finset.mem_univ b)
  iexact H

section Split
variable (c : Dev nD)

/-- A buffer whole at `f`. -/
abbrev allP (b : Ref sig .tc) (f : Buf (Elt F) ((c : Thread nD τ).loc b)) : sProp 𝕄 := ((c : Thread nD τ).loc b) ↦{fullShare} f

theorem x_eq (X : BX (F := F) c) : allP (F := F) c main_arg0 X = bigSep Finset.univ (xHome (F := F) c X) := by
  unfold allP
  rw [Ring.pointsTo_blocks (ℓ := (c : Thread nD τ).loc main_arg0) setA setA_disjoint setA_cover]
  exact bigSep_congr fun b _ => by rw [← xblk_set]; rfl
theorem d_eq (XD : BD (F := F) c) : allP (F := F) c main_v2 XD = bigSep Finset.univ (dHome (F := F) c XD) := by
  unfold allP
  rw [Ring.pointsTo_blocks (ℓ := (c : Thread nD τ).loc main_v2) setD setD_disjoint setD_cover]
  exact bigSep_congr fun b _ => by rw [← dblk_set]; rfl
theorem gu_eq (XW : BW (F := F) c) : allP (F := F) c main_v1 XW = iprop(bigSep Finset.univ (gHome (F := F) c XW) ∗ bigSep Finset.univ (uHome (F := F) c XW)) := by
  unfold allP
  rw [← setGU_cover, unionB (ℓ := (c : Thread nD τ).loc main_v1) setGU_disjoint XW,
    famB (ℓ := (c : Thread nD τ).loc main_v1) setG setG_disjoint XW, famB (ℓ := (c : Thread nD τ).loc main_v1) setU setU_disjoint XW]
  exact congrArg₂ (fun P Q : sProp 𝕄 => iprop(P ∗ Q)) (bigSep_congr fun b _ => by rw [← gblk_set]; rfl) (bigSep_congr fun b _ => by rw [← ublk_set]; rfl)
theorem w_eq (XW : BW (F := F) c) (XD : BD (F := F) c) : bigSep Finset.univ (home3 c XW XD)
    = iprop(allP (F := F) c main_v1 XW ∗ allP (F := F) c main_v2 XD) := by
  rw [gu_eq, d_eq]
  have e1 : bigSep Finset.univ (home3 c XW XD) = iprop(bigSep Finset.univ (gHome (F := F) c XW) ∗ bigSep Finset.univ (fun b => iprop(uHome (F := F) c XW b ∗ dHome (F := F) c XD b))) :=
    sepB (gHome (F := F) c XW) (fun b => iprop(uHome (F := F) c XW b ∗ dHome (F := F) c XD b))
  have e2 : bigSep Finset.univ (fun b => iprop(uHome (F := F) c XW b ∗ dHome (F := F) c XD b)) = iprop(bigSep Finset.univ (uHome (F := F) c XW) ∗ bigSep Finset.univ (dHome (F := F) c XD)) :=
    sepB (uHome (F := F) c XW) (dHome (F := F) c XD)
  rw [e1, e2]
  refine eqB ?_ ?_
  · iintro ⟨H1, H2, H3⟩; isplitl [H1 H2]; isplitl [H1]; iexact H1; iexact H2; iexact H3
  · iintro ⟨⟨H1, H2⟩, H3⟩; isplitl [H1]; iexact H1; isplitl [H2]; iexact H2; iexact H3
theorem y_open (f : BY (F := F) c) : allP (F := F) c main_v3 f ⊢ bigSep Finset.univ (fun b => anyP (F := F) c (yblk b)) := by
  unfold allP
  rw [wholeB (ℓ := (c : Thread nD τ).loc main_v3) setA setA_disjoint setA_cover]
  refine monoB _ _ fun b => ?_
  iintro H
  iexists f
  rw [← yblk_set]
  iexact H
/-- The result whole again, each block reading as it did. -/
theorem y_close (v : Fin 8 → S1024x2048.Idx → Elt F .f32) (f₀ : BY (F := F) c) :
    bigSep Finset.univ (fun b => valP (F := F) c (yblk b) (v b))
      ⊢ iprop(∃ g : BY (F := F) c, ⌜∀ b, (yblk b).view.read (Elt F) g = v b⌝ ∗ allP (F := F) c main_v3 g) := by
  have e : ∀ b, iprop(valP (F := F) c (yblk b) (v b)) = (iprop(∃ f : BY (F := F) c, ⌜(yblk b).view.read (Elt F) f = v b⌝ ∗ (((c : Thread nD τ).loc main_v3) ↦[setA b]{fullShare} f)) : sProp 𝕄) :=
    fun b => congrArg (fun S => (iprop(∃ f : BY (F := F) c, ⌜(yblk b).view.read (Elt F) f = v b⌝ ∗ (((c : Thread nD τ).loc main_v3) ↦[S]{fullShare} f)) : sProp 𝕄)) (yblk_set b)
  rw [bigSep_congr fun b _ => e b]
  exact joinB (ℓ := (c : Thread nD τ).loc main_v3) setA setA_disjoint setA_cover (fun b f => (yblk b).view.read (Elt F) f = v b)
    (fun b f g hg hf => by
      rw [← hf]
      exact View.read_congr (v := (yblk b).view) fun i hi => hg i (by rw [← yblk_set]; exact hi)) f₀

/-- A buffer of two slots, split and joined. -/
theorem two_split (b : Ref sig .tc) (K : Fin 2 → Finset (Idx ((c : Thread nD τ).loc b))) (hd : ∀ s s', s ≠ s' → Disjoint (K s) (K s'))
    (hc : Finset.univ.biUnion K = Finset.univ) :
    iprop(∃ f, allP (F := F) c b f) ⊢ (iprop((∃ f, ((c : Thread nD τ).loc b) ↦[K 0]{fullShare} f) ∗ ∃ f, ((c : Thread nD τ).loc b) ↦[K 1]{fullShare} f) : sProp 𝕄) := by
  iintro ⟨%f, H⟩
  ihave H2 := (Entails.of_eq ((wholeB K hd hc f).trans (fin2B _))) $$ H
  icases H2 with ⟨H0, H1⟩
  isplitl [H0]
  · iexists f; iexact H0
  · iexists f; iexact H1
theorem two_join (b : Ref sig .tc) (K : Fin 2 → Finset (Idx ((c : Thread nD τ).loc b))) (hd : ∀ s s', s ≠ s' → Disjoint (K s) (K s'))
    (hc : Finset.univ.biUnion K = Finset.univ) :
    (iprop((∃ f, ((c : Thread nD τ).loc b) ↦[K 0]{fullShare} f) ∗ ∃ f, ((c : Thread nD τ).loc b) ↦[K 1]{fullShare} f) : sProp 𝕄) ⊢ iprop(∃ f, allP (F := F) c b f) := by
  iintro ⟨⟨%f0, H0⟩, ⟨%f1, H1⟩⟩
  iapply (Ring.pointsTo_blocks_join_exists (ℓ := (c : Thread nD τ).loc b) K hd hc f0)
  iapply (Entails.of_eq (fin2B (fun s => iprop(∃ f, ((c : Thread nD τ).loc b) ↦[K s]{fullShare} f))).symm)
  isplitl [H0]
  · iexists f0; iexact H0
  · iexists f1; iexact H1

theorem xslot_any (s : Fin 2) : anyP (F := F) c (xslot s) = iprop(∃ f, ((c : Thread nD τ).loc cc0_scoped0) ↦[slotA s]{fullShare} f) :=
  congrArg (fun S => iprop(∃ f, ((c : Thread nD τ).loc cc0_scoped0) ↦[S]{fullShare} f)) (xslot_set s)
theorem xslots : iprop(∃ f, allP (F := F) c cc0_scoped0 f) ⊢ iprop(anyP (F := F) c (xslot 0) ∗ anyP (F := F) c (xslot 1)) := by
  rw [xslot_any, xslot_any]; exact two_split c cc0_scoped0 slotA (slot_disjoint sOffA_inb) (slot_cover sOffA_inb)
theorem xslots_join : iprop(anyP (F := F) c (xslot 0) ∗ anyP (F := F) c (xslot 1)) ⊢ iprop(∃ f, allP (F := F) c cc0_scoped0 f) := by
  rw [xslot_any, xslot_any]; exact two_join c cc0_scoped0 slotA (slot_disjoint sOffA_inb) (slot_cover sOffA_inb)
theorem gslot_any (s : Fin 2) : anyP (F := F) c (gslot s) = iprop(∃ f, ((c : Thread nD τ).loc cc0_scoped3) ↦[slotG s]{fullShare} f) :=
  congrArg (fun S => iprop(∃ f, ((c : Thread nD τ).loc cc0_scoped3) ↦[S]{fullShare} f)) (gslot_set s)
theorem gslots : iprop(∃ f, allP (F := F) c cc0_scoped3 f) ⊢ iprop(anyP (F := F) c (gslot 0) ∗ anyP (F := F) c (gslot 1)) := by
  rw [gslot_any, gslot_any]; exact two_split c cc0_scoped3 slotG (slot_disjoint sOffG_inb) (slot_cover sOffG_inb)
theorem gslots_join : iprop(anyP (F := F) c (gslot 0) ∗ anyP (F := F) c (gslot 1)) ⊢ iprop(∃ f, allP (F := F) c cc0_scoped3 f) := by
  rw [gslot_any, gslot_any]; exact two_join c cc0_scoped3 slotG (slot_disjoint sOffG_inb) (slot_cover sOffG_inb)
theorem uslot_any (s : Fin 2) : anyP (F := F) c (uslot s) = iprop(∃ f, ((c : Thread nD τ).loc cc0_scoped5) ↦[slotG s]{fullShare} f) :=
  congrArg (fun S => iprop(∃ f, ((c : Thread nD τ).loc cc0_scoped5) ↦[S]{fullShare} f)) (uslot_set s)
theorem uslots : iprop(∃ f, allP (F := F) c cc0_scoped5 f) ⊢ iprop(anyP (F := F) c (uslot 0) ∗ anyP (F := F) c (uslot 1)) := by
  rw [uslot_any, uslot_any]; exact two_split c cc0_scoped5 slotG (slot_disjoint sOffG_inb) (slot_cover sOffG_inb)
theorem uslots_join : iprop(anyP (F := F) c (uslot 0) ∗ anyP (F := F) c (uslot 1)) ⊢ iprop(∃ f, allP (F := F) c cc0_scoped5 f) := by
  rw [uslot_any, uslot_any]; exact two_join c cc0_scoped5 slotG (slot_disjoint sOffG_inb) (slot_cover sOffG_inb)
theorem dslot_any (s : Fin 2) : anyP (F := F) c (dslot s) = iprop(∃ f, ((c : Thread nD τ).loc cc0_scoped7) ↦[slotD s]{fullShare} f) :=
  congrArg (fun S => iprop(∃ f, ((c : Thread nD τ).loc cc0_scoped7) ↦[S]{fullShare} f)) (dslot_set s)
theorem dslots : iprop(∃ f, allP (F := F) c cc0_scoped7 f) ⊢ iprop(anyP (F := F) c (dslot 0) ∗ anyP (F := F) c (dslot 1)) := by
  rw [dslot_any, dslot_any]; exact two_split c cc0_scoped7 slotD (slot_disjoint sOffD_inb) (slot_cover sOffD_inb)
theorem dslots_join : iprop(anyP (F := F) c (dslot 0) ∗ anyP (F := F) c (dslot 1)) ⊢ iprop(∃ f, allP (F := F) c cc0_scoped7 f) := by
  rw [dslot_any, dslot_any]; exact two_join c cc0_scoped7 slotD (slot_disjoint sOffD_inb) (slot_cover sOffD_inb)
theorem yslot_any (s : Fin 2) : anyP (F := F) c (yslot s) = iprop(∃ f, ((c : Thread nD τ).loc cc0_scoped9) ↦[slotA s]{fullShare} f) :=
  congrArg (fun S => iprop(∃ f, ((c : Thread nD τ).loc cc0_scoped9) ↦[S]{fullShare} f)) (yslot_set s)
theorem yslots : iprop(∃ f, allP (F := F) c cc0_scoped9 f) ⊢ iprop(anyP (F := F) c (yslot 0) ∗ anyP (F := F) c (yslot 1)) := by
  rw [yslot_any, yslot_any]; exact two_split c cc0_scoped9 slotA (slot_disjoint sOffA_inb) (slot_cover sOffA_inb)
theorem yslots_join : iprop(anyP (F := F) c (yslot 0) ∗ anyP (F := F) c (yslot 1)) ⊢ iprop(∃ f, allP (F := F) c cc0_scoped9 f) := by
  rw [yslot_any, yslot_any]; exact two_join c cc0_scoped9 slotA (slot_disjoint sOffA_inb) (slot_cover sOffA_inb)

end Split

end Cert.Proof.Ffn
-- ==== Proof.Launch.lean ====
/-
  The call's launch: what the region hands the body is the arrays' blocks, the slots and the cells, and what it takes
  back holds the result.
-/
module

public import proofs.«01_k».proof.Proof.Split
public import proofs.«01_k».proof.Proof.Gen.KernelIdeal.Frame
public import Idealize.ShloMosaic.Lib.Pipeline.KitQuiescent

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]
local notation "𝕄" => MT nD τ sig Unit (Elt F) ℕ (UU nD τ) ℕ

section Cells
variable (c : Dev nD)

abbrev osem : Fin 11 → SemLoc sig := fun s => .dma ((![xsem 0, xsem 1, gsem 0, gsem 1, usem 0, usem 1, dsem 0, dsem 1, ysem 0, ysem 1, cc0_scoped11] : Fin 11 → DmaSems sig S_) s).sem
theorem ownSemFacts : Pipeline.OwnSemFacts cfg0.spec osem := by decide

/-- The kernel's cells, all at zero. -/
def cellsP : sProp 𝕄 := iprop(cellP (F := F) c (xsem 0) ∗ cellP (F := F) c (xsem 1) ∗ cellP (F := F) c (gsem 0) ∗ cellP (F := F) c (gsem 1) ∗ cellP (F := F) c (usem 0) ∗ cellP (F := F) c (usem 1) ∗ cellP (F := F) c (dsem 0) ∗ cellP (F := F) c (dsem 1) ∗ cellP (F := F) c (ysem 0) ∗ cellP (F := F) c (ysem 1) ∗ cellP (F := F) c cc0_scoped11)
theorem ownSems0_eq : (Pipeline.ownSems0 (Ix := Unit) (Name := ℕ) (U := UU nD τ) (Lvl := ℕ) (Val := Elt F) (τ := τ) osem c : sProp 𝕄) = cellsP (F := F) c := by
  unfold Pipeline.ownSems0
  exact bigSep_univ_eq_bigSepL [(0 : Fin 11), 1, 2, 3, 4, 5, 6, 7, 8, 9, 10] (by decide) (by decide) _

/-- A scratch buffer at anything. -/
abbrev scrP (b : Ref sig .tc) : sProp 𝕄 := iprop(∃ f : Buf (Elt F) ((c : Thread nD τ).loc b), ((c : Thread nD τ).loc b) ↦{fullShare} f)
def scratchP : sProp 𝕄 := iprop(scrP (F := F) c cc0_scratch0 ∗ scrP (F := F) c cc0_scoped0 ∗ scrP (F := F) c cc0_scoped2 ∗ scrP (F := F) c cc0_scoped3 ∗ scrP (F := F) c cc0_scoped5 ∗ scrP (F := F) c cc0_scoped7 ∗ scrP (F := F) c cc0_scoped9)

theorem hM_any : anyP (F := F) c hM = scrP (F := F) c cc0_scratch0 :=
  congrArg (fun S => (iprop(∃ f, ((c : Thread nD τ).loc cc0_scratch0) ↦[S]{fullShare} f) : sProp 𝕄)) (View.set_whole _)
theorem gwB_any : anyP (F := F) c gwB = scrP (F := F) c cc0_scoped2 :=
  congrArg (fun S => (iprop(∃ f, ((c : Thread nD τ).loc cc0_scoped2) ↦[S]{fullShare} f) : sProp 𝕄)) (View.set_whole _)
theorem gwM_own (f : Buf (Elt F) ((c : Thread nD τ).loc main_v0)) : ownP (F := F) c gwM f = allP (F := F) c main_v0 f :=
  congrArg (fun S => (((c : Thread nD τ).loc main_v0) ↦[S]{fullShare} f : sProp 𝕄)) (View.set_whole _)

end Cells

section Rest
variable (c : Dev nD) (X : BX (F := F) c) (gwf : Buf (Elt F) (gwM.view.loc (c : Thread nD τ))) (XW : BW (F := F) c) (XD : BD (F := F) c)

/-- The arrays the body reads, whole. -/
def arrP : sProp 𝕄 := iprop(allP (F := F) c main_arg0 X ∗ allP (F := F) c main_v0 gwf ∗ allP (F := F) c main_v1 XW ∗ allP (F := F) c main_v2 XD)

theorem sl2_0 : Ring.sl 2 0 = (0 : Fin 2) := rfl
theorem sl2_1 : Ring.sl 2 1 = (1 : Fin 2) := rfl

theorem rest_open (R : Fin 8 → sProp 𝕄) : iprop(arrP c X gwf XW XD ∗ bigSep Finset.univ R ∗ scratchP (F := F) c ∗ cellsP (F := F) c) ⊢ restP c X gwf XW XD R := by
  unfold arrP scratchP cellsP restP
  rw [x_eq, gwM_own, hM_any, gwB_any, w_eq]
  unfold xFree yFree wFree
  rw [sl2_0, sl2_1]
  iintro ⟨⟨HX, Hgw, HW, HD⟩, HR, ⟨Sh, Sx, Sgw, Sg, Su, Sd, Sy⟩, Cx0, Cx1, Cg0, Cg1, Cu0, Cu1, Cd0, Cd1, Cy0, Cy1, Cw⟩
  ihave Hx := (xslots (F := F) c) $$ Sx
  icases Hx with ⟨Hx0, Hx1⟩
  ihave Hg := (gslots (F := F) c) $$ Sg
  icases Hg with ⟨Hg0, Hg1⟩
  ihave Hu := (uslots (F := F) c) $$ Su
  icases Hu with ⟨Hu0, Hu1⟩
  ihave Hd := (dslots (F := F) c) $$ Sd
  icases Hd with ⟨Hd0, Hd1⟩
  ihave Hy := (yslots (F := F) c) $$ Sy
  icases Hy with ⟨Hy0, Hy1⟩
  isplitl [Hgw]; · iexact Hgw
  isplitl [Sgw]; · iexact Sgw
  isplitl [Cw]; · iexact Cw
  isplitl [Sh]; · iexact Sh
  isplitl [HX Hx0 Hx1 Cx0 Cx1]
  · isplitl [HX]; · iexact HX
    isplitl [Hx0 Cx0]
    · isplitl [Hx0]; · iexact Hx0
      iexact Cx0
    isplitl [Hx1]; · iexact Hx1
    iexact Cx1
  isplitl [HW HD Hg0 Hg1 Hu0 Hu1 Hd0 Hd1 Cg0 Cg1 Cu0 Cu1 Cd0 Cd1]
  · isplitl [HW HD]
    · isplitl [HW]; · iexact HW
      iexact HD
    isplitl [Hg0 Hu0 Hd0 Cg0 Cu0 Cd0]
    · isplitl [Hg0 Hu0 Hd0]
      · isplitl [Hg0]; · iexact Hg0
        isplitl [Hu0]; · iexact Hu0
        iexact Hd0
      isplitl [Cg0]; · iexact Cg0
      isplitl [Cu0]; · iexact Cu0
      iexact Cd0
    isplitl [Hg1 Hu1 Hd1]
    · isplitl [Hg1]; · iexact Hg1
      isplitl [Hu1]; · iexact Hu1
      iexact Hd1
    isplitl [Cg1]; · iexact Cg1
    isplitl [Cu1]; · iexact Cu1
    iexact Cd1
  isplitl [HR]; · iexact HR
  isplitl [Hy0 Cy0]
  · isplitl [Hy0]; · iexact Hy0
    iexact Cy0
  isplitl [Hy1]; · iexact Hy1
  iexact Cy1

theorem rest_close (R : Fin 8 → sProp 𝕄) : restP c X gwf XW XD R ⊢ iprop(arrP c X gwf XW XD ∗ bigSep Finset.univ R ∗ scratchP (F := F) c ∗ cellsP (F := F) c) := by
  unfold arrP scratchP cellsP restP
  rw [x_eq, gwM_own, hM_any, gwB_any, w_eq]
  unfold xFree yFree wFree
  rw [sl2_0, sl2_1]
  iintro ⟨Hgw, Sgw, Cw, Sh, ⟨HX, ⟨Hx0, Cx0⟩, Hx1, Cx1⟩, ⟨⟨HW, HD⟩, ⟨⟨Hg0, Hu0, Hd0⟩, Cg0, Cu0, Cd0⟩, ⟨Hg1, Hu1, Hd1⟩, Cg1, Cu1, Cd1⟩, HR, ⟨Hy0, Cy0⟩, Hy1, Cy1⟩
  isplitl [HX Hgw HW HD]
  · isplitl [HX]; · iexact HX
    isplitl [Hgw]; · iexact Hgw
    isplitl [HW]; · iexact HW
    iexact HD
  isplitl [HR]; · iexact HR
  isplitl [Sh Hx0 Hx1 Sgw Hg0 Hg1 Hu0 Hu1 Hd0 Hd1 Hy0 Hy1]
  · isplitl [Sh]; · iexact Sh
    isplitl [Hx0 Hx1]
    · iapply (xslots_join (F := F) c); isplitl [Hx0]; · iexact Hx0
      iexact Hx1
    isplitl [Sgw]; · iexact Sgw
    isplitl [Hg0 Hg1]
    · iapply (gslots_join (F := F) c); isplitl [Hg0]; · iexact Hg0
      iexact Hg1
    isplitl [Hu0 Hu1]
    · iapply (uslots_join (F := F) c); isplitl [Hu0]; · iexact Hu0
      iexact Hu1
    isplitl [Hd0 Hd1]
    · iapply (dslots_join (F := F) c); isplitl [Hd0]; · iexact Hd0
      iexact Hd1
    iapply (yslots_join (F := F) c); isplitl [Hy0]; · iexact Hy0
    iexact Hy1
  isplitl [Cx0]; · iexact Cx0
  isplitl [Cx1]; · iexact Cx1
  isplitl [Cg0]; · iexact Cg0
  isplitl [Cg1]; · iexact Cg1
  isplitl [Cu0]; · iexact Cu0
  isplitl [Cu1]; · iexact Cu1
  isplitl [Cd0]; · iexact Cd0
  isplitl [Cd1]; · iexact Cd1
  isplitl [Cy0]; · iexact Cy0
  isplitl [Cy1]; · iexact Cy1
  iexact Cw

end Rest

section Launch
variable (m : (ℓ : Loc nD τ sig) → Buf (Elt F) ℓ) (ρ : Dev nD → PrngReg)

/-- The region's invariant: the arrays at home before its one point, the result at its sums after. -/
def dats (_ : Fin 1) (c : Dev nD) : Dat τ (Elt F) Unit ℕ (UU nD τ) ℕ cfg0 c where
  A w := V m c (Pipeline.arrRef cfg0.spec w)
  after w _ := Fin.elim0 (show Fin 0 from w)
  Φ t := if t.val = 0 then bodyPre c (V m c main_arg0) (V m c main_v0) (V m c main_v1) (V m c main_v2)
    else bodyPost c (V m c main_arg0) (V m c main_v0) (V m c main_v1) (V m c main_v2)
  q _ := fullShare
  owed _ := 0

theorem Φ_zero (c : Dev nD) (t) (h : t.val = 0) : (dats m 0 c).Φ t = bodyPre c (V m c main_arg0) (V m c main_v0) (V m c main_v1) (V m c main_v2) := if_pos h
theorem Φ_one (c : Dev nD) (t) (h : t.val ≠ 0) : (dats m 0 c).Φ t = bodyPost c (V m c main_arg0) (V m c main_v0) (V m c main_v1) (V m c main_v2) := if_neg h

theorem prog_eq (t : Fin cfg0.N) : (defs₀ (F := F)) .tc cfg0.body (cfg0.bodyArgs t (cfg0.slots t)) = bodyAt0 (F := F) t := rfl

set_option maxHeartbeats 1000000 in
set_option backward.isDefEq.respectTransparency.types false in
theorem body_obligation (c : Dev nD) : BodyObligation (dats (F := F) m 0 c) (defs₀ (F := F)) 𝒱₀ () Set.univ := fun t => by
  have e : t = t0_0 := fin_N0 t
  subst e
  rw [Φ_zero m c _ rfl, Φ_one m c _ (by show (0 + 1 : ℕ) ≠ 0; omega)]
  unfold Dat.owesAt Pipeline.owesWithin
  iintro ⟨HΦ, ⟨%W, -, HW⟩, HB⟩
  sl_rw [prog_eq t0_0]
  iapply (wp_wand_r Idealize.ShloMosaic.frame (wpE (defs₀ (F := F)) 𝒱₀ (c : Thread nD τ) none) Set.univ)
  isplitl [HW HΦ]
  · iapply (bodyRun c (V m c main_arg0) (V m c main_v0) (V m c main_v1) (V m c main_v2))
    isplitl [HW]
    · iexists W; iexact HW
    iexact HΦ
  iintro %a ⟨⟨%W', HW⟩, HΦ⟩
  isplitl [HΦ]; · iexact HΦ
  isplitl [HW]
  · iexists W'; isplitr; · ipureintro; exact fun _ _ => Or.inl trivial
    iexact HW
  iexact HB

/-! ## The run -/

/-- What the region leaves in the result: row block `b` at its sum over the eleven tiles. -/
def outOK (c : Dev nD) (g : BY (F := F) c) : Prop :=
  ∀ b : Fin 8, (yblk b).view.read (Elt F) g = accV c (V m c main_arg0) (gwOf c (V m c main_v0)) (V m c main_v1) (V m c main_v2) b.val 11

def intoΦ (c : Dev nD) : sProp 𝕄 :=
  iprop(arrP c (V m c main_arg0) (V m c main_v0) (V m c main_v1) (V m c main_v2) ∗ allP (F := F) c main_v3 (V m c main_v3) ∗ cellsP (F := F) c)
def outOfΦ (c : Dev nD) : sProp 𝕄 :=
  iprop(arrP c (V m c main_arg0) (V m c main_v0) (V m c main_v1) (V m c main_v2) ∗ ∃ g : BY (F := F) c, ⌜outOK m c g⌝ ∗ allP (F := F) c main_v3 g)
def besides (c : Dev nD) : sProp 𝕄 :=
  iprop(allP (F := F) c main_arg1 (V m c main_arg1) ∗ allP (F := F) c main_arg2 (V m c main_arg2) ∗ allP (F := F) c main_arg3 (V m c main_arg3))
def u₀ : UU nD τ := (initOf (Pipeline.cells cfgs Cert.KernelIdeal.Gen.cellOf_inj) (Pipeline.launchToks cfgs Cert.KernelIdeal.Gen.cellOf_inj), 1)
def QY (c : Dev nD) (s : MemSt nD τ sig (Elt F)) : Prop :=
  outOK m c (s.mem ((c : Thread nD τ).loc main_v3))
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)

theorem into_start (c : Dev nD) : iprop(intoΦ m c ∗ scratchP (F := F) c) ⊢ bodyPre c (V m c main_arg0) (V m c main_v0) (V m c main_v1) (V m c main_v2) := by
  unfold bodyPre intoΦ
  iintro ⟨⟨HA, HY, HC⟩, HS⟩
  iapply (rest_open c (V m c main_arg0) (V m c main_v0) (V m c main_v1) (V m c main_v2) (fun b => anyP (F := F) c (yblk b)))
  isplitl [HA]; · iexact HA
  isplitl [HY]; · iapply (y_open c (V m c main_v3)); iexact HY
  isplitl [HS]; · iexact HS
  iexact HC
theorem end_out (c : Dev nD) : bodyPost c (V m c main_arg0) (V m c main_v0) (V m c main_v1) (V m c main_v2) ⊢ iprop(outOfΦ m c ∗ cellsP (F := F) c ∗ scratchP (F := F) c) := by
  unfold bodyPost outOfΦ
  iintro H
  ihave H := (rest_close c (V m c main_arg0) (V m c main_v0) (V m c main_v1) (V m c main_v2) _) $$ H
  icases H with ⟨HA, HY, HS, HC⟩
  isplitl [HA HY]
  · isplitl [HA]; · iexact HA
    iapply (y_close c (fun b : Fin 8 => accV c (V m c main_arg0) (gwOf c (V m c main_v0)) (V m c main_v1) (V m c main_v2) b.val 11) (V m c main_v3)); iexact HY
  isplitl [HC]; · iexact HC
  iexact HS

set_option maxHeartbeats 1000000 in
set_option backward.isDefEq.respectTransparency.types false in
/-- From any memory with zero counters, every weakly fair execution of @main ends, the result as `outOK` says, the
    arguments unchanged, every counter at zero. -/
theorem run_main : θ_run defs (onTc (τ := τ) (main (F := F))) ⟨m, fun _ => 0, ρ⟩ (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := besides m)
    (hX := fun c => by
      rw [unscopedRest0_eq, ownSems0_eq]
      unfold intoΦ besides arrP
      iintro ⟨⟨H0, H1, H2, H3, G0, G1, G2, G3⟩, HC, -, -, -⟩
      imodintro
      isplitl [H0 G0 G1 G2 G3 HC]
      · isplitl [H0 G0 G1 G2]
        · isplitl [H0]; · iexact H0
          isplitl [G0]; · iexact G0
          isplitl [G1]; · iexact G1
          iexact G2
        isplitl [G3]; · iexact G3
        iexact HC
      isplitl [H1]; · iexact H1
      isplitl [H2]; · iexact H2
      iexact H3)
    (hin := fun c => by
      rw [scopedRest0_eq, Φ_zero m c 0 rfl]
      exact into_start m c)
    (hout := fun c => by
      rw [scopedRest0_eq, Φ_one m c (Fin.last cfg0.N) (by show cfg0.N ≠ 0; rw [show cfg0.N = 1 from N_0]; omega), ownSems0_eq]
      exact end_out m c)
    (QY := QY m)
    (hY := fun c s' => by
      unfold outOfΦ besides arrP
      iintro ⟨⟨⟨H0, -, -, -⟩, ⟨%g, %hg, HG⟩⟩, ⟨H1, H2, H3⟩, HSI⟩
      icombine HSI HG gives %hG
      icombine HSI H0 gives %h0
      icombine HSI H1 gives %h1
      icombine HSI H2 gives %h2
      icombine HSI H3 gives %h3
      imodintro
      isplitr
      · ipureintro
        refine ⟨?_, (Buf.eq_of_forall_mem_univ h0).trans (V_main_arg0 m c), (Buf.eq_of_forall_mem_univ h1).trans (V_main_arg1 m c),
          (Buf.eq_of_forall_mem_univ h2).trans (V_main_arg2 m c), (Buf.eq_of_forall_mem_univ h3).trans (V_main_arg3 m c)⟩
        rw [show s'.mem.mem ((c : Thread nD τ).loc main_v3) = g from Buf.eq_of_forall_mem_univ hG]; exact hg
      iexact HSI)
    (hQ := fun _ hh hz => ⟨fun c => (hh c).2, hz⟩)

end Launch

end Cert.Proof.Ffn
-- ==== Proof.Result.lean ====
/-
  The kernel's result at exact arithmetic is the reference's.
-/
module

public import proofs.«01_k».proof.Proof.Launch
public import proofs.«01_k».proof.Proof.Ref

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.ShloMosaic.StableHlo
open Idealize.ShloMosaic.ValueIdx

section Host
variable {F : FTy → Type} [FloatOps F] (m : (ℓ : Loc nD τ sig) → Buf (Elt F) ℓ) (c : Dev nD)

/-- The norm weights as a row, -/
theorem V_main_v0 : V m c main_v0 = broadcastInDim S1x2048 ![1] bcast_S2048_S1x2048_1 (m ((c : Thread nD τ).loc main_arg1)) := by
  unfold V
  simp only [hostOps0, TRef.binary, TRef.nullary, TRef.unary, TRef.toBuf, TRef.ofBuf, cast_eq]
  after_results_simp
/-- the gate and up weights rounded -/
theorem V_main_v1 : V m c main_v1 = truncf .bf16 (m ((c : Thread nD τ).loc main_arg2) : FVec F S2048x11264 .f32) bitsLt_bf16_f32 := by
  unfold V
  simp only [hostOps0, TRef.binary, TRef.nullary, TRef.unary, TRef.toBuf, TRef.ofBuf, cast_eq]
  after_results_simp
/-- and the down weights rounded. -/
theorem V_main_v2 : V m c main_v2 = truncf .bf16 (m ((c : Thread nD τ).loc main_arg3) : FVec F S5632x2048 .f32) bitsLt_bf16_f32 := by
  unfold V
  simp only [hostOps0, TRef.binary, TRef.nullary, TRef.unary, TRef.toBuf, TRef.ofBuf, cast_eq]
  after_results_simp

end Host

section Value
variable (m : (ℓ : Loc nD τ sig) → Buf (Elt Ideal) ℓ) (c : Dev nD)

/-- The norm weights the kernel reads. -/
theorem gw_row : row (gwOf (F := Ideal) c (V m c main_v0)) 0 = fun j => (m ((c : Thread nD τ).loc main_arg1) : FVec Ideal S2048 .f32) (ix1 j) := by
  funext j
  rw [V_main_v0]
  show broadcastInDim S1x2048 ![1] bcast_S2048_S1x2048_1 (m ((c : Thread nD τ).loc main_arg1) : FVec Ideal S2048 .f32) (ix2 (0 : Fin 1) j) = _
  exact broadcastInDim_apply (j := ix2 (0 : Fin 1) j) (k := ix1 j) (dims := ![1]) (h := bcast_S2048_S1x2048_1) (x := (m ((c : Thread nD τ).loc main_arg1) : FVec Ideal S2048 .f32)) (hk := fun a => by
    match a with
    | ⟨0, _⟩ => rfl)

/-- A result whose row blocks are the kernel's is the reference's. -/
theorem out_eq (g : BY (F := Ideal) c) (h : outOK m c g) :
    g = refOut (m ((c : Thread nD τ).loc main_arg0)) (m ((c : Thread nD τ).loc main_arg1)) (m ((c : Thread nD τ).loc main_arg2)) (m ((c : Thread nD τ).loc main_arg3)) := by
  refine funext fun (y : S8192x2048.Idx) => ?_
  obtain ⟨r, q, rfl⟩ : ∃ (r : Fin 8192) (q : Fin 2048), y = ix2 r q := ⟨y 0, y 1, eq_ix2 y⟩
  have hr := r.isLt
  let b : Fin 8 := ⟨r.val / 1024, by omega⟩
  let i : Fin 1024 := ⟨r.val % 1024, by omega⟩
  have e : blkRow b i = r := Fin.ext (by show 1024 * (r.val / 1024) + r.val % 1024 = r.val; omega)
  have h1 := (yblk_apply c g b i q).symm.trans ((congrFun (h b) (ix2 i q)).trans (accV_done c _ _ _ _ b i q))
  rw [e, gw_row, V_main_arg0, V_main_v1, V_main_v2] at h1
  exact h1.trans (refOut_apply _ _ _ _ r q).symm

end Value

end Cert.Proof.Ffn
-- ==== Proof.ProjKit.lean ====
/- The input projection's kernel: what the runs of its body share — the arrays as the region finds them, each
   window's block, the branch conditions over the grid's points, and where an output is idle. -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Proof.Proj

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s buffers when the region is entered, after the host's operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in
/-- @main up to the region: the lines of host operations then the region
    (`main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, fetched there or kept from the point before, for any proof data over
    the arrays `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, fetched there or kept from the point before, for any proof data over
    the arrays `V` whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's block does not divide its array `S2x6160x2048`, but no block the grid reaches is cut. A filling for a cut
    block, which nothing reads. -/
def dflt0_2 : (cfg0.win 2).block.Idx → Elt F (cfg0.win 2).elt := fun _ => Classical.choice inferInstance
/-- What input window 2's buffer holds at point `t`: its block, over `dflt0_2`. -/
def X0_2 (c : Dev nD) (t : Fin cfg0.N) : (cfg0.win 2).block.Idx → Elt F (cfg0.win 2).elt :=
  (cfg0.win 2).fill (cfg0.grid.coords t) dflt0_2 (iblk m c 2 t)
/-- No transfer of input window 2 is cut, by the grid's points. -/
theorem xsize0_2 : ∀ t : Fin cfg0.N, ∀ a, (cfg0.win 2).xsize (cfg0.grid.coords t) a = (cfg0.win 2).size a := by decide +kernel
/-- Every index of input window 2's block is moved at every point. -/
theorem moved0_2 (t : Fin cfg0.N) (j : (cfg0.win 2).block.Idx) : (cfg0.win 2).moved (cfg0.grid.coords t) j = true :=
  ((cfg0.win 2).moved_iff _ j).mpr fun a => by rw [xsize0_2 t a]; exact (j a).isLt
/-- A fill of input window 2's block covers the whole buffer, whatever it held. -/
theorem fill0_2 (t : Fin cfg0.N) (d d' : (cfg0.win 2).block.Idx → Elt F (cfg0.win 2).elt) (g) :
    (cfg0.win 2).fill (cfg0.grid.coords t) d g = (cfg0.win 2).fill (cfg0.grid.coords t) d' g := by
  funext j; unfold Pipeline.Window.fill; rw [dif_pos (moved0_2 t j), dif_pos (moved0_2 t j)]
/-- Input window 2's buffer holds `X0_2` at every point, fetched there or kept from the point before. -/
theorem before0_2_of {c : Dev nD} (dat : Dat τ (Elt F) Unit ℕ (UR sig nD τ) ℕ cfg0 c) (hA : dat.A 2 = V m c (Pipeline.arrRef spec0 2))
    (hafter : ∀ t, dat.after 2 t = X0_2 m c t) (t : Fin cfg0.N) (d) : dat.before 2 t d = X0_2 m c t :=
  (dat.before_in_eq_fetched 2 rfl (fun _ => rfl)
      (fun t t' h => funext fun a => congrArg (fun n => Pipeline.Clip.of n ((cfg0.win 2).size a) (S2x6160x2048.size a)) (congrFun h a))
      (fun t => by rw [hafter]; unfold X0_2; rw [Pipeline.Window.cut_fill]; unfold Dat.blockOf iblk; rw [hA]; try rfl) t d).trans
    (by unfold Dat.fetched X0_2; rw [fill0_2 t d dflt0_2]; unfold Dat.blockOf iblk; rw [hA]; try rfl)
/-- Input window 3's buffer holds its block at every point, fetched there or kept from the point before, for any proof data over
    the arrays `V` whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, fetched there or kept from the point before, for any proof data over
    the arrays `V` whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point, fetched there or kept from the point before, for any proof data over
    the arrays `V` whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point, fetched there or kept from the point before, for any proof data over
    the arrays `V` whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run that leaves every array as the proof data has it and every other buffer as the region found it: the argument arrays
    end unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The condition of the body's first branch: the column block is the first. -/
abbrev cond0_0 (i : grid0.Coords) : Prop := k0_cond1 i = 1#1
/-- It holds at the points ≡ 0 (mod 6). -/
theorem hcond0_0 : ∀ t : Fin cfg0.N, cond0_0 (grid0.coords t) ↔ t.val % 6 = 0 :=
  (fun t => by
    have ht : t.val < 48 := Nat.lt_of_lt_of_eq t.isLt N_0
    have e0 : (grid0.coords t 0).val = t.val / 6 % 8 := Pipeline.Grid.coords_val t 0 (by decide) rfl
    have e1 : (grid0.coords t 1).val = t.val / 1 % 6 := Pipeline.Grid.coords_val t 1 (by decide) rfl
    simp only [cond0_0, k0_cond1, e0, e1]
    word_cmp
   : ∀ t : Fin grid0.N, cond0_0 (grid0.coords t) ↔ t.val % 6 = 0)

/-- The condition of the branch inside it: the row block is the first. -/
abbrev cond0_1 (i : grid0.Coords) : Prop := (Scalar.cmpi .ne (Scalar.extui (Scalar.cmpi .eq (BitVec.ofNat 32 (i 0).val) 0#32)) 0#32) = 1#1
/-- It holds at the points before point 6. -/
theorem hcond0_1 : ∀ t : Fin cfg0.N, cond0_1 (grid0.coords t) ↔ t.val < 6 :=
  (fun t => by
    have ht : t.val < 48 := Nat.lt_of_lt_of_eq t.isLt N_0
    have e0 : (grid0.coords t 0).val = t.val / 6 % 8 := Pipeline.Grid.coords_val t 0 (by decide) rfl
    have e1 : (grid0.coords t 1).val = t.val / 1 % 6 := Pipeline.Grid.coords_val t 1 (by decide) rfl
    simp only [cond0_1, e0, e1]
    word_cmp
   : ∀ t : Fin grid0.N, cond0_1 (grid0.coords t) ↔ t.val < 6)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- Whether output 8's buffer holds nothing stored since its last write-back, before each point after the first: one bit a point.
    `freshTab0_8_step` checks it point by point. -/
def freshTab0_8 : ℕ → Bool
  | 0 => true
  | n + 1 => (0x820820820820 : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)
/-- At the points of case A output 8 is not idle: the body stores into it. -/
theorem liveAt0_8_A : ∀ t : Fin cfg0.N, cond0_0 (grid0.coords t) → cond0_1 (grid0.coords t) → cfg0.idle 8 (grid0.coords t) = false := by decide +kernel
/-- At the points of case B (a column block that is not the first) the body stores nothing into output 8: it is idle there. -/
theorem idleAt0_8_B : ∀ t : Fin cfg0.N, ¬cond0_0 (grid0.coords t) → cfg0.idle 8 (grid0.coords t) = true := by decide +kernel
/-- At the points of case B output 8's buffer holds something stored since its last write-back. -/
theorem notFresh0_8_B : ∀ t : Fin cfg0.N, ¬cond0_0 (grid0.coords t) → cfg0.fresh 8 t.val = false := by
  intro t; rw [fresh0_8_eq t]; revert t; decide +kernel
/-- At the points of case C output 8 is not idle: the body stores into it. -/
theorem liveAt0_8_C : ∀ t : Fin cfg0.N, cond0_0 (grid0.coords t) → ¬cond0_1 (grid0.coords t) → cfg0.idle 8 (grid0.coords t) = false := by decide +kernel

/-! ## The buffers the body works on -/

/-- One staging buffer of output window 7, through which its contents are stated. -/
abbrev VO0_7 : View sig .tc .vmem S1024x1024 .bf16 := (Memref.whole cc0_stg7_0 : Memref sig .tc .vmem S1024x1024 .bf16).view
/-- One staging buffer of output window 8, through which its contents are stated. -/
abbrev VO0_8 : View sig .tc .vmem S16x1024 .f32 := (Memref.whole cc0_stg8_0 : Memref sig .tc .vmem S16x1024 .f32).view
/-- Each window's current staging memref at point `t`, and that it is a whole buffer. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x1024 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S1024x2048 .bf16 := Memref.whole cc0_scratch0
abbrev scM0_1 : Memref sig .tc .vmem S8x128 .f32 := Memref.whole cc0_scratch1
/-- The scratch `arg11` the kernel carries between points, as a view: what it holds is stated through it. -/
abbrev VS0_0 : View sig .tc .vmem S1024x2048 .bf16 := scM0_0.view
/-- The scratch `arg12` the kernel carries between points, as a view: what it holds is stated through it. -/
abbrev VS0_1 : View sig .tc .vmem S8x128 .f32 := scM0_1.view

/-- The region's invariant with the scratch buffers owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Proof.Proj

end
-- ==== Proof.ProjA.lean ====
/- The whole run of the body at the grid's first point. -/
module

public import proofs.«01_k».proof.Proof.ProjKit

@[expose] public section

set_option maxRecDepth 16384

noncomputable section

namespace Cert.Proof.Proj

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in case A, the first point (both branches taken): what its stores leave in both results' buffers and both scratch buffers, as pieces, the
    last first, with the proof that from buffers holding the inputs `x·` and, where it reads them, the scratch contents `xs·`, it
    ends with the inputs as they were and these pieces written. -/
noncomputable def kernelRun0_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x1024 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (arg12 : Memref sig .tc .vmem S8x128 .f32) (harg12 : arg12.IsWhole) (hc0 : cond0_0 i) (hc1 : cond0_1 i)
    (x0 : Vec F S1024x2048 .f32) (x1 : Vec F S1x2048 .f32) (x2 : Vec F S1x1024x2048 .f32) (x3 : Vec F S1x1024 .f32) (x4 : Vec F S128x2048 .f32) (x5 : Vec F S1x128 .f32) (x6 : Vec F S128x128 .bf16) :
    Σ' (L7 : List (View.Piece (Elt F) S1024x1024 .bf16)), Σ' (L8 : List (View.Piece (Elt F) S16x1024 .f32)), Σ' (LS0 : List (View.Piece (Elt F) S1024x2048 .bf16)), { LS1 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0_fox_proj i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_fox_proj_eq_skeleton]; unfold cc0_fox_proj_skel
    simp only [k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [HS0]; · iexists _; iexact HS0
    iexists _; iexact HS1

end Cert.Proof.Proj

end
-- ==== Proof.ProjB.lean ====
/- The whole run of the body at a column block that is not its row block's first. -/
module

public import proofs.«01_k».proof.Proof.ProjA

@[expose] public section

set_option maxRecDepth 16384

noncomputable section

namespace Cert.Proof.Proj

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in case B, a column block that is not a row block's first (no branch taken; the second result's buffer keeps what it held): what its stores leave in the first result's buffer, as pieces, the
    last first, with the proof that from buffers holding the inputs `x·` and, where it reads them, the scratch contents `xs·`, it
    ends with the inputs as they were and these pieces written. -/
noncomputable def kernelRun0_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x1024 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (arg12 : Memref sig .tc .vmem S8x128 .f32) (harg12 : arg12.IsWhole) (hc0 : ¬cond0_0 i)
    (x0 : Vec F S1024x2048 .f32) (x1 : Vec F S1x2048 .f32) (x2 : Vec F S1x1024x2048 .f32) (x3 : Vec F S1x1024 .f32) (x4 : Vec F S128x2048 .f32) (x5 : Vec F S1x128 .f32) (x6 : Vec F S128x128 .bf16) (xo8 : Vec F S16x1024 .f32) (xs0 : Vec F S1024x2048 .bf16) (xs1 : Vec F S8x128 .f32) :
    Σ' (L7 : List (View.Piece (Elt F) S1024x1024 .bf16)), Σ' (LS0 : List (View.Piece (Elt F) S1024x2048 .bf16)), { LS1 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xo8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xo8 ∗ owns (c : Thread nD τ) arg11 fullShare xs0 ∗ owns (c : Thread nD τ) arg12 fullShare xs1) -∗ K ⟨⟩))
          ⊢ wp frame (wpE (defs₀ (F := F)) Variants.none c none) E (cc0_fox_proj i arg2 harg2 arg3 harg3 arg4 harg4 arg5 harg5 arg6 harg6 arg7 harg7 arg8 harg8 arg9 harg9 arg10 harg10 arg11 harg11 arg12 harg12) K } := by
  refine ⟨?_, [], [], fun E K => ?run⟩
  case run =>
    simp only [cc0_fox_proj_eq_skeleton]; unfold cc0_fox_proj_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hfs0; obtain rfl := harg12.eq_unread hfs1
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [HS0]
    · iexists _; isplitr; · ipureintro; exact harg11.read_unread _
      iexact HS0
    iexists _; isplitr; · ipureintro; exact harg12.read_unread _
    iexact HS1

end Cert.Proof.Proj

end
-- ==== Proof.ProjC.lean ====
/- The whole run of the body at the first column block of a row block that is not the first. -/
module

public import proofs.«01_k».proof.Proof.ProjB

@[expose] public section

set_option maxRecDepth 16384

noncomputable section

namespace Cert.Proof.Proj

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in case C, the first column block of a later row block (the first branch taken): what its stores leave in both results' buffers and both scratch buffers, as pieces, the
    last first, with the proof that from buffers holding the inputs `x·` and, where it reads them, the scratch contents `xs·`, it
    ends with the inputs as they were and these pieces written. -/
noncomputable def kernelRun0_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x1024 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (arg12 : Memref sig .tc .vmem S8x128 .f32) (harg12 : arg12.IsWhole) (hc0 : cond0_0 i) (hc1 : ¬cond0_1 i)
    (x0 : Vec F S1024x2048 .f32) (x1 : Vec F S1x2048 .f32) (x2 : Vec F S1x1024x2048 .f32) (x3 : Vec F S1x1024 .f32) (x4 : Vec F S128x2048 .f32) (x5 : Vec F S1x128 .f32) (x6 : Vec F S128x128 .bf16) (xs1 : Vec F S8x128 .f32) :
    Σ' (L7 : List (View.Piece (Elt F) S1024x1024 .bf16)), Σ' (L8 : List (View.Piece (Elt F) S16x1024 .f32)), Σ' (LS0 : List (View.Piece (Elt F) S1024x2048 .bf16)), { LS1 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0_fox_proj i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_fox_proj_eq_skeleton]; unfold cc0_fox_proj_skel
    simp only [k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [HS0]; · iexists _; iexact HS0
    iexact HS1

end Cert.Proof.Proj

end
-- ==== Proof.ProjFrame.lean ====
/- The input projection's kernel: what its outputs and its scratch hold point by point, the pipeline's proof data,
   the body's obligation, the run of the whole program and its frame. -/
module

public import proofs.«01_k».proof.Proof.ProjC
public import Idealize.ShloMosaic.Lib.Claim

@[expose] public section

set_option maxRecDepth 16384

noncomputable section

namespace Cert.Proof.Proj

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 7 tile its block (32 stores of `S256x128`), so they cover it. -/
theorem cover0_A_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x1024 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (arg12 : Memref sig .tc .vmem S8x128 .f32) (harg12 : arg12.IsWhole) (hc0 : cond0_0 i) (hc1 : cond0_1 i)
    (x0 : Vec F S1024x2048 .f32) (x1 : Vec F S1x2048 .f32) (x2 : Vec F S1x1024x2048 .f32) (x3 : Vec F S1x1024 .f32) (x4 : Vec F S128x2048 .f32) (x5 : Vec F S1x128 .f32) (x6 : Vec F S128x128 .bf16) (y : S1024x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).1 S256x128.size (by sl_kernel_rfl) y

/-- What case A leaves in output 7's staging buffer: its pieces read back over junk. -/
def out0_A_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x1024 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (arg12 : Memref sig .tc .vmem S8x128 .f32) (harg12 : arg12.IsWhole) (hc0 : cond0_0 i) (hc1 : cond0_1 i)
    (x0 : Vec F S1024x2048 .f32) (x1 : Vec F S1x2048 .f32) (x2 : Vec F S1x1024x2048 .f32) (x3 : Vec F S1x1024 .f32) (x4 : Vec F S128x2048 .f32) (x5 : Vec F S1x128 .f32) (x6 : Vec F S128x128 .bf16) : Vec F S1024x1024 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).1)

/-- Case A's pieces for output 8 tile its block (1 store of `S16x1024`), so they cover it. -/
theorem cover0_A_8 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x1024 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (arg12 : Memref sig .tc .vmem S8x128 .f32) (harg12 : arg12.IsWhole) (hc0 : cond0_0 i) (hc1 : cond0_1 i)
    (x0 : Vec F S1024x2048 .f32) (x1 : Vec F S1x2048 .f32) (x2 : Vec F S1x1024x2048 .f32) (x3 : Vec F S1x1024 .f32) (x4 : Vec F S128x2048 .f32) (x5 : Vec F S1x128 .f32) (x6 : Vec F S128x128 .bf16) (y : S16x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.1 S16x1024.size (by sl_kernel_rfl) y

/-- What case A leaves in output 8's staging buffer: its pieces read back over junk. -/
def out0_A_8 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x1024 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (arg12 : Memref sig .tc .vmem S8x128 .f32) (harg12 : arg12.IsWhole) (hc0 : cond0_0 i) (hc1 : cond0_1 i)
    (x0 : Vec F S1024x2048 .f32) (x1 : Vec F S1x2048 .f32) (x2 : Vec F S1x1024x2048 .f32) (x3 : Vec F S1x1024 .f32) (x4 : Vec F S128x2048 .f32) (x5 : Vec F S1x128 .f32) (x6 : Vec F S128x128 .bf16) : Vec F S16x1024 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.1)

/-- Case A's pieces for scratch `arg11`, which the kernel carries between points, cover it: 1 piece of `S1024x2048`. -/
theorem scover0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x1024 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (arg12 : Memref sig .tc .vmem S8x128 .f32) (harg12 : arg12.IsWhole) (hc0 : cond0_0 i) (hc1 : cond0_1 i)
    (x0 : Vec F S1024x2048 .f32) (x1 : Vec F S1x2048 .f32) (x2 : Vec F S1x1024x2048 .f32) (x3 : Vec F S1x1024 .f32) (x4 : Vec F S128x2048 .f32) (x5 : Vec F S1x128 .f32) (x6 : Vec F S128x128 .bf16) (y : S1024x2048.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1 S1024x2048.size (by sl_kernel_rfl) y

/-- What case A leaves in scratch `arg11`: its pieces read back over junk. -/
def sout0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x1024 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (arg12 : Memref sig .tc .vmem S8x128 .f32) (harg12 : arg12.IsWhole) (hc0 : cond0_0 i) (hc1 : cond0_1 i)
    (x0 : Vec F S1024x2048 .f32) (x1 : Vec F S1x2048 .f32) (x2 : Vec F S1x1024x2048 .f32) (x3 : Vec F S1x1024 .f32) (x4 : Vec F S128x2048 .f32) (x5 : Vec F S1x128 .f32) (x6 : Vec F S128x128 .bf16) : Vec F S1024x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1)

/-- Case A's pieces for scratch `arg12`, which the kernel carries between points, cover it: one of them a store of the whole buffer. -/
theorem scover0_A_1 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x1024 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (arg12 : Memref sig .tc .vmem S8x128 .f32) (harg12 : arg12.IsWhole) (hc0 : cond0_0 i) (hc1 : cond0_1 i)
    (x0 : Vec F S1024x2048 .f32) (x1 : Vec F S1x2048 .f32) (x2 : Vec F S1x1024x2048 .f32) (x3 : Vec F S1x1024 .f32) (x4 : Vec F S128x2048 .f32) (x5 : Vec F S1x128 .f32) (x6 : Vec F S128x128 .bf16) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1 (by sl_whole_mem) y

/-- What case A leaves in scratch `arg12`: its pieces read back over junk. -/
def sout0_A_1 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x1024 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (arg12 : Memref sig .tc .vmem S8x128 .f32) (harg12 : arg12.IsWhole) (hc0 : cond0_0 i) (hc1 : cond0_1 i)
    (x0 : Vec F S1024x2048 .f32) (x1 : Vec F S1x2048 .f32) (x2 : Vec F S1x1024x2048 .f32) (x3 : Vec F S1x1024 .f32) (x4 : Vec F S128x2048 .f32) (x5 : Vec F S1x128 .f32) (x6 : Vec F S128x128 .bf16) : Vec F S8x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1)

/-- Case B's pieces for output 7 tile its block (32 stores of `S256x128`), so they cover it. -/
theorem cover0_B_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x1024 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (arg12 : Memref sig .tc .vmem S8x128 .f32) (harg12 : arg12.IsWhole) (hc0 : ¬cond0_0 i)
    (x0 : Vec F S1024x2048 .f32) (x1 : Vec F S1x2048 .f32) (x2 : Vec F S1x1024x2048 .f32) (x3 : Vec F S1x1024 .f32) (x4 : Vec F S128x2048 .f32) (x5 : Vec F S1x128 .f32) (x6 : Vec F S128x128 .bf16) (xo8 : Vec F S16x1024 .f32) (xs0 : Vec F S1024x2048 .bf16) (xs1 : Vec F S8x128 .f32) (y : S1024x1024.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xo8 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xo8 xs0 xs1).1 S256x128.size (by sl_kernel_rfl) y

/-- What case B leaves in output 7's staging buffer: its pieces read back over junk. -/
def out0_B_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x1024 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (arg12 : Memref sig .tc .vmem S8x128 .f32) (harg12 : arg12.IsWhole) (hc0 : ¬cond0_0 i)
    (x0 : Vec F S1024x2048 .f32) (x1 : Vec F S1x2048 .f32) (x2 : Vec F S1x1024x2048 .f32) (x3 : Vec F S1x1024 .f32) (x4 : Vec F S128x2048 .f32) (x5 : Vec F S1x128 .f32) (x6 : Vec F S128x128 .bf16) (xo8 : Vec F S16x1024 .f32) (xs0 : Vec F S1024x2048 .bf16) (xs1 : Vec F S8x128 .f32) : Vec F S1024x1024 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xo8 xs0 xs1).1)

/-- What case B leaves in output 8's staging buffer: what it held. -/
def out0_B_8 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x1024 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (arg12 : Memref sig .tc .vmem S8x128 .f32) (harg12 : arg12.IsWhole) (hc0 : ¬cond0_0 i)
    (x0 : Vec F S1024x2048 .f32) (x1 : Vec F S1x2048 .f32) (x2 : Vec F S1x1024x2048 .f32) (x3 : Vec F S1x1024 .f32) (x4 : Vec F S128x2048 .f32) (x5 : Vec F S1x128 .f32) (x6 : Vec F S128x128 .bf16) (xo8 : Vec F S16x1024 .f32) (xs0 : Vec F S1024x2048 .bf16) (xs1 : Vec F S8x128 .f32) : Vec F S16x1024 .f32 :=
  xo8

/-- Case B stores nothing into scratch `arg11`: it holds what the point before left. -/
def sout0_B_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x1024 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (arg12 : Memref sig .tc .vmem S8x128 .f32) (harg12 : arg12.IsWhole) (hc0 : ¬cond0_0 i)
    (x0 : Vec F S1024x2048 .f32) (x1 : Vec F S1x2048 .f32) (x2 : Vec F S1x1024x2048 .f32) (x3 : Vec F S1x1024 .f32) (x4 : Vec F S128x2048 .f32) (x5 : Vec F S1x128 .f32) (x6 : Vec F S128x128 .bf16) (xo8 : Vec F S16x1024 .f32) (xs0 : Vec F S1024x2048 .bf16) (xs1 : Vec F S8x128 .f32) : Vec F S1024x2048 .bf16 := xs0

/-- Case B stores nothing into scratch `arg12`: it holds what the point before left. -/
def sout0_B_1 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x1024 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (arg12 : Memref sig .tc .vmem S8x128 .f32) (harg12 : arg12.IsWhole) (hc0 : ¬cond0_0 i)
    (x0 : Vec F S1024x2048 .f32) (x1 : Vec F S1x2048 .f32) (x2 : Vec F S1x1024x2048 .f32) (x3 : Vec F S1x1024 .f32) (x4 : Vec F S128x2048 .f32) (x5 : Vec F S1x128 .f32) (x6 : Vec F S128x128 .bf16) (xo8 : Vec F S16x1024 .f32) (xs0 : Vec F S1024x2048 .bf16) (xs1 : Vec F S8x128 .f32) : Vec F S8x128 .f32 := xs1

/-- Case C's pieces for output 7 tile its block (32 stores of `S256x128`), so they cover it. -/
theorem cover0_C_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x1024 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (arg12 : Memref sig .tc .vmem S8x128 .f32) (harg12 : arg12.IsWhole) (hc0 : cond0_0 i) (hc1 : ¬cond0_1 i)
    (x0 : Vec F S1024x2048 .f32) (x1 : Vec F S1x2048 .f32) (x2 : Vec F S1x1024x2048 .f32) (x3 : Vec F S1x1024 .f32) (x4 : Vec F S128x2048 .f32) (x5 : Vec F S1x128 .f32) (x6 : Vec F S128x128 .bf16) (xs1 : Vec F S8x128 .f32) (y : S1024x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs1).1 S256x128.size (by sl_kernel_rfl) y

/-- What case C leaves in output 7's staging buffer: its pieces read back over junk. -/
def out0_C_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x1024 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (arg12 : Memref sig .tc .vmem S8x128 .f32) (harg12 : arg12.IsWhole) (hc0 : cond0_0 i) (hc1 : ¬cond0_1 i)
    (x0 : Vec F S1024x2048 .f32) (x1 : Vec F S1x2048 .f32) (x2 : Vec F S1x1024x2048 .f32) (x3 : Vec F S1x1024 .f32) (x4 : Vec F S128x2048 .f32) (x5 : Vec F S1x128 .f32) (x6 : Vec F S128x128 .bf16) (xs1 : Vec F S8x128 .f32) : Vec F S1024x1024 .bf16 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs1).1)

/-- Case C's pieces for output 8 tile its block (1 store of `S16x1024`), so they cover it. -/
theorem cover0_C_8 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x1024 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (arg12 : Memref sig .tc .vmem S8x128 .f32) (harg12 : arg12.IsWhole) (hc0 : cond0_0 i) (hc1 : ¬cond0_1 i)
    (x0 : Vec F S1024x2048 .f32) (x1 : Vec F S1x2048 .f32) (x2 : Vec F S1x1024x2048 .f32) (x3 : Vec F S1x1024 .f32) (x4 : Vec F S128x2048 .f32) (x5 : Vec F S1x128 .f32) (x6 : Vec F S128x128 .bf16) (xs1 : Vec F S8x128 .f32) (y : S16x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs1).2.1 S16x1024.size (by sl_kernel_rfl) y

/-- What case C leaves in output 8's staging buffer: its pieces read back over junk. -/
def out0_C_8 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x1024 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (arg12 : Memref sig .tc .vmem S8x128 .f32) (harg12 : arg12.IsWhole) (hc0 : cond0_0 i) (hc1 : ¬cond0_1 i)
    (x0 : Vec F S1024x2048 .f32) (x1 : Vec F S1x2048 .f32) (x2 : Vec F S1x1024x2048 .f32) (x3 : Vec F S1x1024 .f32) (x4 : Vec F S128x2048 .f32) (x5 : Vec F S1x128 .f32) (x6 : Vec F S128x128 .bf16) (xs1 : Vec F S8x128 .f32) : Vec F S16x1024 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs1).2.1)

/-- Case C's pieces for scratch `arg11`, which the kernel carries between points, cover it: 1 piece of `S1024x2048`. -/
theorem scover0_C_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x1024 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (arg12 : Memref sig .tc .vmem S8x128 .f32) (harg12 : arg12.IsWhole) (hc0 : cond0_0 i) (hc1 : ¬cond0_1 i)
    (x0 : Vec F S1024x2048 .f32) (x1 : Vec F S1x2048 .f32) (x2 : Vec F S1x1024x2048 .f32) (x3 : Vec F S1x1024 .f32) (x4 : Vec F S128x2048 .f32) (x5 : Vec F S1x128 .f32) (x6 : Vec F S128x128 .bf16) (xs1 : Vec F S8x128 .f32) (y : S1024x2048.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs1).2.2.1 S1024x2048.size (by sl_kernel_rfl) y

/-- What case C leaves in scratch `arg11`: its pieces read back over junk. -/
def sout0_C_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x1024 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (arg12 : Memref sig .tc .vmem S8x128 .f32) (harg12 : arg12.IsWhole) (hc0 : cond0_0 i) (hc1 : ¬cond0_1 i)
    (x0 : Vec F S1024x2048 .f32) (x1 : Vec F S1x2048 .f32) (x2 : Vec F S1x1024x2048 .f32) (x3 : Vec F S1x1024 .f32) (x4 : Vec F S128x2048 .f32) (x5 : Vec F S1x128 .f32) (x6 : Vec F S128x128 .bf16) (xs1 : Vec F S8x128 .f32) : Vec F S1024x2048 .bf16 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs1).2.2.1)

/-- What case C leaves in scratch `arg12`: its pieces read back over what the point before left there, which it read first. -/
def sout0_C_1 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x1024 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (arg12 : Memref sig .tc .vmem S8x128 .f32) (harg12 : arg12.IsWhole) (hc0 : cond0_0 i) (hc1 : ¬cond0_1 i)
    (x0 : Vec F S1024x2048 .f32) (x1 : Vec F S1x2048 .f32) (x2 : Vec F S1x1024x2048 .f32) (x3 : Vec F S1x1024 .f32) (x4 : Vec F S128x2048 .f32) (x5 : Vec F S1x128 .f32) (x6 : Vec F S128x128 .bf16) (xs1 : Vec F S8x128 .f32) : Vec F S8x128 .f32 :=
  arg12.view.read (Elt F) (arg12.view.writes (Elt F) (harg12.unread xs1) (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs1).2.2.2.1)

/-! ## What the outputs hold after each point -/

/-- What the results' buffers and the two scratch buffers hold after the body at position `n`, by recursion: the case `n` is in, run on
    the point's blocks and on what the point before left. -/
def outsAt0 (c : Dev nD) : (n : ℕ) → n < cfg0.N → Vec F S1024x1024 .bf16 × Vec F S16x1024 .f32 × Vec F S1024x2048 .bf16 × Vec F S8x128 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (iblk m c 0 ⟨0, hn⟩) (iblk m c 1 ⟨0, hn⟩) (X0_2 m c ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (iblk m c 0 ⟨0, hn⟩) (iblk m c 1 ⟨0, hn⟩) (X0_2 m c ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (iblk m c 0 ⟨0, hn⟩) (iblk m c 1 ⟨0, hn⟩) (X0_2 m c ⟨0, hn⟩) (iblk m c 3 ⟨0, hn⟩) (iblk m c 4 ⟨0, hn⟩) (iblk m c 5 ⟨0, hn⟩) (iblk m c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (iblk m c 0 ⟨0, hn⟩) (iblk m c 1 ⟨0, hn⟩) (X0_2 m c ⟨0, hn⟩) (iblk m c 3 ⟨0, hn⟩) (iblk m c 4 ⟨0, hn⟩) (iblk m c 5 ⟨0, hn⟩) (iblk m c 6 ⟨0, hn⟩))
  | n + 1, hn =>
    if h0 : (n + 1) % 6 = 0 then
      if h1 : (n + 1) < 6 then
          (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩))
      else
          (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2)
    else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 6 = 0) (h1 : t.val < 6) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) ((hcond0_1 t).mpr h1) (iblk m c 0 t) (iblk m c 1 t) (X0_2 m c t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) ((hcond0_1 t).mpr h1) (iblk m c 0 t) (iblk m c 1 t) (X0_2 m c t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) ((hcond0_1 t).mpr h1) (iblk m c 0 t) (iblk m c 1 t) (X0_2 m c t) (iblk m c 3 t) (iblk m c 4 t) (iblk m c 5 t) (iblk m c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) ((hcond0_1 t).mpr h1) (iblk m c 0 t) (iblk m c 1 t) (X0_2 m c t) (iblk m c 3 t) (iblk m c 4 t) (iblk m c 5 t) (iblk m c 6 t)) := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : ¬t.val % 6 = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (X0_2 m c t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (X0_2 m c t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (X0_2 m c t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (X0_2 m c t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- `outsAt0` at a point of case C: that case's contents, over what the point before left. -/
theorem outsAt0_C (c : Dev nD) (t : Fin cfg0.N) (h0 : t.val % 6 = 0) (h1 : ¬t.val < 6) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (X0_2 m c t) (iblk m c 3 t) (iblk m c 4 t) (iblk m c 5 t) (iblk m c 6 t) (outsAt0 m c (t.val - 1) (Nat.lt_of_le_of_lt (Nat.sub_le _ _) t.isLt)).2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (X0_2 m c t) (iblk m c 3 t) (iblk m c 4 t) (iblk m c 5 t) (iblk m c 6 t) (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (X0_2 m c t) (iblk m c 3 t) (iblk m c 4 t) (iblk m c 5 t) (iblk m c 6 t) (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (X0_2 m c t) (iblk m c 3 t) (iblk m c 4 t) (iblk m c 5 t) (iblk m c 6 t) (outsAt0 m c (t.val - 1) (Nat.lt_of_le_of_lt (Nat.sub_le _ _) t.isLt)).2.2.2) := by
  obtain ⟨n, hn⟩ := t
  cases n with
  | zero => exact (by exfalso; (try dsimp only at h1); exact by omega)
  | succ n => exact (dif_pos h0).trans ((dif_neg h1).trans rfl)

/-- The region's invariant before position `n`: before the first point every scratch at anything; afterwards the carried scratch at what
    the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The pipeline's proof data on core `c`: the arrays as the region finds them; after the body at `t` each input's buffer at its block
    and the results' at `outsAt0`; the invariant `PhiS`; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
  Φ t := PhiS m c t.val (Nat.le_of_lt_succ t.isLt)
  q _ := fullShare
  owed _ := 0

/-- The proof data's arrays are the region's. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- At a point that leaves output 8 idle its contents are the point before's. -/
theorem hcarry0_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  have hN : t.val < 48 := lt_of_lt_of_eq t.isLt (show cfg0.N = 48 from N_0)
  rw [after0_8, after0_8]
  by_cases h0 : t.val % 6 = 0
  · by_cases h1 : t.val < 6
    · rw [liveAt0_8_A t ((hcond0_0 t).mpr h0) ((hcond0_1 t).mpr h1)] at hi
      exact absurd hi Bool.false_ne_true
    · rw [liveAt0_8_C t ((hcond0_0 t).mpr h0) (fun h => h1 ((hcond0_1 t).mp h))] at hi
      exact absurd hi Bool.false_ne_true
  · rw [outsAt0_B m c t h0]; rfl

/-- At a point of case B output 8's buffer holds what the point before left. -/
theorem before0_8_B (c : Dev nD) (t : Fin cfg0.N) (h0 : ¬t.val % 6 = 0) (d) :
    (dats m 0 c).before 8 t d = (outsAt0 m c (t.val - 1) (Nat.lt_of_le_of_lt (Nat.sub_le _ _) t.isLt)).2.1 := by
  rw [Dat.before_out_traj _ 8 rfl (fun _ _ => rfl) (hcarry0_8 m c) t.val t rfl d,
    if_neg (by rw [notFresh0_8_B t (fun h => h0 ((hcond0_0 t).mp h))]; exact Bool.false_ne_true)]
  dsimp only [dats]

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- What the body leaves in window 0. -/
theorem leaves0_0 (c : Dev nD) (t : Fin cfg0.N) : (dats m 0 c).leavesExact 0 t = owns (c : Thread nD τ) (ms0_0 t) fullShare ((dats m 0 c).after 0 t) := by
  unfold Dat.leavesExact; rw [liveAt0_0 t]

/-- What the body leaves in window 1. -/
theorem leaves0_1 (c : Dev nD) (t : Fin cfg0.N) : (dats m 0 c).leavesExact 1 t = owns (c : Thread nD τ) (ms0_1 t) fullShare ((dats m 0 c).after 1 t) := by
  unfold Dat.leavesExact; rw [liveAt0_1 t]

/-- What the body leaves in window 2. -/
theorem leaves0_2 (c : Dev nD) (t : Fin cfg0.N) : (dats m 0 c).leavesExact 2 t = owns (c : Thread nD τ) (ms0_2 t) fullShare ((dats m 0 c).after 2 t) := by
  unfold Dat.leavesExact; rw [liveAt0_2 t]

/-- What the body leaves in window 3. -/
theorem leaves0_3 (c : Dev nD) (t : Fin cfg0.N) : (dats m 0 c).leavesExact 3 t = owns (c : Thread nD τ) (ms0_3 t) fullShare ((dats m 0 c).after 3 t) := by
  unfold Dat.leavesExact; rw [liveAt0_3 t]

/-- What the body leaves in window 4. -/
theorem leaves0_4 (c : Dev nD) (t : Fin cfg0.N) : (dats m 0 c).leavesExact 4 t = owns (c : Thread nD τ) (ms0_4 t) fullShare ((dats m 0 c).after 4 t) := by
  unfold Dat.leavesExact; rw [liveAt0_4 t]

/-- What the body leaves in window 5. -/
theorem leaves0_5 (c : Dev nD) (t : Fin cfg0.N) : (dats m 0 c).leavesExact 5 t = owns (c : Thread nD τ) (ms0_5 t) fullShare ((dats m 0 c).after 5 t) := by
  unfold Dat.leavesExact; rw [liveAt0_5 t]

/-- What the body leaves in window 6. -/
theorem leaves0_6 (c : Dev nD) (t : Fin cfg0.N) : (dats m 0 c).leavesExact 6 t = owns (c : Thread nD τ) (ms0_6 t) fullShare ((dats m 0 c).after 6 t) := by
  unfold Dat.leavesExact; rw [liveAt0_6 t]

/-- What the body leaves in window 7. -/
theorem leaves0_7 (c : Dev nD) (t : Fin cfg0.N) : (dats m 0 c).leavesExact 7 t = owns (c : Thread nD τ) (ms0_7 t) fullShare ((dats m 0 c).after 7 t) := by
  unfold Dat.leavesExact; rw [liveAt0_7 t]

/-- What the body leaves in window 8 where it stores into it. -/
theorem leaves0_8_live (c : Dev nD) (t : Fin cfg0.N) (hl : cfg0.idle 8 (grid0.coords t) = false) :
    (dats m 0 c).leavesExact 8 t = owns (c : Thread nD τ) (ms0_8 t) fullShare ((dats m 0 c).after 8 t) := by
  unfold Dat.leavesExact; rw [hl]

/-- Where it stores nothing into window 8, the window's buffer with what the point before left is what the body leaves:
    the write-back at the row block's last point takes it from there. -/
theorem leaves0_8_B (c : Dev nD) (t : Fin cfg0.N) (h0 : ¬t.val % 6 = 0) :
    owns (c : Thread nD τ) (ms0_8 t) fullShare (outsAt0 m c (t.val - 1) (Nat.lt_of_le_of_lt (Nat.sub_le _ _) t.isLt)).2.1
      ⊢ ((dats m 0 c).leavesExact 8 t : sProp 𝕄) := by
  unfold Dat.leavesExact
  rw [idleAt0_8_B t (fun h => h0 ((hcond0_0 t).mp h))]
  cases (cfg0.win 8).flush t with
  | false =>
    simp only [before0_8_B m c t h0]
    iintro H
    iexists (fun _ => Classical.choice inferInstance)
    iexact H
  | true =>
    simp only [after0_8, outsAt0_B m c t h0]
    unfold out0_B_8
    exact Entails.refl _

set_option maxHeartbeats 9600000 in
/-- The body at any point: its inputs' buffers hold their blocks, the point is in one of the three cases, and that case's run applies; the
    carried scratch is taken at what the point before left and given back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 48 := lt_of_lt_of_eq t.isLt (show cfg0.N = 48 from N_0)
  by_cases h0 : t.val % 6 = 0
  · by_cases h1 : t.val < 6
    · · rw [leaves0_0, after0_0]
        rw [leaves0_1, after0_1]
        rw [leaves0_2, after0_2]
        rw [leaves0_3, after0_3]
        rw [leaves0_4, after0_4]
        rw [leaves0_5, after0_5]
        rw [leaves0_6, after0_6]
        rw [leaves0_7, after0_7]
        rw [leaves0_8_live m c t (liveAt0_8_A t ((hcond0_0 t).mpr h0) ((hcond0_1 t).mpr h1)), after0_8]
        by_cases hz : t.val = 0
        · rw [PhiS_castSucc m c t, PhiS_zero m c _ _ hz, PhiA0_eq]
          rw [outsAt0_A m c t h0 h1]
          unfold out0_A_7 out0_A_8 sout0_A_0 sout0_A_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_A c (grid0.coords t) _ _ _ _ _ _ _ _ _ _ _ _ _ _ _ _ _ _ _ _ _ _ ((hcond0_0 t).mpr h0) ((hcond0_1 t).mpr h1) (iblk m c 0 t) (iblk m c 1 t) (X0_2 m c t) (iblk m c 3 t) (iblk m c 4 t) (iblk m c 5 t) (iblk m c 6 t)).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexists _; iexact H8
          isplitl [HS0]; · iexact HS0
          isplitl [HS1]; · iexact HS1
          iintro ⟨H0, H1, H2, H3, H4, H5, H6, ⟨%e7, H7⟩, ⟨%e8, H8⟩, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]
          · unfold owns; iexists _; isplitr
            swap; · iexact H7
            ipureintro; exact View.read_writes_of_cover _ _ _ _ _ (cover0_A_7 c _ _ _ _ _ _ _ _ _ _ _ _ _ _ _ _ _ _ _ _ _ _ _ _ _ _ _ _ _ _ _ _)
          unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _)
        · exfalso; have hN : t.val < 48 := lt_of_lt_of_eq t.isLt (show cfg0.N = 48 from N_0); omega
    · · rw [leaves0_0, after0_0]
        rw [leaves0_1, after0_1]
        rw [leaves0_2, after0_2]
        rw [leaves0_3, after0_3]
        rw [leaves0_4, after0_4]
        rw [leaves0_5, after0_5]
        rw [leaves0_6, after0_6]
        rw [leaves0_7, after0_7]
        rw [leaves0_8_live m c t (liveAt0_8_C t ((hcond0_0 t).mpr h0) (fun h => h1 ((hcond0_1 t).mp h))), after0_8]
        by_cases hz : t.val = 0
        · exfalso; have hN : t.val < 48 := lt_of_lt_of_eq t.isLt (show cfg0.N = 48 from N_0); omega
        · rw [PhiS_castSucc m c t, PhiS_pos m c _ _ hz]
          rw [outsAt0_C m c t h0 h1]
          unfold out0_C_7 out0_C_8 sout0_C_0 sout0_C_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_C c (grid0.coords t) _ _ _ _ _ _ _ _ _ _ _ _ _ _ _ _ _ _ _ _ _ _ ((hcond0_0 t).mpr h0) (fun h => h1 ((hcond0_1 t).mp h)) (iblk m c 0 t) (iblk m c 1 t) (X0_2 m c t) (iblk m c 3 t) (iblk m c 4 t) (iblk m c 5 t) (iblk m c 6 t) _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexists _; iexact H8
          isplitl [HS0]; · iexists _; iexact HS0
          isplitl [HS1]; · iexact HS1
          iintro ⟨H0, H1, H2, H3, H4, H5, H6, ⟨%e7, H7⟩, ⟨%e8, H8⟩, ⟨%es0, HS0⟩, HS1⟩
          isplitl [HS0 HS1 Hg]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _ _ _ _)
              unfold owns; iexists _; isplitr
              swap; · iexact HS1
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]
          · unfold owns; iexists _; isplitr
            swap; · iexact H7
            ipureintro; exact View.read_writes_of_cover _ _ _ _ _ (cover0_C_7 c _ _ _ _ _ _ _ _ _ _ _ _ _ _ _ _ _ _ _ _ _ _ _ _ _ _ _ _ _ _ _ _ _)
          unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _)
  · · rw [leaves0_0, after0_0]
      rw [leaves0_1, after0_1]
      rw [leaves0_2, after0_2]
      rw [leaves0_3, after0_3]
      rw [leaves0_4, after0_4]
      rw [leaves0_5, after0_5]
      rw [leaves0_6, after0_6]
      rw [leaves0_7, after0_7]
      by_cases hz : t.val = 0
      · exfalso; have hN : t.val < 48 := lt_of_lt_of_eq t.isLt (show cfg0.N = 48 from N_0); omega
      · rw [PhiS_castSucc m c t, PhiS_pos m c _ _ hz]
        rw [outsAt0_B m c t h0]
        simp only [before0_8_B m c t h0]
        unfold out0_B_7 sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ _ _ (fun h => h0 ((hcond0_0 t).mp h)) (iblk m c 0 t) (iblk m c 1 t) (X0_2 m c t) (iblk m c 3 t) (iblk m c 4 t) (iblk m c 5 t) (iblk m c 6 t) _ _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        isplitl [HS1]; · iexact HS1
        iintro ⟨H0, H1, H2, H3, H4, H5, H6, ⟨%e7, H7⟩, H8, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _ _ _ _)
        iapply (leaves0_8_B m c t h0); iexact H8

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The pipeline's obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 48 := N_0; omega)

/-! ## The run and the frame -/

set_option backward.isDefEq.respectTransparency.types false in
/-- `run_main`'s statement, and every semaphore at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run of @main from zero counters ends, with every array of the pipeline as the proof data has it and every other unscoped
    buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame, over any floats: @main ends with its argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Proof.Proj

end
-- ==== Proof.ProjHead.lean ====
/-
  The projection's heads: what one 256-row, one-head tile of the weights' product, normalized or not and scaled, is at
  exact arithmetic, and what the 32 tiles of a block leave.
-/
module

public import proofs.«01_k».proof.Proof.ProjFrame
public import proofs.«01_k».proof.Proof.Chunk
public import Idealize.ShloMosaic.Lib.Pipeline.Value
public import Idealize.ShloMosaic.Lib.IdealHost

@[expose] public section

set_option maxRecDepth 16384

noncomputable section

namespace Cert.Proof.Proj

open Cert.Kernel3Ideal Cert.Kernel3Ideal.Gen
open Idealize.ShloMosaic
open Idealize.ShloMosaic.ValueIdx

/-- A matrix product by a transposed right operand, into zeros, at an element. -/
theorem nt_apply {m k n : ℕ} {φ ψ : FTy} (d : DotDims ⟨2, ![m, k]⟩ ⟨2, ![n, k]⟩ ⟨2, ![m, n]⟩)
    (e1 : d.lhsContracting = [1]) (e2 : d.rhsContracting = [1]) (e3 : d.lhsNonContracting = [0]) (e4 : d.rhsNonContracting = [0])
    (e5 : d.lhsBatch = []) (e6 : d.rhsBatch = []) (prec : Option ContractPrecision)
    (A : FVec Ideal ⟨2, ![m, k]⟩ φ) (B : FVec Ideal ⟨2, ![n, k]⟩ ψ) (a : Fin m) (b : Fin n) :
    FloatOps.matmul (F := Ideal) d prec A B (constant (F := Ideal) ⟨2, ![m, n]⟩ .f32 0x00000000#32) (ix2 a b)
      = ∑ c : Fin k, A (ix2 a c) * B (ix2 b c) := by
  obtain ⟨lc, rc, ln, rn, lb, rb, wf⟩ := d
  dsimp only at e1 e2 e3 e4 e5 e6
  subst e1 e2 e3 e4 e5 e6
  rw [Ideal.matmul_constant_zero_apply, ← Equiv.sum_comp (contrEquiv1 _ k rfl rfl).symm]
  refine Finset.sum_congr rfl fun c _ => ?_
  have c2 := contrEquiv1_symm_val (⟨[1], [1], [0], [0], [], [], wf⟩ : DotDims ⟨2, ![m, k]⟩ ⟨2, ![n, k]⟩ ⟨2, ![m, n]⟩) k rfl rfl c
  congr 1
  · refine congrArg A (funext fun ax => Fin.ext ?_)
    match ax with
    | ⟨0, _⟩ => simp [DotDims.lhsIdx]; rfl
    | ⟨1, _⟩ => simp [DotDims.lhsIdx]; exact c2
  · refine congrArg B (funext fun ax => Fin.ext ?_)
    match ax with
    | ⟨0, _⟩ => simp [DotDims.rhsIdx]; rfl
    | ⟨1, _⟩ => simp [DotDims.rhsIdx]; exact c2

section Tile
variable {F : FTy → Type} [FloatOps F]

/-- One head's tile: the 128 columns from `q` of a 256-row product, times the head's scale (or one) and the gains. -/
def headTile (v8 : F .f32) (q : ℕ) (hq : S256x1024.Slices ![0, q] S256x128) (p : FVec F S256x1024 .f32) (gain : Vec F S1x128 .f32) : FVec F S256x128 .bf16 :=
  let r : FVec F S256x128 .f32 := extractStridedSlice S256x128 ![0, q] p hq
  let inv : FVec F S256x1 .f32 := rsqrt (addf (divf (shapeCast S256x1 (multiReduction .add [1] S256 (mulf r r) 0x00000000#32 reduces_S256x128_S256 (.inl rfl) rfl) shapeCasts_S256_S256x1)
    (broadcast S256x1 (Scalar.ofBits .f32 0x43000000#32))) (broadcast S256x1 (Scalar.ofBits .f32 0x358637BD#32)))
  truncf .bf16 (mulf (mulf r (broadcastTo S256x128 (addf (mulf (broadcast S256x1 v8) inv)
    (broadcast S256x1 (Scalar.subf (Scalar.ofBits .f32 0x3F800000#32) v8))) broadcasts_S256x1_S256x128))
    (broadcastTo S256x128 (shapeCast S1x128 gain shapeCasts_S1x128_S1x128) broadcasts_S1x128_S256x128)) bitsLt_bf16_f32

theorem rowInb (a : ℕ) (ha : a < 4) : ∀ x, (![256 * a, 0] : Fin 2 → ℕ) x + S256x2048.size x ≤ S1024x2048.size x := by
  intro x
  match x with
  | ⟨0, _⟩ => show 256 * a + 256 ≤ 1024; omega
  | ⟨1, _⟩ => show 0 + 2048 ≤ 2048; omega
theorem gainInb (b : ℕ) (hb : b < 8) : ∀ x, (![0, 128 * b] : Fin 2 → ℕ) x + S1x128.size x ≤ S1x1024.size x := by
  intro x
  match x with
  | ⟨0, _⟩ => show 0 + 1 ≤ 1; omega
  | ⟨1, _⟩ => show 128 * b + 128 ≤ 1024; omega
theorem tileInb (a b : ℕ) (ha : a < 4) (hb : b < 8) : ∀ x, (![256 * a, 128 * b] : Fin 2 → ℕ) x + S256x128.size x ≤ S1024x1024.size x := by
  intro x
  match x with
  | ⟨0, _⟩ => show 256 * a + 256 ≤ 1024; omega
  | ⟨1, _⟩ => show 128 * b + 128 ≤ 1024; omega
theorem tileSl (b : ℕ) (hb : b < 8) : S256x1024.Slices ![0, 128 * b] S256x128 := by
  refine ⟨rfl, fun x => ?_⟩
  match x with
  | ⟨0, _⟩ => show 0 + 256 ≤ 256; omega
  | ⟨1, _⟩ => show 128 * b + 128 ≤ 1024; omega

/-- The tile of rows `256 a` and head `b` of a block, with what is stored there. -/
def tile (v8 : F .f32) (w : Vec F S1x1024x2048 .f32) (h : FVec F S1024x2048 .bf16) (gs : Vec F S1x1024 .f32) (a b : ℕ) (ha : a < 4) (hb : b < 8) :
    View.Piece (Elt F) S1024x1024 .bf16 :=
  ⟨Rect.unit (s := S1024x1024) ![256 * a, 128 * b] S256x128.size (tileInb a b ha hb),
    headTile v8 (128 * b) (tileSl b hb) (k0_pay23 w (View.ld h (Rect.unit (s := S1024x2048) ![256 * a, 0] S256x2048.size (rowInb a ha))))
      (View.ld gs (Rect.unit (s := S1x1024) ![0, 128 * b] S1x128.size (gainInb b hb)))⟩

/-- A quarter's eight tiles, the last first, -/
def quarter (v8 : F .f32) (w : Vec F S1x1024x2048 .f32) (h : FVec F S1024x2048 .bf16) (gs : Vec F S1x1024 .f32) (a : ℕ) (ha : a < 4)
    (L : List (View.Piece (Elt F) S1024x1024 .bf16)) : List (View.Piece (Elt F) S1024x1024 .bf16) :=
  tile v8 w h gs a 7 ha (by decide) :: tile v8 w h gs a 6 ha (by decide) :: tile v8 w h gs a 5 ha (by decide) :: tile v8 w h gs a 4 ha (by decide)
    :: tile v8 w h gs a 3 ha (by decide) :: tile v8 w h gs a 2 ha (by decide) :: tile v8 w h gs a 1 ha (by decide) :: tile v8 w h gs a 0 ha (by decide) :: L
/-- and a block's 32. -/
def tiles (v8 : F .f32) (w : Vec F S1x1024x2048 .f32) (h : FVec F S1024x2048 .bf16) (gs : Vec F S1x1024 .f32) : List (View.Piece (Elt F) S1024x1024 .bf16) :=
  quarter v8 w h gs 3 (by decide) (quarter v8 w h gs 2 (by decide) (quarter v8 w h gs 1 (by decide) (quarter v8 w h gs 0 (by decide) [])))

end Tile

/-- The weights' product at a row and a column of a block. -/
def prodAt (h : FVec Ideal S1024x2048 .bf16) (w : Vec Ideal S1x1024x2048 .f32) (R K : Fin 1024) : EReal :=
  ∑ k : Fin 2048, (h (ix2 R k) : EReal) * w (ix3 0 K k)

/-- A column of the head that `K` is in. -/
def headCol (K : Fin 1024) (l : Fin 128) : Fin 1024 := ⟨K.val / 128 * 128 + l.val, by omega⟩

/-- The scale of a head of a row. -/
def headScale (p : Fin 128 → EReal) : EReal :=
  Ideal.rsqrt (Ideal.div (∑ l, p l * p l) (Ideal.ofBits .f32 0x43000000#32) + Ideal.ofBits .f32 0x358637BD#32)

/-- A block's stored value at a row and a column. -/
def headAt (v8 : EReal) (w : Vec Ideal S1x1024x2048 .f32) (h : FVec Ideal S1024x2048 .bf16) (gs : Vec Ideal S1x1024 .f32) (R K : Fin 1024) : EReal :=
  prodAt h w R K * (v8 * headScale (fun l => prodAt h w R (headCol K l)) + (1 - v8)) * (gs (ix2 0 K) : EReal)

theorem pay23_apply (w : Vec Ideal S1x1024x2048 .f32) (hr : FVec Ideal S256x2048 .bf16) (r : Fin 256) (K : Fin 1024) :
    (k0_pay23 (F := Ideal) w hr (ix2 r K) : EReal) = ∑ k : Fin 2048, (hr (ix2 r k) : EReal) * w (ix3 0 K k) := by
  refine (nt_apply dot_S256x2048_S1024x2048_S256x1024_1_1_0_0_n_n rfl rfl rfl rfl rfl rfl none hr (k0_pay21 w) r K).trans ?_
  refine Finset.sum_congr rfl fun k _ => congrArg₂ (fun a z : EReal => a * z) rfl ?_
  exact shapeCast_1ab_ab_apply _ _ _ _

theorem headTile_apply (v8 : EReal) (q : ℕ) (hq) (p : FVec Ideal S256x1024 .f32) (gain : Vec Ideal S1x128 .f32) (r : Fin 256) (k : Fin 128)
    (P : Fin 128 → EReal) (hP : ∀ l : Fin 128, (extractStridedSlice S256x128 ![0, q] p hq (ix2 r l) : EReal) = P l) :
    (headTile (F := Ideal) v8 q hq p gain (ix2 r k) : EReal) = P k * (v8 * headScale P + (1 - v8)) * (gain (ix2 0 k) : EReal) := by
  show (extractStridedSlice S256x128 ![0, q] p hq (ix2 r k) : EReal) * broadcastTo S256x128 _ _ (ix2 r k) * broadcastTo S256x128 _ _ (ix2 r k) = _
  rw [Ffn.colBroadcast_apply (by decide) (by decide), broadcastTo_1b_ab_apply, shapeCast_self, hP]
  refine congrArg (fun z => P k * z * (gain (ix2 0 k) : EReal)) ?_
  show v8 * Ideal.rsqrt (Ideal.div (shapeCast S256x1 _ _ (ix2 r (0 : Fin 1))) (Ideal.ofBits .f32 0x43000000#32) + Ideal.ofBits .f32 0x358637BD#32)
    + (Ideal.ofBits .f32 0x3F800000#32 - v8) = _
  rw [shapeCast_a_a1_apply, Ideal.ofBits_one_f32]
  refine congrArg (fun z => v8 * Ideal.rsqrt (Ideal.div z (Ideal.ofBits .f32 0x43000000#32) + Ideal.ofBits .f32 0x358637BD#32) + (1 - v8)) ?_
  refine (Ideal.multiReduction_add_single _ _ reduces_S256x128_S256 _ _ (ix1 r)).trans (Finset.sum_congr rfl fun l _ => ?_)
  have el : reduces_S256x128_S256.lift (ix1 r) l = ix2 r l := by
    funext ax
    match ax with
    | ⟨0, _⟩ => rfl
    | ⟨1, _⟩ => rfl
  rw [el]
  exact congrArg₂ (fun a z : EReal => a * z) (hP l) (hP l)

/-- A tile holds the block's values where it lies. -/
theorem tile_ok (v8 : EReal) (w : Vec Ideal S1x1024x2048 .f32) (h : FVec Ideal S1024x2048 .bf16) (gs : Vec Ideal S1x1024 .f32) (a b : ℕ) (ha : a < 4) (hb : b < 8)
    (x : S256x128.Idx) :
    (headTile (F := Ideal) v8 (128 * b) (tileSl b hb) (k0_pay23 w (View.ld h (Rect.unit (s := S1024x2048) ![256 * a, 0] S256x2048.size (rowInb a ha))))
      (View.ld gs (Rect.unit (s := S1x1024) ![0, 128 * b] S1x128.size (gainInb b hb))) x : EReal)
      = headAt v8 w h gs ((Rect.unit (s := S1024x1024) ![256 * a, 128 * b] S256x128.size (tileInb a b ha hb)).emb x 0)
          ((Rect.unit (s := S1024x1024) ![256 * a, 128 * b] S256x128.size (tileInb a b ha hb)).emb x 1) := by
  obtain ⟨r, k, rfl⟩ : ∃ (r : Fin 256) (k : Fin 128), x = ix2 r k := ⟨x 0, x 1, eq_ix2 x⟩
  have hk := k.isLt
  have hr := r.isLt
  have e0 : ((Rect.unit (s := S1024x1024) ![256 * a, 128 * b] S256x128.size (tileInb a b ha hb)).emb (ix2 r k)) 0 = (⟨256 * a + r.val, by omega⟩ : Fin 1024) :=
    Fin.ext (by show 256 * a + 1 * r.val = 256 * a + r.val; omega)
  have e1 : ((Rect.unit (s := S1024x1024) ![256 * a, 128 * b] S256x128.size (tileInb a b ha hb)).emb (ix2 r k)) 1 = (⟨128 * b + k.val, by omega⟩ : Fin 1024) :=
    Fin.ext (by show 128 * b + 1 * k.val = 128 * b + k.val; omega)
  rw [e0, e1]
  have hP : ∀ l : Fin 128, (extractStridedSlice S256x128 ![0, 128 * b]
      (k0_pay23 w (View.ld h (Rect.unit (s := S1024x2048) ![256 * a, 0] S256x2048.size (rowInb a ha)))) (tileSl b hb) (ix2 r l) : EReal)
      = prodAt h w ⟨256 * a + r.val, by omega⟩ ⟨128 * b + l.val, by omega⟩ := fun l => by
    refine (slice2_axis1_apply (128 * b) _ _ r l ⟨128 * b + l.val, by omega⟩ rfl).trans ((pay23_apply w _ r _).trans ?_)
    refine Finset.sum_congr rfl fun k' _ => congrArg₂ (fun a z : EReal => a * z) ?_ rfl
    refine congrArg h (funext fun ax => Fin.ext ?_)
    match ax with
    | ⟨0, _⟩ => show 256 * a + 1 * r.val = 256 * a + r.val; omega
    | ⟨1, _⟩ => show 0 + 1 * k'.val = k'.val; omega
  refine (headTile_apply v8 (128 * b) (tileSl b hb) _ _ r k _ hP).trans ?_
  unfold headAt
  refine congrArg₂ (fun (s : Fin 128 → EReal) (g : EReal) => prodAt h w ⟨256 * a + r.val, by omega⟩ ⟨128 * b + k.val, by omega⟩ * (v8 * headScale s + (1 - v8)) * g) ?_ ?_
  · funext l
    have hl := l.isLt
    refine congrArg (prodAt h w _) (Fin.ext ?_)
    show 128 * b + l.val = (128 * b + k.val) / 128 * 128 + l.val
    omega
  · refine congrArg gs (funext fun ax => Fin.ext ?_)
    match ax with
    | ⟨0, _⟩ => rfl
    | ⟨1, _⟩ => show 128 * b + 1 * k.val = 128 * b + k.val; omega

/-- What a block's tiles leave. -/
theorem tiles_apply (v8 : EReal) (w : Vec Ideal S1x1024x2048 .f32) (h : FVec Ideal S1024x2048 .bf16) (gs : Vec Ideal S1x1024 .f32) (R K : Fin 1024) :
    (View.canon (tiles (F := Ideal) v8 w h gs) (ix2 R K) : EReal) = headAt v8 w h gs R K := by
  refine View.canon_apply_of_pieces (Val := Elt Ideal) (e := .bf16) (S := S1024x1024) (fun y => headAt v8 w h gs (y 0) (y 1)) _ ?_ (ix2 R K) ?_
  · unfold tiles quarter
    simp only [List.forall_mem_cons, List.not_mem_nil, false_imp_iff, implies_true, and_true]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
      exact tile_ok v8 w h gs _ _ (by decide) (by decide)
  · have hK := K.isLt
    have hR := R.isLt
    have hm : ∀ (a b : ℕ) (ha : a < 4) (hb : b < 8), a = R.val / 256 → b = K.val / 128 → (ix2 R K : S1024x1024.Idx) ∈ (tile (F := Ideal) v8 w h gs a b ha hb).1.set := by
      intro a b ha hb ea eb
      have e : (ix2 R K : S1024x1024.Idx) = (Rect.unit (s := S1024x1024) ![256 * a, 128 * b] S256x128.size (tileInb a b ha hb)).emb
          (ix2 (⟨R.val % 256, by omega⟩ : Fin 256) (⟨K.val % 128, by omega⟩ : Fin 128)) := by
        funext ax
        apply Fin.ext
        match ax with
        | ⟨0, _⟩ => show R.val = 256 * a + 1 * (R.val % 256); omega
        | ⟨1, _⟩ => show K.val = 128 * b + 1 * (K.val % 128); omega
      rw [e]
      rw [← Rect.map_emb_univ]
      exact Finset.mem_map_of_mem _ (Finset.mem_univ _)
    have hmem : ∀ (a b : ℕ) (ha : a < 4) (hb : b < 8), tile (F := Ideal) v8 w h gs a b ha hb ∈ tiles (F := Ideal) v8 w h gs := by
      intro a b ha hb
      unfold tiles quarter
      interval_cases a <;> interval_cases b <;> simp
    exact ⟨_, hmem (R.val / 256) (K.val / 128) (by omega) (by omega), hm _ _ _ _ rfl rfl⟩

end Cert.Proof.Proj
-- ==== Proof.ProjBlock.lean ====
/-
  What each of the projection's three kinds of point leaves: its block of the results, its normalized rows and its carried sums,
  as functions of the blocks it takes and of what the point before left.
-/
module

public import proofs.«01_k».proof.Proof.ProjHead

@[expose] public section

set_option maxRecDepth 16384

noncomputable section

namespace Cert.Proof.Proj

open Cert.Kernel3Ideal Cert.Kernel3Ideal.Gen
open Idealize.ShloMosaic
open Idealize.ShloMosaic.TcCoe Idealize.ShloMosaic.Tactic
open Idealize.SL Idealize.SL.RA Idealize.SL.BI

variable {F : FTy → Type} [FloatOps F]

theorem zero2 : (![0, 0] : Fin 2 → ℕ) = fun _ => 0 := by decide
theorem zero3 : (![0, 0, 0] : Fin 3 → ℕ) = fun _ => 0 := by decide

/-- A load from a buffer stored whole just before is a load of what was stored, -/
theorem readCov_cons {S : Shape} {e : EltTy} (v : View sig .tc .vmem S e) (w : S.Idx → Elt F e) {off : Fin S.rank → ℕ} (h : off = fun _ => 0)
    (inb : ∀ a, off a + S.size a ≤ S.size a) (L : List (View.Piece (Elt F) S e)) (r : Rect S) :
    v.readCov (Val := Elt F) (⟨Rect.unit off S.size inb, w⟩ :: L) r.toLoadRect = View.ld w r := by
  rw [View.readCov_eq_canon_ld _ _ _ fun y => ⟨_, List.mem_cons_self, View.mem_set_unit_zero h inb y⟩, View.canon_cons_unit_zero h]
/-- for the rows a point normalizes in particular. -/
theorem readCov_whole (v : View sig .tc .vmem S1024x2048 .bf16) (w : FVec F S1024x2048 .bf16) (inb) (r : Rect S1024x2048) :
    v.readCov (Val := Elt F) [(⟨Rect.unit (s := S1024x2048) ![0, 0] ![1024, 2048] inb, w⟩ : View.Piece (Elt F) S1024x2048 .bf16)] r.toLoadRect = View.ld w r :=
  readCov_cons (S := S1024x2048) v w zero2 inb [] r

section Points
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x1024 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (arg12 : Memref sig .tc .vmem S8x128 .f32) (harg12 : arg12.IsWhole)
  (x0 : Vec F S1024x2048 .f32) (x1 : Vec F S1x2048 .f32) (x2 : Vec F S1x1024x2048 .f32) (x3 : Vec F S1x1024 .f32) (x4 : Vec F S128x2048 .f32) (x5 : Vec F S1x128 .f32) (x6 : Vec F S128x128 .bf16) (xo8 : Vec F S16x1024 .f32) (xs0 : Vec F S1024x2048 .bf16) (xs1 : Vec F S8x128 .f32)
/-- The block of the first result. -/
theorem block_B (hc0 : ¬cond0_0 i) : out0_B_7 c i arg2 harg2 arg3 harg3 arg4 harg4 arg5 harg5 arg6 harg6 arg7 harg7 arg8 harg8 arg9 harg9 arg10 harg10 arg11 harg11 arg12 harg12 hc0 x0 x1 x2 x3 x4 x5 x6 xo8 xs0 xs1 = View.canon (tiles (k0_pay22 i) x2 xs0 x3) := by
  unfold out0_B_7
  rw [View.read_writes_eq_canon _ _ _ (cover0_B_7 c _ _ _ _ _ _ _ _ _ _ _ _ _ _ _ _ _ _ _ _ _ _ _ _ _ _ _ _ _ _ _ _ _ _)]
  unfold kernelRun0_B
  dsimp only
  sl_unfold_words
  simp only [View.readAt_eq_ld, harg2.read_unread, harg3.read_unread, harg4.read_unread, harg5.read_unread, harg6.read_unread, harg7.read_unread, harg8.read_unread, harg11.read_unread, harg12.read_unread, readCov_whole, View.ld_unit_zero (S := S1x1024x2048) zero3, View.ld_unit_zero (S := S1024x2048) zero2, View.ld_unit_zero (S := S1x2048) zero2, View.ld_unit_zero (S := S128x2048) zero2, View.ld_unit_zero (S := S1x128) zero2, View.ld_unit_zero (S := S128x128) zero2]
  refine congrArg View.canon ?_
  unfold tiles quarter
  refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl))))))))))))))))))))))))))))))) <;> rfl
/-- The block of the first result. -/
theorem block_A (hc0 : cond0_0 i) (hc1 : cond0_1 i) : out0_A_7 c i arg2 harg2 arg3 harg3 arg4 harg4 arg5 harg5 arg6 harg6 arg7 harg7 arg8 harg8 arg9 harg9 arg10 harg10 arg11 harg11 arg12 harg12 hc0 hc1 x0 x1 x2 x3 x4 x5 x6 = View.canon (tiles (k0_pay22 i) x2 (k0_pay3 x0 x1) x3) := by
  unfold out0_A_7
  rw [View.read_writes_eq_canon _ _ _ (cover0_A_7 c _ _ _ _ _ _ _ _ _ _ _ _ _ _ _ _ _ _ _ _ _ _ _ _ _ _ _ _ _ _ _ _)]
  unfold kernelRun0_A
  dsimp only
  sl_unfold_words
  simp only [View.readAt_eq_ld, harg2.read_unread, harg3.read_unread, harg4.read_unread, harg5.read_unread, harg6.read_unread, harg7.read_unread, harg8.read_unread, harg11.read_unread, harg12.read_unread, readCov_whole, View.ld_unit_zero (S := S1x1024x2048) zero3, View.ld_unit_zero (S := S1024x2048) zero2, View.ld_unit_zero (S := S1x2048) zero2, View.ld_unit_zero (S := S128x2048) zero2, View.ld_unit_zero (S := S1x128) zero2, View.ld_unit_zero (S := S128x128) zero2]
  refine congrArg View.canon ?_
  unfold tiles quarter
  refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl))))))))))))))))))))))))))))))) <;> rfl
/-- The block of the first result. -/
theorem block_C (hc0 : cond0_0 i) (hc1 : ¬cond0_1 i) : out0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs1 = View.canon (tiles (k0_pay22 i) x2 (k0_pay3 x0 x1) x3) := by
  unfold out0_C_7
  rw [View.read_writes_eq_canon _ _ _ (cover0_C_7 c _ _ _ _ _ _ _ _ _ _ _ _ _ _ _ _ _ _ _ _ _ _ _ _ _ _ _ _ _ _ _ _ _)]
  unfold kernelRun0_C
  dsimp only
  sl_unfold_words
  simp only [View.readAt_eq_ld, harg2.read_unread, harg3.read_unread, harg4.read_unread, harg5.read_unread, harg6.read_unread, harg7.read_unread, harg8.read_unread, harg11.read_unread, harg12.read_unread, readCov_whole, View.ld_unit_zero (S := S1x1024x2048) zero3, View.ld_unit_zero (S := S1024x2048) zero2, View.ld_unit_zero (S := S1x2048) zero2, View.ld_unit_zero (S := S128x2048) zero2, View.ld_unit_zero (S := S1x128) zero2, View.ld_unit_zero (S := S128x128) zero2]
  refine congrArg View.canon ?_
  unfold tiles quarter
  refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl))))))))))))))))))))))))))))))) <;> rfl

end Points

end Cert.Proof.Proj
-- ==== Proof.ProjSum.lean ====
/-
  The sums the projection carries: the running sums of a block, and what a row block's first point leaves of them.
-/
module

public import proofs.«01_k».proof.Proof.ProjBlock

@[expose] public section

set_option maxRecDepth 16384

noncomputable section

namespace Cert.Proof.Proj

open Cert.Kernel3Ideal Cert.Kernel3Ideal.Gen
open Idealize.ShloMosaic
open Idealize.ShloMosaic.TcCoe Idealize.ShloMosaic.Tactic
open Idealize.SL Idealize.SL.RA Idealize.SL.BI

variable {F : FTy → Type} [FloatOps F]

/-! ## The running sums of a block -/

theorem partSl (r : ℕ) (hr : r < 8) : S1024x128.Slices ![128 * r, 0] S128x128 := by
  refine ⟨rfl, fun x => ?_⟩
  match x with
  | ⟨0, _⟩ => show 128 * r + 128 ≤ 1024; omega
  | ⟨1, _⟩ => show 0 + 128 ≤ 128; omega

/-- The running sums of 128 rows, from the sums `cr` before them: the rows split in three by rounding, each times the triangle. -/
def part (lf : FVec F S1024x128 .f32) (tri : Vec F S128x128 .bf16) (r : ℕ) (hr : r < 8) (cr : Vec F S1x128 .f32) : FVec F S128x128 .f32 :=
  let x : FVec F S128x128 .f32 := extractStridedSlice S128x128 ![128 * r, 0] lf (partSl r hr)
  let y : FVec F S128x128 .f32 := subf x (extf .f32 (truncf .bf16 x bitsLt_bf16_f32) bitsLt_bf16_f32)
  let z : FVec F S128x128 .f32 := subf y (extf .f32 (truncf .bf16 y bitsLt_bf16_f32) bitsLt_bf16_f32)
  addf (addf (addf (matmul dot_S128x128_S128x128_S128x128_1_0_0_1_n_n none (k0_pay6 tri) (truncf .bf16 x bitsLt_bf16_f32) (constant S128x128 .f32 0x00000000#32))
    (matmul dot_S128x128_S128x128_S128x128_1_0_0_1_n_n none (k0_pay6 tri) (truncf .bf16 y bitsLt_bf16_f32) (constant S128x128 .f32 0x00000000#32)))
    (matmul dot_S128x128_S128x128_S128x128_1_0_0_1_n_n none (k0_pay6 tri) (truncf .bf16 z bitsLt_bf16_f32) (constant S128x128 .f32 0x00000000#32)))
    (broadcastTo S128x128 cr broadcasts_S1x128_S128x128)

/-- The last of 128 rows of sums. -/
def lastRow (v : FVec F S128x128 .f32) : FVec F S1x128 .f32 := extractStridedSlice S1x128 ![127, 0] v slices_S128x128_o127_0_S1x128

/-- The sums before a block's part `r`, from those before the block. -/
def before (lf : FVec F S1024x128 .f32) (tri : Vec F S128x128 .bf16) (cr : Vec F S1x128 .f32) : (r : ℕ) → r ≤ 8 → Vec F S1x128 .f32
  | 0, _ => cr
  | r + 1, h => lastRow (part lf tri r h (before lf tri cr r (Nat.le_of_succ_le h)))

/-- The running sums of part `r`. -/
def partSum (lf : FVec F S1024x128 .f32) (tri : Vec F S128x128 .bf16) (cr : Vec F S1x128 .f32) (r : ℕ) (hr : r < 8) : FVec F S128x128 .f32 :=
  part lf tri r hr (before lf tri cr r (Nat.le_of_lt hr))

/-- A block's running sums, in units of the base-two logarithm and turned, for the sixteen heads. -/
def sumBlock (lf : FVec F S1024x128 .f32) (tri : Vec F S128x128 .bf16) (cr : Vec F S1x128 .f32) : FVec F S16x1024 .f32 :=
  extractStridedSlice S16x1024 ![0, 0] (transpose S128x1024 [1, 0] (mulf (concatenate S1024x128 0 [⟨S128x128, partSum lf tri cr 0 (by decide)⟩, ⟨S128x128, partSum lf tri cr 1 (by decide)⟩, ⟨S128x128, partSum lf tri cr 2 (by decide)⟩, ⟨S128x128, partSum lf tri cr 3 (by decide)⟩, ⟨S128x128, partSum lf tri cr 4 (by decide)⟩, ⟨S128x128, partSum lf tri cr 5 (by decide)⟩, ⟨S128x128, partSum lf tri cr 6 (by decide)⟩, ⟨S128x128, partSum lf tri cr 7 (by decide)⟩] concatenates_S128x128_S128x128_S128x128_S128x128_S128x128_S128x128_S128x128_S128x128_S1024x128_d0)
    (broadcast S1024x128 (Scalar.ofBits .f32 0x3FB8AA3B#32))) transposes_S1024x128_p1_0_S128x1024) slices_S128x1024_o0_0_S16x1024

/-- The first of the eight carried rows. -/
def row0 (v : Vec F S8x128 .f32) : Vec F S1x128 .f32 := View.ld v (Rect.unit (s := S8x128) ![0, 0] ![1, 128] inb_S8x128_S1x128_0_0)

theorem row0_cons (w : Vec F S1x128 .f32) (L : List (View.Piece (Elt F) S8x128 .f32)) :
    row0 (View.canon ((⟨Rect.unit (s := S8x128) ![0, 0] ![1, 128] inb_S8x128_S1x128_0_0, w⟩ : View.Piece (Elt F) S8x128 .f32) :: L)) = w := by
  funext x
  exact View.canon_cons_emb (Val := Elt F) (Rect.unit (s := S8x128) ![0, 0] ![1, 128] inb_S8x128_S1x128_0_0) w L x

theorem row0_read (v : View sig .tc .vmem S8x128 .f32) (f : v.ty.Contents (Elt F)) (w : Vec F S1x128 .f32) (L : List (View.Piece (Elt F) S8x128 .f32)) :
    row0 (v.read (Elt F) (v.writes (Elt F) f ((⟨Rect.unit (s := S8x128) ![0, 0] ![1, 128] inb_S8x128_S1x128_0_0, w⟩ : View.Piece (Elt F) S8x128 .f32) :: L))) = w := by
  funext x
  exact View.read_writes_cons_emb v f (Rect.unit (s := S8x128) ![0, 0] ![1, 128] inb_S8x128_S1x128_0_0) w L x

/-- Sums loaded from a carry zeroed just before. -/
theorem readCov_zero (v : View sig .tc .vmem S8x128 .f32) (w : FVec F S8x128 .f32) (inb) (r : Rect S8x128) :
    v.readCov (Val := Elt F) [(⟨Rect.unit (s := S8x128) ![0, 0] ![8, 128] inb, w⟩ : View.Piece (Elt F) S8x128 .f32)] r.toLoadRect = View.ld w r :=
  readCov_cons (S := S8x128) v w zero2 inb [] r

section Points
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x1024 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S1024x1024 .bf16) (harg9 : arg9.IsWhole) (arg10 : Memref sig .tc .vmem S16x1024 .f32) (harg10 : arg10.IsWhole) (arg11 : Memref sig .tc .vmem S1024x2048 .bf16) (harg11 : arg11.IsWhole) (arg12 : Memref sig .tc .vmem S8x128 .f32) (harg12 : arg12.IsWhole)
  (x0 : Vec F S1024x2048 .f32) (x1 : Vec F S1x2048 .f32) (x2 : Vec F S1x1024x2048 .f32) (x3 : Vec F S1x1024 .f32) (x4 : Vec F S128x2048 .f32) (x5 : Vec F S1x128 .f32) (x6 : Vec F S128x128 .bf16) (xo8 : Vec F S16x1024 .f32) (xs0 : Vec F S1024x2048 .bf16) (xs1 : Vec F S8x128 .f32)
/-- The block of the second result. -/
theorem sums_A (hc0 : cond0_0 i) (hc1 : cond0_1 i) : out0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 = sumBlock (k0_pay4 x0 x1 x4 x5) x6 (row0 k0_pay5) := by
  unfold out0_A_8
  rw [View.read_writes_eq_canon _ _ _ (cover0_A_8 c _ _ _ _ _ _ _ _ _ _ _ _ _ _ _ _ _ _ _ _ _ _ _ _ _ _ _ _ _ _ _ _)]
  unfold kernelRun0_A
  dsimp only
  sl_unfold_words
  simp only [View.readAt_eq_ld, harg2.read_unread, harg3.read_unread, harg4.read_unread, harg5.read_unread, harg6.read_unread, harg7.read_unread, harg8.read_unread, harg11.read_unread, harg12.read_unread, readCov_whole, readCov_zero, View.ld_unit_zero (S := S1x1024x2048) zero3, View.ld_unit_zero (S := S1024x2048) zero2, View.ld_unit_zero (S := S1x2048) zero2, View.ld_unit_zero (S := S128x2048) zero2, View.ld_unit_zero (S := S1x128) zero2, View.ld_unit_zero (S := S128x128) zero2]
  exact View.canon_unit_zero (S := S16x1024) zero2 _ _
/-- The normalized rows. -/
theorem rows_A (hc0 : cond0_0 i) (hc1 : cond0_1 i) : sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay3 x0 x1 := by
  unfold sout0_A_0
  rw [View.read_writes_eq_canon _ _ _ (scover0_A_0 c _ _ _ _ _ _ _ _ _ _ _ _ _ _ _ _ _ _ _ _ _ _ _ _ _ _ _ _ _ _ _ _)]
  unfold kernelRun0_A
  dsimp only
  sl_unfold_words
  simp only [View.readAt_eq_ld, harg2.read_unread, harg3.read_unread, harg4.read_unread, harg5.read_unread, harg6.read_unread, harg7.read_unread, harg8.read_unread, harg11.read_unread, harg12.read_unread, readCov_whole, readCov_zero, View.ld_unit_zero (S := S1x1024x2048) zero3, View.ld_unit_zero (S := S1024x2048) zero2, View.ld_unit_zero (S := S1x2048) zero2, View.ld_unit_zero (S := S128x2048) zero2, View.ld_unit_zero (S := S1x128) zero2, View.ld_unit_zero (S := S128x128) zero2]
  exact View.canon_unit_zero (S := S1024x2048) zero2 _ _
/-- The block of the second result. -/
theorem sums_C (hc0 : cond0_0 i) (hc1 : ¬cond0_1 i) : out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 xs1 = sumBlock (k0_pay4 x0 x1 x4 x5) x6 (row0 xs1) := by
  unfold out0_C_8
  rw [View.read_writes_eq_canon _ _ _ (cover0_C_8 c _ _ _ _ _ _ _ _ _ _ _ _ _ _ _ _ _ _ _ _ _ _ _ _ _ _ _ _ _ _ _ _ _)]
  unfold kernelRun0_C
  dsimp only
  sl_unfold_words
  simp only [View.readAt_eq_ld, harg2.read_unread, harg3.read_unread, harg4.read_unread, harg5.read_unread, harg6.read_unread, harg7.read_unread, harg8.read_unread, harg11.read_unread, harg12.read_unread, readCov_whole, readCov_zero, View.ld_unit_zero (S := S1x1024x2048) zero3, View.ld_unit_zero (S := S1024x2048) zero2, View.ld_unit_zero (S := S1x2048) zero2, View.ld_unit_zero (S := S128x2048) zero2, View.ld_unit_zero (S := S1x128) zero2, View.ld_unit_zero (S := S128x128) zero2]
  exact View.canon_unit_zero (S := S16x1024) zero2 _ _
/-- The normalized rows. -/
theorem rows_C (hc0 : cond0_0 i) (hc1 : ¬cond0_1 i) : sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs1 = k0_pay3 x0 x1 := by
  unfold sout0_C_0
  rw [View.read_writes_eq_canon _ _ _ (scover0_C_0 c _ _ _ _ _ _ _ _ _ _ _ _ _ _ _ _ _ _ _ _ _ _ _ _ _ _ _ _ _ _ _ _ _)]
  unfold kernelRun0_C
  dsimp only
  sl_unfold_words
  simp only [View.readAt_eq_ld, harg2.read_unread, harg3.read_unread, harg4.read_unread, harg5.read_unread, harg6.read_unread, harg7.read_unread, harg8.read_unread, harg11.read_unread, harg12.read_unread, readCov_whole, readCov_zero, View.ld_unit_zero (S := S1x1024x2048) zero3, View.ld_unit_zero (S := S1024x2048) zero2, View.ld_unit_zero (S := S1x2048) zero2, View.ld_unit_zero (S := S128x2048) zero2, View.ld_unit_zero (S := S1x128) zero2, View.ld_unit_zero (S := S128x128) zero2]
  exact View.canon_unit_zero (S := S1024x2048) zero2 _ _
/-- The first carried row. -/
theorem carry_A (hc0 : cond0_0 i) (hc1 : cond0_1 i) : row0 (sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6) = before (k0_pay4 x0 x1 x4 x5) x6 (row0 k0_pay5) 8 (le_refl 8) := by
  unfold sout0_A_1
  rw [View.read_writes_eq_canon _ _ _ (scover0_A_1 c _ _ _ _ _ _ _ _ _ _ _ _ _ _ _ _ _ _ _ _ _ _ _ _ _ _ _ _ _ _ _ _)]
  unfold kernelRun0_A
  dsimp only
  sl_unfold_words
  simp only [View.readAt_eq_ld, harg2.read_unread, harg3.read_unread, harg4.read_unread, harg5.read_unread, harg6.read_unread, harg7.read_unread, harg8.read_unread, harg11.read_unread, harg12.read_unread, readCov_whole, readCov_zero, View.ld_unit_zero (S := S1x1024x2048) zero3, View.ld_unit_zero (S := S1024x2048) zero2, View.ld_unit_zero (S := S1x2048) zero2, View.ld_unit_zero (S := S128x2048) zero2, View.ld_unit_zero (S := S1x128) zero2, View.ld_unit_zero (S := S128x128) zero2]
  exact (row0_cons (F := F) _ _).trans (shapeCast_self _ _)

theorem carry_C (hc0 : cond0_0 i) (hc1 : ¬cond0_1 i) : row0 (sout0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs1) = before (k0_pay4 x0 x1 x4 x5) x6 (row0 xs1) 8 (le_refl 8) := by
  unfold sout0_C_1 kernelRun0_C
  dsimp only
  sl_unfold_words
  simp only [View.readAt_eq_ld, harg2.read_unread, harg3.read_unread, harg4.read_unread, harg5.read_unread, harg6.read_unread, harg7.read_unread, harg8.read_unread, harg11.read_unread, harg12.read_unread, readCov_whole, readCov_zero, View.ld_unit_zero (S := S1x1024x2048) zero3, View.ld_unit_zero (S := S1024x2048) zero2, View.ld_unit_zero (S := S1x2048) zero2, View.ld_unit_zero (S := S128x2048) zero2, View.ld_unit_zero (S := S1x128) zero2, View.ld_unit_zero (S := S128x128) zero2]
  exact (row0_read (F := F) _ _ _ _).trans (shapeCast_self _ _)

end Points

end Cert.Proof.Proj
-- ==== Proof.ProjScan.lean ====
/-
  Running sums at exact arithmetic: the reference's cumulative sum down the rows, the logarithm of a gate in the two
  spellings, and a value split in three and summed again.
-/
module

public import proofs.«01_k».proof.Proof.Gen.Reference3Ideal.Run
public import Idealize.ShloMosaic.Lib.Routing.OpsOne
public import Idealize.ShloMosaic.Lib.IdealHost

@[expose] public section

set_option maxRecDepth 16384

noncomputable section

namespace Cert.Proof.Proj

open Idealize.ShloMosaic
open Idealize.ShloMosaic.ValueIdx

/-! ## Sums -/

theorem foldl_sum {ι : Type} (l : List ι) (step : EReal → ι → EReal) (g : ι → EReal) (hs : ∀ r n, step r n = r + g n) (z : EReal) :
    l.foldl step z = z + (l.map g).sum := by
  induction l generalizing z with
  | nil => exact (add_zero z).symm
  | cons a l ih => rw [List.foldl_cons, ih, hs, List.map_cons, List.sum_cons, add_assoc]

/-- The reading positions of a window that ends at `j`. -/
theorem window_sum (f : ℕ → EReal) (K j : ℕ) (hj : j ≤ K) :
    ∑ w ∈ Finset.range (K + 1), (if K ≤ j + w then f (j + w - K) else 0) = ∑ s ∈ Finset.range (j + 1), f s := by
  obtain ⟨d, rfl⟩ : ∃ d, K = j + d := ⟨K - j, by omega⟩
  rw [show j + d + 1 = d + (j + 1) by omega, Finset.sum_range_add]
  rw [Finset.sum_eq_zero (s := Finset.range d) fun w hw => if_neg (by have := Finset.mem_range.1 hw; omega), zero_add]
  refine Finset.sum_congr rfl fun w _ => ?_
  rw [if_pos (by omega)]
  exact congrArg f (by omega)

open Idealize.ShloMosaic.Routing in
/-- A cumulative sum down the rows, at an entry. -/
theorem rows_sum {K C : ℕ} (x : FVec Ideal (shape2 (K + 1) C) .f32) (f : ℕ → Fin C → EReal) (hx : ∀ (s : Fin (K + 1)) (n : Fin C), (x (ix2 s n) : EReal) = f s.val n)
    (init : EReal) (hi : init = 0)
    (h : (shape2 (K + 1) C).ReduceWindows (![K + 1, 1] : Fin 2 → ℕ) ![1, 1] ![K, 0] ![0, 0] (shape2 (K + 1) C)) (hu : 0 < shape0.numel) (j : Fin (K + 1)) (n : Fin C) :
    (Host.reduceWindow (fun a b : EReal => a + b) ![K + 1, 1] ![1, 1] ![K, 0] ![0, 0] (x : (shape2 (K + 1) C).Idx → EReal) (fun _ : shape0.Idx => init) h hu (ix2 j n) : EReal)
      = ∑ s ∈ Finset.range (j.val + 1), f s n := by
  have hj := j.isLt
  have hn := n.isLt
  unfold Host.reduceWindow
  refine (foldl_sum _ _ (fun w => if K ≤ j.val + w.val then f (j.val + w.val - K) n else 0) (fun r w => congrArg (r + ·) ?_) _).trans ?_
  · have h0 : ((shape2 (K + 1) 1).rowMajor.symm w 0).val = w.val := by rw [symm_col]; rfl
    have h1 : ((shape2 (K + 1) 1).rowMajor.symm w 1).val = 0 := by rw [symm_col]; rfl
    have hw : w.val < K + 1 := (w.cast (numel_col _)).isLt
    dsimp only
    split
    · next hin =>
      have a0 := hin 0
      change K ≤ j.val * 1 + ((shape2 (K + 1) 1).rowMajor.symm w 0).val ∧ j.val * 1 + ((shape2 (K + 1) 1).rowMajor.symm w 0).val - K < K + 1 at a0
      rw [h0] at a0
      rw [if_pos (by omega)]
      refine (congrArg x (funext fun a => Fin.ext ?_)).trans (hx ⟨j.val + w.val - K, by omega⟩ n)
      match a with
      | ⟨0, _⟩ =>
        show j.val * 1 + ((shape2 (K + 1) 1).rowMajor.symm w 0).val - K = j.val + w.val - K
        rw [h0, Nat.mul_one]
      | ⟨1, _⟩ =>
        show n.val * 1 + ((shape2 (K + 1) 1).rowMajor.symm w 1).val - 0 = n.val
        rw [h1]
        omega
    · next hin =>
      rw [if_neg fun hle => hin fun a => by
        match a with
        | ⟨0, _⟩ =>
          show K ≤ j.val * 1 + ((shape2 (K + 1) 1).rowMajor.symm w 0).val ∧ j.val * 1 + ((shape2 (K + 1) 1).rowMajor.symm w 0).val - K < K + 1
          rw [h0]
          omega
        | ⟨1, _⟩ =>
          show 0 ≤ n.val * 1 + ((shape2 (K + 1) 1).rowMajor.symm w 1).val ∧ n.val * 1 + ((shape2 (K + 1) 1).rowMajor.symm w 1).val - 0 < C
          rw [h1]
          omega]
      exact hi
  · rw [hi, zero_add, ← Fin.sum_univ_def, Fin.sum_univ_eq_sum_range (fun w => if K ≤ j.val + w then f (j.val + w - K) n else 0)]
    exact (congrArg (fun M => ∑ w ∈ Finset.range M, (if K ≤ j.val + w then f (j.val + w - K) n else 0)) (numel_col (K + 1))).trans
      (window_sum (fun s => f s n) K j.val (by omega))

/-! ## The gate -/

/-- The logarithm of a gate, as the kernel spells it, -/
def logGate (f : EReal) : EReal := min f 0 - Ideal.log1p (Ideal.exp (0 - max f (-f)))

theorem log1p_exp_real (r : ℝ) : ∃ y : ℝ, Ideal.log1p (Ideal.exp ((r : ℝ) : EReal)) = (y : EReal) := by
  have h1 : Ideal.exp ((r : ℝ) : EReal) = ((Real.exp r : ℝ) : EReal) := rfl
  have hp := Real.exp_pos r
  refine ⟨Real.log (1 + Real.exp r), ?_⟩
  rw [h1]
  show Ideal.log (1 + ((Real.exp r : ℝ) : EReal)) = _
  rw [show (1 : EReal) + ((Real.exp r : ℝ) : EReal) = ((1 + Real.exp r : ℝ) : EReal) from rfl]
  show (if 1 + Real.exp r ≤ 0 then (⊥ : EReal) else ((Real.log (1 + Real.exp r) : ℝ) : EReal)) = _
  rw [if_neg (by linarith)]

theorem log1p_exp_bot : Ideal.log1p (Ideal.exp ⊥) = ((0 : ℝ) : EReal) := by
  show Ideal.log (1 + 0) = _
  rw [add_zero]
  show (if (1 : ℝ) ≤ 0 then (⊥ : EReal) else ((Real.log 1 : ℝ) : EReal)) = _
  rw [if_neg (by norm_num), Real.log_one]

/-- its second term is a real number, -/
theorem log1p_exp_abs (f : EReal) : ∃ y : ℝ, Ideal.log1p (Ideal.exp (0 - max f (-f))) = (y : EReal) := by
  induction f with
  | bot => exact ⟨0, by rw [show (0 : EReal) - max ⊥ (-⊥) = ⊥ by simp]; exact log1p_exp_bot⟩
  | top => exact ⟨0, by rw [show (0 : EReal) - max ⊤ (-⊤) = ⊥ by simp]; exact log1p_exp_bot⟩
  | coe r =>
    have e : (0 : EReal) - max (r : EReal) (-(r : EReal)) = ((0 - max r (-r) : ℝ) : EReal) := by
      rw [← EReal.coe_neg, ← EReal.coe_strictMono.monotone.map_max]; rfl
    rw [e]
    exact log1p_exp_real _

/-- and the logarithm is not infinite upwards. -/
theorem logGate_ne_top (f : EReal) : logGate f ≠ ⊤ := by
  obtain ⟨y, hy⟩ := log1p_exp_abs f
  unfold logGate
  rw [hy]
  intro h
  have hm : min f 0 ≤ 0 := min_le_right _ _
  induction hmin : min f 0 with
  | bot => rw [hmin] at h; simp at h
  | top => rw [hmin] at hm; simp at hm
  | coe r => rw [hmin] at h; exact absurd h (EReal.coe_ne_top _)

/-- The logarithm of a gate as the reference spells it is the same. -/
theorem logGate_ref (f : EReal) : -(max (-f) 0 + Ideal.log1p (Ideal.exp (-max (-f) (-(-f))))) = logGate f := by
  obtain ⟨y, hy⟩ := log1p_exp_abs f
  have e : (-max (-f) (-(-f)) : EReal) = 0 - max f (-f) := by rw [neg_neg, max_comm, zero_sub]
  unfold logGate
  rw [e, hy]
  induction f with
  | bot => simp
  | top => simp
  | coe r =>
    rw [← EReal.coe_neg, ← EReal.coe_zero, ← EReal.coe_strictMono.monotone.map_max, ← EReal.coe_strictMono.monotone.map_min, ← EReal.coe_add, ← EReal.coe_neg, ← EReal.coe_sub]
    congr 1
    rcases le_total r 0 with h | h
    · rw [max_eq_left (by linarith), min_eq_left h]; ring
    · rw [max_eq_right (by linarith), min_eq_right h]; ring

/-- A value under a zero or a one, split in three by what a rounding leaves and summed: the value. -/
theorem split3 (t x : EReal) (ht : t = 0 ∨ t = 1) (hx : x ≠ ⊤) : t * x + t * (x - x) + t * (x - x - (x - x)) = t * x := by
  rcases ht with rfl | rfl
  · simp
  · induction x with
    | bot => simp
    | top => exact absurd rfl hx
    | coe r => rw [← EReal.coe_sub, sub_self]; simp

end Cert.Proof.Proj
-- ==== Proof.ProjCarry.lean ====
/-
  The running sums of a block at exact arithmetic: sums of the gates' logarithms over the rows up to each.
-/
module

public import proofs.«01_k».proof.Proof.ProjSum
public import proofs.«01_k».proof.Proof.ProjScan

@[expose] public section

set_option maxRecDepth 16384

noncomputable section

namespace Cert.Proof.Proj

open Cert.Kernel3Ideal Cert.Kernel3Ideal.Gen
open Idealize.ShloMosaic
open Idealize.ShloMosaic.ValueIdx

/-- The normalized rows of a block, -/
theorem pay2_apply (x : FVec Ideal S1024x2048 .f32) (g : FVec Ideal S1x2048 .f32) (i : Fin 1024) (k : Fin 2048) :
    (k0_pay2 (F := Ideal) x g (ix2 i k) : EReal) = Ffn.rowNorm (Ffn.row x i) (Ffn.row g 0) k := by
  unfold k0_pay2
  dsimp only
  rw [shapeCast_self]
  show x (ix2 i k) * broadcastTo S1024x2048 _ _ (ix2 i k) * broadcastTo S1024x2048 g _ (ix2 i k) = _
  rw [Ffn.colBroadcast_apply (by decide) (by decide), broadcastTo_1b_ab_apply]
  show x (ix2 i k) * Ideal.rsqrt (Ideal.div (shapeCast S1024x1 _ _ (ix2 i (0 : Fin 1))) (Ideal.ofBits .f32 0x45000000#32) + Ideal.ofBits .f32 0x358637BD#32) * _ = _
  rw [shapeCast_a_a1_apply]
  refine congrArg (fun z => x (ix2 i k) * Ideal.rsqrt (Ideal.div z (Ideal.ofBits .f32 0x45000000#32) + Ideal.ofBits .f32 0x358637BD#32) * g (ix2 0 k)) ?_
  refine (Ideal.multiReduction_add_single (mulf x x) _ reduces_S1024x2048_S1024 _ _ (ix1 i)).trans (Finset.sum_congr rfl fun c _ => ?_)
  have el : reduces_S1024x2048_S1024.lift (ix1 i) c = ix2 i c := by
    funext ax
    match ax with
    | ⟨0, _⟩ => rfl
    | ⟨1, _⟩ => rfl
  rw [el]
  rfl

theorem pay3_apply (x : FVec Ideal S1024x2048 .f32) (g : FVec Ideal S1x2048 .f32) (i : Fin 1024) (k : Fin 2048) :
    (k0_pay3 (F := Ideal) x g (ix2 i k) : EReal) = Ffn.rowNorm (Ffn.row x i) (Ffn.row g 0) k := by
  unfold k0_pay3
  rw [shapeCast_self]
  exact pay2_apply x g i k

/-- and the logarithms of their gates. -/
theorem pay4_apply (x : FVec Ideal S1024x2048 .f32) (g : FVec Ideal S1x2048 .f32) (w : FVec Ideal S128x2048 .f32) (b : FVec Ideal S1x128 .f32) (i : Fin 1024) (n : Fin 128) :
    (k0_pay4 (F := Ideal) x g w b (ix2 i n) : EReal)
      = logGate ((∑ k : Fin 2048, Ffn.rowNorm (Ffn.row x i) (Ffn.row g 0) k * (w (ix2 n k) : EReal)) + (b (ix2 0 n) : EReal)) := by
  have hf : (addf (matmul dot_S1024x2048_S128x2048_S1024x128_1_1_0_0_n_n none (k0_pay2 (F := Ideal) x g) (truncf .bf16 (shapeCast S128x2048 w shapeCasts_S128x2048_S128x2048) bitsLt_bf16_f32) (constant S1024x128 .f32 0x00000000#32))
      (broadcastTo S1024x128 (shapeCast S1x128 b shapeCasts_S1x128_S1x128) broadcasts_S1x128_S1024x128) (ix2 i n) : EReal)
      = (∑ k : Fin 2048, Ffn.rowNorm (Ffn.row x i) (Ffn.row g 0) k * (w (ix2 n k) : EReal)) + (b (ix2 0 n) : EReal) := by
    rw [shapeCast_self, shapeCast_self]
    refine congrArg₂ (fun a z : EReal => a + z) ?_ (broadcastTo_1b_ab_apply _ _ _ _)
    refine (nt_apply dot_S1024x2048_S128x2048_S1024x128_1_1_0_0_n_n rfl rfl rfl rfl rfl rfl none _ _ i n).trans ?_
    exact Finset.sum_congr rfl fun k _ => congrArg₂ (fun a z : EReal => a * z) (pay2_apply x g i k) rfl
  have h0 : (Ideal.ofBits .f32 0x00000000#32 : EReal) = 0 := Ideal.ofBits_zero_f32
  rw [← hf]
  unfold logGate
  rw [← h0]
  rfl

section Part
variable (lf : FVec Ideal S1024x128 .f32) (tri : FVec Ideal S128x128 .bf16) (cr : FVec Ideal S1x128 .f32)
  (L : ℕ → Fin 128 → EReal) (b : ℕ)
  (htri : ∀ p k : Fin 128, (tri (ix2 p k) : EReal) = if k.val ≤ p.val then 1 else 0)
  (hlf : ∀ (s : Fin 1024) (n : Fin 128), (lf (ix2 s n) : EReal) = L (b + s.val) n)
  (hL : ∀ s n, L s n ≠ ⊤)
  (hcr : ∀ n : Fin 128, (cr (ix2 0 n) : EReal) = ∑ s ∈ Finset.range b, L s n)
include htri hlf hL

/-- The entries a triangle's row takes. -/
theorem tri_sum (o : ℕ) (p n : Fin 128) :
    ∑ k : Fin 128, (if k.val ≤ p.val then (1 : EReal) else 0) * L (o + k.val) n = ∑ k ∈ Finset.range (p.val + 1), L (o + k) n := by
  have hp := p.isLt
  rw [Fin.sum_univ_eq_sum_range (fun k => (if k ≤ p.val then (1 : EReal) else 0) * L (o + k) n) 128]
  have hd : Finset.range 128 = Finset.range ((p.val + 1) + (127 - p.val)) := congrArg Finset.range (by omega)
  rw [hd, Finset.sum_range_add]
  rw [Finset.sum_eq_zero (s := Finset.range (127 - p.val)) fun k _ => by rw [if_neg (by omega), zero_mul], add_zero]
  exact Finset.sum_congr rfl fun k hk => by rw [if_pos (by have := Finset.mem_range.1 hk; omega), one_mul]

theorem part_apply (r : ℕ) (hr : r < 8) (cr : FVec Ideal S1x128 .f32) (p n : Fin 128) (hc : (cr (ix2 0 n) : EReal) = ∑ s ∈ Finset.range (b + 128 * r), L s n) :
    (part (F := Ideal) lf tri r hr cr (ix2 p n) : EReal) = ∑ s ∈ Finset.range (b + 128 * r + p.val + 1), L s n := by
  have hx : ∀ k : Fin 128, (extractStridedSlice S128x128 ![128 * r, 0] lf (partSl r hr) (ix2 k n) : EReal) = L (b + 128 * r + k.val) n := fun k => by
    refine (slice2_axis0_apply (128 * r) _ _ k n ⟨128 * r + k.val, by omega⟩ rfl).trans ((hlf _ n).trans ?_)
    exact congrArg (L · n) (by show b + (128 * r + k.val) = b + 128 * r + k.val; omega)
  have ht : ∀ k : Fin 128, (k0_pay6 (F := Ideal) tri (ix2 p k) : EReal) = if k.val ≤ p.val then 1 else 0 := fun k => by
    unfold k0_pay6
    rw [shapeCast_self]
    exact htri p k
  rw [show b + 128 * r + p.val + 1 = b + 128 * r + (p.val + 1) by omega, Finset.sum_range_add, add_comm (Finset.sum _ _), ← hc]
  show (_ : EReal) + broadcastTo S128x128 cr _ (ix2 p n) = _
  rw [broadcastTo_1b_ab_apply]
  refine congrArg (· + (cr (ix2 0 n) : EReal)) ?_
  refine (congrArg₂ (fun a z : EReal => a + z) (congrArg₂ (fun a z : EReal => a + z) (Ffn.mm_apply none _ _ p n) (Ffn.mm_apply none _ _ p n)) (Ffn.mm_apply none _ _ p n)).trans ?_
  rw [← Finset.sum_add_distrib, ← Finset.sum_add_distrib, ← tri_sum lf tri L b htri hlf hL (b + 128 * r) p n]
  refine Finset.sum_congr rfl fun k _ => ?_
  have e := split3 (k0_pay6 (F := Ideal) tri (ix2 p k) : EReal) (extractStridedSlice S128x128 ![128 * r, 0] lf (partSl r hr) (ix2 k n) : EReal)
    (by rw [ht]; split <;> simp) (by rw [hx]; exact hL _ _)
  rw [hx, ht] at e
  refine Eq.trans ?_ e
  rw [← hx k, ← ht k]
  rfl

include hcr

theorem before_apply : ∀ (r : ℕ) (hr : r ≤ 8) (n : Fin 128), (before (F := Ideal) lf tri cr r hr (ix2 0 n) : EReal) = ∑ s ∈ Finset.range (b + 128 * r), L s n
  | 0, _, n => hcr n
  | r + 1, hr, n => by
    have e := before_apply r (Nat.le_of_succ_le hr) n
    unfold before lastRow
    refine (slice2_axis0_apply 127 _ _ (0 : Fin 1) n (127 : Fin 128) rfl).trans ((part_apply lf tri L b htri hlf hL r hr _ 127 n e).trans ?_)
    exact congrArg (fun M => ∑ s ∈ Finset.range M, L s n) (by show b + 128 * r + 127 + 1 = b + 128 * (r + 1); omega)

theorem partSum_apply (r : ℕ) (hr : r < 8) (p n : Fin 128) : (partSum (F := Ideal) lf tri cr r hr (ix2 p n) : EReal) = ∑ s ∈ Finset.range (b + 128 * r + p.val + 1), L s n :=
  part_apply lf tri L b htri hlf hL r hr _ p n (before_apply lf tri cr L b htri hlf hL hcr r (Nat.le_of_lt hr) n)

/-- A block of the second result. -/
theorem sumBlock_apply (n : Fin 16) (p : Fin 1024) : (sumBlock (F := Ideal) lf tri cr (ix2 n p) : EReal)
    = (∑ s ∈ Finset.range (b + p.val + 1), L s ⟨n.val, by omega⟩) * Ideal.ofBits .f32 0x3FB8AA3B#32 := by
  have hp := p.isLt
  have hn := n.isLt
  unfold sumBlock
  refine (slice2_axis0_apply 0 _ _ n p (⟨n.val, by omega⟩ : Fin 128) (Nat.zero_add _).symm).trans ?_
  refine (transpose_ix2_apply _ _ (⟨n.val, by omega⟩ : Fin 128) p).trans ?_
  refine congrArg (fun z : EReal => z * Ideal.ofBits .f32 0x3FB8AA3B#32) ?_
  refine (concatenate_ofFn_apply (t := S1024x128) (s₁ := S128x128) 0 (fun r : Fin 8 => partSum (F := Ideal) lf tri cr r.val r.isLt) _ rfl 128 rfl
    (ix2 p (⟨n.val, by omega⟩ : Fin 128)) (⟨p.val / 128, by omega⟩ : Fin 8) rfl (ix2 (⟨p.val % 128, by omega⟩ : Fin 128) (⟨n.val, by omega⟩ : Fin 128)) rfl (fun ax h => by
      match ax with
      | ⟨0, _⟩ => exact absurd rfl h
      | ⟨1, _⟩ => rfl)).trans ?_
  refine (partSum_apply lf tri cr L b htri hlf hL hcr _ _ _ _).trans ?_
  exact congrArg (fun M => ∑ s ∈ Finset.range M, L s (⟨n.val, by omega⟩ : Fin 128)) (by show b + 128 * (p.val / 128) + p.val % 128 + 1 = b + p.val + 1; omega)

end Part

end Cert.Proof.Proj
-- ==== Proof.ProjIn.lean ====
/-
  What the projection's input blocks hold, an element at a time, in terms of the call's arguments.
-/
module

public import proofs.«01_k».proof.Proof.ProjCarry
public import Idealize.ShloMosaic.Lib.KernelVsHost

@[expose] public section

set_option maxRecDepth 16384

noncomputable section

namespace Cert.Proof.Proj

open Cert.Kernel3Ideal Cert.Kernel3Ideal.Gen
open Idealize.ShloMosaic Idealize.ShloMosaic.StableHlo
open Idealize.ShloMosaic.TcCoe
open Idealize.ShloMosaic.ValueIdx

section Host
variable {F : FTy → Type} [FloatOps F] (m : (ℓ : Loc nD τ sig) → Buf (Elt F) ℓ) (c : Dev nD)

/-- The three rows of gains, one after the other. -/
def gainRow (u0 u1 u2 : FVec F S2048 .f32) : FVec F S6144 .f32 :=
  concatenate S6144 0 [⟨S2048, u0⟩, ⟨S2048, u1⟩, ⟨S2048, u2⟩] concatenates_S2048_S2048_S2048_S6144_d0

/-- The last operations before the call. -/
abbrev gainOps : List (HloOp τ sig (Elt F)) :=
  [ StableHlo.unary main_v6 main_v7 (broadcastInDim S1x128 ![1] bcast_S128_S1x128_1 : (⟨S128, .f32⟩ : BufTy).Contents (Elt F) → (⟨S1x128, .f32⟩ : BufTy).Contents (Elt F)),
    StableHlo.nullary main_cst_1 (constant S_ .f32 0x3E0293EE#32),
    StableHlo.unary main_cst_1 main_v8 (broadcastInDim S128 ![] bcast_S_S128 : (⟨S_, .f32⟩ : BufTy).Contents (Elt F) → (⟨S128, .f32⟩ : BufTy).Contents (Elt F)),
    StableHlo.binary main_arg4 main_v8 main_v9 (mulf : (⟨S128, .f32⟩ : BufTy).Contents (Elt F) → (⟨S128, .f32⟩ : BufTy).Contents (Elt F) → (⟨S128, .f32⟩ : BufTy).Contents (Elt F)),
    StableHlo.reshape main_v9 main_v10 (rfl : (.f32 : EltTy) = .f32) shapeCasts_S128_S1x128,
    StableHlo.unary main_v10 main_v11 (broadcastInDim S16x128 ![0, 1] bcast_S1x128_S16x128_0_1 : (⟨S1x128, .f32⟩ : BufTy).Contents (Elt F) → (⟨S16x128, .f32⟩ : BufTy).Contents (Elt F)),
    StableHlo.reshape main_v11 main_v12 (rfl : (.f32 : EltTy) = .f32) shapeCasts_S16x128_S2048,
    StableHlo.reshape main_arg5 main_v13 (rfl : (.f32 : EltTy) = .f32) shapeCasts_S128_S1x128,
    StableHlo.unary main_v13 main_v14 (broadcastInDim S16x128 ![0, 1] bcast_S1x128_S16x128_0_1 : (⟨S1x128, .f32⟩ : BufTy).Contents (Elt F) → (⟨S16x128, .f32⟩ : BufTy).Contents (Elt F)),
    StableHlo.reshape main_v14 main_v15 (rfl : (.f32 : EltTy) = .f32) shapeCasts_S16x128_S2048,
    StableHlo.nullary main_cst_2 (constant S_ .f32 0x3F800000#32),
    StableHlo.unary main_cst_2 main_v16 (broadcastInDim S2048 ![] bcast_S_S2048 : (⟨S_, .f32⟩ : BufTy).Contents (Elt F) → (⟨S2048, .f32⟩ : BufTy).Contents (Elt F)),
    StableHlo.nary ![main_v12, main_v15, main_v16] main_v17 (fun u => gainRow (F := F) (u 0) (u 1) (u 2)),
    StableHlo.unary main_v17 main_v18 (broadcastInDim S1x6144 ![1] bcast_S6144_S1x6144_1 : (⟨S6144, .f32⟩ : BufTy).Contents (Elt F) → (⟨S1x6144, .f32⟩ : BufTy).Contents (Elt F)),
    StableHlo.unary main_arg1 main_v19 (broadcastInDim S1x2048 ![1] bcast_S2048_S1x2048_1 : (⟨S2048, .f32⟩ : BufTy).Contents (Elt F) → (⟨S1x2048, .f32⟩ : BufTy).Contents (Elt F)) ]

theorem V_gains (b : Ref sig .tc) : V m c b = after (List.flatten [hostOps0, hostOps0_1, hostOps0_2, hostOps0_3, hostOps0_4, hostOps0_5, gainOps]) (fun b => m (c, b)) b := rfl

/-- The weight, transposed -/
theorem V_v2 : V m c main_v2 = transpose S2x6160x2048 [0, 2, 1] (m ((c : Thread nD τ).loc main_arg2)) transposes_S2x2048x6160_S2x6160x2048_0_2_1 := by
  simp only [V, hostOps0, hostOps0_1, hostOps0_2, hostOps0_3, hostOps0_4, hostOps0_5, hostOps0_6, List.flatten_cons, List.flatten_nil, List.append_nil, List.cons_append, List.nil_append, TRef.binary, TRef.nullary, TRef.unary, TRef.ternary, TRef.toBuf, TRef.ofBuf, cast_eq]
  after_results_simp

/-- and the first rows' gain, -/
theorem V_v19 : V m c main_v19 = broadcastInDim S1x2048 ![1] bcast_S2048_S1x2048_1 (m ((c : Thread nD τ).loc main_arg1)) := by
  simp only [V, hostOps0, hostOps0_1, hostOps0_2, hostOps0_3, hostOps0_4, hostOps0_5, hostOps0_6, List.flatten_cons, List.flatten_nil, List.append_nil, List.cons_append, List.nil_append, TRef.binary, TRef.nullary, TRef.unary, TRef.ternary, TRef.toBuf, TRef.ofBuf, cast_eq]
  after_results_simp

/-- the gates' weight and bias, padded, -/
theorem V_v5 : V m c main_v5 = pad S128x2048 ![0, 0] ![112, 0] ![0, 0] (shapeCast S16x2048 (extractStridedSlice S1x16x2048 ![0, 6144, 0] (transpose S2x6160x2048 [0, 2, 1] (m ((c : Thread nD τ).loc main_arg2)) transposes_S2x2048x6160_S2x6160x2048_0_2_1) slices_S2x6160x2048_S1x16x2048_0_6144_0) shapeCasts_S1x16x2048_S16x2048) (sitofp .f32 (constantI S_ 32 0#32)) pads_S16x2048_S128x2048_01120_000 h_S_ := by
  simp only [V, hostOps0, hostOps0_1, hostOps0_2, hostOps0_3, hostOps0_4, hostOps0_5, hostOps0_6, List.flatten_cons, List.flatten_nil, List.append_nil, List.cons_append, List.nil_append, TRef.binary, TRef.nullary, TRef.unary, TRef.ternary, TRef.toBuf, TRef.ofBuf, cast_eq]
  after_results_simp
  rfl
theorem V_v7 : V m c main_v7 = broadcastInDim S1x128 ![1] bcast_S128_S1x128_1 (pad S128 ![0] ![112] ![0] (m ((c : Thread nD τ).loc main_arg3)) (sitofp .f32 (constantI S_ 32 0#32)) pads_S16_S128_01120 h_S_) := by
  simp only [V, hostOps0, hostOps0_1, hostOps0_2, hostOps0_3, hostOps0_4, hostOps0_5, hostOps0_6, List.flatten_cons, List.flatten_nil, List.append_nil, List.cons_append, List.nil_append, TRef.binary, TRef.nullary, TRef.unary, TRef.ternary, TRef.toBuf, TRef.ofBuf, cast_eq]
  after_results_simp

/-- the triangle -/
theorem V_v1 : V m c main_v1 = select (cmpi .sge (addi (iotaInDim S128x128 32 0) (broadcastInDim S128x128 ![] bcast_S_S128x128 (constantI S_ 32 0#32))) (iotaInDim S128x128 32 1)) (broadcastInDim S128x128 ![] bcast_S_S128x128 (constant S_ .bf16 0x3F80#16)) (broadcastInDim S128x128 ![] bcast_S_S128x128 (constant S_ .bf16 0x0000#16)) := by
  simp only [V, hostOps0, hostOps0_1, hostOps0_2, hostOps0_3, hostOps0_4, hostOps0_5, hostOps0_6, List.flatten_cons, List.flatten_nil, List.append_nil, List.cons_append, List.nil_append, TRef.binary, TRef.nullary, TRef.unary, TRef.ternary, TRef.toBuf, TRef.ofBuf, cast_eq]
  after_results_simp

/-- and the gains of the heads. -/
theorem V_v18 : V m c main_v18 = broadcastInDim S1x6144 ![1] bcast_S6144_S1x6144_1 (gainRow (shapeCast S2048 (broadcastInDim S16x128 ![0, 1] bcast_S1x128_S16x128_0_1 (shapeCast S1x128 (mulf (m ((c : Thread nD τ).loc main_arg4)) (broadcastInDim S128 ![] bcast_S_S128 (constant S_ .f32 0x3E0293EE#32))) shapeCasts_S128_S1x128)) shapeCasts_S16x128_S2048) (shapeCast S2048 (broadcastInDim S16x128 ![0, 1] bcast_S1x128_S16x128_0_1 (shapeCast S1x128 (m ((c : Thread nD τ).loc main_arg5)) shapeCasts_S128_S1x128)) shapeCasts_S16x128_S2048) (broadcastInDim S2048 ![] bcast_S_S2048 (constant S_ .f32 0x3F800000#32))) := by
  rw [V_gains]
  simp only [hostOps0, hostOps0_1, hostOps0_2, hostOps0_3, hostOps0_4, hostOps0_5, gainOps, List.flatten_cons, List.flatten_nil, List.append_nil, List.cons_append, List.nil_append, TRef.binary, TRef.nullary, TRef.unary, TRef.ternary, TRef.toBuf, TRef.ofBuf, cast_eq]
  after_results_simp
  rfl

end Host

section Elements
variable (m : (ℓ : Loc nD τ sig) → Buf (Elt Ideal) ℓ) (c : Dev nD)

/-- The call's arguments. -/
abbrev xA : FVec Ideal S8192x2048 .f32 := m ((c : Thread nD τ).loc main_arg0)
abbrev gA : FVec Ideal S2048 .f32 := m ((c : Thread nD τ).loc main_arg1)
abbrev wA : FVec Ideal S2x2048x6160 .f32 := m ((c : Thread nD τ).loc main_arg2)
abbrev bA : FVec Ideal S16 .f32 := m ((c : Thread nD τ).loc main_arg3)
abbrev qA : FVec Ideal S128 .f32 := m ((c : Thread nD τ).loc main_arg4)
abbrev kA : FVec Ideal S128 .f32 := m ((c : Thread nD τ).loc main_arg5)

/-- Which block of each array a point takes. -/
theorem index_x : ∀ t : Fin cfg0.N, win0_0.index t (0 : Fin 2) = t.val / 6 ∧ win0_0.index t (1 : Fin 2) = 0 := (by decide +kernel : ∀ t : Fin grid0.N, _)
theorem index_g : ∀ t : Fin cfg0.N, win0_1.index t (0 : Fin 2) = 0 ∧ win0_1.index t (1 : Fin 2) = 0 := (by decide +kernel : ∀ t : Fin grid0.N, _)
theorem index_w : ∀ t : Fin cfg0.N, win0_2.index t (0 : Fin 3) = 0 ∧ win0_2.index t (1 : Fin 3) = t.val % 6 ∧ win0_2.index t (2 : Fin 3) = 0 := (by decide +kernel : ∀ t : Fin grid0.N, _)
theorem index_gains : ∀ t : Fin cfg0.N, win0_3.index t (0 : Fin 2) = 0 ∧ win0_3.index t (1 : Fin 2) = t.val % 6 := (by decide +kernel : ∀ t : Fin grid0.N, _)
theorem index_wf : ∀ t : Fin cfg0.N, win0_4.index t (0 : Fin 2) = 0 ∧ win0_4.index t (1 : Fin 2) = 0 := (by decide +kernel : ∀ t : Fin grid0.N, _)
theorem index_bf : ∀ t : Fin cfg0.N, win0_5.index t (0 : Fin 2) = 0 ∧ win0_5.index t (1 : Fin 2) = 0 := (by decide +kernel : ∀ t : Fin grid0.N, _)
theorem index_tri : ∀ t : Fin cfg0.N, win0_6.index t (0 : Fin 2) = 0 ∧ win0_6.index t (1 : Fin 2) = 0 := (by decide +kernel : ∀ t : Fin grid0.N, _)

theorem xblk_apply (t : Fin cfg0.N) (r : Fin 1024) (k : Fin 2048) (R : Fin 8192) (hR : R.val = 1024 * (t.val / 6) + r.val) :
    iblk m c 0 t (ix2 r k) = xA m c (ix2 R k) := by
  obtain ⟨e0, e1⟩ := index_x t
  unfold iblk
  refine Eq.trans ?_ (congrFun (V_main_arg0 m c) (ix2 R k))
  refine congrArg (V m c main_arg0 : FVec Ideal S8192x2048 .f32) (funext fun ax => Fin.ext ?_)
  match ax with
  | ⟨0, _⟩ => show win0_0.index t (0 : Fin 2) * 1024 + 1 * r.val = R.val; omega
  | ⟨1, _⟩ => show win0_0.index t (1 : Fin 2) * 2048 + 1 * k.val = k.val; omega

theorem gblk_apply (t : Fin cfg0.N) (k : Fin 2048) : iblk m c 1 t (ix2 0 k) = gA m c (ix1 k) := by
  obtain ⟨e0, e1⟩ := index_g t
  unfold iblk
  refine Eq.trans (b := (V m c main_v19 : FVec Ideal S1x2048 .f32) (ix2 0 k)) ?_ ?_
  · refine congrArg (V m c main_v19 : FVec Ideal S1x2048 .f32) (funext fun ax => Fin.ext ?_)
    match ax with
    | ⟨0, _⟩ => show win0_1.index t (0 : Fin 2) * 1 + 1 * 0 = 0; omega
    | ⟨1, _⟩ => show win0_1.index t (1 : Fin 2) * 2048 + 1 * k.val = k.val; omega
  · rw [V_v19]
    exact broadcastInDim_apply ![1] bcast_S2048_S1x2048_1 _ (ix2 (0 : Fin 1) k) (ix1 k) (fun a => by
      match a with
      | ⟨0, _⟩ => rfl)

theorem wblk_apply (t : Fin cfg0.N) (K : Fin 1024) (k : Fin 2048) (E : Fin 6160) (hE : E.val = 1024 * (t.val % 6) + K.val) :
    X0_2 m c t (ix3 0 K k) = wA m c (ix3 0 k E) := by
  obtain ⟨e0, e1, e2⟩ := index_w t
  unfold X0_2 Pipeline.Window.fill
  rw [dif_pos (moved0_2 t _)]
  unfold iblk
  refine Eq.trans (b := (V m c main_v2 : FVec Ideal S2x6160x2048 .f32) (ix3 0 E k)) ?_ ?_
  · refine congrArg (V m c main_v2 : FVec Ideal S2x6160x2048 .f32) (funext fun ax => Fin.ext ?_)
    match ax with
    | ⟨0, _⟩ => show win0_2.index t (0 : Fin 3) * 1 + 1 * 0 = 0; omega
    | ⟨1, _⟩ => show win0_2.index t (1 : Fin 3) * 1024 + 1 * K.val = E.val; omega
    | ⟨2, _⟩ => show win0_2.index t (2 : Fin 3) * 2048 + 1 * k.val = k.val; omega
  · rw [V_v2]
    exact transpose_ix3_021_apply _ _ _ _ _

theorem wfblk_apply (t : Fin cfg0.N) (n : Fin 16) (k : Fin 2048) :
    iblk m c 4 t (ix2 (⟨n.val, by omega⟩ : Fin 128) k) = wA m c (ix3 0 k ⟨6144 + n.val, by omega⟩) := by
  obtain ⟨e0, e1⟩ := index_wf t
  unfold iblk
  refine Eq.trans (b := (V m c main_v5 : FVec Ideal S128x2048 .f32) (ix2 (⟨n.val, by omega⟩ : Fin 128) k)) ?_ ?_
  · refine congrArg (V m c main_v5 : FVec Ideal S128x2048 .f32) (funext fun ax => Fin.ext ?_)
    match ax with
    | ⟨0, _⟩ => show win0_4.index t (0 : Fin 2) * 128 + 1 * n.val = n.val; omega
    | ⟨1, _⟩ => show win0_4.index t (1 : Fin 2) * 2048 + 1 * k.val = k.val; omega
  · rw [V_v5]
    refine (pad_apply_of_inside _ _ _ _ _ _ _ (ix2 (⟨n.val, by omega⟩ : Fin 128) k) (ix2 n k) fun a => by
      match a with
      | ⟨0, _⟩ => show n.val = 0 + n.val * (0 + 1); omega
      | ⟨1, _⟩ => show k.val = 0 + k.val * (0 + 1); omega).trans ?_
    refine (shapeCast_1ab_ab_apply _ _ _ _).trans ?_
    refine Eq.trans ?_ (transpose_ix3_021_apply (wA m c) transposes_S2x2048x6160_S2x6160x2048_0_2_1 (0 : Fin 2) (⟨6144 + n.val, by omega⟩ : Fin 6160) k)
    refine congrArg (transpose S2x6160x2048 [0, 2, 1] (wA m c) transposes_S2x2048x6160_S2x6160x2048_0_2_1) (funext fun ax => Fin.ext ?_)
    match ax with
    | ⟨0, _⟩ => rfl
    | ⟨1, _⟩ => rfl
    | ⟨2, _⟩ => exact Nat.zero_add _

theorem bfblk_apply (t : Fin cfg0.N) (n : Fin 16) :
    iblk m c 5 t (ix2 0 (⟨n.val, by omega⟩ : Fin 128)) = bA m c (ix1 n) := by
  obtain ⟨e0, e1⟩ := index_bf t
  unfold iblk
  refine Eq.trans (b := (V m c main_v7 : FVec Ideal S1x128 .f32) (ix2 0 (⟨n.val, by omega⟩ : Fin 128))) ?_ ?_
  · refine congrArg (V m c main_v7 : FVec Ideal S1x128 .f32) (funext fun ax => Fin.ext ?_)
    match ax with
    | ⟨0, _⟩ => show win0_5.index t (0 : Fin 2) * 1 + 1 * 0 = 0; omega
    | ⟨1, _⟩ => show win0_5.index t (1 : Fin 2) * 128 + 1 * n.val = n.val; omega
  · rw [V_v7]
    refine (broadcastInDim_apply ![1] bcast_S128_S1x128_1 _ (ix2 (0 : Fin 1) (⟨n.val, by omega⟩ : Fin 128)) (ix1 (⟨n.val, by omega⟩ : Fin 128)) ( fun a => by
      match a with
      | ⟨0, _⟩ => rfl)).trans ?_
    exact pad_apply_of_inside _ _ _ _ _ _ _ (ix1 (⟨n.val, by omega⟩ : Fin 128)) (ix1 n) fun a => by
      match a with
      | ⟨0, _⟩ => show n.val = 0 + n.val * (0 + 1); omega

/-- What the gates' weight and bias are at a lane, and that every point takes the same. -/
theorem wfblk_same (t t' : Fin cfg0.N) (n : Fin 128) (k : Fin 2048) : iblk m c 4 t (ix2 n k) = iblk m c 4 t' (ix2 n k) := by
  obtain ⟨e0, e1⟩ := index_wf t
  obtain ⟨f0, f1⟩ := index_wf t'
  unfold iblk
  refine congrArg (V m c main_v5 : FVec Ideal S128x2048 .f32) (funext fun ax => Fin.ext ?_)
  match ax with
  | ⟨0, _⟩ => show win0_4.index t (0 : Fin 2) * 128 + 1 * n.val = win0_4.index t' (0 : Fin 2) * 128 + 1 * n.val; omega
  | ⟨1, _⟩ => show win0_4.index t (1 : Fin 2) * 2048 + 1 * k.val = win0_4.index t' (1 : Fin 2) * 2048 + 1 * k.val; omega
theorem bfblk_same (t t' : Fin cfg0.N) (n : Fin 128) : iblk m c 5 t (ix2 0 n) = iblk m c 5 t' (ix2 0 n) := by
  obtain ⟨e0, e1⟩ := index_bf t
  obtain ⟨f0, f1⟩ := index_bf t'
  unfold iblk
  refine congrArg (V m c main_v7 : FVec Ideal S1x128 .f32) (funext fun ax => Fin.ext ?_)
  match ax with
  | ⟨0, _⟩ => show win0_5.index t (0 : Fin 2) * 1 + 1 * 0 = win0_5.index t' (0 : Fin 2) * 1 + 1 * 0; omega
  | ⟨1, _⟩ => show win0_5.index t (1 : Fin 2) * 128 + 1 * n.val = win0_5.index t' (1 : Fin 2) * 128 + 1 * n.val; omega

theorem tri_bit : ∀ p k : Fin 128, Scalar.cmpi .sge (BitVec.ofNat 32 p.val + 0#32) (BitVec.ofNat 32 k.val) = if k.val ≤ p.val then 1#1 else 0#1 := by decide +kernel

theorem triblk_apply (t : Fin cfg0.N) (p k : Fin 128) : (iblk m c 6 t (ix2 p k) : EReal) = (if k.val ≤ p.val then 1 else 0 : EReal) := by
  obtain ⟨e0, e1⟩ := index_tri t
  unfold iblk
  refine Eq.trans (b := ((V m c main_v1 : FVec Ideal S128x128 .bf16) (ix2 p k) : EReal)) ?_ ?_
  · refine congrArg (V m c main_v1 : FVec Ideal S128x128 .bf16) (funext fun ax => Fin.ext ?_)
    match ax with
    | ⟨0, _⟩ => show win0_6.index t (0 : Fin 2) * 128 + 1 * p.val = p.val; omega
    | ⟨1, _⟩ => show win0_6.index t (1 : Fin 2) * 128 + 1 * k.val = k.val; omega
  · rw [V_v1]
    show (Scalar.select (Scalar.cmpi .sge (BitVec.ofNat 32 p.val + 0#32) (BitVec.ofNat 32 k.val)) (Ideal.ofBits .bf16 0x3F80#16) (Ideal.ofBits .bf16 0x0000#16) : EReal) = _
    rw [tri_bit, Ideal.ofBits_zero_bf16, Ideal.ofBits_one_bf16]
    split <;> rfl

/-- The gain of a result's column: the query's scaled, the key's, or one. -/
def gainAt (E : Fin 6144) : EReal :=
  if E.val < 2048 then qA m c (ix1 ⟨E.val % 128, Nat.mod_lt _ (by decide)⟩) * Ideal.ofBits .f32 0x3E0293EE#32
  else if E.val < 4096 then kA m c (ix1 ⟨E.val % 128, Nat.mod_lt _ (by decide)⟩) else 1

theorem tiled_apply (u : FVec Ideal S128 .f32) (e : Fin 2048) :
    shapeCast S2048 (broadcastInDim S16x128 ![0, 1] bcast_S1x128_S16x128_0_1 (shapeCast S1x128 u shapeCasts_S128_S1x128)) shapeCasts_S16x128_S2048 (ix1 e)
      = u (ix1 ⟨e.val % 128, Nat.mod_lt _ (by decide)⟩) := by
  have he := e.isLt
  refine (shapeCast_apply _ _ (ix1 e) (ix2 (⟨e.val / 128, by omega⟩ : Fin 16) (⟨e.val % 128, Nat.mod_lt _ (by decide)⟩ : Fin 128)) (by
    rw [Shape.rowMajor_val_one, Shape.rowMajor_val_two]
    show e.val / 128 * 128 + e.val % 128 = e.val
    omega)).trans ?_
  refine (broadcastInDim_apply ![0, 1] bcast_S1x128_S16x128_0_1 _ (ix2 (⟨e.val / 128, by omega⟩ : Fin 16) (⟨e.val % 128, Nat.mod_lt _ (by decide)⟩ : Fin 128)) (ix2 (0 : Fin 1) (⟨e.val % 128, Nat.mod_lt _ (by decide)⟩ : Fin 128)) ( fun a => by
      match a with
      | ⟨0, _⟩ => rfl
      | ⟨1, _⟩ => rfl)).trans ?_
  exact shapeCast_a_1a_apply _ _ _ _

theorem gainsblk_apply (t : Fin cfg0.N) (K : Fin 1024) (E : Fin 6144) (hE : E.val = 1024 * (t.val % 6) + K.val) :
    (iblk m c 3 t (ix2 0 K) : EReal) = gainAt m c E := by
  obtain ⟨e0, e1⟩ := index_gains t
  have hlt := E.isLt
  unfold iblk
  refine Eq.trans (b := ((V m c main_v18 : FVec Ideal S1x6144 .f32) (ix2 0 E) : EReal)) ?_ ?_
  · refine congrArg (V m c main_v18 : FVec Ideal S1x6144 .f32) (funext fun ax => Fin.ext ?_)
    match ax with
    | ⟨0, _⟩ => show win0_3.index t (0 : Fin 2) * 1 + 1 * 0 = 0; omega
    | ⟨1, _⟩ => show win0_3.index t (1 : Fin 2) * 1024 + 1 * K.val = E.val; omega
  · rw [V_v18]
    refine (broadcastInDim_apply ![1] bcast_S6144_S1x6144_1 _ (ix2 (0 : Fin 1) E) (ix1 E) ( fun a => by
      match a with
      | ⟨0, _⟩ => rfl)).trans ?_
    unfold gainRow gainAt
    by_cases h1 : E.val < 2048
    · rw [if_pos h1]
      refine (concatenate_apply_piece _ _ _ (ix1 E) 0 (by simp) S2048 _ rfl rfl 0 rfl (ix1 (⟨E.val, h1⟩ : Fin 2048)) (fun b hb => absurd (Subsingleton.elim _ _) hb) (Nat.zero_add _)).trans ?_
      exact tiled_apply _ _
    · rw [if_neg h1]
      by_cases h2 : E.val < 4096
      · rw [if_pos h2]
        refine (concatenate_apply_piece _ _ _ (ix1 E) 1 (by simp) S2048 _ rfl rfl 2048 rfl (ix1 (⟨E.val - 2048, by omega⟩ : Fin 2048)) (fun b hb => absurd (Subsingleton.elim _ _) hb) (by show 2048 + (E.val - 2048) = E.val; omega)).trans ?_
        refine (tiled_apply _ _).trans (congrArg (kA m c) (congrArg ix1 (Fin.ext ?_)))
        show (E.val - 2048) % 128 = E.val % 128
        omega
      · rw [if_neg h2]
        refine (concatenate_apply_piece _ _ _ (ix1 E) 2 (by simp) S2048 _ rfl rfl 4096 rfl (ix1 (⟨E.val - 4096, by omega⟩ : Fin 2048)) (fun b hb => absurd (Subsingleton.elim _ _) hb) (by show 4096 + (E.val - 4096) = E.val; omega)).trans ?_
        exact Ideal.ofBits_one_f32

/-- Whether a point's columns are the query's or the key's. -/
theorem pay22_apply (t : Fin cfg0.N) : (k0_pay22 (F := Ideal) (grid0.coords t) : EReal) = if t.val % 6 < 4 then 1 else 0 := by
  have e : ∀ t : Fin grid0.N, Scalar.extui (Scalar.cmpi .slt (BitVec.ofNat 32 (grid0.coords t 1).val) 4#32) = if t.val % 6 < 4 then 1#32 else 0#32 := by decide +kernel
  unfold k0_pay22
  dsimp only
  rw [e t]
  split
  · show (((1#32 : BitVec 32).toInt : ℝ) : EReal) = 1
    norm_num
  · show (((0#32 : BitVec 32).toInt : ℝ) : EReal) = 0
    norm_num

end Elements

end Cert.Proof.Proj
-- ==== Proof.ProjState.lean ====
/-
  What the projection's grid points leave: the normalized rows kept for the point's row block, the running sums of the
  gates' logs, and the point's block of each result, as functions of the call's arguments.
-/
module

public import proofs.«01_k».proof.Proof.ProjIn

@[expose] public section

set_option maxRecDepth 16384

noncomputable section

namespace Cert.Proof.Proj

open Cert.Kernel3Ideal Cert.Kernel3Ideal.Gen
open Idealize.ShloMosaic
open Idealize.ShloMosaic.TcCoe
open Idealize.ShloMosaic.ValueIdx

section Points
variable {F : FTy → Type} [FloatOps F] (m : (ℓ : Loc nD τ sig) → Buf (Elt F) ℓ) (c : Dev nD)

/-- The point before. -/
abbrev prev (t : Fin cfg0.N) : Fin cfg0.N := ⟨t.val - 1, Nat.lt_of_le_of_lt (Nat.sub_le _ _) t.isLt⟩

/-- A row block's first point normalizes its rows -/
theorem rows_first (t : Fin cfg0.N) (h0 : t.val % 6 = 0) : (outsAt0 m c t.val t.isLt).2.2.1 = k0_pay3 (iblk m c 0 t) (iblk m c 1 t) := by
  by_cases h1 : t.val < 6
  · rw [outsAt0_A m c t h0 h1]
    dsimp only
    rw [rows_A]
  · rw [outsAt0_C m c t h0 h1]
    dsimp only
    rw [rows_C]
/-- and its later points keep them. -/
theorem rows_later (t : Fin cfg0.N) (h0 : ¬t.val % 6 = 0) :
    (outsAt0 m c t.val t.isLt).2.2.1 = (outsAt0 m c (prev t).val (prev t).isLt).2.2.1 := by
  rw [outsAt0_B m c t h0]
  dsimp only
  unfold sout0_B_0
  rfl

/-- The running sums after the first row block's first point, -/
theorem carry_zero (t : Fin cfg0.N) (h0 : t.val % 6 = 0) (h1 : t.val < 6) : row0 (outsAt0 m c t.val t.isLt).2.2.2
    = before (k0_pay4 (iblk m c 0 t) (iblk m c 1 t) (iblk m c 4 t) (iblk m c 5 t)) (iblk m c 6 t) (row0 k0_pay5) 8 (le_refl 8) := by
  rw [outsAt0_A m c t h0 h1]
  dsimp only
  rw [carry_A]
/-- after a later row block's, -/
theorem carry_first (t : Fin cfg0.N) (h0 : t.val % 6 = 0) (h1 : ¬t.val < 6) : row0 (outsAt0 m c t.val t.isLt).2.2.2
    = before (k0_pay4 (iblk m c 0 t) (iblk m c 1 t) (iblk m c 4 t) (iblk m c 5 t)) (iblk m c 6 t)
      (row0 (outsAt0 m c (prev t).val (prev t).isLt).2.2.2) 8 (le_refl 8) := by
  rw [outsAt0_C m c t h0 h1]
  dsimp only
  rw [carry_C]
/-- and after a row block's later points. -/
theorem carry_later (t : Fin cfg0.N) (h0 : ¬t.val % 6 = 0) :
    (outsAt0 m c t.val t.isLt).2.2.2 = (outsAt0 m c (prev t).val (prev t).isLt).2.2.2 := by
  rw [outsAt0_B m c t h0]
  dsimp only
  unfold sout0_B_1
  rfl

/-- The block of the second result after the first row block's first point, -/
theorem sums_zero (t : Fin cfg0.N) (h0 : t.val % 6 = 0) (h1 : t.val < 6) : (outsAt0 m c t.val t.isLt).2.1
    = sumBlock (k0_pay4 (iblk m c 0 t) (iblk m c 1 t) (iblk m c 4 t) (iblk m c 5 t)) (iblk m c 6 t) (row0 k0_pay5) := by
  rw [outsAt0_A m c t h0 h1]
  dsimp only
  rw [sums_A]
/-- after a later row block's, -/
theorem sums_first (t : Fin cfg0.N) (h0 : t.val % 6 = 0) (h1 : ¬t.val < 6) : (outsAt0 m c t.val t.isLt).2.1
    = sumBlock (k0_pay4 (iblk m c 0 t) (iblk m c 1 t) (iblk m c 4 t) (iblk m c 5 t)) (iblk m c 6 t)
      (row0 (outsAt0 m c (prev t).val (prev t).isLt).2.2.2) := by
  rw [outsAt0_C m c t h0 h1]
  dsimp only
  rw [sums_C]
/-- and after a row block's later points. -/
theorem sums_later (t : Fin cfg0.N) (h0 : ¬t.val % 6 = 0) :
    (outsAt0 m c t.val t.isLt).2.1 = (outsAt0 m c (prev t).val (prev t).isLt).2.1 := by
  rw [outsAt0_B m c t h0]
  dsimp only
  unfold out0_B_8
  rfl

/-- The block of the first result: the heads' tiles over the rows kept. -/
theorem block_left (t : Fin cfg0.N) : (outsAt0 m c t.val t.isLt).1
    = View.canon (tiles (k0_pay22 (grid0.coords t)) (X0_2 m c t) (outsAt0 m c t.val t.isLt).2.2.1 (iblk m c 3 t)) := by
  by_cases h0 : t.val % 6 = 0
  · rw [rows_first m c t h0]
    by_cases h1 : t.val < 6
    · rw [outsAt0_A m c t h0 h1]
      dsimp only
      rw [block_A]
    · rw [outsAt0_C m c t h0 h1]
      dsimp only
      rw [block_C]
  · rw [rows_later m c t h0, outsAt0_B m c t h0]
    dsimp only
    rw [block_B]

end Points

section Value
variable (m : (ℓ : Loc nD τ sig) → Buf (Elt Ideal) ℓ) (c : Dev nD)

/-- A normalized row of the call's first argument. -/
def hn (s : Fin 8192) (k : Fin 2048) : EReal := Ffn.rowNorm (fun k => xA m c (ix2 s k)) (fun k => gA m c (ix1 k)) k

/-- The first grid point. -/
abbrev pt0 : Fin cfg0.N := ⟨0, by rw [show cfg0.N = 48 from N_0]; decide⟩

/-- The log of a row's gate at a lane, and zero past the rows. -/
def gateLog (s : ℕ) (n : Fin 128) : EReal :=
  if h : s < 8192 then logGate ((∑ k : Fin 2048, hn m c ⟨s, h⟩ k * iblk m c 4 pt0 (ix2 n k)) + iblk m c 5 pt0 (ix2 0 n)) else 0

theorem gateLog_ne_top (s : ℕ) (n : Fin 128) : gateLog m c s n ≠ ⊤ := by
  unfold gateLog
  split
  · exact logGate_ne_top _
  · exact EReal.zero_ne_top

theorem norm_blk (t : Fin cfg0.N) (R : Fin 1024) (k : Fin 2048) (s : Fin 8192) (hs : s.val = 1024 * (t.val / 6) + R.val) :
    Ffn.rowNorm (Ffn.row (iblk m c 0 t : FVec Ideal S1024x2048 .f32) R) (Ffn.row (iblk m c 1 t : FVec Ideal S1x2048 .f32) 0) k = hn m c s k := by
  unfold hn
  refine congrArg₂ (fun u v => Ffn.rowNorm u v k) (funext fun k => ?_) (funext fun k => ?_)
  · exact xblk_apply m c t R k s hs
  · exact gblk_apply m c t k

theorem gate_blk (t : Fin cfg0.N) (R : Fin 1024) (n : Fin 128) :
    (k0_pay4 (F := Ideal) (iblk m c 0 t) (iblk m c 1 t) (iblk m c 4 t) (iblk m c 5 t) (ix2 R n) : EReal) = gateLog m c (1024 * (t.val / 6) + R.val) n := by
  have hN : cfg0.N = 48 := N_0
  have ht := t.isLt
  have hR := R.isLt
  have hs : 1024 * (t.val / 6) + R.val < 8192 := by omega
  unfold gateLog
  rw [dif_pos hs]
  refine (pay4_apply _ _ _ _ R n).trans (congrArg logGate ?_)
  refine congrArg₂ (fun a b : EReal => a + b) (Finset.sum_congr rfl fun k _ => ?_) (bfblk_same m c t pt0 n)
  exact congrArg₂ (fun a b : EReal => a * b) (norm_blk m c t R k ⟨_, hs⟩ rfl) (wfblk_same m c t pt0 n k)

theorem zeros_apply (n : Fin 128) : (row0 (F := Ideal) (k0_pay5 (F := Ideal)) (ix2 0 n) : EReal) = 0 :=
  Ideal.ofBits_zero_f32

/-- What the points leave. -/
theorem left_at (n : ℕ) : ∀ h : n < cfg0.N,
    (∀ (R : Fin 1024) (k : Fin 2048) (s : Fin 8192), s.val = 1024 * (n / 6) + R.val → ((outsAt0 m c n h).2.2.1 (ix2 R k) : EReal) = hn m c s k)
    ∧ (∀ j : Fin 128, (row0 (F := Ideal) (outsAt0 m c n h).2.2.2 (ix2 0 j) : EReal) = ∑ s ∈ Finset.range (1024 * (n / 6) + 1024), gateLog m c s j)
    ∧ (∀ (j : Fin 16) (p : Fin 1024), ((outsAt0 m c n h).2.1 (ix2 j p) : EReal)
      = (∑ s ∈ Finset.range (1024 * (n / 6) + p.val + 1), gateLog m c s ⟨j.val, by omega⟩) * Ideal.ofBits .f32 0x3FB8AA3B#32) := by
  induction n with
  | zero =>
    intro h
    have hcr : ∀ n : Fin 128, (row0 (F := Ideal) (k0_pay5 (F := Ideal)) (ix2 0 n) : EReal) = ∑ s ∈ Finset.range (1024 * (0 / 6)), gateLog m c s n :=
      fun n => zeros_apply n
    refine ⟨fun R k s hs => ?_, fun j => ?_, fun j p => ?_⟩
    · rw [rows_first m c ⟨0, h⟩ rfl]
      exact (pay3_apply _ _ R k).trans (norm_blk m c ⟨0, h⟩ R k s hs)
    · rw [carry_zero m c ⟨0, h⟩ rfl (show 0 < 6 by decide)]
      exact before_apply _ _ _ (gateLog m c) (1024 * (0 / 6)) (triblk_apply m c ⟨0, h⟩) (gate_blk m c ⟨0, h⟩) (gateLog_ne_top m c) hcr 8 (le_refl 8) j
    · rw [sums_zero m c ⟨0, h⟩ rfl (show 0 < 6 by decide)]
      exact sumBlock_apply _ _ _ (gateLog m c) (1024 * (0 / 6)) (triblk_apply m c ⟨0, h⟩) (gate_blk m c ⟨0, h⟩) (gateLog_ne_top m c) hcr j p
  | succ n ih =>
    intro h
    have h' : n < cfg0.N := Nat.lt_of_succ_lt h
    obtain ⟨i1, i2, i3⟩ := ih h'
    by_cases h0 : (n + 1) % 6 = 0
    · have hb : 1024 * (n / 6) + 1024 = 1024 * ((n + 1) / 6) := by omega
      have h1 : ¬(n + 1) < 6 := by omega
      rw [hb] at i2
      refine ⟨fun R k s hs => ?_, fun j => ?_, fun j p => ?_⟩
      · rw [rows_first m c ⟨n + 1, h⟩ h0]
        exact (pay3_apply _ _ R k).trans (norm_blk m c ⟨n + 1, h⟩ R k s hs)
      · rw [carry_first m c ⟨n + 1, h⟩ h0 h1]
        exact before_apply _ _ _ (gateLog m c) (1024 * ((n + 1) / 6)) (triblk_apply m c ⟨n + 1, h⟩) (gate_blk m c ⟨n + 1, h⟩) (gateLog_ne_top m c) i2 8 (le_refl 8) j
      · rw [sums_first m c ⟨n + 1, h⟩ h0 h1]
        exact sumBlock_apply _ _ _ (gateLog m c) (1024 * ((n + 1) / 6)) (triblk_apply m c ⟨n + 1, h⟩) (gate_blk m c ⟨n + 1, h⟩) (gateLog_ne_top m c) i2 j p
    · have hb : n / 6 = (n + 1) / 6 := by omega
      rw [hb] at i1 i2 i3
      refine ⟨fun R k s hs => ?_, fun j => ?_, fun j p => ?_⟩
      · rw [rows_later m c ⟨n + 1, h⟩ h0]
        exact i1 R k s hs
      · rw [carry_later m c ⟨n + 1, h⟩ h0]
        exact i2 j
      · rw [sums_later m c ⟨n + 1, h⟩ h0]
        exact i3 j p

end Value

end Cert.Proof.Proj
-- ==== Proof.ProjOut.lean ====
/-
  The projection's two results as the run leaves them: every element of each array, as a function of the call's
  arguments.
-/
module

public import proofs.«01_k».proof.Proof.ProjState

@[expose] public section

set_option maxRecDepth 16384

noncomputable section

namespace Cert.Proof.Proj

open Cert.Kernel3Ideal Cert.Kernel3Ideal.Gen
open Idealize.ShloMosaic
open Idealize.ShloMosaic.TcCoe
open Idealize.ShloMosaic.ValueIdx

/-- A column of the normalized rows' product by the weight. -/
def prodF (x : FVec Ideal S8192x2048 .f32) (g : FVec Ideal S2048 .f32) (w : FVec Ideal S2x2048x6160 .f32) (s : Fin 8192) (E : Fin 6160) : EReal :=
  ∑ k : Fin 2048, Ffn.rowNorm (fun k => x (ix2 s k)) (fun k => g (ix1 k)) k * w (ix3 0 k E)

/-- A column of the head a column is in. -/
def headOf (E : Fin 6144) (l : Fin 128) : Fin 6160 := ⟨E.val / 128 * 128 + l.val, by omega⟩

/-- The first result: the queries and the keys normalized head by head and scaled, the values plain. -/
def qkvF (x : FVec Ideal S8192x2048 .f32) (g : FVec Ideal S2048 .f32) (w : FVec Ideal S2x2048x6160 .f32) (gq gk : FVec Ideal S128 .f32)
    (s : Fin 8192) (E : Fin 6144) : EReal :=
  if E.val < 2048 then prodF x g w s ⟨E.val, by omega⟩ * headScale (fun l => prodF x g w s (headOf E l))
    * (gq (ix1 ⟨E.val % 128, Nat.mod_lt _ (by decide)⟩) * Ideal.ofBits .f32 0x3E0293EE#32)
  else if E.val < 4096 then prodF x g w s ⟨E.val, by omega⟩ * headScale (fun l => prodF x g w s (headOf E l))
    * gk (ix1 ⟨E.val % 128, Nat.mod_lt _ (by decide)⟩)
  else prodF x g w s ⟨E.val, by omega⟩

/-- The second result: the running sums of the gates' logs, in powers of two. -/
def sumF (x : FVec Ideal S8192x2048 .f32) (g : FVec Ideal S2048 .f32) (w : FVec Ideal S2x2048x6160 .f32) (b : FVec Ideal S16 .f32)
    (n : Fin 16) (s : Fin 8192) : EReal :=
  (∑ r ∈ Finset.range (s.val + 1), if h : r < 8192 then logGate (prodF x g w ⟨r, h⟩ ⟨6144 + n.val, by omega⟩ + b (ix1 n)) else 0)
    * Ideal.ofBits .f32 0x3FB8AA3B#32

section Value
variable (m : (ℓ : Loc nD τ sig) → Buf (Elt Ideal) ℓ) (c : Dev nD)

theorem prod_blk (t : Fin cfg0.N) (R K : Fin 1024) (s : Fin 8192) (E : Fin 6160) (hs : s.val = 1024 * (t.val / 6) + R.val)
    (hE : E.val = 1024 * (t.val % 6) + K.val) :
    prodAt (outsAt0 m c t.val t.isLt).2.2.1 (X0_2 m c t) R K = prodF (xA m c) (gA m c) (wA m c) s E := by
  unfold prodAt prodF
  refine Finset.sum_congr rfl fun k _ => congrArg₂ (fun a b : EReal => a * b) ?_ (wblk_apply m c t K k E hE)
  exact (left_at m c t.val t.isLt).1 R k s hs

theorem one_sub_one : (1 : EReal) - 1 = 0 := by
  rw [← EReal.coe_one, ← EReal.coe_sub, sub_self, EReal.coe_zero]

/-- A point's block of the first result, an element at a time. -/
theorem block_at (t : Fin cfg0.N) (R K : Fin 1024) (s : Fin 8192) (E : Fin 6144) (hs : s.val = 1024 * (t.val / 6) + R.val)
    (hE : E.val = 1024 * (t.val % 6) + K.val) :
    ((outsAt0 m c t.val t.isLt).1 (ix2 R K) : EReal) = qkvF (xA m c) (gA m c) (wA m c) (qA m c) (kA m c) s E := by
  have hK := K.isLt
  have hE' := E.isLt
  rw [block_left m c t]
  refine (tiles_apply _ _ _ _ R K).trans ?_
  unfold headAt
  have e1 := prod_blk m c t R K s ⟨E.val, by omega⟩ hs hE
  have e2 : (fun l => prodAt (outsAt0 m c t.val t.isLt).2.2.1 (X0_2 m c t) R (headCol K l)) = fun l => prodF (xA m c) (gA m c) (wA m c) s (headOf E l) := by
    funext l
    refine prod_blk m c t R (headCol K l) s (headOf E l) hs ?_
    show E.val / 128 * 128 + l.val = 1024 * (t.val % 6) + (K.val / 128 * 128 + l.val)
    omega
  have e3 := gainsblk_apply m c t K E hE
  have e4 := pay22_apply t
  rw [e1, e2]
  refine (congrArg₂ (fun (v u : EReal) => prodF (xA m c) (gA m c) (wA m c) s ⟨E.val, by omega⟩ * (v * headScale (fun l => prodF (xA m c) (gA m c) (wA m c) s (headOf E l)) + (1 - v)) * u) e4 e3).trans ?_
  unfold qkvF gainAt
  by_cases h1 : E.val < 2048
  · rw [if_pos h1, if_pos h1, if_pos (by omega), one_sub_one, one_mul, add_zero]
  · rw [if_neg h1, if_neg h1]
    by_cases h2 : E.val < 4096
    · rw [if_pos h2, if_pos h2, if_pos (by omega), one_sub_one, one_mul, add_zero]
    · rw [if_neg h2, if_neg h2, if_neg (by omega), zero_mul, zero_add, sub_zero, mul_one, mul_one]

/-- A point's block of the second result, an element at a time. -/
theorem sums_at (t : Fin cfg0.N) (n : Fin 16) (p : Fin 1024) (s : Fin 8192) (hs : s.val = 1024 * (t.val / 6) + p.val) :
    ((outsAt0 m c t.val t.isLt).2.1 (ix2 n p) : EReal) = sumF (xA m c) (gA m c) (wA m c) (bA m c) n s := by
  refine ((left_at m c t.val t.isLt).2.2 n p).trans ?_
  unfold sumF
  rw [← hs]
  refine congrArg (fun z : EReal => z * Ideal.ofBits .f32 0x3FB8AA3B#32) (Finset.sum_congr rfl fun r _ => ?_)
  unfold gateLog
  refine dite_congr rfl (fun h => congrArg logGate ?_) (fun _ => rfl)
  refine congrArg₂ (fun a b : EReal => a + b) (Finset.sum_congr rfl fun k _ => ?_) (bfblk_apply m c pt0 n)
  exact congrArg₂ (fun a b : EReal => a * b) rfl (wfblk_apply m c pt0 n k)

/-- Which block of each result a point writes, and when it is written back. -/
theorem index_qkv : ∀ t : Fin cfg0.N, win0_7.index t (0 : Fin 2) = t.val / 6 ∧ win0_7.index t (1 : Fin 2) = t.val % 6 ∧ win0_7.flush t = true := (by decide +kernel : ∀ t : Fin grid0.N, _)
theorem index_sums : ∀ t : Fin cfg0.N, win0_8.index t (0 : Fin 2) = 0 ∧ win0_8.index t (1 : Fin 2) = t.val / 6 ∧ (t.val % 6 = 5 → win0_8.flush t = true) := (by decide +kernel : ∀ t : Fin grid0.N, _)

/-- The first result's array, -/
def qkvArr : FVec Ideal S8192x6144 .bf16 := fun y => qkvF (xA m c) (gA m c) (wA m c) (qA m c) (kA m c) (y 0) (y 1)
/-- and the second's. -/
def sumArr : FVec Ideal S16x8192 .f32 := fun y => sumF (xA m c) (gA m c) (wA m c) (bA m c) (y 0) (y 1)

theorem mem_blk_qkv (t : Fin cfg0.N) (i : S8192x6144.Idx) : i ∈ ((cfg0.win 7).blk t).view.set
    ↔ ∀ a : Fin 2, win0_7.index t a * S1024x1024.size a ≤ (i a).val ∧ (i a).val < win0_7.index t a * S1024x1024.size a + S1024x1024.size a := by
  show i ∈ ((View.whole main_v20_0).slice (win0_7.rect t)).set ↔ _
  rw [View.set_slice_whole, Rect.mem_set_unit]
  exact Iff.rfl
theorem mem_blk_sums (t : Fin cfg0.N) (i : S16x8192.Idx) : i ∈ ((cfg0.win 8).blk t).view.set
    ↔ ∀ a : Fin 2, win0_8.index t a * S16x1024.size a ≤ (i a).val ∧ (i a).val < win0_8.index t a * S16x1024.size a + S16x1024.size a := by
  show i ∈ ((View.whole main_v20_1).slice (win0_8.rect t)).set ↔ _
  rw [View.set_slice_whole, Rect.mem_set_unit]
  exact Iff.rfl

theorem final_qkv : (dats m 0 c).arrAt 7 cfg0.N = qkvArr m c := by
  have hN : cfg0.N = 48 := N_0
  refine (dats m 0 c).arrAt_eq_of_cover 7 _ (fun t hf => ?_) (fun i => ?_)
  · show (cfg0.win 7).cut (grid0.coords t) ((dats m 0 c).after 7 t) = _
    rw [after0_7]
    obtain ⟨e0, e1, -⟩ := index_qkv t
    refine funext fun (y : S1024x1024.Idx) => ?_
    obtain ⟨R, K, rfl⟩ : ∃ (R K : Fin 1024), y = ix2 R K := ⟨y 0, y 1, eq_ix2 y⟩
    have hb0 : (((cfg0.win 7).blk t).view.emb (ix2 R K) 0).val = win0_7.index t (0 : Fin 2) * 1024 + 1 * R.val := rfl
    have hb1 : (((cfg0.win 7).blk t).view.emb (ix2 R K) 1).val = win0_7.index t (1 : Fin 2) * 1024 + 1 * K.val := rfl
    refine Eq.trans (congrArg (outsAt0 m c t.val t.isLt).1 (?_ : _ = ix2 R K)) (block_at m c t R K (((cfg0.win 7).blk t).view.emb (ix2 R K) 0) (((cfg0.win 7).blk t).view.emb (ix2 R K) 1) (by rw [hb0]; omega) (by rw [hb1]; omega))
    funext ax; apply Fin.ext
    match ax with
    | ⟨0, _⟩ => rfl
    | ⟨1, _⟩ => rfl
  · have hi0 : (i 0).val < 8192 := (i 0).isLt
    have hi1 : (i 1).val < 6144 := (i 1).isLt
    obtain ⟨e0, e1, hf⟩ := index_qkv ⟨6 * ((i 0).val / 1024) + (i 1).val / 1024, by omega⟩
    dsimp only at e0 e1
    refine ⟨⟨6 * ((i 0).val / 1024) + (i 1).val / 1024, by omega⟩, hf, ?_⟩
    refine (mem_blk_qkv _ i).mpr ?_
    intro a
    match a with
    | ⟨0, _⟩ => show win0_7.index _ (0 : Fin 2) * 1024 ≤ (i 0).val ∧ (i 0).val < win0_7.index _ (0 : Fin 2) * 1024 + 1024; omega
    | ⟨1, _⟩ => show win0_7.index _ (1 : Fin 2) * 1024 ≤ (i 1).val ∧ (i 1).val < win0_7.index _ (1 : Fin 2) * 1024 + 1024; omega

theorem final_sums : (dats m 0 c).arrAt 8 cfg0.N = sumArr m c := by
  have hN : cfg0.N = 48 := N_0
  refine (dats m 0 c).arrAt_eq_of_cover 8 _ (fun t hf => ?_) (fun i => ?_)
  · show (cfg0.win 8).cut (grid0.coords t) ((dats m 0 c).after 8 t) = _
    rw [after0_8]
    obtain ⟨e0, e1, -⟩ := index_sums t
    refine funext fun (y : S16x1024.Idx) => ?_
    obtain ⟨n, p, rfl⟩ : ∃ (n : Fin 16) (p : Fin 1024), y = ix2 n p := ⟨y 0, y 1, eq_ix2 y⟩
    have hb1 : (((cfg0.win 8).blk t).view.emb (ix2 n p) 1).val = win0_8.index t (1 : Fin 2) * 1024 + 1 * p.val := rfl
    have hb0 : (((cfg0.win 8).blk t).view.emb (ix2 n p) 0) = n := Fin.ext (by
      show win0_8.index t (0 : Fin 2) * 16 + 1 * n.val = n.val; omega)
    refine Eq.trans (congrArg (outsAt0 m c t.val t.isLt).2.1 (?_ : _ = ix2 n p)) ((sums_at m c t n p (((cfg0.win 8).blk t).view.emb (ix2 n p) 1) (by rw [hb1]; omega)).trans ?_)
    · funext ax; apply Fin.ext
      match ax with
      | ⟨0, _⟩ => rfl
      | ⟨1, _⟩ => rfl
    · exact congrArg (fun n => sumF (xA m c) (gA m c) (wA m c) (bA m c) n (((cfg0.win 8).blk t).view.emb (ix2 n p) 1)) hb0.symm
  · have hi0 : (i 0).val < 16 := (i 0).isLt
    have hi1 : (i 1).val < 8192 := (i 1).isLt
    obtain ⟨e0, e1, hf⟩ := index_sums ⟨6 * ((i 1).val / 1024) + 5, by omega⟩
    dsimp only at e0 e1
    refine ⟨⟨6 * ((i 1).val / 1024) + 5, by omega⟩, hf (by dsimp only; omega), ?_⟩
    refine (mem_blk_sums _ i).mpr ?_
    intro a
    match a with
    | ⟨0, _⟩ => show win0_8.index _ (0 : Fin 2) * 16 ≤ (i 0).val ∧ (i 0).val < win0_8.index _ (0 : Fin 2) * 16 + 16; omega
    | ⟨1, _⟩ => show win0_8.index _ (1 : Fin 2) * 1024 ≤ (i 1).val ∧ (i 1).val < win0_8.index _ (1 : Fin 2) * 1024 + 1024; omega

end Value

/-- The run, with what it leaves in the two results. -/
theorem run_results (m : (ℓ : Loc nD τ sig) → Buf (Elt Ideal) ℓ) (ρ : Dev nD → PrngReg) :
    θ_run (Val := Elt Ideal) defs (onTc (τ := τ) (main (F := Ideal))) ⟨m, fun _ => 0, ρ⟩ fun r => ∀ c : Dev nD,
      r.2.mem ((c : Thread nD τ).loc main_v20_0) = qkvArr m c ∧ r.2.mem ((c : Thread nD τ).loc main_v20_1) = sumArr m c :=
  (θ_run defs _ _).mono (fun _ h c => ⟨((h c).1 7).trans (final_qkv m c), ((h c).1 8).trans (final_sums m c)⟩) (run_main m ρ)

end Cert.Proof.Proj
-- ==== Proof.ProjRef.lean ====
/-
  The projection's reference at exact arithmetic, one element of each result at a time.
-/
module

public import proofs.«01_k».proof.Proof.ProjOut
public import proofs.«01_k».proof.Proof.Ref
public import proofs.«01_k».proof.Proof.Gen.Reference3Ideal.Run

@[expose] public section

set_option maxRecDepth 16384

noncomputable section

namespace Cert.Proof.Proj

open Cert.Reference3Ideal Cert.Reference3Ideal.Gen
open Idealize.ShloMosaic
open Idealize.ShloMosaic.TcCoe
open Idealize.ShloMosaic.ValueIdx

open Idealize.ShloMosaic.Routing in
/-- A cumulative sum down `R` rows, at an entry. -/
theorem rows_sum_of {R K C : ℕ} (hR : R = K + 1) (x : FVec Ideal ⟨2, ![R, C]⟩ .f32) (f : ℕ → Fin C → EReal)
    (hx : ∀ (s : Fin R) (n : Fin C), (x (ix2 s n) : EReal) = f s.val n) (init : FVec Ideal ⟨0, ![]⟩ .f32) (hi : ∀ u, (init u : EReal) = 0)
    (h : (⟨2, ![R, C]⟩ : Shape).ReduceWindows (![R, 1] : Fin 2 → ℕ) ![1, 1] ![K, 0] ![0, 0] ⟨2, ![R, C]⟩) (hu : 0 < (⟨0, ![]⟩ : Shape).numel) (j : Fin R) (n : Fin C) :
    (Host.reduceWindowAdd (F := Ideal) ![R, 1] ![1, 1] ![K, 0] ![0, 0] x init h hu (ix2 j n) : EReal) = ∑ s ∈ Finset.range (j.val + 1), f s n := by
  subst hR
  obtain rfl : init = fun _ => (0 : EReal) := funext hi
  exact rows_sum x f hx 0 rfl h hu j n

section Ref
variable (X : FVec Ideal S8192x2048 .f32) (g : FVec Ideal S2048 .f32) (W : FVec Ideal S2x2048x6160 .f32) (B : FVec Ideal S16 .f32)

/-- The reference's normalized rows, -/
def refNorm : FVec Ideal S8192x2048 .f32 :=
  mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))
/-- their product by the weight, -/
def refProd : FVec Ideal S8192x6160 .f32 :=
  Host.dotGeneral dot_S8192x2048_S2048x6160_S8192x6160_1_0_0_1_n_n none (refNorm X g) (shapeCast S2048x6160 (extractStridedSlice S1x2048x6160 ![0, 0, 0] W slices_S2x2048x6160_S1x2048x6160_0_0_0) shapeCasts_S1x2048x6160_S2048x6160)
/-- heads normalized and scaled, -/
def refHead (H : FVec Ideal S8192x16x128 .f32) (u : FVec Ideal S128 .f32) : FVec Ideal S8192x2048 .f32 :=
  shapeCast S8192x2048 (mulf (mulf H (broadcastInDim S8192x16x128 ![0, 1, 2] bcast_S8192x16x1_S8192x16x128_0_1_2 (Host.rsqrt (addf (Host.divf (broadcastInDim S8192x16x1 ![0, 1] bcast_S8192x16_S8192x16x1_0_1 (Host.reduceAdd (mulf H H) (constant S_ .f32 0x00000000#32) reducesTo_S8192x16x128_S8192x16_d2 h_S_)) (broadcastInDim S8192x16x1 ![] bcast_S_S8192x16x1 (constant S_ .f32 0x43000000#32))) (broadcastInDim S8192x16x1 ![] bcast_S_S8192x16x1 (constant S_ .f32 0x358637BD#32)))))) (broadcastInDim S8192x16x128 ![0, 1, 2] bcast_S1x1x128_S8192x16x128_0_1_2 (broadcastInDim S1x1x128 ![2] bcast_S128_S1x1x128_2 u))) shapeCasts_S8192x16x128_S8192x2048
/-- the queries', -/
def refQ (u : FVec Ideal S128 .f32) : FVec Ideal S8192x2048 .f32 :=
  mulf (refHead (shapeCast S8192x16x128 (extractStridedSlice S8192x2048 ![0, 0] (refProd X g W) slices_S8192x6160_S8192x2048_0_0) shapeCasts_S8192x2048_S8192x16x128) u) (broadcastInDim S8192x2048 ![] bcast_S_S8192x2048 (constant S_ .f32 0x3E0293EE#32))
/-- the keys', -/
def refK (u : FVec Ideal S128 .f32) : FVec Ideal S8192x2048 .f32 :=
  refHead (shapeCast S8192x16x128 (extractStridedSlice S8192x2048 ![0, 2048] (refProd X g W) slices_S8192x6160_S8192x2048_0_2048) shapeCasts_S8192x2048_S8192x16x128) u
/-- the values, -/
def refV : FVec Ideal S8192x2048 .f32 := extractStridedSlice S8192x2048 ![0, 4096] (refProd X g W) slices_S8192x6160_S8192x2048_0_4096
/-- the three side by side, -/
def refQkv (uq uk : FVec Ideal S128 .f32) : FVec Ideal S8192x6144 .bf16 :=
  truncf .bf16 (Value.fn_main_v58 (F := Ideal) (refQ X g W uq) (refK X g W uk) (refV X g W)) bitsLt_bf16_f32
/-- the gates' arguments with their signs turned, -/
def refGate : FVec Ideal S8192x16 .f32 :=
  Host.negf (addf (extractStridedSlice S8192x16 ![0, 6144] (refProd X g W) slices_S8192x6160_S8192x16_0_6144) (broadcastInDim S8192x16 ![0, 1] bcast_S1x16_S8192x16_0_1 (broadcastInDim S1x16 ![1] bcast_S16_S1x16_1 B)))
/-- a row of zeros, -/
def refZero : FVec Ideal S8192x16 .f32 := broadcastInDim S8192x16 ![] bcast_S_S8192x16 (constant S_ .f32 0x00000000#32)
/-- the gates' logs -/
def refLog (v : FVec Ideal S8192x16 .f32) : FVec Ideal S8192x16 .f32 :=
  Host.negf (select (cmpf .une (subf v refZero) (subf v refZero)) (addf v refZero) (addf (maximumf v refZero) (Host.log1p (Host.exp (Host.negf (Host.absf (subf v refZero)))))))
/-- and their running sums. -/
def refSums : FVec Ideal S16x8192 .f32 :=
  mulf (transpose S16x8192 [1, 0] (Host.reduceWindowAdd ![8192, 1] ![1, 1] ![8191, 0] ![0, 0] (refLog (refGate X g W B)) (broadcastInDim S_ ![] bcast_S_S_ (constant S_ .f32 0x00000000#32)) reduceWindows_S8192x16_S8192x16_w8192s1p8191_0_w1s1p0_0 h_S_) transposes_S8192x16_S16x8192_1_0) (broadcastInDim S16x8192 ![] bcast_S_S16x8192 (constant S_ .f32 0x3FB8AA3B#32))

theorem refNorm_apply (r : Fin 8192) (k : Fin 2048) : refNorm X g (ix2 r k) = Ffn.rowNorm (fun k => X (ix2 r k)) (fun j => g (ix1 j)) k :=
  Ffn.refNorm_apply X g r k

theorem refProd_apply (r : Fin 8192) (E : Fin 6160) : refProd X g W (ix2 r E) = prodF X g W r E := by
  refine (StackMember.dotGeneral_plain_apply _ _ _ _ _).trans ?_
  unfold prodF
  refine Finset.sum_congr rfl fun k _ => congrArg₂ (fun a z : EReal => a * z) (refNorm_apply X g r k) ?_
  refine (shapeCast_1ab_ab_apply _ _ _ _).trans ?_
  refine congrArg W (funext fun ax => Fin.ext ?_)
  match ax with
  | ⟨0, _⟩ => rfl
  | ⟨1, _⟩ => exact Nat.zero_add _
  | ⟨2, _⟩ => exact Nat.zero_add _

theorem refHead_apply (H : FVec Ideal S8192x16x128 .f32) (u : FVec Ideal S128 .f32) (s : Fin 8192) (e : Fin 2048) (h : Fin 16) (l : Fin 128) (he : e.val = 128 * h.val + l.val) :
    refHead H u (ix2 s e) = (H (ix3 s h l) : EReal) * headScale (fun l => H (ix3 s h l)) * u (ix1 l) := by
  refine (shapeCast_apply _ _ (ix2 s e) (ix3 s h l) (by
    rw [Shape.rowMajor_val_two, Shape.rowMajor_val_three]
    show (s.val * 16 + h.val) * 128 + l.val = s.val * 2048 + e.val
    omega)).trans ?_
  refine congrArg₂ (fun a z : EReal => a * z) (congrArg (fun z : EReal => H (ix3 s h l) * z) ?_) ?_
  · refine (broadcastInDim_apply ![0, 1, 2] bcast_S8192x16x1_S8192x16x128_0_1_2 _ (ix3 s h l) (ix3 s h (0 : Fin 1)) (fun a => by
      match a with
      | ⟨0, _⟩ => rfl
      | ⟨1, _⟩ => rfl
      | ⟨2, _⟩ => rfl)).trans ?_
    refine congrArg (fun z : EReal => Ideal.rsqrt (Ideal.div z (Ideal.ofBits .f32 0x43000000#32) + Ideal.ofBits .f32 0x358637BD#32)) ?_
    refine (broadcastInDim_apply ![0, 1] bcast_S8192x16_S8192x16x1_0_1 _ (ix3 s h (0 : Fin 1)) (ix2 s h) (fun a => by
      match a with
      | ⟨0, _⟩ => rfl
      | ⟨1, _⟩ => rfl)).trans ?_
    have hr : Shape.Reduces S8192x16x128 [2] S8192x16 := by decide
    rw [hostReduceAdd_apply, Ideal.hostReduceAdd_single _ hr]
    show Ideal.ofBits .f32 0x00000000#32 + _ = _
    rw [Ideal.ofBits_zero_f32, zero_add]
    refine Finset.sum_congr rfl fun c _ => ?_
    have el : hr.lift (ix2 s h) c = ix3 s h c := by
      funext ax
      match ax with
      | ⟨0, _⟩ => rfl
      | ⟨1, _⟩ => rfl
      | ⟨2, _⟩ => rfl
    rw [el]
    rfl
  · refine (broadcastInDim_apply ![0, 1, 2] bcast_S1x1x128_S8192x16x128_0_1_2 _ (ix3 s h l) (ix3 (0 : Fin 1) (0 : Fin 1) l) (fun a => by
      match a with
      | ⟨0, _⟩ => rfl
      | ⟨1, _⟩ => rfl
      | ⟨2, _⟩ => rfl)).trans ?_
    exact broadcastInDim_apply ![2] bcast_S128_S1x1x128_2 _ (ix3 (0 : Fin 1) (0 : Fin 1) l) (ix1 l) (fun a => by
      match a with
      | ⟨0, _⟩ => rfl)

/-- A column range of the product, head by head. -/
theorem heads_apply (o : ℕ) (ho : o + 2048 ≤ 6160) (hs : S8192x6160.Slices ![0, o] S8192x2048) (s : Fin 8192) (h : Fin 16) (l : Fin 128) :
    (shapeCast S8192x16x128 (extractStridedSlice S8192x2048 ![0, o] (refProd X g W) hs) shapeCasts_S8192x2048_S8192x16x128 (ix3 s h l) : EReal)
      = prodF X g W s ⟨o + (128 * h.val + l.val), by omega⟩ := by
  refine (shapeCast_apply _ _ (ix3 s h l) (ix2 s (⟨128 * h.val + l.val, by omega⟩ : Fin 2048)) (by
    rw [Shape.rowMajor_val_two, Shape.rowMajor_val_three]
    show s.val * 2048 + (128 * h.val + l.val) = (s.val * 16 + h.val) * 128 + l.val
    omega)).trans ?_
  exact (slice2_axis1_apply o _ _ s _ ⟨o + (128 * h.val + l.val), by omega⟩ rfl).trans (refProd_apply X g W s _)

/-- A normalized column of the product. -/
theorem normed_apply (o : ℕ) (ho : o + 2048 ≤ 6144) (h128 : o % 128 = 0) (hs : S8192x6160.Slices ![0, o] S8192x2048) (u : FVec Ideal S128 .f32) (s : Fin 8192) (e : Fin 2048)
    (E : Fin 6144) (hE : E.val = o + e.val) :
    (refHead (shapeCast S8192x16x128 (extractStridedSlice S8192x2048 ![0, o] (refProd X g W) hs) shapeCasts_S8192x2048_S8192x16x128) u (ix2 s e) : EReal)
      = prodF X g W s ⟨E.val, by omega⟩ * headScale (fun l => prodF X g W s (headOf E l)) * u (ix1 ⟨E.val % 128, Nat.mod_lt _ (by decide)⟩) := by
  have he := e.isLt
  refine (refHead_apply _ u s e ⟨e.val / 128, by omega⟩ ⟨e.val % 128, Nat.mod_lt _ (by decide)⟩ (by show e.val = 128 * (e.val / 128) + e.val % 128; omega)).trans ?_
  refine congrArg₂ (fun a z : EReal => a * z) (congrArg₂ (fun a z : EReal => a * z) ?_ (congrArg headScale (funext fun l => ?_))) (congrArg u (congrArg ix1 (Fin.ext ?_)))
  · refine (heads_apply X g W o (by omega) hs s _ _).trans (congrArg (prodF X g W s) (Fin.ext ?_))
    show o + (128 * (e.val / 128) + e.val % 128) = E.val
    omega
  · refine (heads_apply X g W o (by omega) hs s _ _).trans (congrArg (prodF X g W s) (Fin.ext ?_))
    show o + (128 * (e.val / 128) + l.val) = E.val / 128 * 128 + l.val
    omega
  · show e.val % 128 = E.val % 128
    omega

/-- The first result. -/
theorem refQkv_apply (uq uk : FVec Ideal S128 .f32) (s : Fin 8192) (E : Fin 6144) : (refQkv X g W uq uk (ix2 s E) : EReal) = qkvF X g W uq uk s E := by
  have hlt := E.isLt
  show (Value.fn_main_v58 (F := Ideal) (refQ X g W uq) (refK X g W uk) (refV X g W) (ix2 s E) : EReal) = _
  unfold Value.fn_main_v58 qkvF
  by_cases h1 : E.val < 2048
  · rw [if_pos h1]
    refine (concatenate_apply_piece _ _ _ (ix2 s E) 0 (by simp) S8192x2048 _ rfl rfl 0 rfl (ix2 s (⟨E.val, h1⟩ : Fin 2048)) (fun b hb => by
      match b with
      | ⟨0, _⟩ => rfl
      | ⟨1, _⟩ => exact absurd rfl hb) (Nat.zero_add _)).trans ?_
    refine (congrArg (fun z : EReal => z * Ideal.ofBits .f32 0x3E0293EE#32) (normed_apply X g W 0 (by decide) rfl _ uq s ⟨E.val, h1⟩ E (Nat.zero_add _).symm)).trans ?_
    exact mul_assoc _ _ _
  · rw [if_neg h1]
    by_cases h2 : E.val < 4096
    · rw [if_pos h2]
      refine (concatenate_apply_piece _ _ _ (ix2 s E) 1 (by simp) S8192x2048 _ rfl rfl 2048 rfl (ix2 s (⟨E.val - 2048, by omega⟩ : Fin 2048)) (fun b hb => by
        match b with
        | ⟨0, _⟩ => rfl
        | ⟨1, _⟩ => exact absurd rfl hb) (by show 2048 + (E.val - 2048) = E.val; omega)).trans ?_
      exact normed_apply X g W 2048 (by decide) rfl _ uk s ⟨E.val - 2048, by omega⟩ E (by show E.val = 2048 + (E.val - 2048); omega)
    · rw [if_neg h2]
      refine (concatenate_apply_piece _ _ _ (ix2 s E) 2 (by simp) S8192x2048 _ rfl rfl 4096 rfl (ix2 s (⟨E.val - 4096, by omega⟩ : Fin 2048)) (fun b hb => by
        match b with
        | ⟨0, _⟩ => rfl
        | ⟨1, _⟩ => exact absurd rfl hb) (by show 4096 + (E.val - 4096) = E.val; omega)).trans ?_
      exact (slice2_axis1_apply 4096 _ _ s _ ⟨E.val, by omega⟩ (by show E.val = 4096 + (E.val - 4096); omega)).trans (refProd_apply X g W s _)

theorem refGate_apply (s : Fin 8192) (n : Fin 16) : (refGate X g W B (ix2 s n) : EReal) = -(prodF X g W s ⟨6144 + n.val, by omega⟩ + B (ix1 n)) := by
  refine congrArg (fun z : EReal => -z) (congrArg₂ (fun a z : EReal => a + z) ?_ ?_)
  · exact (slice2_axis1_apply 6144 _ _ s n ⟨6144 + n.val, by omega⟩ rfl).trans (refProd_apply X g W s _)
  · refine (broadcastInDim_apply ![0, 1] bcast_S1x16_S8192x16_0_1 _ (ix2 s n) (ix2 (0 : Fin 1) n) (fun a => by
      match a with
      | ⟨0, _⟩ => rfl
      | ⟨1, _⟩ => rfl)).trans ?_
    exact broadcastInDim_apply ![1] bcast_S16_S1x16_1 _ (ix2 (0 : Fin 1) n) (ix1 n) (fun a => by
      match a with
      | ⟨0, _⟩ => rfl)

theorem refLog_apply (v : FVec Ideal S8192x16 .f32) (f : EReal) (j : S8192x16.Idx) (hv : v j = -f) : (refLog v j : EReal) = logGate f := by
  have hz : (refZero j : EReal) = 0 := Ideal.ofBits_zero_f32
  have hne : Ideal.cmp .une (v j - refZero j : EReal) (v j - refZero j) = 0#1 := by
    simp [Ideal.cmp]
  show -(Scalar.select (Ideal.cmp .une (v j - refZero j : EReal) (v j - refZero j)) (v j + refZero j : EReal)
    (max (v j) (refZero j) + Ideal.log1p (Ideal.exp (-max (v j - refZero j : EReal) (-(v j - refZero j)))))) = _
  rw [hne, hz, hv, sub_zero]
  exact logGate_ref f

/-- The second result. -/
theorem refSums_apply (n : Fin 16) (s : Fin 8192) : (refSums X g W B (ix2 n s) : EReal) = sumF X g W B n s := by
  refine congrArg (fun z : EReal => z * Ideal.ofBits .f32 0x3FB8AA3B#32) ?_
  refine (transpose_ix2_apply _ _ n s).trans ?_
  exact rows_sum_of (R := 8192) (K := 8191) (C := 16) (by norm_num) (refLog (refGate X g W B)) (fun r n => if h : r < 8192 then logGate (prodF X g W ⟨r, h⟩ ⟨6144 + n.val, by omega⟩ + B (ix1 n)) else 0)
    (fun r n => (refLog_apply _ _ (ix2 r n) (refGate_apply X g W B r n)).trans (by rw [dif_pos r.isLt])) _ (fun _ => Ideal.ofBits_zero_f32) _ _ s n

/-- Each result as a function of its two axes. -/
theorem refQkv_eq (X : FVec Ideal S8192x2048 .f32) (g : FVec Ideal S2048 .f32) (W : FVec Ideal S2x2048x6160 .f32) (uq uk : FVec Ideal S128 .f32) :
    refQkv X g W uq uk = fun y => qkvF X g W uq uk (y 0) (y 1) := funext fun y => (congrArg (refQkv X g W uq uk) (eq_ix2 y)).trans (refQkv_apply X g W uq uk (y 0) (y 1))
theorem refSums_eq (X : FVec Ideal S8192x2048 .f32) (g : FVec Ideal S2048 .f32) (W : FVec Ideal S2x2048x6160 .f32) (B : FVec Ideal S16 .f32) :
    refSums X g W B = fun y => sumF X g W B (y 0) (y 1) := funext fun y => (congrArg (refSums X g W B) (eq_ix2 y)).trans (refSums_apply X g W B (y 0) (y 1))

end Ref

/-- The reference's results are these. -/
theorem ref_out0 (m : (ℓ : Loc nD τ sig) → Buf (Elt Ideal) ℓ) (c : Dev nD) : Cert.Reference3Ideal.Value.res_main_v59 m c
    = refQkv (m ((c : Thread nD τ).loc main_arg0)) (m ((c : Thread nD τ).loc main_arg1)) (m ((c : Thread nD τ).loc main_arg2)) (m ((c : Thread nD τ).loc main_arg4)) (m ((c : Thread nD τ).loc main_arg5)) := rfl
theorem ref_out1 (m : (ℓ : Loc nD τ sig) → Buf (Elt Ideal) ℓ) (c : Dev nD) : Cert.Reference3Ideal.Value.res_main_v61 m c
    = refSums (m ((c : Thread nD τ).loc main_arg0)) (m ((c : Thread nD τ).loc main_arg1)) (m ((c : Thread nD τ).loc main_arg2)) (m ((c : Thread nD τ).loc main_arg3)) := rfl

end Cert.Proof.Proj
-- ==== Proof.ProjSame.lean ====
/-
  The input projection's two texts, at the bit patterns and at exact arithmetic, are one text: piece by piece, then the body
  table and @main.
-/
module

public import proofs.«01_k».proof.Proof.Gen.Kernel3
public import proofs.«01_k».proof.Proof.Gen.Kernel3Ideal

@[expose] public section
set_option maxRecDepth 16384

noncomputable section

open Idealize.ShloMosaic Idealize.SL.Sem

namespace Cert.Proof.Same

variable {F : FTy → Type} [FloatOps F]

/-- The signatures, the grid and the labels. -/
theorem sig_eq : Cert.Kernel3.sig  = Cert.Kernel3Ideal.sig  := rfl
theorem grid0_eq : Cert.Kernel3.grid0  = Cert.Kernel3Ideal.grid0  := rfl
theorem labels_eq : Cert.Kernel3.Λ₀  = Cert.Kernel3Ideal.Λ₀  := rfl

/-- The kernel's pieces -/
theorem part1_eq : Cert.Kernel3.k0_part1 (F := F) = Cert.Kernel3Ideal.k0_part1 (F := F) := rfl
theorem part2_eq : Cert.Kernel3.k0_part2 (F := F) = Cert.Kernel3Ideal.k0_part2 (F := F) := rfl
theorem part3_eq : Cert.Kernel3.k0_part3 (F := F) = Cert.Kernel3Ideal.k0_part3 (F := F) := rfl
theorem part4_eq : Cert.Kernel3.k0_part4 (F := F) = Cert.Kernel3Ideal.k0_part4 (F := F) := rfl
theorem part5_eq : Cert.Kernel3.k0_part5 (F := F) = Cert.Kernel3Ideal.k0_part5 (F := F) := rfl
theorem part6_eq : Cert.Kernel3.k0_part6 (F := F) = Cert.Kernel3Ideal.k0_part6 (F := F) := rfl
theorem part7_eq : Cert.Kernel3.k0_part7 (F := F) = Cert.Kernel3Ideal.k0_part7 (F := F) := rfl
theorem part8_eq : Cert.Kernel3.k0_part8 (F := F) = Cert.Kernel3Ideal.k0_part8 (F := F) := rfl
theorem part9_eq : Cert.Kernel3.k0_part9 (F := F) = Cert.Kernel3Ideal.k0_part9 (F := F) := rfl
theorem part10_eq : Cert.Kernel3.k0_part10 (F := F) = Cert.Kernel3Ideal.k0_part10 (F := F) := rfl
theorem part11_eq : Cert.Kernel3.k0_part11 (F := F) = Cert.Kernel3Ideal.k0_part11 (F := F) := rfl
theorem part12_eq : Cert.Kernel3.k0_part12 (F := F) = Cert.Kernel3Ideal.k0_part12 (F := F) := rfl
theorem part13_eq : Cert.Kernel3.k0_part13 (F := F) = Cert.Kernel3Ideal.k0_part13 (F := F) := rfl
theorem part14_eq : Cert.Kernel3.k0_part14 (F := F) = Cert.Kernel3Ideal.k0_part14 (F := F) := rfl
theorem part15_eq : Cert.Kernel3.k0_part15 (F := F) = Cert.Kernel3Ideal.k0_part15 (F := F) := rfl
theorem part16_eq : Cert.Kernel3.k0_part16 (F := F) = Cert.Kernel3Ideal.k0_part16 (F := F) := rfl
theorem part17_eq : Cert.Kernel3.k0_part17 (F := F) = Cert.Kernel3Ideal.k0_part17 (F := F) := rfl
theorem part18_eq : Cert.Kernel3.k0_part18 (F := F) = Cert.Kernel3Ideal.k0_part18 (F := F) := rfl
theorem part19_eq : Cert.Kernel3.k0_part19 (F := F) = Cert.Kernel3Ideal.k0_part19 (F := F) := rfl
theorem part20_eq : Cert.Kernel3.k0_part20 (F := F) = Cert.Kernel3Ideal.k0_part20 (F := F) := rfl
/-- and the kernel. -/
theorem kernel_eq : Cert.Kernel3.cc0_fox_proj (F := F) = Cert.Kernel3Ideal.cc0_fox_proj (F := F) := rfl

/-- The kernels' body tables, -/
theorem bodies_eq : Cert.Kernel3.defs₀ (F := F) = Cert.Kernel3Ideal.defs₀ (F := F) := by
  refine congrArg (Defs.onTc (nD := Cert.Kernel3.nD) (τ := Cert.Kernel3.τ) (sig := Cert.Kernel3.sig) (Val := Elt F) (Λ := Cert.Kernel3.Λ₀)) (funext fun l => ?_)
  match l with
  | 0 =>
    funext ts
    obtain ⟨t, s⟩ := ts
    show Cert.Kernel3.cc0_fox_proj _ _ _ _ _ _ _ _ _ _ _ _ _ _ _ _ _ _ _ _ _ _ _ = _
    rw [kernel_eq]
    rfl

/-- the whole body tables, -/
theorem defs_eq : Cert.Kernel3.defs (F := F) = Cert.Kernel3Ideal.defs (F := F) := congrArg (Pipeline.defs Cert.Kernel3.pcfgs) bodies_eq

set_option maxHeartbeats 4000000 in
/-- and @main. -/
theorem main_eq : Cert.Kernel3.main (F := F) = Cert.Kernel3Ideal.main (F := F) := rfl

end Cert.Proof.Same

end
-- ==== Proof.PoolIn.lean ====
/-
  The pooling mixer's body at exact arithmetic: what each stored value is, an element at a time.
-/
module

public import proofs.«01_k».proof.Proof.Chunk
public import proofs.«01_k».proof.Proof.Gen.Kernel4Ideal.Value
public import Idealize.ShloMosaic.Lib.Pipeline.ValueKit.Tiles
public import Idealize.ShloMosaic.Lib.WordCmp

@[expose] public section

set_option maxRecDepth 16384

noncomputable section

namespace Cert.Proof.Pool

open Cert.Kernel4Ideal Cert.Kernel4Ideal.Gen
open Idealize.ShloMosaic
open Idealize.ShloMosaic.TcCoe
open Idealize.ShloMosaic.ValueIdx

/-- The normalized rows of a block. -/
theorem pay3_apply (x : FVec Ideal S512x2048 .f32) (g : FVec Ideal S1x2048 .f32) (i : Fin 512) (k : Fin 2048) :
    (k0_pay3 (F := Ideal) x g (ix2 i k) : EReal) = Ffn.rowNorm (Ffn.row x i) (Ffn.row g 0) k := by
  unfold k0_pay3
  dsimp only
  simp only [shapeCast_self]
  show x (ix2 i k) * broadcastTo S512x2048 _ _ (ix2 i k) * broadcastTo S512x2048 g _ (ix2 i k) = _
  rw [Ffn.colBroadcast_apply (by decide) (by decide), broadcastTo_1b_ab_apply]
  show x (ix2 i k) * Ideal.rsqrt (Ideal.div (shapeCast S512x1 _ _ (ix2 i (0 : Fin 1))) (Ideal.ofBits .f32 0x45000000#32) + Ideal.ofBits .f32 0x358637BD#32) * _ = _
  rw [shapeCast_a_a1_apply]
  refine congrArg (fun z => x (ix2 i k) * Ideal.rsqrt (Ideal.div z (Ideal.ofBits .f32 0x45000000#32) + Ideal.ofBits .f32 0x358637BD#32) * g (ix2 0 k)) ?_
  refine (Ideal.multiReduction_add_single (mulf x x) _ reduces_S512x2048_S512 _ _ (ix1 i)).trans (Finset.sum_congr rfl fun c _ => ?_)
  have el : reduces_S512x2048_S512.lift (ix1 i) c = ix2 i c := by
    funext ax
    match ax with
    | ⟨0, _⟩ => rfl
    | ⟨1, _⟩ => rfl
  rw [el]
  rfl

/-- The number of rows a window of `w` rows ends with at row `n`. -/
def rowsIn (w n : ℕ) : EReal := ((min (n + 1) w : ℕ) : ℝ)

/-- The count the body divides by: row numbers stay below the word's sign. -/
theorem count_apply (i : grid0.Coords) (w : ℕ) (hw : w ≤ 16) (p : Fin 512) :
    (FloatOps.sitofp (F := Ideal) .f32 (IntOp.minsi (k0_pay4 i (ix2 p (0 : Fin 1)) + 1#32) (BitVec.ofNat 32 w)) : EReal)
      = rowsIn w (512 * (i 0).val + p.val) := by
  have hi : (i 0).val < 16 := (i 0).isLt
  have hp := p.isLt
  have h4 : k0_pay4 i (ix2 p (0 : Fin 1)) = BitVec.ofNat 32 (i 0).val * 512#32 + BitVec.ofNat 32 p.val := by
    show BitVec.ofNat 32 (i 0).val * 512#32 + BitVec.ofNat 32 (0 * 512 + p.val) = _
    rw [Nat.zero_mul, Nat.zero_add]
  have hn : k0_pay4 i (ix2 p (0 : Fin 1)) + 1#32 = BitVec.ofNat 32 (512 * (i 0).val + p.val + 1) := by
    rw [h4]
    apply BitVec.eq_of_toNat_eq
    simp only [BitVec.toNat_add, BitVec.toNat_mul, BitVec.toNat_ofNat]
    omega
  have hs : (BitVec.ofNat 32 (512 * (i 0).val + p.val + 1)).toInt = ((512 * (i 0).val + p.val + 1 : ℕ) : ℤ) := WordCmp.toInt_ofNat_of_lt (by omega)
  have hw' : (BitVec.ofNat 32 w).toInt = (w : ℤ) := WordCmp.toInt_ofNat_of_lt (by omega)
  rw [hn]
  show (((IntOp.minsi _ _).toInt : ℝ) : EReal) = _
  unfold IntOp.minsi rowsIn
  rw [BitVec.slt, hs, hw']
  by_cases hlt : 512 * (i 0).val + p.val + 1 < w
  · rw [if_pos (by simpa using by exact_mod_cast hlt), hs, Nat.min_eq_left hlt.le]
    norm_cast
  · rw [if_neg (by simpa using by exact_mod_cast Nat.le_of_not_lt hlt), hw', Nat.min_eq_right (by omega)]
    norm_cast

/-- A group's slice of the result: the input's, plus the mixed rows' product by the group's weight, biased and scaled. -/
theorem out_apply (o : ℕ) (ho : o + 512 ≤ 2048) (hs : S512x2048.Slices ![0, o] S512x512) (x : FVec Ideal S512x2048 .f32) (y : FVec Ideal S512x512 .bf16)
    (w : FVec Ideal S1x512x512 .bf16) (b s : FVec Ideal S1x512 .f32) (p e : Fin 512) :
    (addf (extractStridedSlice S512x512 ![0, o] x hs) (mulf (addf (matmul dot_S512x512_S512x512_S512x512_1_0_0_1_n_n none y (shapeCast S512x512 w shapeCasts_S1x512x512_S512x512) (constant S512x512 .f32 0x00000000#32))
        (broadcastTo S512x512 b broadcasts_S1x512_S512x512)) (broadcastTo S512x512 s broadcasts_S1x512_S512x512)) (ix2 p e) : EReal)
      = x (ix2 p ⟨o + e.val, by omega⟩) + ((∑ c : Fin 512, y (ix2 p c) * w (ix3 (0 : Fin 1) c e)) + b (ix2 0 e)) * s (ix2 0 e) := by
  refine congrArg₂ (fun a z : EReal => a + z) (slice2_axis1_apply o _ _ p e ⟨o + e.val, by omega⟩ rfl) ?_
  refine congrArg₂ (fun a z : EReal => a * z) (congrArg₂ (fun a z : EReal => a + z) ?_ (broadcastTo_1b_ab_apply _ _ _ _)) (broadcastTo_1b_ab_apply _ _ _ _)
  refine (Ffn.mm_apply none y _ p e).trans (Finset.sum_congr rfl fun c _ => ?_)
  exact congrArg (fun z : EReal => y (ix2 p c) * z) (shapeCast_1ab_ab_apply _ _ _ _)

/-- A row of a group, mixed: the window's mean less the row. -/
theorem mixed_apply (n : IVec S512x1 32) (w : BitVec 32) (h a b : FVec Ideal S512x512 .f32) (p c : Fin 512) :
    (subf (divf (addf a b) (broadcastTo S512x512 (sitofp .f32 (minsi (addi n (broadcast S512x1 1#32)) (broadcast S512x1 w))) broadcasts_S512x1_S512x512)) h (ix2 p c) : EReal)
      = Ideal.div (a (ix2 p c) + b (ix2 p c)) (FloatOps.sitofp (F := Ideal) .f32 (IntOp.minsi (n (ix2 p (0 : Fin 1)) + 1#32) w)) - h (ix2 p c) := by
  refine congrArg (fun z : EReal => Ideal.div (a (ix2 p c) + b (ix2 p c)) z - h (ix2 p c)) ?_
  exact Ffn.colBroadcast_apply (by decide) (by decide) _ _ _ _

theorem pay6_apply (x : FVec Ideal S512x2048 .f32) (y : FVec Ideal S512x512 .f32) (w : FVec Ideal S1x512x512 .bf16) (b s : FVec Ideal S1x512 .f32) (p e : Fin 512) :
    (k0_pay6 (F := Ideal) x y w b s (ix2 p e) : EReal)
      = x (ix2 p ⟨0 + e.val, by omega⟩) + ((∑ c : Fin 512, y (ix2 p c) * w (ix3 (0 : Fin 1) c e)) + b (ix2 0 e)) * s (ix2 0 e) := by
  unfold k0_pay6
  simp only [shapeCast_self]
  exact out_apply 0 (by decide) _ x _ w b s p e

theorem pay5_apply (i : grid0.Coords) (h a b : FVec Ideal S512x512 .f32) (p c : Fin 512) :
    (k0_pay5 (F := Ideal) i h a b (ix2 p c) : EReal) = Ideal.div (a (ix2 p c) + b (ix2 p c)) (rowsIn 2 (512 * (i 0).val + p.val)) - h (ix2 p c) :=
  (mixed_apply (k0_pay4 i) 2#32 h a b p c).trans (by rw [← count_apply i 2 (by decide) p])

theorem pay9_apply (x : FVec Ideal S512x2048 .f32) (y : FVec Ideal S512x512 .bf16) (w : FVec Ideal S1x512x512 .bf16) (b s : FVec Ideal S1x512 .f32) (p e : Fin 512) :
    (k0_pay9 (F := Ideal) x y w b s (ix2 p e) : EReal)
      = x (ix2 p ⟨512 + e.val, by omega⟩) + ((∑ c : Fin 512, y (ix2 p c) * w (ix3 (0 : Fin 1) c e)) + b (ix2 0 e)) * s (ix2 0 e) := by
  unfold k0_pay9
  simp only [shapeCast_self]
  exact out_apply 512 (by decide) _ x _ w b s p e

theorem pay8_apply (i : grid0.Coords) (h a b : FVec Ideal S512x512 .f32) (p c : Fin 512) :
    (k0_pay8 (F := Ideal) (k0_pay4 i) h a b (ix2 p c) : EReal) = Ideal.div (a (ix2 p c) + b (ix2 p c)) (rowsIn 4 (512 * (i 0).val + p.val)) - h (ix2 p c) :=
  (mixed_apply (k0_pay4 i) 4#32 h a b p c).trans (by rw [← count_apply i 4 (by decide) p])

theorem pay12_apply (i : grid0.Coords) (x : FVec Ideal S512x2048 .f32) (h a b : FVec Ideal S512x512 .f32) (w : FVec Ideal S1x512x512 .bf16) (u s : FVec Ideal S1x512 .f32) (p e : Fin 512) :
    (k0_pay12 (F := Ideal) x (k0_pay4 i) h a b w u s (ix2 p e) : EReal)
      = x (ix2 p ⟨1024 + e.val, by omega⟩) + ((∑ c : Fin 512, (Ideal.div (a (ix2 p c) + b (ix2 p c)) (rowsIn 8 (512 * (i 0).val + p.val)) - h (ix2 p c)) * w (ix3 (0 : Fin 1) c e)) + u (ix2 0 e)) * s (ix2 0 e) := by
  unfold k0_pay12
  dsimp only
  simp only [shapeCast_self]
  refine (out_apply 1024 (by decide) _ x _ w u s p e).trans ?_
  refine congrArg (fun z : EReal => x _ + (z + u (ix2 0 e)) * s (ix2 0 e)) (Finset.sum_congr rfl fun c _ => congrArg (fun z : EReal => z * w (ix3 (0 : Fin 1) c e)) ?_)
  exact (mixed_apply (k0_pay4 i) 8#32 h a b p c).trans (by rw [← count_apply i 8 (by decide) p])

theorem pay17_apply (i : grid0.Coords) (x : FVec Ideal S512x2048 .f32) (h a b : FVec Ideal S512x512 .f32) (w : FVec Ideal S1x512x512 .bf16) (u s : FVec Ideal S1x512 .f32) (p e : Fin 512) :
    (k0_pay17 (F := Ideal) x (k0_pay4 i) h a b w u s (ix2 p e) : EReal)
      = x (ix2 p ⟨1536 + e.val, by omega⟩) + ((∑ c : Fin 512, (Ideal.div (a (ix2 p c) + b (ix2 p c)) (rowsIn 16 (512 * (i 0).val + p.val)) - h (ix2 p c)) * w (ix3 (0 : Fin 1) c e)) + u (ix2 0 e)) * s (ix2 0 e) := by
  unfold k0_pay17
  dsimp only
  simp only [shapeCast_self]
  refine (out_apply 1536 (by decide) _ x _ w u s p e).trans ?_
  refine congrArg (fun z : EReal => x _ + (z + u (ix2 0 e)) * s (ix2 0 e)) (Finset.sum_congr rfl fun c _ => congrArg (fun z : EReal => z * w (ix3 (0 : Fin 1) c e)) ?_)
  exact (mixed_apply (k0_pay4 i) 16#32 h a b p c).trans (by rw [← count_apply i 16 (by decide) p])

/-! ## Reads of what stores left -/

section Reads
variable {Val : EltTy → Type} {sig : RefSig} {κ : Kind} {sp : Space} {R C : ℕ} {e : EltTy}

/-- A load of a rectangle, at a place in it. -/
theorem load_at (v : View sig κ sp ⟨2, ![R, C]⟩ e) (f : v.ty.Contents Val) {q0 q1 n0 n1 : ℕ} (inb : ∀ a, (![q0, q1] : Fin 2 → ℕ) a + (![n0, n1] : Fin 2 → ℕ) a ≤ (⟨2, ![R, C]⟩ : Shape).size a)
    (x : Fin n0) (y : Fin n1) (i : Fin R) (j : Fin C) (hi : i.val = q0 + x.val) (hj : j.val = q1 + y.val) :
    v.readAt Val (Rect.unit (s := ⟨2, ![R, C]⟩) ![q0, q1] ![n0, n1] inb).toLoadRect f (ix2 x y) = v.read Val f (ix2 i j) := by
  show v.read Val f _ = _
  refine congrArg (v.read Val f) (funext fun a => Fin.ext ?_)
  refine (Rect.idx_unit_val (s := ⟨2, ![R, C]⟩) ![q0, q1] ![n0, n1] inb (ix2 x y) a).trans ?_
  match a with
  | ⟨0, _⟩ => exact hi.symm
  | ⟨1, _⟩ => exact hj.symm

/-- A read inside the last store's rectangle, -/
theorem read_last (v : View sig κ sp ⟨2, ![R, C]⟩ e) (f : v.ty.Contents Val) {o0 o1 k0 k1 : ℕ} (inb : ∀ a, (![o0, o1] : Fin 2 → ℕ) a + (![k0, k1] : Fin 2 → ℕ) a ≤ (⟨2, ![R, C]⟩ : Shape).size a)
    (w : (⟨2, ![k0, k1]⟩ : Shape).Idx → Val e) (L : List (View.Piece Val ⟨2, ![R, C]⟩ e)) (i : Fin R) (j : Fin C) (x : Fin k0) (y : Fin k1) (hi : i.val = o0 + x.val) (hj : j.val = o1 + y.val) :
    v.read Val (v.writes Val f ((⟨Rect.unit (s := ⟨2, ![R, C]⟩) ![o0, o1] ![k0, k1] inb, w⟩ : View.Piece Val ⟨2, ![R, C]⟩ e) :: L)) (ix2 i j) = w (ix2 x y) :=
  View.read_writes_cons_unit_of_mem v f inb w L (ix2 i j) (ix2 x y) rfl fun a => by
    match a with
    | ⟨0, _⟩ => exact hi
    | ⟨1, _⟩ => exact hj

/-- and above it. -/
theorem read_above (v : View sig κ sp ⟨2, ![R, C]⟩ e) (f : v.ty.Contents Val) {o0 o1 k0 k1 : ℕ} (inb : ∀ a, (![o0, o1] : Fin 2 → ℕ) a + (![k0, k1] : Fin 2 → ℕ) a ≤ (⟨2, ![R, C]⟩ : Shape).size a)
    (w : (⟨2, ![k0, k1]⟩ : Shape).Idx → Val e) (L : List (View.Piece Val ⟨2, ![R, C]⟩ e)) (i : Fin R) (j : Fin C) (hi : i.val < o0) :
    v.read Val (v.writes Val f ((⟨Rect.unit (s := ⟨2, ![R, C]⟩) ![o0, o1] ![k0, k1] inb, w⟩ : View.Piece Val ⟨2, ![R, C]⟩ e) :: L)) (ix2 i j) = v.read Val (v.writes Val f L) (ix2 i j) :=
  View.read_writes_cons_unit_of_not_mem v f inb w L (ix2 i j) rfl 0 (Or.inl hi)

/-- and left of it. -/
theorem read_left (v : View sig κ sp ⟨2, ![R, C]⟩ e) (f : v.ty.Contents Val) {o0 o1 k0 k1 : ℕ} (inb : ∀ a, (![o0, o1] : Fin 2 → ℕ) a + (![k0, k1] : Fin 2 → ℕ) a ≤ (⟨2, ![R, C]⟩ : Shape).size a)
    (w : (⟨2, ![k0, k1]⟩ : Shape).Idx → Val e) (L : List (View.Piece Val ⟨2, ![R, C]⟩ e)) (i : Fin R) (j : Fin C) (hj : j.val < o1) :
    v.read Val (v.writes Val f ((⟨Rect.unit (s := ⟨2, ![R, C]⟩) ![o0, o1] ![k0, k1] inb, w⟩ : View.Piece Val ⟨2, ![R, C]⟩ e) :: L)) (ix2 i j) = v.read Val (v.writes Val f L) (ix2 i j) :=
  View.read_writes_cons_unit_of_not_mem v f inb w L (ix2 i j) rfl 1 (Or.inl hj)

/-- A load inside the last store's rectangle. -/
theorem load_last (v : View sig κ sp ⟨2, ![R, C]⟩ e) (f : v.ty.Contents Val) {q0 q1 n0 n1 o0 o1 k0 k1 : ℕ}
    (inb : ∀ a, (![q0, q1] : Fin 2 → ℕ) a + (![n0, n1] : Fin 2 → ℕ) a ≤ (⟨2, ![R, C]⟩ : Shape).size a) (inb' : ∀ a, (![o0, o1] : Fin 2 → ℕ) a + (![k0, k1] : Fin 2 → ℕ) a ≤ (⟨2, ![R, C]⟩ : Shape).size a)
    (w : (⟨2, ![k0, k1]⟩ : Shape).Idx → Val e) (L : List (View.Piece Val ⟨2, ![R, C]⟩ e)) (x : Fin n0) (y : Fin n1) (i : Fin k0) (j : Fin k1) (hi : q0 + x.val = o0 + i.val) (hj : q1 + y.val = o1 + j.val) :
    v.readAt Val (Rect.unit (s := ⟨2, ![R, C]⟩) ![q0, q1] ![n0, n1] inb).toLoadRect (v.writes Val f ((⟨Rect.unit (s := ⟨2, ![R, C]⟩) ![o0, o1] ![k0, k1] inb', w⟩ : View.Piece Val ⟨2, ![R, C]⟩ e) :: L)) (ix2 x y) = w (ix2 i j) := by
  have h0 : q0 + n0 ≤ R := inb 0
  have h1 : q1 + n1 ≤ C := inb 1
  refine (load_at v _ inb x y ⟨q0 + x.val, by omega⟩ ⟨q1 + y.val, by omega⟩ rfl rfl).trans ?_
  exact read_last v f inb' w L _ _ i j hi hj

/-- A load of contents given whole. -/
theorem load_given {s : Shape} {r : Rect s} (m : Memref sig κ sp s e) (hm : m.IsWhole) (X : s.Idx → Val e) (y : r.toLoadRect.shape.Idx) :
    m.view.readAt Val r.toLoadRect (hm.unread X) y = X (r.toLoadRect.idx y) :=
  congrFun (hm.read_unread X) _

end Reads

end Cert.Proof.Pool

end

end
-- ==== Proof.PoolPoint.lean ====
/-
  One grid point of the pooling mixer: the buffer of rows with the thirty-two before the block, the windows' sums made by
  doubling, and the block of the result and the rows kept for the next point.
-/
module

public import proofs.«01_k».proof.Proof.PoolIn

@[expose] public section

set_option maxRecDepth 16384

noncomputable section

namespace Cert.Proof.Pool

open Cert.Kernel4Ideal Cert.Kernel4Ideal.Gen
open Idealize.ShloMosaic
open Idealize.ShloMosaic.TcCoe
open Idealize.ShloMosaic.ValueIdx

/-- Rows added to the rows `s` before them. -/
def dbl (D : ℕ → ℕ → EReal) (s r k : ℕ) : EReal := D r k + D (r - s) k

section Buffers
variable {sig : RefSig} {κ : Kind} {sp : Space} {C : ℕ}

/-- A load of rows known from `o` on, columns shifted by `q`. -/
theorem take (v : View sig κ sp ⟨2, ![544, C]⟩ .f32) (f : v.ty.Contents (Elt Ideal)) (D : ℕ → ℕ → EReal) (o q : ℕ)
    (h : ∀ (r : Fin 544) (k : Fin C), o ≤ r.val → (v.read (Elt Ideal) f (ix2 r k) : EReal) = D r.val (q + k.val))
    {q0 q1 n0 n1 : ℕ} (inb : ∀ a, (![q0, q1] : Fin 2 → ℕ) a + (![n0, n1] : Fin 2 → ℕ) a ≤ (⟨2, ![544, C]⟩ : Shape).size a) (ho : o ≤ q0) (x : Fin n0) (y : Fin n1) :
    (v.readAt (Elt Ideal) (Rect.unit (s := ⟨2, ![544, C]⟩) ![q0, q1] ![n0, n1] inb).toLoadRect f (ix2 x y) : EReal) = D (q0 + x.val) (q + (q1 + y.val)) := by
  have h0 : q0 + n0 ≤ 544 := inb 0
  have h1 : q1 + n1 ≤ C := inb 1
  refine (load_at v _ inb x y ⟨q0 + x.val, by omega⟩ ⟨q1 + y.val, by omega⟩ rfl rfl).trans ?_
  exact h _ _ (by show o ≤ q0 + x.val; omega)

/-- A store of the rows from `o` on, each the sum of two. -/
theorem stage (v : View sig κ sp ⟨2, ![544, 512]⟩ .f32) (f : v.ty.Contents (Elt Ideal)) (D : ℕ → ℕ → EReal) (o s q n : ℕ) (hs : s ≤ o) (hn : o + n = 544)
    (inb : ∀ a, (![o, 0] : Fin 2 → ℕ) a + (![n, 512] : Fin 2 → ℕ) a ≤ (⟨2, ![544, 512]⟩ : Shape).size a)
    (w a b : (⟨2, ![n, 512]⟩ : Shape).Idx → EReal) (L : List (View.Piece (Elt Ideal) ⟨2, ![544, 512]⟩ .f32))
    (hw : ∀ x y, w (ix2 x y) = a (ix2 x y) + b (ix2 x y))
    (ha : ∀ (x : Fin n) (y : Fin 512), a (ix2 x y) = D (o + x.val) (q + y.val)) (hb : ∀ (x : Fin n) (y : Fin 512), b (ix2 x y) = D (o - s + x.val) (q + y.val))
    (r : Fin 544) (k : Fin 512) (hr : o ≤ r.val) :
    (v.read (Elt Ideal) (v.writes (Elt Ideal) f ((⟨Rect.unit (s := ⟨2, ![544, 512]⟩) ![o, 0] ![n, 512] inb, w⟩ : View.Piece (Elt Ideal) ⟨2, ![544, 512]⟩ .f32) :: L)) (ix2 r k) : EReal)
      = dbl D s r.val (q + k.val) := by
  refine (read_last v f inb w L r k ⟨r.val - o, by omega⟩ k (by show r.val = o + (r.val - o); omega) (Nat.zero_add _).symm).trans ?_
  rw [hw, ha, hb]
  unfold dbl
  rw [show o + (r.val - o) = r.val by omega, show o - s + (r.val - o) = r.val - s by omega]

end Buffers

theorem pay7_apply (a b : FVec Ideal S520x512 .f32) (x : Fin 520) (y : Fin 512) : (k0_pay7 (F := Ideal) a b (ix2 x y) : EReal) = a (ix2 x y) + b (ix2 x y) := by
  unfold k0_pay7
  simp only [shapeCast_self]
  rfl
theorem pay10_apply (a b : FVec Ideal S528x512 .f32) (x : Fin 528) (y : Fin 512) : (k0_pay10 (F := Ideal) a b (ix2 x y) : EReal) = a (ix2 x y) + b (ix2 x y) := by
  unfold k0_pay10
  simp only [shapeCast_self]
  rfl
theorem pay11_apply (a b : FVec Ideal S520x512 .f32) (x : Fin 520) (y : Fin 512) : (k0_pay11 (F := Ideal) a b (ix2 x y) : EReal) = a (ix2 x y) + b (ix2 x y) := by
  unfold k0_pay11
  simp only [shapeCast_self]
  rfl
theorem pay13_apply (a b : FVec Ideal S536x512 .f32) (x : Fin 536) (y : Fin 512) : (k0_pay13 (F := Ideal) a b (ix2 x y) : EReal) = a (ix2 x y) + b (ix2 x y) := by
  unfold k0_pay13
  simp only [shapeCast_self]
  rfl
theorem pay15_apply (a b : FVec Ideal S528x512 .f32) (x : Fin 528) (y : Fin 512) : (k0_pay15 (F := Ideal) (k0_pay14 a b) (ix2 x y) : EReal) = a (ix2 x y) + b (ix2 x y) := by
  unfold k0_pay15 k0_pay14
  simp only [shapeCast_self]
  rfl
theorem pay16_apply (a b : FVec Ideal S520x512 .f32) (x : Fin 520) (y : Fin 512) : (k0_pay16 (F := Ideal) a b (ix2 x y) : EReal) = a (ix2 x y) + b (ix2 x y) := by
  unfold k0_pay16
  simp only [shapeCast_self]
  rfl

/-- The buffer of normalized rows: the block's from the thirty-third on, over `top`. -/
def buf (top : ℕ → ℕ → EReal) (x0 : FVec Ideal S512x2048 .f32) (x1 : FVec Ideal S1x2048 .f32) (r k : ℕ) : EReal :=
  if h : 32 ≤ r ∧ r < 544 ∧ k < 2048 then Ffn.rowNorm (Ffn.row x0 ⟨r - 32, by omega⟩) (Ffn.row x1 0) ⟨k, h.2.2⟩ else top r k

/-- A group of the result at an element, from the buffer `H`, doubled to `D` for all but the window's last doubling. -/
def mixAt (H D : ℕ → ℕ → EReal) (w s n0 j : ℕ) (hj : j < 4) (x0 : FVec Ideal S512x2048 .f32) (x2 : FVec Ideal S4x512x512 .bf16) (x3 x4 : FVec Ideal S1x2048 .f32) (p e : Fin 512) : EReal :=
  x0 (ix2 p ⟨512 * j + e.val, by omega⟩)
    + ((∑ c : Fin 512, (Ideal.div (dbl D s (32 + p.val) (512 * j + c.val)) (rowsIn w (n0 + p.val)) - H (32 + p.val) (512 * j + c.val)) * x2 (ix3 ⟨j, hj⟩ c e))
        + x3 (ix2 0 ⟨512 * j + e.val, by omega⟩)) * x4 (ix2 0 ⟨512 * j + e.val, by omega⟩)

theorem mix_congr {H D : ℕ → ℕ → EReal} {w s n0 j : ℕ} (hj : j < 4) {x0 : FVec Ideal S512x2048 .f32} {x2 : FVec Ideal S4x512x512 .bf16} {x3 x4 : FVec Ideal S1x2048 .f32} {p e : Fin 512}
    {x b u : EReal} {y ww : Fin 512 → EReal} (hx : x = x0 (ix2 p ⟨512 * j + e.val, by omega⟩))
    (hy : ∀ c : Fin 512, y c = Ideal.div (dbl D s (32 + p.val) (512 * j + c.val)) (rowsIn w (n0 + p.val)) - H (32 + p.val) (512 * j + c.val))
    (hw : ∀ c : Fin 512, ww c = x2 (ix3 ⟨j, hj⟩ c e)) (hb : b = x3 (ix2 0 ⟨512 * j + e.val, by omega⟩)) (hu : u = x4 (ix2 0 ⟨512 * j + e.val, by omega⟩)) :
    x + ((∑ c, y c * ww c) + b) * u = mixAt H D w s n0 j hj x0 x2 x3 x4 p e := by
  unfold mixAt
  rw [hx, hb, hu]
  simp only [hy, hw]

theorem mean_congr {a b h a' b' h' n : EReal} (ha : a = a') (hb : b = b') (hh : h = h') : Ideal.div (a + b) n - h = Ideal.div (a' + b') n - h' := by
  rw [ha, hb, hh]

section Point
variable (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S4x512x512 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S544x2048 .f32) (harg7 : arg7.IsWhole) (arg8 : Memref sig .tc .vmem S544x512 .f32) (harg8 : arg8.IsWhole) (arg9 : Memref sig .tc .vmem S544x512 .f32) (harg9 : arg9.IsWhole)
    (x0 : Vec Ideal S512x2048 .f32) (x1 : Vec Ideal S1x2048 .f32) (x2 : Vec Ideal S4x512x512 .bf16) (x3 : Vec Ideal S1x2048 .f32) (x4 : Vec Ideal S1x2048 .f32) (xs0 : Vec Ideal S544x2048 .f32)

/-- The rows kept from the point before. -/
def kept (xs0 : FVec Ideal S544x2048 .f32) (r k : ℕ) : EReal := if h : r < 544 ∧ k < 2048 then xs0 (ix2 ⟨r, h.1⟩ ⟨k, h.2⟩) else 0

theorem given_eq : arg1.view.readAt (Elt Ideal) (Rect.unit (s := S512x2048) ![0, 0] ![512, 2048] inb_S512x2048_S512x2048_0_0).toLoadRect (harg1.unread x0) = x0 := by
  funext y
  exact (load_given arg1 harg1 x0 y).trans (congrArg x0 (funext fun a => Fin.ext (by
    refine (Rect.idx_unit_val (s := S512x2048) ![0, 0] ![512, 2048] inb_S512x2048_S512x2048_0_0 y a).trans ?_
    match a with
    | ⟨0, _⟩ => exact Nat.zero_add _
    | ⟨1, _⟩ => exact Nat.zero_add _)))

/-! ### A point after the first -/

section B

/-- The rows stored, whatever lies beneath, -/
theorem rows_B (v : View sig .tc .vmem S544x2048 .f32) (f : v.ty.Contents (Elt Ideal)) (top : ℕ → ℕ → EReal) (r : Fin 544) (k : Fin 2048) (hr : 32 ≤ r.val) :
    (v.read (Elt Ideal) (v.writes (Elt Ideal) f (kernelRun0_B.sl.HS0_1 c arg1 harg1 arg2 harg2 x0 x1)) (ix2 r k) : EReal) = buf top x0 x1 r.val k.val := by
  refine (read_last v f _ _ _ r k ⟨r.val - 32, by omega⟩ k (by show r.val = 32 + (r.val - 32); omega) (Nat.zero_add _).symm).trans ?_
  refine (pay3_apply _ _ _ _).trans ?_
  unfold buf
  rw [dif_pos ⟨hr, r.isLt, k.isLt⟩]
  refine congrArg₂ (fun a b => Ffn.rowNorm a b k) (funext fun j => ?_) (funext fun j => ?_)
  · exact (load_given arg1 harg1 x0 _).trans (congrArg x0 (funext fun a => Fin.ext (by
      match a with
      | ⟨0, _⟩ => show 0 + 1 * (r.val - 32) = r.val - 32; omega
      | ⟨1, _⟩ => show 0 + 1 * j.val = j.val; omega)))
  · exact (load_given arg2 harg2 x1 _).trans (congrArg x1 (funext fun a => Fin.ext (by
      match a with
      | ⟨0, _⟩ => rfl
      | ⟨1, _⟩ => show 0 + 1 * j.val = j.val; omega)))

/-- and the whole buffer over the rows kept. -/
theorem all_B (r : Fin 544) (k : Fin 2048) :
    (arg7.view.read (Elt Ideal) (arg7.view.writes (Elt Ideal) (harg7.unread xs0) (kernelRun0_B.sl.HS0_1 c arg1 harg1 arg2 harg2 x0 x1)) (ix2 r k) : EReal) = buf (kept xs0) x0 x1 r.val k.val := by
  by_cases hr : 32 ≤ r.val
  · exact rows_B c arg1 harg1 arg2 harg2 x0 x1 arg7.view _ _ r k hr
  · refine (read_above arg7.view _ _ _ _ r k (by omega)).trans ?_
    unfold buf kept
    rw [dif_neg (fun h => hr h.1), dif_pos ⟨r.isLt, k.isLt⟩]
    exact congrFun (harg7.read_unread xs0) _

variable (hc0 : ¬cond0_0 i)

/-- The rows kept for the next point. -/
theorem next_B (r : Fin 544) (k : Fin 2048) (hr : r.val < 32) :
    (sout0_B_0 c i arg1 harg1 arg2 harg2 arg3 harg3 arg4 harg4 arg5 harg5 arg6 harg6 arg7 harg7 arg8 harg8 arg9 harg9 hc0 x0 x1 x2 x3 x4 xs0 (ix2 r k) : EReal) = buf (kept xs0) x0 x1 (512 + r.val) k.val := by
  unfold sout0_B_0
  dsimp only [kernelRun0_B]
  refine (read_last VS0_0 _ _ _ _ r k ⟨r.val, hr⟩ k (Nat.zero_add _).symm (Nat.zero_add _).symm).trans ?_
  unfold k0_pay1
  simp only [shapeCast_self]
  refine (take arg7.view _ _ 32 0 (fun r k hr => (rows_B c arg1 harg1 arg2 harg2 x0 x1 arg7.view _ (kept xs0) r k hr).trans (by rw [Nat.zero_add])) _ (by decide) _ _).trans ?_
  rw [Nat.zero_add, Nat.zero_add]

/-! Reads of the buffer, from row `q` on, at the group's columns. -/

/-- The result's columns from 0 on. -/
theorem out_B_0 (p e : Fin 512) :
    (out0_B_5 c i arg1 harg1 arg2 harg2 arg3 harg3 arg4 harg4 arg5 harg5 arg6 harg6 arg7 harg7 arg8 harg8 arg9 harg9 hc0 x0 x1 x2 x3 x4 xs0 (ix2 p ⟨0 + e.val, by omega⟩) : EReal) = mixAt (buf (kept xs0) x0 x1) (buf (kept xs0) x0 x1) 2 1 (512 * (i 0).val) 0 (by decide) x0 x2 x3 x4 p e := by
  unfold out0_B_5
  dsimp only [kernelRun0_B]
  refine (read_left VO0_5 _ _ _ _ _ _ (by show 0 + e.val < 1536; omega)).trans ?_
  refine (read_left VO0_5 _ _ _ _ _ _ (by show 0 + e.val < 1024; omega)).trans ?_
  refine (read_left VO0_5 _ _ _ _ _ _ (by show 0 + e.val < 512; omega)).trans ?_
  refine (read_last VO0_5 _ _ _ _ _ _ p e (Nat.zero_add _).symm rfl).trans ?_
  refine (pay6_apply _ _ _ _ _ _ _).trans ?_
  refine mix_congr (by decide) ?_ (fun k => ?_) (fun k => ?_) ?_ ?_
  · exact congrFun (given_eq arg1 harg1 x0) _
  · refine (pay5_apply i _ _ _ p k).trans ?_
    refine mean_congr ?_ ?_ ?_
    · exact (take arg7.view _ (buf (kept xs0) x0 x1) 32 0 (fun r k hr => (rows_B c arg1 harg1 arg2 harg2 x0 x1 arg7.view _ (kept xs0) r k hr).trans (by rw [Nat.zero_add])) _ (by decide) _ _).trans (congrArg ((buf (kept xs0) x0 x1) _) (Nat.zero_add _))
    · exact ((take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))).trans (congrArg (fun r => (buf (kept xs0) x0 x1) r _) (show 31 + p.val = 32 + p.val - 1 by omega))
    · exact (take arg7.view _ (buf (kept xs0) x0 x1) 32 0 (fun r k hr => (rows_B c arg1 harg1 arg2 harg2 x0 x1 arg7.view _ (kept xs0) r k hr).trans (by rw [Nat.zero_add])) _ (by decide) _ _).trans (congrArg ((buf (kept xs0) x0 x1) _) (Nat.zero_add _))
  · exact (load_given arg3 harg3 x2 _).trans (congrArg x2 (funext fun a => Fin.ext (by
      match a with
      | ⟨0, _⟩ => rfl
      | ⟨1, _⟩ => show 0 + 1 * k.val = k.val; omega
      | ⟨2, _⟩ => show 0 + 1 * e.val = e.val; omega)))
  · exact (load_given arg4 harg4 x3 _).trans (congrArg x3 (funext fun a => Fin.ext (by
      match a with
      | ⟨0, _⟩ => rfl
      | ⟨1, _⟩ => show 0 + 1 * e.val = 0 + e.val; omega)))
  · exact (load_given arg5 harg5 x4 _).trans (congrArg x4 (funext fun a => Fin.ext (by
      match a with
      | ⟨0, _⟩ => rfl
      | ⟨1, _⟩ => show 0 + 1 * e.val = 0 + e.val; omega)))

/-- The result's columns from 512 on. -/
theorem out_B_1 (p e : Fin 512) :
    (out0_B_5 c i arg1 harg1 arg2 harg2 arg3 harg3 arg4 harg4 arg5 harg5 arg6 harg6 arg7 harg7 arg8 harg8 arg9 harg9 hc0 x0 x1 x2 x3 x4 xs0 (ix2 p ⟨512 + e.val, by omega⟩) : EReal) = mixAt (buf (kept xs0) x0 x1) (dbl (buf (kept xs0) x0 x1) 1) 4 2 (512 * (i 0).val) 1 (by decide) x0 x2 x3 x4 p e := by
  unfold out0_B_5
  dsimp only [kernelRun0_B]
  refine (read_left VO0_5 _ _ _ _ _ _ (by show 512 + e.val < 1536; omega)).trans ?_
  refine (read_left VO0_5 _ _ _ _ _ _ (by show 512 + e.val < 1024; omega)).trans ?_
  refine (read_last VO0_5 _ _ _ _ _ _ p e (Nat.zero_add _).symm rfl).trans ?_
  refine (pay9_apply _ _ _ _ _ _ _).trans ?_
  refine mix_congr (by decide) ?_ (fun k => ?_) (fun k => ?_) ?_ ?_
  · exact congrFun (given_eq arg1 harg1 x0) _
  · refine (pay8_apply i _ _ _ p k).trans ?_
    refine mean_congr ?_ ?_ ?_
    · exact (take arg8.view _ (dbl (buf (kept xs0) x0 x1) 1) 24 512 (fun r k hr => stage arg8.view _ (buf (kept xs0) x0 x1) 24 1 512 520 (by decide) rfl _ _ _ _ _ (pay7_apply _ _) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) r k hr) _ (by decide) _ _).trans (congrArg ((dbl (buf (kept xs0) x0 x1) 1) _) (congrArg (512 + ·) (Nat.zero_add _)))
    · exact ((take arg8.view _ (dbl (buf (kept xs0) x0 x1) 1) 24 512 (fun r k hr => stage arg8.view _ (buf (kept xs0) x0 x1) 24 1 512 520 (by decide) rfl _ _ _ _ _ (pay7_apply _ _) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) r k hr) _ (by decide) _ _).trans (congrArg ((dbl (buf (kept xs0) x0 x1) 1) _) (congrArg (512 + ·) (Nat.zero_add _)))).trans (congrArg (fun r => (dbl (buf (kept xs0) x0 x1) 1) r _) (show 30 + p.val = 32 + p.val - 2 by omega))
    · exact (take arg7.view _ (buf (kept xs0) x0 x1) 32 0 (fun r k hr => (rows_B c arg1 harg1 arg2 harg2 x0 x1 arg7.view _ (kept xs0) r k hr).trans (by rw [Nat.zero_add])) _ (by decide) _ _).trans (congrArg ((buf (kept xs0) x0 x1) _) (Nat.zero_add _))
  · exact (load_given arg3 harg3 x2 _).trans (congrArg x2 (funext fun a => Fin.ext (by
      match a with
      | ⟨0, _⟩ => rfl
      | ⟨1, _⟩ => show 0 + 1 * k.val = k.val; omega
      | ⟨2, _⟩ => show 0 + 1 * e.val = e.val; omega)))
  · exact (load_given arg4 harg4 x3 _).trans (congrArg x3 (funext fun a => Fin.ext (by
      match a with
      | ⟨0, _⟩ => rfl
      | ⟨1, _⟩ => show 512 + 1 * e.val = 512 + e.val; omega)))
  · exact (load_given arg5 harg5 x4 _).trans (congrArg x4 (funext fun a => Fin.ext (by
      match a with
      | ⟨0, _⟩ => rfl
      | ⟨1, _⟩ => show 512 + 1 * e.val = 512 + e.val; omega)))

/-- The result's columns from 1024 on. -/
theorem out_B_2 (p e : Fin 512) :
    (out0_B_5 c i arg1 harg1 arg2 harg2 arg3 harg3 arg4 harg4 arg5 harg5 arg6 harg6 arg7 harg7 arg8 harg8 arg9 harg9 hc0 x0 x1 x2 x3 x4 xs0 (ix2 p ⟨1024 + e.val, by omega⟩) : EReal) = mixAt (buf (kept xs0) x0 x1) (dbl (dbl (buf (kept xs0) x0 x1) 1) 2) 8 4 (512 * (i 0).val) 2 (by decide) x0 x2 x3 x4 p e := by
  unfold out0_B_5
  dsimp only [kernelRun0_B]
  refine (read_left VO0_5 _ _ _ _ _ _ (by show 1024 + e.val < 1536; omega)).trans ?_
  refine (read_last VO0_5 _ _ _ _ _ _ p e (Nat.zero_add _).symm rfl).trans ?_
  refine (pay12_apply _ _ _ _ _ _ _ _ _ _).trans ?_
  refine mix_congr (by decide) ?_ (fun k => ?_) (fun k => ?_) ?_ ?_
  · exact congrFun (given_eq arg1 harg1 x0) _
  · skip
    refine mean_congr ?_ ?_ ?_
    · exact (take arg9.view _ (dbl (dbl (buf (kept xs0) x0 x1) 1) 2) 24 1024 (fun r k hr => stage arg9.view _ (dbl (buf (kept xs0) x0 x1) 1) 24 2 1024 520 (by decide) rfl _ _ _ _ _ (pay11_apply _ _) (fun x y => (take arg8.view _ (dbl (buf (kept xs0) x0 x1) 1) 16 1024 (fun r k hr => stage arg8.view _ (buf (kept xs0) x0 x1) 16 1 1024 528 (by decide) rfl _ _ _ _ _ (pay10_apply _ _) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) r k hr) _ (by decide) _ _).trans (congrArg ((dbl (buf (kept xs0) x0 x1) 1) _) (congrArg (1024 + ·) (Nat.zero_add _)))) (fun x y => (take arg8.view _ (dbl (buf (kept xs0) x0 x1) 1) 16 1024 (fun r k hr => stage arg8.view _ (buf (kept xs0) x0 x1) 16 1 1024 528 (by decide) rfl _ _ _ _ _ (pay10_apply _ _) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) r k hr) _ (by decide) _ _).trans (congrArg ((dbl (buf (kept xs0) x0 x1) 1) _) (congrArg (1024 + ·) (Nat.zero_add _)))) r k hr) _ (by decide) _ _).trans (congrArg ((dbl (dbl (buf (kept xs0) x0 x1) 1) 2) _) (congrArg (1024 + ·) (Nat.zero_add _)))
    · exact ((take arg9.view _ (dbl (dbl (buf (kept xs0) x0 x1) 1) 2) 24 1024 (fun r k hr => stage arg9.view _ (dbl (buf (kept xs0) x0 x1) 1) 24 2 1024 520 (by decide) rfl _ _ _ _ _ (pay11_apply _ _) (fun x y => (take arg8.view _ (dbl (buf (kept xs0) x0 x1) 1) 16 1024 (fun r k hr => stage arg8.view _ (buf (kept xs0) x0 x1) 16 1 1024 528 (by decide) rfl _ _ _ _ _ (pay10_apply _ _) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) r k hr) _ (by decide) _ _).trans (congrArg ((dbl (buf (kept xs0) x0 x1) 1) _) (congrArg (1024 + ·) (Nat.zero_add _)))) (fun x y => (take arg8.view _ (dbl (buf (kept xs0) x0 x1) 1) 16 1024 (fun r k hr => stage arg8.view _ (buf (kept xs0) x0 x1) 16 1 1024 528 (by decide) rfl _ _ _ _ _ (pay10_apply _ _) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) r k hr) _ (by decide) _ _).trans (congrArg ((dbl (buf (kept xs0) x0 x1) 1) _) (congrArg (1024 + ·) (Nat.zero_add _)))) r k hr) _ (by decide) _ _).trans (congrArg ((dbl (dbl (buf (kept xs0) x0 x1) 1) 2) _) (congrArg (1024 + ·) (Nat.zero_add _)))).trans (congrArg (fun r => (dbl (dbl (buf (kept xs0) x0 x1) 1) 2) r _) (show 28 + p.val = 32 + p.val - 4 by omega))
    · exact (take arg7.view _ (buf (kept xs0) x0 x1) 32 0 (fun r k hr => (rows_B c arg1 harg1 arg2 harg2 x0 x1 arg7.view _ (kept xs0) r k hr).trans (by rw [Nat.zero_add])) _ (by decide) _ _).trans (congrArg ((buf (kept xs0) x0 x1) _) (Nat.zero_add _))
  · exact (load_given arg3 harg3 x2 _).trans (congrArg x2 (funext fun a => Fin.ext (by
      match a with
      | ⟨0, _⟩ => rfl
      | ⟨1, _⟩ => show 0 + 1 * k.val = k.val; omega
      | ⟨2, _⟩ => show 0 + 1 * e.val = e.val; omega)))
  · exact (load_given arg4 harg4 x3 _).trans (congrArg x3 (funext fun a => Fin.ext (by
      match a with
      | ⟨0, _⟩ => rfl
      | ⟨1, _⟩ => show 1024 + 1 * e.val = 1024 + e.val; omega)))
  · exact (load_given arg5 harg5 x4 _).trans (congrArg x4 (funext fun a => Fin.ext (by
      match a with
      | ⟨0, _⟩ => rfl
      | ⟨1, _⟩ => show 1024 + 1 * e.val = 1024 + e.val; omega)))

/-- The result's columns from 1536 on. -/
theorem out_B_3 (p e : Fin 512) :
    (out0_B_5 c i arg1 harg1 arg2 harg2 arg3 harg3 arg4 harg4 arg5 harg5 arg6 harg6 arg7 harg7 arg8 harg8 arg9 harg9 hc0 x0 x1 x2 x3 x4 xs0 (ix2 p ⟨1536 + e.val, by omega⟩) : EReal) = mixAt (buf (kept xs0) x0 x1) (dbl (dbl (dbl (buf (kept xs0) x0 x1) 1) 2) 4) 16 8 (512 * (i 0).val) 3 (by decide) x0 x2 x3 x4 p e := by
  unfold out0_B_5
  dsimp only [kernelRun0_B]
  refine (read_last VO0_5 _ _ _ _ _ _ p e (Nat.zero_add _).symm rfl).trans ?_
  refine (pay17_apply _ _ _ _ _ _ _ _ _ _).trans ?_
  refine mix_congr (by decide) ?_ (fun k => ?_) (fun k => ?_) ?_ ?_
  · exact congrFun (given_eq arg1 harg1 x0) _
  · skip
    refine mean_congr ?_ ?_ ?_
    · exact (take arg8.view _ (dbl (dbl (dbl (buf (kept xs0) x0 x1) 1) 2) 4) 24 1536 (fun r k hr => stage arg8.view _ (dbl (dbl (buf (kept xs0) x0 x1) 1) 2) 24 4 1536 520 (by decide) rfl _ _ _ _ _ (pay16_apply _ _) (fun x y => (take arg9.view _ (dbl (dbl (buf (kept xs0) x0 x1) 1) 2) 16 1536 (fun r k hr => stage arg9.view _ (dbl (buf (kept xs0) x0 x1) 1) 16 2 1536 528 (by decide) rfl _ _ _ _ _ (pay15_apply _ _) (fun x y => (take arg8.view _ (dbl (buf (kept xs0) x0 x1) 1) 8 1536 (fun r k hr => stage arg8.view _ (buf (kept xs0) x0 x1) 8 1 1536 536 (by decide) rfl _ _ _ _ _ (pay13_apply _ _) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) r k hr) _ (by decide) _ _).trans (congrArg ((dbl (buf (kept xs0) x0 x1) 1) _) (congrArg (1536 + ·) (Nat.zero_add _)))) (fun x y => (take arg8.view _ (dbl (buf (kept xs0) x0 x1) 1) 8 1536 (fun r k hr => stage arg8.view _ (buf (kept xs0) x0 x1) 8 1 1536 536 (by decide) rfl _ _ _ _ _ (pay13_apply _ _) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) r k hr) _ (by decide) _ _).trans (congrArg ((dbl (buf (kept xs0) x0 x1) 1) _) (congrArg (1536 + ·) (Nat.zero_add _)))) r k hr) _ (by decide) _ _).trans (congrArg ((dbl (dbl (buf (kept xs0) x0 x1) 1) 2) _) (congrArg (1536 + ·) (Nat.zero_add _)))) (fun x y => (take arg9.view _ (dbl (dbl (buf (kept xs0) x0 x1) 1) 2) 16 1536 (fun r k hr => stage arg9.view _ (dbl (buf (kept xs0) x0 x1) 1) 16 2 1536 528 (by decide) rfl _ _ _ _ _ (pay15_apply _ _) (fun x y => (take arg8.view _ (dbl (buf (kept xs0) x0 x1) 1) 8 1536 (fun r k hr => stage arg8.view _ (buf (kept xs0) x0 x1) 8 1 1536 536 (by decide) rfl _ _ _ _ _ (pay13_apply _ _) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) r k hr) _ (by decide) _ _).trans (congrArg ((dbl (buf (kept xs0) x0 x1) 1) _) (congrArg (1536 + ·) (Nat.zero_add _)))) (fun x y => (take arg8.view _ (dbl (buf (kept xs0) x0 x1) 1) 8 1536 (fun r k hr => stage arg8.view _ (buf (kept xs0) x0 x1) 8 1 1536 536 (by decide) rfl _ _ _ _ _ (pay13_apply _ _) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) r k hr) _ (by decide) _ _).trans (congrArg ((dbl (buf (kept xs0) x0 x1) 1) _) (congrArg (1536 + ·) (Nat.zero_add _)))) r k hr) _ (by decide) _ _).trans (congrArg ((dbl (dbl (buf (kept xs0) x0 x1) 1) 2) _) (congrArg (1536 + ·) (Nat.zero_add _)))) r k hr) _ (by decide) _ _).trans (congrArg ((dbl (dbl (dbl (buf (kept xs0) x0 x1) 1) 2) 4) _) (congrArg (1536 + ·) (Nat.zero_add _)))
    · exact ((take arg8.view _ (dbl (dbl (dbl (buf (kept xs0) x0 x1) 1) 2) 4) 24 1536 (fun r k hr => stage arg8.view _ (dbl (dbl (buf (kept xs0) x0 x1) 1) 2) 24 4 1536 520 (by decide) rfl _ _ _ _ _ (pay16_apply _ _) (fun x y => (take arg9.view _ (dbl (dbl (buf (kept xs0) x0 x1) 1) 2) 16 1536 (fun r k hr => stage arg9.view _ (dbl (buf (kept xs0) x0 x1) 1) 16 2 1536 528 (by decide) rfl _ _ _ _ _ (pay15_apply _ _) (fun x y => (take arg8.view _ (dbl (buf (kept xs0) x0 x1) 1) 8 1536 (fun r k hr => stage arg8.view _ (buf (kept xs0) x0 x1) 8 1 1536 536 (by decide) rfl _ _ _ _ _ (pay13_apply _ _) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) r k hr) _ (by decide) _ _).trans (congrArg ((dbl (buf (kept xs0) x0 x1) 1) _) (congrArg (1536 + ·) (Nat.zero_add _)))) (fun x y => (take arg8.view _ (dbl (buf (kept xs0) x0 x1) 1) 8 1536 (fun r k hr => stage arg8.view _ (buf (kept xs0) x0 x1) 8 1 1536 536 (by decide) rfl _ _ _ _ _ (pay13_apply _ _) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) r k hr) _ (by decide) _ _).trans (congrArg ((dbl (buf (kept xs0) x0 x1) 1) _) (congrArg (1536 + ·) (Nat.zero_add _)))) r k hr) _ (by decide) _ _).trans (congrArg ((dbl (dbl (buf (kept xs0) x0 x1) 1) 2) _) (congrArg (1536 + ·) (Nat.zero_add _)))) (fun x y => (take arg9.view _ (dbl (dbl (buf (kept xs0) x0 x1) 1) 2) 16 1536 (fun r k hr => stage arg9.view _ (dbl (buf (kept xs0) x0 x1) 1) 16 2 1536 528 (by decide) rfl _ _ _ _ _ (pay15_apply _ _) (fun x y => (take arg8.view _ (dbl (buf (kept xs0) x0 x1) 1) 8 1536 (fun r k hr => stage arg8.view _ (buf (kept xs0) x0 x1) 8 1 1536 536 (by decide) rfl _ _ _ _ _ (pay13_apply _ _) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) r k hr) _ (by decide) _ _).trans (congrArg ((dbl (buf (kept xs0) x0 x1) 1) _) (congrArg (1536 + ·) (Nat.zero_add _)))) (fun x y => (take arg8.view _ (dbl (buf (kept xs0) x0 x1) 1) 8 1536 (fun r k hr => stage arg8.view _ (buf (kept xs0) x0 x1) 8 1 1536 536 (by decide) rfl _ _ _ _ _ (pay13_apply _ _) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) (fun x y => (take arg7.view _ (buf (kept xs0) x0 x1) 0 0 (fun r k hr => (all_B c arg1 harg1 arg2 harg2 arg7 harg7 x0 x1 xs0 r k).trans (by rw [Nat.zero_add])) _ (Nat.zero_le _) _ _).trans (congrArg ((buf (kept xs0) x0 x1) _) (Nat.zero_add _))) r k hr) _ (by decide) _ _).trans (congrArg ((dbl (buf (kept xs0) x0 x1) 1) _) (congrArg (1536 + ·) (Nat.zero_add _)))) r k hr) _ (by decide) _ _).trans (congrArg ((dbl (dbl (buf (kept xs0) x0 x1) 1) 2) _) (congrArg (1536 + ·) (Nat.zero_add _)))) r k hr) _ (by decide) _ _).trans (congrArg ((dbl (dbl (dbl (buf (kept xs0) x0 x1) 1) 2) 4) _) (congrArg (1536 + ·) (Nat.zero_add _)))).trans (congrArg (fun r => (dbl (dbl (dbl (buf (kept xs0) x0 x1) 1) 2) 4) r _) (show 24 + p.val = 32 + p.val - 8 by omega))
    · exact (take arg7.view _ (buf (kept xs0) x0 x1) 32 0 (fun r k hr => (rows_B c arg1 harg1 arg2 harg2 x0 x1 arg7.view _ (kept xs0) r k hr).trans (by rw [Nat.zero_add])) _ (by decide) _ _).trans (congrArg ((buf (kept xs0) x0 x1) _) (Nat.zero_add _))
  · exact (load_given arg3 harg3 x2 _).trans (congrArg x2 (funext fun a => Fin.ext (by
      match a with
      | ⟨0, _⟩ => rfl
      | ⟨1, _⟩ => show 0 + 1 * k.val = k.val; omega
      | ⟨2, _⟩ => show 0 + 1 * e.val = e.val; omega)))
  · exact (load_given arg4 harg4 x3 _).trans (congrArg x3 (funext fun a => Fin.ext (by
      match a with
      | ⟨0, _⟩ => rfl
      | ⟨1, _⟩ => show 1536 + 1 * e.val = 1536 + e.val; omega)))
  · exact (load_given arg5 harg5 x4 _).trans (congrArg x4 (funext fun a => Fin.ext (by
      match a with
      | ⟨0, _⟩ => rfl
      | ⟨1, _⟩ => show 1536 + 1 * e.val = 1536 + e.val; omega)))

end B

/-! ### The first point -/

section A

/-- The rows stored over zeros. -/
theorem all_A (v : View sig .tc .vmem S544x2048 .f32) (f : v.ty.Contents (Elt Ideal)) (r : Fin 544) (k : Fin 2048) :
    (v.read (Elt Ideal) (v.writes (Elt Ideal) f (kernelRun0_A.sl.HS0_2 c arg1 harg1 arg2 harg2 x0 x1)) (ix2 r k) : EReal) = buf (fun _ _ => 0) x0 x1 r.val k.val := by
  by_cases hr : 32 ≤ r.val
  · refine (read_last v f _ _ _ r k ⟨r.val - 32, by omega⟩ k (by show r.val = 32 + (r.val - 32); omega) (Nat.zero_add _).symm).trans ?_
    refine (pay3_apply _ _ _ _).trans ?_
    unfold buf
    rw [dif_pos ⟨hr, r.isLt, k.isLt⟩]
    refine congrArg₂ (fun a b => Ffn.rowNorm a b k) (funext fun j => ?_) (funext fun j => ?_)
    · exact (load_given arg1 harg1 x0 _).trans (congrArg x0 (funext fun a => Fin.ext (by
        match a with
        | ⟨0, _⟩ => show 0 + 1 * (r.val - 32) = r.val - 32; omega
        | ⟨1, _⟩ => show 0 + 1 * j.val = j.val; omega)))
    · exact (load_given arg2 harg2 x1 _).trans (congrArg x1 (funext fun a => Fin.ext (by
        match a with
        | ⟨0, _⟩ => rfl
        | ⟨1, _⟩ => show 0 + 1 * j.val = j.val; omega)))
  · refine (read_above v _ _ _ _ r k (by omega)).trans ?_
    refine (read_last (k0 := 32) (k1 := 2048) v f inb_S544x2048_S32x2048_0_0 _ _ r k ⟨r.val, by omega⟩ k (Nat.zero_add _).symm (Nat.zero_add _).symm).trans ?_
    unfold buf k0_pay2
    rw [dif_neg (fun h => hr h.1)]
    simp only [shapeCast_self]
    exact Ideal.ofBits_zero_f32

variable (hc0 : cond0_0 i)

/-- The rows kept for the next point. -/
theorem next_A (r : Fin 544) (k : Fin 2048) (hr : r.val < 32) :
    (sout0_A_0 c i arg1 harg1 arg2 harg2 arg3 harg3 arg4 harg4 arg5 harg5 arg6 harg6 arg7 harg7 arg8 harg8 arg9 harg9 hc0 x0 x1 x2 x3 x4 (ix2 r k) : EReal) = buf (fun _ _ => 0) x0 x1 (512 + r.val) k.val := by
  unfold sout0_A_0
  dsimp only [kernelRun0_A]
  refine (read_last VS0_0 _ _ _ _ r k ⟨r.val, hr⟩ k (Nat.zero_add _).symm (Nat.zero_add _).symm).trans ?_
  unfold k0_pay1
  simp only [shapeCast_self]
  refine (take arg7.view _ _ 0 0 (fun r k hr => (all_A c arg1 harg1 arg2 harg2 x0 x1 arg7.view _ r k).trans (by rw [Nat.zero_add])) _ (Nat.zero_le _) _ _).trans ?_
  rw [Nat.zero_add, Nat.zero_add]

/-! Reads of the buffer, from row `q` on, at the group's columns. -/

/-- The result's columns from 0 on. -/
theorem out_A_0 (p e : Fin 512) :
    (out0_A_5 c i arg1 harg1 arg2 harg2 arg3 harg3 arg4 harg4 arg5 harg5 arg6 harg6 arg7 harg7 arg8 harg8 arg9 harg9 hc0 x0 x1 x2 x3 x4 (ix2 p ⟨0 + e.val, by omega⟩) : EReal) = mixAt (buf (fun _ _ => 0) x0 x1) (buf (fun _ _ => 0) x0 x1) 2 1 (512 * (i 0).val) 0 (by decide) x0 x2 x3 x4 p e := by
  unfold out0_A_5
  dsimp only [kernelRun0_A]
  refine (read_left VO0_5 _ _ _ _ _ _ (by show 0 + e.val < 1536; omega)).trans ?_
  refine (read_left VO0_5 _ _ _ _ _ _ (by show 0 + e.val < 1024; omega)).trans ?_
  refine (read_left VO0_5 _ _ _ _ _ _ (by show 0 + e.val < 512; omega)).trans ?_
  refine (read_last VO0_5 _ _ _ _ _ _ p e (Nat.zero_add _).symm rfl).trans ?_
  refine (pay6_apply _ _ _ _ _ _ _).trans ?_
  refine mix_congr (by decide) ?_ (fun k => ?_) (fun k => ?_) ?_ ?_
  · exact congrFun (given_eq arg1 harg1 x0) _
  · refine (pay5_apply i _ _ _ p k).trans ?_
    refine mean_congr ?_ ?_ ?_
    · exact (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))
    · exact ((take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))).trans (congrArg (fun r => (buf (fun _ _ => 0) x0 x1) r _) (show 31 + p.val = 32 + p.val - 1 by omega))
    · exact (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))
  · exact (load_given arg3 harg3 x2 _).trans (congrArg x2 (funext fun a => Fin.ext (by
      match a with
      | ⟨0, _⟩ => rfl
      | ⟨1, _⟩ => show 0 + 1 * k.val = k.val; omega
      | ⟨2, _⟩ => show 0 + 1 * e.val = e.val; omega)))
  · exact (load_given arg4 harg4 x3 _).trans (congrArg x3 (funext fun a => Fin.ext (by
      match a with
      | ⟨0, _⟩ => rfl
      | ⟨1, _⟩ => show 0 + 1 * e.val = 0 + e.val; omega)))
  · exact (load_given arg5 harg5 x4 _).trans (congrArg x4 (funext fun a => Fin.ext (by
      match a with
      | ⟨0, _⟩ => rfl
      | ⟨1, _⟩ => show 0 + 1 * e.val = 0 + e.val; omega)))

/-- The result's columns from 512 on. -/
theorem out_A_1 (p e : Fin 512) :
    (out0_A_5 c i arg1 harg1 arg2 harg2 arg3 harg3 arg4 harg4 arg5 harg5 arg6 harg6 arg7 harg7 arg8 harg8 arg9 harg9 hc0 x0 x1 x2 x3 x4 (ix2 p ⟨512 + e.val, by omega⟩) : EReal) = mixAt (buf (fun _ _ => 0) x0 x1) (dbl (buf (fun _ _ => 0) x0 x1) 1) 4 2 (512 * (i 0).val) 1 (by decide) x0 x2 x3 x4 p e := by
  unfold out0_A_5
  dsimp only [kernelRun0_A]
  refine (read_left VO0_5 _ _ _ _ _ _ (by show 512 + e.val < 1536; omega)).trans ?_
  refine (read_left VO0_5 _ _ _ _ _ _ (by show 512 + e.val < 1024; omega)).trans ?_
  refine (read_last VO0_5 _ _ _ _ _ _ p e (Nat.zero_add _).symm rfl).trans ?_
  refine (pay9_apply _ _ _ _ _ _ _).trans ?_
  refine mix_congr (by decide) ?_ (fun k => ?_) (fun k => ?_) ?_ ?_
  · exact congrFun (given_eq arg1 harg1 x0) _
  · refine (pay8_apply i _ _ _ p k).trans ?_
    refine mean_congr ?_ ?_ ?_
    · exact (take arg8.view _ (dbl (buf (fun _ _ => 0) x0 x1) 1) 24 512 (fun r k hr => stage arg8.view _ (buf (fun _ _ => 0) x0 x1) 24 1 512 520 (by decide) rfl _ _ _ _ _ (pay7_apply _ _) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) r k hr) _ (by decide) _ _).trans (congrArg ((dbl (buf (fun _ _ => 0) x0 x1) 1) _) (congrArg (512 + ·) (Nat.zero_add _)))
    · exact ((take arg8.view _ (dbl (buf (fun _ _ => 0) x0 x1) 1) 24 512 (fun r k hr => stage arg8.view _ (buf (fun _ _ => 0) x0 x1) 24 1 512 520 (by decide) rfl _ _ _ _ _ (pay7_apply _ _) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) r k hr) _ (by decide) _ _).trans (congrArg ((dbl (buf (fun _ _ => 0) x0 x1) 1) _) (congrArg (512 + ·) (Nat.zero_add _)))).trans (congrArg (fun r => (dbl (buf (fun _ _ => 0) x0 x1) 1) r _) (show 30 + p.val = 32 + p.val - 2 by omega))
    · exact (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))
  · exact (load_given arg3 harg3 x2 _).trans (congrArg x2 (funext fun a => Fin.ext (by
      match a with
      | ⟨0, _⟩ => rfl
      | ⟨1, _⟩ => show 0 + 1 * k.val = k.val; omega
      | ⟨2, _⟩ => show 0 + 1 * e.val = e.val; omega)))
  · exact (load_given arg4 harg4 x3 _).trans (congrArg x3 (funext fun a => Fin.ext (by
      match a with
      | ⟨0, _⟩ => rfl
      | ⟨1, _⟩ => show 512 + 1 * e.val = 512 + e.val; omega)))
  · exact (load_given arg5 harg5 x4 _).trans (congrArg x4 (funext fun a => Fin.ext (by
      match a with
      | ⟨0, _⟩ => rfl
      | ⟨1, _⟩ => show 512 + 1 * e.val = 512 + e.val; omega)))

/-- The result's columns from 1024 on. -/
theorem out_A_2 (p e : Fin 512) :
    (out0_A_5 c i arg1 harg1 arg2 harg2 arg3 harg3 arg4 harg4 arg5 harg5 arg6 harg6 arg7 harg7 arg8 harg8 arg9 harg9 hc0 x0 x1 x2 x3 x4 (ix2 p ⟨1024 + e.val, by omega⟩) : EReal) = mixAt (buf (fun _ _ => 0) x0 x1) (dbl (dbl (buf (fun _ _ => 0) x0 x1) 1) 2) 8 4 (512 * (i 0).val) 2 (by decide) x0 x2 x3 x4 p e := by
  unfold out0_A_5
  dsimp only [kernelRun0_A]
  refine (read_left VO0_5 _ _ _ _ _ _ (by show 1024 + e.val < 1536; omega)).trans ?_
  refine (read_last VO0_5 _ _ _ _ _ _ p e (Nat.zero_add _).symm rfl).trans ?_
  refine (pay12_apply _ _ _ _ _ _ _ _ _ _).trans ?_
  refine mix_congr (by decide) ?_ (fun k => ?_) (fun k => ?_) ?_ ?_
  · exact congrFun (given_eq arg1 harg1 x0) _
  · skip
    refine mean_congr ?_ ?_ ?_
    · exact (take arg9.view _ (dbl (dbl (buf (fun _ _ => 0) x0 x1) 1) 2) 24 1024 (fun r k hr => stage arg9.view _ (dbl (buf (fun _ _ => 0) x0 x1) 1) 24 2 1024 520 (by decide) rfl _ _ _ _ _ (pay11_apply _ _) (fun x y => (take arg8.view _ (dbl (buf (fun _ _ => 0) x0 x1) 1) 16 1024 (fun r k hr => stage arg8.view _ (buf (fun _ _ => 0) x0 x1) 16 1 1024 528 (by decide) rfl _ _ _ _ _ (pay10_apply _ _) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) r k hr) _ (by decide) _ _).trans (congrArg ((dbl (buf (fun _ _ => 0) x0 x1) 1) _) (congrArg (1024 + ·) (Nat.zero_add _)))) (fun x y => (take arg8.view _ (dbl (buf (fun _ _ => 0) x0 x1) 1) 16 1024 (fun r k hr => stage arg8.view _ (buf (fun _ _ => 0) x0 x1) 16 1 1024 528 (by decide) rfl _ _ _ _ _ (pay10_apply _ _) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) r k hr) _ (by decide) _ _).trans (congrArg ((dbl (buf (fun _ _ => 0) x0 x1) 1) _) (congrArg (1024 + ·) (Nat.zero_add _)))) r k hr) _ (by decide) _ _).trans (congrArg ((dbl (dbl (buf (fun _ _ => 0) x0 x1) 1) 2) _) (congrArg (1024 + ·) (Nat.zero_add _)))
    · exact ((take arg9.view _ (dbl (dbl (buf (fun _ _ => 0) x0 x1) 1) 2) 24 1024 (fun r k hr => stage arg9.view _ (dbl (buf (fun _ _ => 0) x0 x1) 1) 24 2 1024 520 (by decide) rfl _ _ _ _ _ (pay11_apply _ _) (fun x y => (take arg8.view _ (dbl (buf (fun _ _ => 0) x0 x1) 1) 16 1024 (fun r k hr => stage arg8.view _ (buf (fun _ _ => 0) x0 x1) 16 1 1024 528 (by decide) rfl _ _ _ _ _ (pay10_apply _ _) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) r k hr) _ (by decide) _ _).trans (congrArg ((dbl (buf (fun _ _ => 0) x0 x1) 1) _) (congrArg (1024 + ·) (Nat.zero_add _)))) (fun x y => (take arg8.view _ (dbl (buf (fun _ _ => 0) x0 x1) 1) 16 1024 (fun r k hr => stage arg8.view _ (buf (fun _ _ => 0) x0 x1) 16 1 1024 528 (by decide) rfl _ _ _ _ _ (pay10_apply _ _) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) r k hr) _ (by decide) _ _).trans (congrArg ((dbl (buf (fun _ _ => 0) x0 x1) 1) _) (congrArg (1024 + ·) (Nat.zero_add _)))) r k hr) _ (by decide) _ _).trans (congrArg ((dbl (dbl (buf (fun _ _ => 0) x0 x1) 1) 2) _) (congrArg (1024 + ·) (Nat.zero_add _)))).trans (congrArg (fun r => (dbl (dbl (buf (fun _ _ => 0) x0 x1) 1) 2) r _) (show 28 + p.val = 32 + p.val - 4 by omega))
    · exact (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))
  · exact (load_given arg3 harg3 x2 _).trans (congrArg x2 (funext fun a => Fin.ext (by
      match a with
      | ⟨0, _⟩ => rfl
      | ⟨1, _⟩ => show 0 + 1 * k.val = k.val; omega
      | ⟨2, _⟩ => show 0 + 1 * e.val = e.val; omega)))
  · exact (load_given arg4 harg4 x3 _).trans (congrArg x3 (funext fun a => Fin.ext (by
      match a with
      | ⟨0, _⟩ => rfl
      | ⟨1, _⟩ => show 1024 + 1 * e.val = 1024 + e.val; omega)))
  · exact (load_given arg5 harg5 x4 _).trans (congrArg x4 (funext fun a => Fin.ext (by
      match a with
      | ⟨0, _⟩ => rfl
      | ⟨1, _⟩ => show 1024 + 1 * e.val = 1024 + e.val; omega)))

/-- The result's columns from 1536 on. -/
theorem out_A_3 (p e : Fin 512) :
    (out0_A_5 c i arg1 harg1 arg2 harg2 arg3 harg3 arg4 harg4 arg5 harg5 arg6 harg6 arg7 harg7 arg8 harg8 arg9 harg9 hc0 x0 x1 x2 x3 x4 (ix2 p ⟨1536 + e.val, by omega⟩) : EReal) = mixAt (buf (fun _ _ => 0) x0 x1) (dbl (dbl (dbl (buf (fun _ _ => 0) x0 x1) 1) 2) 4) 16 8 (512 * (i 0).val) 3 (by decide) x0 x2 x3 x4 p e := by
  unfold out0_A_5
  dsimp only [kernelRun0_A]
  refine (read_last VO0_5 _ _ _ _ _ _ p e (Nat.zero_add _).symm rfl).trans ?_
  refine (pay17_apply _ _ _ _ _ _ _ _ _ _).trans ?_
  refine mix_congr (by decide) ?_ (fun k => ?_) (fun k => ?_) ?_ ?_
  · exact congrFun (given_eq arg1 harg1 x0) _
  · skip
    refine mean_congr ?_ ?_ ?_
    · exact (take arg8.view _ (dbl (dbl (dbl (buf (fun _ _ => 0) x0 x1) 1) 2) 4) 24 1536 (fun r k hr => stage arg8.view _ (dbl (dbl (buf (fun _ _ => 0) x0 x1) 1) 2) 24 4 1536 520 (by decide) rfl _ _ _ _ _ (pay16_apply _ _) (fun x y => (take arg9.view _ (dbl (dbl (buf (fun _ _ => 0) x0 x1) 1) 2) 16 1536 (fun r k hr => stage arg9.view _ (dbl (buf (fun _ _ => 0) x0 x1) 1) 16 2 1536 528 (by decide) rfl _ _ _ _ _ (pay15_apply _ _) (fun x y => (take arg8.view _ (dbl (buf (fun _ _ => 0) x0 x1) 1) 8 1536 (fun r k hr => stage arg8.view _ (buf (fun _ _ => 0) x0 x1) 8 1 1536 536 (by decide) rfl _ _ _ _ _ (pay13_apply _ _) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) r k hr) _ (by decide) _ _).trans (congrArg ((dbl (buf (fun _ _ => 0) x0 x1) 1) _) (congrArg (1536 + ·) (Nat.zero_add _)))) (fun x y => (take arg8.view _ (dbl (buf (fun _ _ => 0) x0 x1) 1) 8 1536 (fun r k hr => stage arg8.view _ (buf (fun _ _ => 0) x0 x1) 8 1 1536 536 (by decide) rfl _ _ _ _ _ (pay13_apply _ _) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) r k hr) _ (by decide) _ _).trans (congrArg ((dbl (buf (fun _ _ => 0) x0 x1) 1) _) (congrArg (1536 + ·) (Nat.zero_add _)))) r k hr) _ (by decide) _ _).trans (congrArg ((dbl (dbl (buf (fun _ _ => 0) x0 x1) 1) 2) _) (congrArg (1536 + ·) (Nat.zero_add _)))) (fun x y => (take arg9.view _ (dbl (dbl (buf (fun _ _ => 0) x0 x1) 1) 2) 16 1536 (fun r k hr => stage arg9.view _ (dbl (buf (fun _ _ => 0) x0 x1) 1) 16 2 1536 528 (by decide) rfl _ _ _ _ _ (pay15_apply _ _) (fun x y => (take arg8.view _ (dbl (buf (fun _ _ => 0) x0 x1) 1) 8 1536 (fun r k hr => stage arg8.view _ (buf (fun _ _ => 0) x0 x1) 8 1 1536 536 (by decide) rfl _ _ _ _ _ (pay13_apply _ _) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) r k hr) _ (by decide) _ _).trans (congrArg ((dbl (buf (fun _ _ => 0) x0 x1) 1) _) (congrArg (1536 + ·) (Nat.zero_add _)))) (fun x y => (take arg8.view _ (dbl (buf (fun _ _ => 0) x0 x1) 1) 8 1536 (fun r k hr => stage arg8.view _ (buf (fun _ _ => 0) x0 x1) 8 1 1536 536 (by decide) rfl _ _ _ _ _ (pay13_apply _ _) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) r k hr) _ (by decide) _ _).trans (congrArg ((dbl (buf (fun _ _ => 0) x0 x1) 1) _) (congrArg (1536 + ·) (Nat.zero_add _)))) r k hr) _ (by decide) _ _).trans (congrArg ((dbl (dbl (buf (fun _ _ => 0) x0 x1) 1) 2) _) (congrArg (1536 + ·) (Nat.zero_add _)))) r k hr) _ (by decide) _ _).trans (congrArg ((dbl (dbl (dbl (buf (fun _ _ => 0) x0 x1) 1) 2) 4) _) (congrArg (1536 + ·) (Nat.zero_add _)))
    · exact ((take arg8.view _ (dbl (dbl (dbl (buf (fun _ _ => 0) x0 x1) 1) 2) 4) 24 1536 (fun r k hr => stage arg8.view _ (dbl (dbl (buf (fun _ _ => 0) x0 x1) 1) 2) 24 4 1536 520 (by decide) rfl _ _ _ _ _ (pay16_apply _ _) (fun x y => (take arg9.view _ (dbl (dbl (buf (fun _ _ => 0) x0 x1) 1) 2) 16 1536 (fun r k hr => stage arg9.view _ (dbl (buf (fun _ _ => 0) x0 x1) 1) 16 2 1536 528 (by decide) rfl _ _ _ _ _ (pay15_apply _ _) (fun x y => (take arg8.view _ (dbl (buf (fun _ _ => 0) x0 x1) 1) 8 1536 (fun r k hr => stage arg8.view _ (buf (fun _ _ => 0) x0 x1) 8 1 1536 536 (by decide) rfl _ _ _ _ _ (pay13_apply _ _) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) r k hr) _ (by decide) _ _).trans (congrArg ((dbl (buf (fun _ _ => 0) x0 x1) 1) _) (congrArg (1536 + ·) (Nat.zero_add _)))) (fun x y => (take arg8.view _ (dbl (buf (fun _ _ => 0) x0 x1) 1) 8 1536 (fun r k hr => stage arg8.view _ (buf (fun _ _ => 0) x0 x1) 8 1 1536 536 (by decide) rfl _ _ _ _ _ (pay13_apply _ _) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) r k hr) _ (by decide) _ _).trans (congrArg ((dbl (buf (fun _ _ => 0) x0 x1) 1) _) (congrArg (1536 + ·) (Nat.zero_add _)))) r k hr) _ (by decide) _ _).trans (congrArg ((dbl (dbl (buf (fun _ _ => 0) x0 x1) 1) 2) _) (congrArg (1536 + ·) (Nat.zero_add _)))) (fun x y => (take arg9.view _ (dbl (dbl (buf (fun _ _ => 0) x0 x1) 1) 2) 16 1536 (fun r k hr => stage arg9.view _ (dbl (buf (fun _ _ => 0) x0 x1) 1) 16 2 1536 528 (by decide) rfl _ _ _ _ _ (pay15_apply _ _) (fun x y => (take arg8.view _ (dbl (buf (fun _ _ => 0) x0 x1) 1) 8 1536 (fun r k hr => stage arg8.view _ (buf (fun _ _ => 0) x0 x1) 8 1 1536 536 (by decide) rfl _ _ _ _ _ (pay13_apply _ _) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) r k hr) _ (by decide) _ _).trans (congrArg ((dbl (buf (fun _ _ => 0) x0 x1) 1) _) (congrArg (1536 + ·) (Nat.zero_add _)))) (fun x y => (take arg8.view _ (dbl (buf (fun _ _ => 0) x0 x1) 1) 8 1536 (fun r k hr => stage arg8.view _ (buf (fun _ _ => 0) x0 x1) 8 1 1536 536 (by decide) rfl _ _ _ _ _ (pay13_apply _ _) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) (fun x y => (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))) r k hr) _ (by decide) _ _).trans (congrArg ((dbl (buf (fun _ _ => 0) x0 x1) 1) _) (congrArg (1536 + ·) (Nat.zero_add _)))) r k hr) _ (by decide) _ _).trans (congrArg ((dbl (dbl (buf (fun _ _ => 0) x0 x1) 1) 2) _) (congrArg (1536 + ·) (Nat.zero_add _)))) r k hr) _ (by decide) _ _).trans (congrArg ((dbl (dbl (dbl (buf (fun _ _ => 0) x0 x1) 1) 2) 4) _) (congrArg (1536 + ·) (Nat.zero_add _)))).trans (congrArg (fun r => (dbl (dbl (dbl (buf (fun _ _ => 0) x0 x1) 1) 2) 4) r _) (show 24 + p.val = 32 + p.val - 8 by omega))
    · exact (take arg7.view _ (buf (fun _ _ => 0) x0 x1) 0 0 (fun r k hr => (all_A c arg1 harg1 arg2 harg2 x0 x1 arg7.view _ r k).trans (by rw [Nat.zero_add])) _ (Nat.zero_le _) _ _).trans (congrArg ((buf (fun _ _ => 0) x0 x1) _) (Nat.zero_add _))
  · exact (load_given arg3 harg3 x2 _).trans (congrArg x2 (funext fun a => Fin.ext (by
      match a with
      | ⟨0, _⟩ => rfl
      | ⟨1, _⟩ => show 0 + 1 * k.val = k.val; omega
      | ⟨2, _⟩ => show 0 + 1 * e.val = e.val; omega)))
  · exact (load_given arg4 harg4 x3 _).trans (congrArg x3 (funext fun a => Fin.ext (by
      match a with
      | ⟨0, _⟩ => rfl
      | ⟨1, _⟩ => show 1536 + 1 * e.val = 1536 + e.val; omega)))
  · exact (load_given arg5 harg5 x4 _).trans (congrArg x4 (funext fun a => Fin.ext (by
      match a with
      | ⟨0, _⟩ => rfl
      | ⟨1, _⟩ => show 1536 + 1 * e.val = 1536 + e.val; omega)))

end A

end Point

end Cert.Proof.Pool

end

end
-- ==== Proof.PoolSpec.lean ====
/-
  What the pooling mixer computes: each row's groups of columns, averaged over the rows before it, less the row, mixed and
  scaled onto the input. With finite gains the normalized rows are numbers, whatever the input's entries are.
-/
module

public import proofs.«01_k».proof.Proof.PoolPoint

@[expose] public section

set_option maxRecDepth 16384

noncomputable section

namespace Cert.Proof.Pool

open Idealize.ShloMosaic
open Idealize.ShloMosaic.TcCoe
open Idealize.ShloMosaic.ValueIdx

/-- An extended real that is a number. -/
def IsNum (x : EReal) : Prop := ∃ r : ℝ, x = (r : EReal)

theorem IsNum.zero : IsNum 0 := ⟨0, rfl⟩
theorem IsNum.add {x y : EReal} (hx : IsNum x) (hy : IsNum y) : IsNum (x + y) := by
  obtain ⟨r, rfl⟩ := hx
  obtain ⟨s, rfl⟩ := hy
  exact ⟨r + s, (EReal.coe_add r s).symm⟩
theorem IsNum.mul {x y : EReal} (hx : IsNum x) (hy : IsNum y) : IsNum (x * y) := by
  obtain ⟨r, rfl⟩ := hx
  obtain ⟨s, rfl⟩ := hy
  exact ⟨r * s, (EReal.coe_mul r s).symm⟩
theorem IsNum.sum {ι : Type} (s : Finset ι) (f : ι → EReal) (h : ∀ i ∈ s, IsNum (f i)) : IsNum (∑ i ∈ s, f i) := by
  classical
  induction s using Finset.induction_on with
  | empty => rw [Finset.sum_empty]; exact IsNum.zero
  | insert a s ha ih =>
    rw [Finset.sum_insert ha]
    exact (h a (Finset.mem_insert_self a s)).add (ih fun i hi => h i (Finset.mem_insert_of_mem hi))

theorem sq_nonneg' (x : EReal) : 0 ≤ x * x := by
  induction x with
  | bot => simp
  | top => simp
  | coe r => rw [← EReal.coe_mul]; exact_mod_cast mul_self_nonneg r

theorem eps_eq : (Ideal.ofBits .f32 0x358637BD#32 : EReal) = ((8796093 / 8796093022208 : ℝ) : EReal) := by
  simp [Ideal.ofBits, Ideal.ieee]
  rw [← EReal.coe_mul]; norm_num
theorem width_eq : (Ideal.ofBits .f32 0x45000000#32 : EReal) = ((2048 : ℝ) : EReal) := by
  simp [Ideal.ofBits, Ideal.ieee]
  rw [← EReal.coe_mul]; norm_num

/-- A normalized row is a number where the gain is one: a row with an infinite entry is scaled by zero. -/
theorem rowNorm_num (x g : Fin 2048 → EReal) (k : Fin 2048) (hg : IsNum (g k)) : IsNum (Ffn.rowNorm x g k) := by
  unfold Ffn.rowNorm
  by_cases hx : ∀ k, IsNum (x k)
  · refine ((hx k).mul ?_).mul hg
    unfold Ffn.rowScale
    choose r hr using hx
    have hs : (∑ k, x k * x k : EReal) = ((∑ k, r k * r k : ℝ) : EReal) := by
      simp only [hr, ← EReal.coe_mul]
      exact (map_sum (⟨⟨(fun r : ℝ => (r : EReal)), rfl⟩, EReal.coe_add⟩ : ℝ →+ EReal) _ _).symm
    have hq : (0 : ℝ) ≤ ∑ k, r k * r k := Finset.sum_nonneg fun k _ => mul_self_nonneg _
    rw [hs, eps_eq, width_eq]
    unfold Ideal.div
    rw [if_neg (by norm_num), ← EReal.coe_inv, ← EReal.coe_mul, ← EReal.coe_add, Ideal.rsqrt_coe]
    have hp : (0 : ℝ) < (∑ k, r k * r k) * (2048 : ℝ)⁻¹ + 8796093 / 8796093022208 := by positivity
    rw [if_neg (not_lt.2 hp.le), if_neg hp.ne']
    exact ⟨_, rfl⟩
  · have ht : (∑ k, x k * x k : EReal) = ⊤ := by
      obtain ⟨j, hj⟩ := not_forall.1 hx
      have hjt : x j * x j = ⊤ := by
        generalize x j = y at hj
        induction y with
        | bot => simp
        | top => simp
        | coe r => exact absurd ⟨r, rfl⟩ hj
      refine top_le_iff.1 ?_
      rw [← hjt]
      exact Finset.single_le_sum (f := fun k => x k * x k) (fun k _ => sq_nonneg' (x k)) (Finset.mem_univ j)
    have hz : Ffn.rowScale x = 0 := by
      unfold Ffn.rowScale
      rw [ht, eps_eq, width_eq]
      unfold Ideal.div
      rw [if_neg (by norm_num), ← EReal.coe_inv, EReal.top_mul_coe_of_pos (by norm_num), EReal.top_add_coe, Ideal.rsqrt_top]
    rw [hz, mul_zero, zero_mul]
    exact IsNum.zero

/-- A normalized row of the input, zero outside. -/
def hrow (X : FVec Ideal ⟨2, ![8192, 2048]⟩ .f32) (g : FVec Ideal ⟨1, ![2048]⟩ .f32) (r k : ℕ) : EReal :=
  if h : r < 8192 ∧ k < 2048 then Ffn.rowNorm (Ffn.row X ⟨r, h.1⟩) (fun j => g (ix1 j)) ⟨k, h.2⟩ else 0

theorem hrow_num (X : FVec Ideal ⟨2, ![8192, 2048]⟩ .f32) (g : FVec Ideal ⟨1, ![2048]⟩ .f32) (hg : ∀ k, IsNum (g (ix1 k))) (r k : ℕ) : IsNum (hrow X g r k) := by
  unfold hrow
  split
  · exact rowNorm_num _ _ _ (hg _)
  · exact IsNum.zero

/-- The sum of the last `w` rows up to a row. -/
def winSum (H : ℕ → ℕ → EReal) (w r k : ℕ) : EReal := ∑ d ∈ Finset.range w, if d ≤ r then H (r - d) k else 0

/-- The mixer at an element. -/
def poolF (X : FVec Ideal ⟨2, ![8192, 2048]⟩ .f32) (g : FVec Ideal ⟨1, ![2048]⟩ .f32) (W : FVec Ideal ⟨3, ![4, 512, 512]⟩ .f32) (B U : FVec Ideal ⟨1, ![2048]⟩ .f32)
    (w j : ℕ) (hj : j < 4) (s : Fin 8192) (e : Fin 512) : EReal :=
  X (ix2 s ⟨512 * j + e.val, by omega⟩)
    + ((∑ c : Fin 512, (Ideal.div (winSum (hrow X g) w s.val (512 * j + c.val)) (rowsIn w s.val) - hrow X g s.val (512 * j + c.val)) * W (ix3 ⟨j, hj⟩ c e))
        + B (ix1 ⟨512 * j + e.val, by omega⟩)) * U (ix1 ⟨512 * j + e.val, by omega⟩)

theorem dbl_congr {D D' : ℕ → ℕ → EReal} {R C : ℕ} (h : ∀ r k, r < R → k < C → D r k = D' r k) (s : ℕ) : ∀ r k, r < R → k < C → dbl D s r k = dbl D' s r k := by
  intro r k hr hk
  unfold dbl
  rw [h r k hr hk, h (r - s) k (by omega) hk]

/-- The doublings sum the rows before. -/
theorem dbl1 (H : ℕ → ℕ → EReal) (r k : ℕ) : dbl H 1 r k = ∑ d ∈ Finset.range 2, H (r - d) k := by
  unfold dbl
  simp only [Finset.sum_range_succ, Finset.sum_range_zero, Nat.sub_sub, zero_add, Nat.sub_zero, Nat.reduceAdd, add_assoc]
theorem dbl2 (H : ℕ → ℕ → EReal) (r k : ℕ) : dbl (dbl H 1) 2 r k = ∑ d ∈ Finset.range 4, H (r - d) k := by
  unfold dbl
  simp only [Finset.sum_range_succ, Finset.sum_range_zero, Nat.sub_sub, zero_add, Nat.sub_zero, Nat.reduceAdd, add_assoc]
theorem dbl4 (H : ℕ → ℕ → EReal) (r k : ℕ) : dbl (dbl (dbl H 1) 2) 4 r k = ∑ d ∈ Finset.range 8, H (r - d) k := by
  unfold dbl
  simp only [Finset.sum_range_succ, Finset.sum_range_zero, Nat.sub_sub, zero_add, Nat.sub_zero, Nat.reduceAdd, add_assoc]
theorem dbl8 (H : ℕ → ℕ → EReal) (r k : ℕ) : dbl (dbl (dbl (dbl H 1) 2) 4) 8 r k = ∑ d ∈ Finset.range 16, H (r - d) k := by
  unfold dbl
  simp only [Finset.sum_range_succ, Finset.sum_range_zero, Nat.sub_sub, zero_add, Nat.sub_zero, Nat.reduceAdd, add_assoc]

/-- A difference of running sums is the sum of the rows between them. -/
theorem winSum_sub (H : ℕ → ℕ → EReal) (hH : ∀ r k, IsNum (H r k)) (w r k : ℕ) :
    (∑ s ∈ Finset.range (r + 1), H s k) - (∑ s ∈ Finset.range (r + 1 - w), H s k) = winSum H w r k := by
  obtain ⟨a, ha⟩ := IsNum.sum (Finset.range (r + 1 - w)) (fun s => H s k) fun s _ => hH s k
  have hsplit : ∑ s ∈ Finset.range (r + 1), H s k = (∑ d ∈ Finset.range (min (r + 1) w), H (r - d) k) + ∑ s ∈ Finset.range (r + 1 - w), H s k := by
    have e : r + 1 = (r + 1 - w) + min (r + 1) w := by omega
    rw [e, Finset.sum_range_add, add_comm, ← e]
    congr 1
    rw [← Finset.sum_range_reflect]
    refine Finset.sum_congr rfl fun d hd => ?_
    rw [Finset.mem_range] at hd
    rw [show r + 1 - w + (min (r + 1) w - 1 - d) = r - d by omega]
  rw [hsplit, ha, EReal.add_sub_cancel_right]
  unfold winSum
  rw [← Finset.sum_filter]
  refine Finset.sum_congr (Finset.ext fun d => ?_) fun _ _ => rfl
  simp only [Finset.mem_range, Finset.mem_filter]
  omega

end Cert.Proof.Pool

end

end
-- ==== Proof.PoolState.lean ====
/-
  The pooling mixer over its grid: each point keeps its block's last thirty-two normalized rows for the next one, so the
  buffer a point works on holds the rows before its block and its block's, and the points together leave the mixer's result.
-/
module

public import proofs.«01_k».proof.Proof.PoolSpec
public import proofs.«01_k».proof.Proof.Gen.Kernel4Ideal.Value

@[expose] public section

set_option maxRecDepth 16384

noncomputable section

namespace Cert.Proof.Pool

open Cert.Kernel4Ideal Cert.Kernel4Ideal.Gen
open Idealize.ShloMosaic
open Idealize.ShloMosaic.TcCoe
open Idealize.ShloMosaic.ValueIdx
open Idealize.SL.Sem
open Idealize.ShloMosaic.StableHlo

section Host
variable (m : (ℓ : Loc nD τ sig) → Buf (Elt Ideal) ℓ) (c : Dev nD)

/-- What the host passes to the kernel: the gain, the weights, the offset and the scale. -/
theorem V_v0 : V m c main_v0 = broadcastInDim S1x2048 ![1] bcast_S2048_S1x2048_1 (m ((c : Thread nD τ).loc main_arg1)) := by
  simp only [V, hostOps0, TRef.unary, TRef.toBuf, TRef.ofBuf, cast_eq]
  after_results_simp
theorem V_v1 : @Eq (FVec Ideal S4x512x512 .bf16) (V m c main_v1) (truncf .bf16 (m ((c : Thread nD τ).loc main_arg2) : FVec Ideal S4x512x512 .f32) bitsLt_bf16_f32) := by
  simp only [V, hostOps0, TRef.unary, TRef.toBuf, TRef.ofBuf, cast_eq]
  after_results_simp
theorem V_v2 : V m c main_v2 = broadcastInDim S1x2048 ![1] bcast_S2048_S1x2048_1 (m ((c : Thread nD τ).loc main_arg3)) := by
  simp only [V, hostOps0, TRef.unary, TRef.toBuf, TRef.ofBuf, cast_eq]
  after_results_simp
theorem V_v3 : V m c main_v3 = broadcastInDim S1x2048 ![1] bcast_S2048_S1x2048_1 (m ((c : Thread nD τ).loc main_arg4)) := by
  simp only [V, hostOps0, TRef.unary, TRef.toBuf, TRef.ofBuf, cast_eq]
  after_results_simp

/-- The call's arguments. -/
abbrev xA : FVec Ideal S8192x2048 .f32 := m ((c : Thread nD τ).loc main_arg0)
abbrev gA : FVec Ideal S2048 .f32 := m ((c : Thread nD τ).loc main_arg1)
abbrev wA : FVec Ideal S4x512x512 .f32 := m ((c : Thread nD τ).loc main_arg2)
abbrev bA : FVec Ideal S2048 .f32 := m ((c : Thread nD τ).loc main_arg3)
abbrev uA : FVec Ideal S2048 .f32 := m ((c : Thread nD τ).loc main_arg4)

/-- Which block of each array a point takes. -/
theorem coords_eq : ∀ t : Fin cfg0.N, (grid0.coords t 0).val = t.val := (by decide +kernel : ∀ t : Fin grid0.N, _)
theorem index_x : ∀ t : Fin cfg0.N, win0_0.index t (0 : Fin 2) = t.val ∧ win0_0.index t (1 : Fin 2) = 0 := (by decide +kernel : ∀ t : Fin grid0.N, _)
theorem index_g : ∀ t : Fin cfg0.N, win0_1.index t (0 : Fin 2) = 0 ∧ win0_1.index t (1 : Fin 2) = 0 := (by decide +kernel : ∀ t : Fin grid0.N, _)
theorem index_w : ∀ t : Fin cfg0.N, win0_2.index t (0 : Fin 3) = 0 ∧ win0_2.index t (1 : Fin 3) = 0 ∧ win0_2.index t (2 : Fin 3) = 0 := (by decide +kernel : ∀ t : Fin grid0.N, _)
theorem index_b : ∀ t : Fin cfg0.N, win0_3.index t (0 : Fin 2) = 0 ∧ win0_3.index t (1 : Fin 2) = 0 := (by decide +kernel : ∀ t : Fin grid0.N, _)
theorem index_u : ∀ t : Fin cfg0.N, win0_4.index t (0 : Fin 2) = 0 ∧ win0_4.index t (1 : Fin 2) = 0 := (by decide +kernel : ∀ t : Fin grid0.N, _)

theorem xblk_apply (t : Fin cfg0.N) (r : Fin 512) (k : Fin 2048) (R : Fin 8192) (hR : R.val = 512 * t.val + r.val) :
    iblk m c 0 t (ix2 r k) = xA m c (ix2 R k) := by
  obtain ⟨e0, e1⟩ := index_x t
  unfold iblk
  refine Eq.trans ?_ (congrFun (V_main_arg0 m c) (ix2 R k))
  refine congrArg (V m c main_arg0 : FVec Ideal S8192x2048 .f32) (funext fun ax => Fin.ext ?_)
  match ax with
  | ⟨0, _⟩ => show win0_0.index t (0 : Fin 2) * 512 + 1 * r.val = R.val; omega
  | ⟨1, _⟩ => show win0_0.index t (1 : Fin 2) * 2048 + 1 * k.val = k.val; omega

theorem gblk_apply (t : Fin cfg0.N) (k : Fin 2048) : iblk m c 1 t (ix2 0 k) = gA m c (ix1 k) := by
  obtain ⟨e0, e1⟩ := index_g t
  unfold iblk
  refine Eq.trans (b := (V m c main_v0 : FVec Ideal S1x2048 .f32) (ix2 0 k)) ?_ ?_
  · refine congrArg (V m c main_v0 : FVec Ideal S1x2048 .f32) (funext fun ax => Fin.ext ?_)
    match ax with
    | ⟨0, _⟩ => show win0_1.index t (0 : Fin 2) * 1 + 1 * 0 = 0; omega
    | ⟨1, _⟩ => show win0_1.index t (1 : Fin 2) * 2048 + 1 * k.val = k.val; omega
  · rw [V_v0]
    exact broadcastInDim_apply ![1] bcast_S2048_S1x2048_1 _ (ix2 (0 : Fin 1) k) (ix1 k) (fun a => by
      match a with
      | ⟨0, _⟩ => rfl)

theorem wblk_apply (t : Fin cfg0.N) (j : Fin 4) (k e : Fin 512) : (iblk m c 2 t (ix3 j k e) : EReal) = wA m c (ix3 j k e) := by
  obtain ⟨e0, e1, e2⟩ := index_w t
  unfold iblk
  refine Eq.trans (b := (V m c main_v1 : FVec Ideal S4x512x512 .bf16) (ix3 j k e)) ?_ ?_
  · refine congrArg (V m c main_v1 : FVec Ideal S4x512x512 .bf16) (funext fun ax => Fin.ext ?_)
    match ax with
    | ⟨0, _⟩ => show win0_2.index t (0 : Fin 3) * 4 + 1 * j.val = j.val; omega
    | ⟨1, _⟩ => show win0_2.index t (1 : Fin 3) * 512 + 1 * k.val = k.val; omega
    | ⟨2, _⟩ => show win0_2.index t (2 : Fin 3) * 512 + 1 * e.val = e.val; omega
  · rw [V_v1]
    rfl

theorem bblk_apply (t : Fin cfg0.N) (k : Fin 2048) : iblk m c 3 t (ix2 0 k) = bA m c (ix1 k) := by
  obtain ⟨e0, e1⟩ := index_b t
  unfold iblk
  refine Eq.trans (b := (V m c main_v2 : FVec Ideal S1x2048 .f32) (ix2 0 k)) ?_ ?_
  · refine congrArg (V m c main_v2 : FVec Ideal S1x2048 .f32) (funext fun ax => Fin.ext ?_)
    match ax with
    | ⟨0, _⟩ => show win0_3.index t (0 : Fin 2) * 1 + 1 * 0 = 0; omega
    | ⟨1, _⟩ => show win0_3.index t (1 : Fin 2) * 2048 + 1 * k.val = k.val; omega
  · rw [V_v2]
    exact broadcastInDim_apply ![1] bcast_S2048_S1x2048_1 _ (ix2 (0 : Fin 1) k) (ix1 k) (fun a => by
      match a with
      | ⟨0, _⟩ => rfl)

theorem ublk_apply (t : Fin cfg0.N) (k : Fin 2048) : iblk m c 4 t (ix2 0 k) = uA m c (ix1 k) := by
  obtain ⟨e0, e1⟩ := index_u t
  unfold iblk
  refine Eq.trans (b := (V m c main_v3 : FVec Ideal S1x2048 .f32) (ix2 0 k)) ?_ ?_
  · refine congrArg (V m c main_v3 : FVec Ideal S1x2048 .f32) (funext fun ax => Fin.ext ?_)
    match ax with
    | ⟨0, _⟩ => show win0_4.index t (0 : Fin 2) * 1 + 1 * 0 = 0; omega
    | ⟨1, _⟩ => show win0_4.index t (1 : Fin 2) * 2048 + 1 * k.val = k.val; omega
  · rw [V_v3]
    exact broadcastInDim_apply ![1] bcast_S2048_S1x2048_1 _ (ix2 (0 : Fin 1) k) (ix1 k) (fun a => by
      match a with
      | ⟨0, _⟩ => rfl)
end Host

/-- The buffer's rows at a point: the normalized rows from thirty-two before the point's block on, zero before the first. -/
def rowsAt (X : FVec Ideal ⟨2, ![8192, 2048]⟩ .f32) (g : FVec Ideal ⟨1, ![2048]⟩ .f32) (t r k : ℕ) : EReal :=
  if 32 ≤ 512 * t + r then hrow X g (512 * t + r - 32) k else 0

/-- A group of the result, from the buffer's rows. -/
theorem mix_value {X : FVec Ideal ⟨2, ![8192, 2048]⟩ .f32} {g : FVec Ideal ⟨1, ![2048]⟩ .f32} {W : FVec Ideal ⟨3, ![4, 512, 512]⟩ .f32} {B U : FVec Ideal ⟨1, ![2048]⟩ .f32}
    {H D : ℕ → ℕ → EReal} {w s n0 j t : ℕ} (hj : j < 4) {x0 : FVec Ideal S512x2048 .f32} {x2 : FVec Ideal S4x512x512 .bf16} {x3 x4 : FVec Ideal S1x2048 .f32} (p e : Fin 512)
    (hD : ∀ r k, dbl D s r k = ∑ d ∈ Finset.range w, H (r - d) k) (hw : w ≤ 32) (hn : n0 = 512 * t)
    (hH : ∀ r k, r < 544 → k < 2048 → H r k = rowsAt X g t r k) (S : Fin 8192) (hS : S.val = 512 * t + p.val)
    (h0 : ∀ k, x0 (ix2 p k) = X (ix2 S k)) (h2 : ∀ k, (x2 (ix3 ⟨j, hj⟩ k e) : EReal) = W (ix3 ⟨j, hj⟩ k e)) (h3 : ∀ k, x3 (ix2 0 k) = B (ix1 k)) (h4 : ∀ k, x4 (ix2 0 k) = U (ix1 k)) :
    mixAt H D w s n0 j hj x0 x2 x3 x4 p e = poolF X g W B U w j hj S e := by
  have hsum : ∀ k, k < 2048 → dbl D s (32 + p.val) k = winSum (hrow X g) w S.val k := by
    intro k hk
    rw [hD]
    unfold winSum
    refine Finset.sum_congr rfl fun d hd => ?_
    rw [Finset.mem_range] at hd
    rw [hH _ _ (by omega) hk]
    unfold rowsAt
    by_cases h : d ≤ S.val
    · rw [if_pos (by omega), if_pos h, show 512 * t + (32 + p.val - d) - 32 = S.val - d by omega]
    · rw [if_neg (by omega), if_neg h]
  have hrow' : ∀ k, k < 2048 → H (32 + p.val) k = hrow X g S.val k := by
    intro k hk
    rw [hH _ _ (by omega) hk]
    unfold rowsAt
    rw [if_pos (by omega), show 512 * t + (32 + p.val) - 32 = S.val by omega]
  unfold mixAt poolF
  rw [h0, h3, h4, hn, ← hS]
  refine congrArg (fun y => _ + (y + _) * _) (Finset.sum_congr rfl fun k _ => ?_)
  rw [hsum _ (by omega), hrow' _ (by omega), h2]

section Points
variable (m : (ℓ : Loc nD τ sig) → Buf (Elt Ideal) ℓ) (c : Dev nD)

/-- A point's buffer, once the rows before its block are the ones kept. -/
theorem buf_rows (t : Fin cfg0.N) (top : ℕ → ℕ → EReal) (htop : ∀ r k, r < 32 → k < 2048 → top r k = rowsAt (xA m c) (gA m c) t.val r k) :
    ∀ r k, r < 544 → k < 2048 → buf top (iblk m c 0 t) (iblk m c 1 t) r k = rowsAt (xA m c) (gA m c) t.val r k := by
  intro r k hr hk
  have ht : t.val < 16 := t.isLt
  unfold buf
  by_cases h : 32 ≤ r
  · rw [dif_pos ⟨h, hr, hk⟩]
    unfold rowsAt hrow
    rw [if_pos (by omega), dif_pos ⟨by omega, hk⟩]
    refine congrArg₂ (fun a b => Ffn.rowNorm a b ⟨k, hk⟩) (funext fun j => ?_) (funext fun j => ?_)
    · exact xblk_apply m c t ⟨r - 32, by omega⟩ j ⟨512 * t.val + r - 32, by omega⟩ (by show 512 * t.val + r - 32 = 512 * t.val + (r - 32); omega)
    · exact gblk_apply m c t j
  · rw [dif_neg (fun h' => h h'.1)]
    exact htop r k (by omega) hk

/-- What a point keeps and leaves, of the case it is in. -/
theorem keeps_A (t : Fin cfg0.N) (h0 : t.val % 16 = 0) (r : Fin 544) (k : Fin 2048) (hr : r.val < 32) :
    ((outsAt0 m c t.val t.isLt).2 (ix2 r k) : EReal) = buf (fun _ _ => 0) (iblk m c 0 t) (iblk m c 1 t) (512 + r.val) k.val := by
  have h := next_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) ((hcond0_0 t).mpr h0) r k hr
  rw [outsAt0_A m c t h0]
  dsimp only
  exact h
theorem keeps_B (t : Fin cfg0.N) (h0 : ¬t.val % 16 = 0) (r : Fin 544) (k : Fin 2048) (hr : r.val < 32) :
    ((outsAt0 m c t.val t.isLt).2 (ix2 r k) : EReal) = buf (kept (outsAt0 m c (t.val - 1) (Nat.lt_of_le_of_lt (Nat.sub_le _ _) t.isLt)).2) (iblk m c 0 t) (iblk m c 1 t) (512 + r.val) k.val := by
  have h := next_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (outsAt0 m c (t.val - 1) (Nat.lt_of_le_of_lt (Nat.sub_le _ _) t.isLt)).2 (fun h => h0 ((hcond0_0 t).mp h)) r k hr
  rw [outsAt0_B m c t h0]
  dsimp only
  exact h
theorem leaves_A_0 (t : Fin cfg0.N) (h0 : t.val % 16 = 0) (p e : Fin 512) :
    ((outsAt0 m c t.val t.isLt).1 (ix2 p (⟨0 + e.val, by omega⟩ : Fin 2048)) : EReal)
      = mixAt (buf (fun _ _ => 0) (iblk m c 0 t) (iblk m c 1 t)) (buf (fun _ _ => 0) (iblk m c 0 t) (iblk m c 1 t)) 2 1 (512 * (grid0.coords t 0).val) 0 (by decide) (iblk m c 0 t) (iblk m c 2 t) (iblk m c 3 t) (iblk m c 4 t) p e := by
  have h := out_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) ((hcond0_0 t).mpr h0) p e
  rw [outsAt0_A m c t h0]
  dsimp only
  exact h
theorem leaves_A_1 (t : Fin cfg0.N) (h0 : t.val % 16 = 0) (p e : Fin 512) :
    ((outsAt0 m c t.val t.isLt).1 (ix2 p (⟨512 + e.val, by omega⟩ : Fin 2048)) : EReal)
      = mixAt (buf (fun _ _ => 0) (iblk m c 0 t) (iblk m c 1 t)) (dbl (buf (fun _ _ => 0) (iblk m c 0 t) (iblk m c 1 t)) 1) 4 2 (512 * (grid0.coords t 0).val) 1 (by decide) (iblk m c 0 t) (iblk m c 2 t) (iblk m c 3 t) (iblk m c 4 t) p e := by
  have h := out_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) ((hcond0_0 t).mpr h0) p e
  rw [outsAt0_A m c t h0]
  dsimp only
  exact h
theorem leaves_A_2 (t : Fin cfg0.N) (h0 : t.val % 16 = 0) (p e : Fin 512) :
    ((outsAt0 m c t.val t.isLt).1 (ix2 p (⟨1024 + e.val, by omega⟩ : Fin 2048)) : EReal)
      = mixAt (buf (fun _ _ => 0) (iblk m c 0 t) (iblk m c 1 t)) (dbl (dbl (buf (fun _ _ => 0) (iblk m c 0 t) (iblk m c 1 t)) 1) 2) 8 4 (512 * (grid0.coords t 0).val) 2 (by decide) (iblk m c 0 t) (iblk m c 2 t) (iblk m c 3 t) (iblk m c 4 t) p e := by
  have h := out_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) ((hcond0_0 t).mpr h0) p e
  rw [outsAt0_A m c t h0]
  dsimp only
  exact h
theorem leaves_A_3 (t : Fin cfg0.N) (h0 : t.val % 16 = 0) (p e : Fin 512) :
    ((outsAt0 m c t.val t.isLt).1 (ix2 p (⟨1536 + e.val, by omega⟩ : Fin 2048)) : EReal)
      = mixAt (buf (fun _ _ => 0) (iblk m c 0 t) (iblk m c 1 t)) (dbl (dbl (dbl (buf (fun _ _ => 0) (iblk m c 0 t) (iblk m c 1 t)) 1) 2) 4) 16 8 (512 * (grid0.coords t 0).val) 3 (by decide) (iblk m c 0 t) (iblk m c 2 t) (iblk m c 3 t) (iblk m c 4 t) p e := by
  have h := out_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) ((hcond0_0 t).mpr h0) p e
  rw [outsAt0_A m c t h0]
  dsimp only
  exact h
theorem leaves_B_0 (t : Fin cfg0.N) (h0 : ¬t.val % 16 = 0) (p e : Fin 512) :
    ((outsAt0 m c t.val t.isLt).1 (ix2 p (⟨0 + e.val, by omega⟩ : Fin 2048)) : EReal)
      = mixAt (buf (kept (outsAt0 m c (t.val - 1) (Nat.lt_of_le_of_lt (Nat.sub_le _ _) t.isLt)).2) (iblk m c 0 t) (iblk m c 1 t)) (buf (kept (outsAt0 m c (t.val - 1) (Nat.lt_of_le_of_lt (Nat.sub_le _ _) t.isLt)).2) (iblk m c 0 t) (iblk m c 1 t)) 2 1 (512 * (grid0.coords t 0).val) 0 (by decide) (iblk m c 0 t) (iblk m c 2 t) (iblk m c 3 t) (iblk m c 4 t) p e := by
  have h := out_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (outsAt0 m c (t.val - 1) (Nat.lt_of_le_of_lt (Nat.sub_le _ _) t.isLt)).2 (fun h => h0 ((hcond0_0 t).mp h)) p e
  rw [outsAt0_B m c t h0]
  dsimp only
  exact h
theorem leaves_B_1 (t : Fin cfg0.N) (h0 : ¬t.val % 16 = 0) (p e : Fin 512) :
    ((outsAt0 m c t.val t.isLt).1 (ix2 p (⟨512 + e.val, by omega⟩ : Fin 2048)) : EReal)
      = mixAt (buf (kept (outsAt0 m c (t.val - 1) (Nat.lt_of_le_of_lt (Nat.sub_le _ _) t.isLt)).2) (iblk m c 0 t) (iblk m c 1 t)) (dbl (buf (kept (outsAt0 m c (t.val - 1) (Nat.lt_of_le_of_lt (Nat.sub_le _ _) t.isLt)).2) (iblk m c 0 t) (iblk m c 1 t)) 1) 4 2 (512 * (grid0.coords t 0).val) 1 (by decide) (iblk m c 0 t) (iblk m c 2 t) (iblk m c 3 t) (iblk m c 4 t) p e := by
  have h := out_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (outsAt0 m c (t.val - 1) (Nat.lt_of_le_of_lt (Nat.sub_le _ _) t.isLt)).2 (fun h => h0 ((hcond0_0 t).mp h)) p e
  rw [outsAt0_B m c t h0]
  dsimp only
  exact h
theorem leaves_B_2 (t : Fin cfg0.N) (h0 : ¬t.val % 16 = 0) (p e : Fin 512) :
    ((outsAt0 m c t.val t.isLt).1 (ix2 p (⟨1024 + e.val, by omega⟩ : Fin 2048)) : EReal)
      = mixAt (buf (kept (outsAt0 m c (t.val - 1) (Nat.lt_of_le_of_lt (Nat.sub_le _ _) t.isLt)).2) (iblk m c 0 t) (iblk m c 1 t)) (dbl (dbl (buf (kept (outsAt0 m c (t.val - 1) (Nat.lt_of_le_of_lt (Nat.sub_le _ _) t.isLt)).2) (iblk m c 0 t) (iblk m c 1 t)) 1) 2) 8 4 (512 * (grid0.coords t 0).val) 2 (by decide) (iblk m c 0 t) (iblk m c 2 t) (iblk m c 3 t) (iblk m c 4 t) p e := by
  have h := out_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (outsAt0 m c (t.val - 1) (Nat.lt_of_le_of_lt (Nat.sub_le _ _) t.isLt)).2 (fun h => h0 ((hcond0_0 t).mp h)) p e
  rw [outsAt0_B m c t h0]
  dsimp only
  exact h
theorem leaves_B_3 (t : Fin cfg0.N) (h0 : ¬t.val % 16 = 0) (p e : Fin 512) :
    ((outsAt0 m c t.val t.isLt).1 (ix2 p (⟨1536 + e.val, by omega⟩ : Fin 2048)) : EReal)
      = mixAt (buf (kept (outsAt0 m c (t.val - 1) (Nat.lt_of_le_of_lt (Nat.sub_le _ _) t.isLt)).2) (iblk m c 0 t) (iblk m c 1 t)) (dbl (dbl (dbl (buf (kept (outsAt0 m c (t.val - 1) (Nat.lt_of_le_of_lt (Nat.sub_le _ _) t.isLt)).2) (iblk m c 0 t) (iblk m c 1 t)) 1) 2) 4) 16 8 (512 * (grid0.coords t 0).val) 3 (by decide) (iblk m c 0 t) (iblk m c 2 t) (iblk m c 3 t) (iblk m c 4 t) p e := by
  have h := out_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (outsAt0 m c (t.val - 1) (Nat.lt_of_le_of_lt (Nat.sub_le _ _) t.isLt)).2 (fun h => h0 ((hcond0_0 t).mp h)) p e
  rw [outsAt0_B m c t h0]
  dsimp only
  exact h

/-- The rows a point keeps. -/
theorem kept_rows : ∀ (n : ℕ) (hn : n < cfg0.N) (r : Fin 544) (k : Fin 2048), r.val < 32 →
    ((outsAt0 m c n hn).2 (ix2 r k) : EReal) = rowsAt (xA m c) (gA m c) (n + 1) r.val k.val := by
  intro n
  induction n with
  | zero =>
    intro hn r k hr
    refine (keeps_A m c ⟨0, hn⟩ (Nat.zero_mod _) r k hr).trans ?_
    refine (buf_rows m c ⟨0, hn⟩ _ (fun r k hr hk => ?_) _ _ (by omega) k.isLt).trans ?_
    · unfold rowsAt
      rw [if_neg (by show ¬32 ≤ 512 * 0 + r; omega)]
    · unfold rowsAt
      rw [show 512 * (0 + 1) + r.val = 512 + r.val by omega, show 512 * (⟨0, hn⟩ : Fin cfg0.N).val + (512 + r.val) = 512 + r.val from Nat.zero_add _]
  | succ n ih =>
    intro hn r k hr
    have hn' : n + 1 < 16 := hn
    refine (keeps_B m c ⟨n + 1, hn⟩ (by show ¬(n + 1) % 16 = 0; omega) r k hr).trans ?_
    refine (buf_rows m c ⟨n + 1, hn⟩ _ (fun r k hr hk => ?_) _ _ (by omega) k.isLt).trans ?_
    · unfold kept
      rw [dif_pos ⟨by omega, hk⟩]
      exact ih (by omega) _ _ hr
    · unfold rowsAt
      rw [show 512 * (n + 1 + 1) + r.val = 512 * (n + 1) + (512 + r.val) by omega]

/-- The buffers of the first point and of a later one. -/
theorem first_rows (t : Fin cfg0.N) (h0 : t.val % 16 = 0) :
    ∀ r k, r < 544 → k < 2048 → buf (fun _ _ => 0) (iblk m c 0 t) (iblk m c 1 t) r k = rowsAt (xA m c) (gA m c) t.val r k := by
  have ht : t.val < 16 := t.isLt
  refine buf_rows m c t _ fun r k hr hk => ?_
  unfold rowsAt
  rw [if_neg (by omega)]
theorem later_rows (t : Fin cfg0.N) (h0 : ¬t.val % 16 = 0) (hn : t.val - 1 < cfg0.N) :
    ∀ r k, r < 544 → k < 2048 → buf (kept (outsAt0 m c (t.val - 1) hn).2) (iblk m c 0 t) (iblk m c 1 t) r k = rowsAt (xA m c) (gA m c) t.val r k := by
  have ht : t.val < 16 := t.isLt
  refine buf_rows m c t _ fun r k hr hk => ?_
  unfold kept
  rw [dif_pos ⟨by omega, hk⟩]
  refine (kept_rows m c _ hn _ _ hr).trans ?_
  rw [show t.val - 1 + 1 = t.val by omega]

/-- What a point leaves. -/
theorem point_value (t : Fin cfg0.N) (p e : Fin 512) (S : Fin 8192) (hS : S.val = 512 * t.val + p.val) (j : Fin 4) :
    ((outsAt0 m c t.val t.isLt).1 (ix2 p ⟨512 * j.val + e.val, by omega⟩) : EReal)
      = poolF (xA m c) (gA m c) (wA m c) (bA m c) (uA m c) (2 ^ (j.val + 1)) j.val j.isLt S e := by
  have hx : ∀ k, iblk m c 0 t (ix2 p k) = xA m c (ix2 S k) := fun k => xblk_apply m c t p k S hS
  have hn : 512 * (grid0.coords t 0).val = 512 * t.val := congrArg (512 * ·) (coords_eq t)
  by_cases h0 : t.val % 16 = 0
  · have hH := first_rows m c t h0
    match j with
    | ⟨0, _⟩ => exact (leaves_A_0 m c t h0 p e).trans (mix_value (by decide) p e (fun r k => dbl1 _ r k) (by decide) hn hH S hS hx (fun k => wblk_apply m c t _ k e) (bblk_apply m c t) (ublk_apply m c t))
    | ⟨1, _⟩ => exact (leaves_A_1 m c t h0 p e).trans (mix_value (by decide) p e (fun r k => dbl2 _ r k) (by decide) hn hH S hS hx (fun k => wblk_apply m c t _ k e) (bblk_apply m c t) (ublk_apply m c t))
    | ⟨2, _⟩ => exact (leaves_A_2 m c t h0 p e).trans (mix_value (by decide) p e (fun r k => dbl4 _ r k) (by decide) hn hH S hS hx (fun k => wblk_apply m c t _ k e) (bblk_apply m c t) (ublk_apply m c t))
    | ⟨3, _⟩ => exact (leaves_A_3 m c t h0 p e).trans (mix_value (by decide) p e (fun r k => dbl8 _ r k) (by decide) hn hH S hS hx (fun k => wblk_apply m c t _ k e) (bblk_apply m c t) (ublk_apply m c t))
  · have hH := later_rows m c t h0 (Nat.lt_of_le_of_lt (Nat.sub_le _ _) t.isLt)
    match j with
    | ⟨0, _⟩ => exact (leaves_B_0 m c t h0 p e).trans (mix_value (by decide) p e (fun r k => dbl1 _ r k) (by decide) hn hH S hS hx (fun k => wblk_apply m c t _ k e) (bblk_apply m c t) (ublk_apply m c t))
    | ⟨1, _⟩ => exact (leaves_B_1 m c t h0 p e).trans (mix_value (by decide) p e (fun r k => dbl2 _ r k) (by decide) hn hH S hS hx (fun k => wblk_apply m c t _ k e) (bblk_apply m c t) (ublk_apply m c t))
    | ⟨2, _⟩ => exact (leaves_B_2 m c t h0 p e).trans (mix_value (by decide) p e (fun r k => dbl4 _ r k) (by decide) hn hH S hS hx (fun k => wblk_apply m c t _ k e) (bblk_apply m c t) (ublk_apply m c t))
    | ⟨3, _⟩ => exact (leaves_B_3 m c t h0 p e).trans (mix_value (by decide) p e (fun r k => dbl8 _ r k) (by decide) hn hH S hS hx (fun k => wblk_apply m c t _ k e) (bblk_apply m c t) (ublk_apply m c t))

/-- What the call leaves. -/
theorem result_value (S : Fin 8192) (j : Fin 4) (e : Fin 512) :
    (Value.G5 m c (ix2 S (⟨512 * j.val + e.val, by omega⟩ : Fin 2048)) : EReal)
      = poolF (xA m c) (gA m c) (wA m c) (bA m c) (uA m c) (2 ^ (j.val + 1)) j.val j.isLt S e := by
  have hp : Value.pt5Of (ix2 S (⟨512 * j.val + e.val, by omega⟩ : Fin 2048)) = S.val / 512 := by
    show 1 * (S.val / 512 - 0) + 1 * ((512 * j.val + e.val) / 2048 - 0) = S.val / 512
    omega
  have hN : S.val / 512 < cfg0.N := by show S.val / 512 < 16; omega
  unfold Value.G5
  rw [dif_pos (by rw [hp]; exact hN), ← Value.outsAt0_sweep m c _ (by rw [hp]; exact hN)]
  have key : ∀ (n : ℕ) (hn : n < cfg0.N), n = S.val / 512 → ((outsAt0 m c n hn).1 (Value.loc5Of (ix2 S (⟨512 * j.val + e.val, by omega⟩ : Fin 2048))) : EReal)
      = poolF (xA m c) (gA m c) (wA m c) (bA m c) (uA m c) (2 ^ (j.val + 1)) j.val j.isLt S e := by
    intro n hn e0
    subst e0
    refine Eq.trans (congrArg (outsAt0 m c (S.val / 512) hn).1 (funext fun a => Fin.ext ?_)) (point_value m c ⟨S.val / 512, hN⟩ ⟨S.val % 512, Nat.mod_lt _ (by decide)⟩ e S (by show S.val = 512 * (S.val / 512) + S.val % 512; omega) j)
    match a with
    | ⟨0, _⟩ => rfl
    | ⟨1, _⟩ => show (512 * j.val + e.val) % 2048 = 512 * j.val + e.val; omega
  exact key _ _ hp
end Points

end Cert.Proof.Pool

end

end
-- ==== Proof.PoolRef.lean ====
/-
  The pooling mixer's reference at exact arithmetic, one element at a time: differences of the normalized rows' running sums,
  over the number of rows between them, less the row, mixed and scaled onto the input.
-/
module

public import proofs.«01_k».proof.Proof.PoolSpec
public import proofs.«01_k».proof.Proof.ProjRef
public import proofs.«01_k».proof.Proof.Gen.Reference4Ideal.Run

@[expose] public section

set_option maxRecDepth 16384

noncomputable section

namespace Cert.Proof.Pool

open Cert.Reference4Ideal Cert.Reference4Ideal.Gen
open Idealize.ShloMosaic
open Idealize.ShloMosaic.TcCoe
open Idealize.ShloMosaic.ValueIdx
open Idealize.ShloMosaic.StableHlo

/-! ### The row numbers as words -/

/-- One past each row, -/
def wordHi : IVec S8192 32 := addi (iotaInDim S8192 32 0) (broadcastInDim S8192 ![] bcast_S_S8192 (constantI S_ 32 1#32))
/-- the first row of its window, -/
def wordLo (w : BitVec 32) : IVec S8192 32 := maxsi (subi wordHi (broadcastInDim S8192 ![] bcast_S_S8192 (constantI S_ 32 w))) (broadcastInDim S8192 ![] bcast_S_S8192 (constantI S_ 32 0#32))
/-- and the rows to take for either. -/
def wordPick (v : IVec S8192 32) : IVec S8192x1 32 :=
  broadcastInDim S8192x1 ![0] bcast_S8192_S8192x1_0 (select (cmpi .slt v (broadcastInDim S8192 ![] bcast_S_S8192 (constantI S_ 32 0#32))) (addi v (broadcastInDim S8192 ![] bcast_S_S8192 (constantI S_ 32 8193#32))) v)

theorem wordHi_apply (s : Fin 8192) : wordHi (ix1 s) = BitVec.ofNat 32 (s.val + 1) := by
  show BitVec.ofNat 32 s.val + 1#32 = _
  apply BitVec.eq_of_toNat_eq
  simp only [BitVec.toNat_add, BitVec.toNat_ofNat]
  omega
theorem wordLo_apply (w : ℕ) (hw : w ≤ 16) (s : Fin 8192) : wordLo (BitVec.ofNat 32 w) (ix1 s) = BitVec.ofNat 32 (s.val + 1 - w) := by
  have hs := s.isLt
  show IntOp.maxsi (wordHi (ix1 s) - BitVec.ofNat 32 w) 0#32 = _
  rw [wordHi_apply]
  unfold IntOp.maxsi
  by_cases h : w ≤ s.val + 1
  · have e : BitVec.ofNat 32 (s.val + 1) - BitVec.ofNat 32 w = BitVec.ofNat 32 (s.val + 1 - w) := by
      apply BitVec.eq_of_toNat_eq
      simp only [BitVec.toNat_sub, BitVec.toNat_ofNat]
      omega
    rw [e]
    by_cases h0 : s.val + 1 - w = 0
    · rw [h0, if_neg (by decide)]
    · refine if_pos ?_
      have hi : (BitVec.ofNat 32 (s.val + 1 - w)).toInt = ((s.val + 1 - w : ℕ) : ℤ) := WordCmp.toInt_ofNat_of_lt (by omega)
      rw [BitVec.slt, hi]
      simp
      omega
  · have e : BitVec.ofNat 32 (s.val + 1) - BitVec.ofNat 32 w = BitVec.ofNat 32 (2 ^ 32 - (w - (s.val + 1))) := by
      apply BitVec.eq_of_toNat_eq
      simp only [BitVec.toNat_sub, BitVec.toNat_ofNat]
      omega
    rw [e, show s.val + 1 - w = 0 by omega]
    refine if_neg ?_
    have hi : (BitVec.ofNat 32 (2 ^ 32 - (w - (s.val + 1)))).toInt = -((w - (s.val + 1) : ℕ) : ℤ) := by
      rw [BitVec.toInt_eq_toNat_cond, BitVec.toNat_ofNat]
      omega
    rw [BitVec.slt, hi]
    simp
theorem wordPick_apply (v : IVec S8192 32) (n : ℕ) (hn : n < 8193) (s : Fin 8192) (hv : v (ix1 s) = BitVec.ofNat 32 n) : wordPick v (ix2 s (0 : Fin 1)) = BitVec.ofNat 32 n := by
  refine (broadcastInDim_apply ![0] bcast_S8192_S8192x1_0 _ (ix2 s (0 : Fin 1)) (ix1 s) (fun a => by
    match a with
    | ⟨0, _⟩ => rfl)).trans ?_
  show (if (IntOp.cmpi .slt (v (ix1 s)) 0#32) = 1 then IntOp.addi (v (ix1 s)) 8193#32 else v (ix1 s)) = _
  rw [hv]
  refine if_neg ?_
  have hi : (BitVec.ofNat 32 n).toInt = (n : ℤ) := WordCmp.toInt_ofNat_of_lt (by omega)
  simp only [IntOp.cmpi, BitVec.slt, hi]
  rw [decide_eq_false (by simp)]
  decide
/-- How many rows are between. -/
theorem wordCount_apply (w : ℕ) (hw : w ≤ 16) (s : Fin 8192) : (FloatOps.sitofp (F := Ideal) .f32 (wordHi (ix1 s) - wordLo (BitVec.ofNat 32 w) (ix1 s)) : EReal) = rowsIn w s.val := by
  have hs := s.isLt
  rw [wordHi_apply, wordLo_apply w hw]
  have e : BitVec.ofNat 32 (s.val + 1) - BitVec.ofNat 32 (s.val + 1 - w) = BitVec.ofNat 32 (min (s.val + 1) w) := by
    apply BitVec.eq_of_toNat_eq
    simp only [BitVec.toNat_sub, BitVec.toNat_ofNat]
    omega
  have hi : (BitVec.ofNat 32 (min (s.val + 1) w)).toInt = ((min (s.val + 1) w : ℕ) : ℤ) := WordCmp.toInt_ofNat_of_lt (by omega)
  rw [e]
  show (((BitVec.ofNat 32 (min (s.val + 1) w)).toInt : ℝ) : EReal) = _
  rw [hi]
  unfold rowsIn
  norm_cast

section Ref
variable (X : FVec Ideal S8192x2048 .f32) (g : FVec Ideal S2048 .f32) (W : FVec Ideal S4x512x512 .f32) (B U : FVec Ideal S2048 .f32)

/-- The reference's normalized rows, -/
def refNorm : FVec Ideal S8192x2048 .f32 :=
  mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))
/-- their running sums under a row of zeros, -/
def refSums : FVec Ideal S8193x2048 .f32 :=
  concatenate S8193x2048 0 [⟨S1x2048, (broadcastInDim S1x2048 ![] bcast_S_S1x2048 (constant S_ .f32 0x00000000#32))⟩, ⟨S8192x2048, (Host.reduceWindowAdd ![8192, 1] ![1, 1] ![8191, 0] ![0, 0] (refNorm X g) (broadcastInDim S_ ![] bcast_S_S_ (constant S_ .f32 0x00000000#32)) reduceWindows_S8192x2048_S8192x2048_w8192s1p8191_0_w1s1p0_0 h_S_)⟩] concatenates_S1x2048_S8192x2048_S8193x2048_d0
/-- a group's rows averaged over its window, -/
def refMean (o : ℕ) (hs : S8193x2048.Slices ![0, o] S8193x512) (w : BitVec 32) : FVec Ideal S8192x512 .f32 :=
  Host.divf (subf (Host.gather gather_S8193x512_S8192x1_S8192x512_1_0_n_n_0_1_1512 (extractStridedSlice S8193x512 ![0, o] (refSums X g) hs) (wordPick wordHi))
      (Host.gather gather_S8193x512_S8192x1_S8192x512_1_0_n_n_0_1_1512 (extractStridedSlice S8193x512 ![0, o] (refSums X g) hs) (wordPick (wordLo w))))
    (broadcastInDim S8192x512 ![0, 1] bcast_S8192x1_S8192x512_0_1 (broadcastInDim S8192x1 ![0] bcast_S8192_S8192x1_0 (sitofp .f32 (subi wordHi (wordLo w)))))
/-- the four groups side by side -/
def refMeans : FVec Ideal S8192x2048 .f32 :=
  concatenate S8192x2048 1 [⟨S8192x512, refMean X g 0 slices_S8193x2048_S8193x512_0_0 2#32⟩, ⟨S8192x512, refMean X g 512 slices_S8193x2048_S8193x512_0_512 4#32⟩, ⟨S8192x512, refMean X g 1024 slices_S8193x2048_S8193x512_0_1024 8#32⟩, ⟨S8192x512, refMean X g 1536 slices_S8193x2048_S8193x512_0_1536 16#32⟩] concatenates_S8192x512_S8192x512_S8192x512_S8192x512_S8192x2048_d1
/-- and the result. -/
def refOut : FVec Ideal S8192x2048 .f32 :=
  addf X (mulf (addf (shapeCast S8192x2048 (transpose S8192x4x512 [2, 0, 1] (Host.dotGeneral dot_S4x512x512_S8192x4x512_S4x512x8192_1_2_2_0_0_1 none W (shapeCast S8192x4x512 (subf (refMeans X g) (refNorm X g)) shapeCasts_S8192x2048_S8192x4x512)) transposes_S4x512x8192_S8192x4x512_2_0_1) shapeCasts_S8192x4x512_S8192x2048) (broadcastInDim S8192x2048 ![0, 1] bcast_S1x2048_S8192x2048_0_1 (broadcastInDim S1x2048 ![1] bcast_S2048_S1x2048_1 B))) (broadcastInDim S8192x2048 ![0, 1] bcast_S1x2048_S8192x2048_0_1 (broadcastInDim S1x2048 ![1] bcast_S2048_S1x2048_1 U)))

theorem refNorm_apply (r : Fin 8192) (k : Fin 2048) : (refNorm X g (ix2 r k) : EReal) = hrow X g r.val k.val := by
  unfold hrow
  rw [dif_pos ⟨r.isLt, k.isLt⟩]
  exact Ffn.refNorm_apply X g r k

theorem refSums_apply (r : Fin 8193) (k : Fin 2048) : (refSums X g (ix2 r k) : EReal) = ∑ s ∈ Finset.range r.val, hrow X g s k.val := by
  unfold refSums
  by_cases h : r.val = 0
  · refine (concatenate_apply_piece _ _ _ (ix2 r k) 0 (by simp) S1x2048 _ rfl rfl 0 rfl (ix2 (0 : Fin 1) k) (fun b hb => by
      match b with
      | ⟨0, _⟩ => exact absurd rfl hb
      | ⟨1, _⟩ => rfl) (by show 0 + 0 = r.val; omega)).trans ?_
    rw [h, Finset.range_zero, Finset.sum_empty]
    exact Ideal.ofBits_zero_f32
  · refine (concatenate_apply_piece _ _ _ (ix2 r k) 1 (by simp) S8192x2048 _ rfl rfl 1 rfl (ix2 (⟨r.val - 1, by omega⟩ : Fin 8192) k) (fun b hb => by
      match b with
      | ⟨0, _⟩ => exact absurd rfl hb
      | ⟨1, _⟩ => rfl) (by show 1 + (r.val - 1) = r.val; omega)).trans ?_
    refine (Proj.rows_sum_of (R := 8192) (K := 8191) (C := 2048) (by norm_num) (refNorm X g) (fun r n => hrow X g r n.val) (refNorm_apply X g) _ (fun _ => Ideal.ofBits_zero_f32) _ _ _ k).trans ?_
    rw [show (⟨r.val - 1, by omega⟩ : Fin 8192).val + 1 = r.val by show r.val - 1 + 1 = r.val; omega]

theorem refMean_apply (hg : ∀ k, IsNum (g (ix1 k))) (o : ℕ) (ho : o + 512 ≤ 2048) (hs : S8193x2048.Slices ![0, o] S8193x512) (w : ℕ) (hw : w ≤ 16) (s : Fin 8192) (e : Fin 512) :
    (refMean X g o hs (BitVec.ofNat 32 w) (ix2 s e) : EReal) = Ideal.div (winSum (hrow X g) w s.val (o + e.val)) (rowsIn w s.val) := by
  have hlt := s.isLt
  have hi : (Host.gather gather_S8193x512_S8192x1_S8192x512_1_0_n_n_0_1_1512 (extractStridedSlice S8193x512 ![0, o] (refSums X g) hs) (wordPick wordHi) (ix2 s e) : EReal)
      = ∑ r ∈ Finset.range (s.val + 1), hrow X g r (o + e.val) :=
    (Routing.gather_row gather_S8193x512_S8192x1_S8192x512_1_0_n_n_0_1_1512 rfl rfl rfl rfl rfl _ _ s e ⟨s.val + 1, by omega⟩ (wordPick_apply _ _ (by omega) s (wordHi_apply s)) (by decide)).trans
      ((slice2_axis1_apply o _ hs _ e ⟨o + e.val, by omega⟩ rfl).trans (refSums_apply X g _ _))
  have hl : (Host.gather gather_S8193x512_S8192x1_S8192x512_1_0_n_n_0_1_1512 (extractStridedSlice S8193x512 ![0, o] (refSums X g) hs) (wordPick (wordLo (BitVec.ofNat 32 w))) (ix2 s e) : EReal)
      = ∑ r ∈ Finset.range (s.val + 1 - w), hrow X g r (o + e.val) :=
    (Routing.gather_row gather_S8193x512_S8192x1_S8192x512_1_0_n_n_0_1_1512 rfl rfl rfl rfl rfl _ _ s e ⟨s.val + 1 - w, by omega⟩ (wordPick_apply _ _ (by omega) s (wordLo_apply w hw s)) (by decide)).trans
      ((slice2_axis1_apply o _ hs _ e ⟨o + e.val, by omega⟩ rfl).trans (refSums_apply X g _ _))
  have hc : (broadcastInDim S8192x512 ![0, 1] bcast_S8192x1_S8192x512_0_1 (broadcastInDim S8192x1 ![0] bcast_S8192_S8192x1_0 (sitofp (F := Ideal) .f32 (subi wordHi (wordLo (BitVec.ofNat 32 w))))) (ix2 s e) : EReal) = rowsIn w s.val :=
    (broadcastInDim_apply ![0, 1] bcast_S8192x1_S8192x512_0_1 _ (ix2 s e) (ix2 s (0 : Fin 1)) (fun a => by
      match a with
      | ⟨0, _⟩ => rfl
      | ⟨1, _⟩ => rfl)).trans ((broadcastInDim_apply ![0] bcast_S8192_S8192x1_0 _ (ix2 s (0 : Fin 1)) (ix1 s) (fun a => by
        match a with
        | ⟨0, _⟩ => rfl)).trans (wordCount_apply w hw s))
  refine Eq.trans (b := Ideal.div ((∑ r ∈ Finset.range (s.val + 1), hrow X g r (o + e.val)) - ∑ r ∈ Finset.range (s.val + 1 - w), hrow X g r (o + e.val)) (rowsIn w s.val)) ?_ ?_
  · rw [← hi, ← hl, ← hc]
    rfl
  · rw [winSum_sub _ (hrow_num X g hg)]

theorem refMeans_apply (hg : ∀ k, IsNum (g (ix1 k))) (s : Fin 8192) (j : Fin 4) (e : Fin 512) :
    (refMeans X g (ix2 s (⟨512 * j.val + e.val, by omega⟩ : Fin 2048)) : EReal) = Ideal.div (winSum (hrow X g) (2 ^ (j.val + 1)) s.val (512 * j.val + e.val)) (rowsIn (2 ^ (j.val + 1)) s.val) := by
  unfold refMeans
  match j with
  | ⟨0, _⟩ =>
    refine (concatenate_apply_piece _ _ _ (ix2 s (⟨512 * 0 + e.val, by omega⟩ : Fin 2048)) 0 (by simp) S8192x512 _ rfl rfl 0 rfl (ix2 s e) (fun b hb => by
      match b with
      | ⟨0, _⟩ => rfl
      | ⟨1, _⟩ => exact absurd rfl hb) rfl).trans ?_
    exact refMean_apply X g hg 0 (by decide) _ 2 (by decide) s e
  | ⟨1, _⟩ =>
    refine (concatenate_apply_piece _ _ _ (ix2 s (⟨512 * 1 + e.val, by omega⟩ : Fin 2048)) 1 (by simp) S8192x512 _ rfl rfl 512 rfl (ix2 s e) (fun b hb => by
      match b with
      | ⟨0, _⟩ => rfl
      | ⟨1, _⟩ => exact absurd rfl hb) rfl).trans ?_
    exact refMean_apply X g hg 512 (by decide) _ 4 (by decide) s e
  | ⟨2, _⟩ =>
    refine (concatenate_apply_piece _ _ _ (ix2 s (⟨512 * 2 + e.val, by omega⟩ : Fin 2048)) 2 (by simp) S8192x512 _ rfl rfl 1024 rfl (ix2 s e) (fun b hb => by
      match b with
      | ⟨0, _⟩ => rfl
      | ⟨1, _⟩ => exact absurd rfl hb) rfl).trans ?_
    exact refMean_apply X g hg 1024 (by decide) _ 8 (by decide) s e
  | ⟨3, _⟩ =>
    refine (concatenate_apply_piece _ _ _ (ix2 s (⟨512 * 3 + e.val, by omega⟩ : Fin 2048)) 3 (by simp) S8192x512 _ rfl rfl 1536 rfl (ix2 s e) (fun b hb => by
      match b with
      | ⟨0, _⟩ => rfl
      | ⟨1, _⟩ => exact absurd rfl hb) rfl).trans ?_
    exact refMean_apply X g hg 1536 (by decide) _ 16 (by decide) s e

/-- The groups' products by their weights. -/
theorem dot_apply (A : FVec Ideal S4x512x512 .f32) (Y : FVec Ideal S8192x4x512 .f32) (j : Fin 4) (e : Fin 512) (s : Fin 8192) :
    (Host.dotGeneral dot_S4x512x512_S8192x4x512_S4x512x8192_1_2_2_0_0_1 none A Y (ix3 j e s) : EReal) = ∑ c : Fin 512, A (ix3 j c e) * Y (ix3 s j c) := by
  show FloatOps.dotGeneral _ none _ A Y (ix3 j e s) = _
  rw [Ideal.dotGeneral_apply, ← Equiv.sum_comp (contrEquiv1 dot_S4x512x512_S8192x4x512_S4x512x8192_1_2_2_0_0_1 512 rfl rfl).symm]
  refine Finset.sum_congr rfl fun c _ => ?_
  have c3 := contrEquiv1_symm_val dot_S4x512x512_S8192x4x512_S4x512x8192_1_2_2_0_0_1 512 rfl rfl c
  have l3 : dot_S4x512x512_S8192x4x512_S4x512x8192_1_2_2_0_0_1.lhsIdx (ix3 j e s) ((contrEquiv1 _ 512 rfl rfl).symm c) = ix3 j c e := by
    funext ax
    apply Fin.ext
    match ax with
    | ⟨0, _⟩ => simp [DotDims.lhsIdx, dot_S4x512x512_S8192x4x512_S4x512x8192_1_2_2_0_0_1]; rfl
    | ⟨1, _⟩ => simp [DotDims.lhsIdx, dot_S4x512x512_S8192x4x512_S4x512x8192_1_2_2_0_0_1]; exact c3
    | ⟨2, _⟩ => simp [DotDims.lhsIdx, dot_S4x512x512_S8192x4x512_S4x512x8192_1_2_2_0_0_1]; rfl
  have r3 : dot_S4x512x512_S8192x4x512_S4x512x8192_1_2_2_0_0_1.rhsIdx (ix3 j e s) ((contrEquiv1 _ 512 rfl rfl).symm c) = ix3 s j c := by
    funext ax
    apply Fin.ext
    match ax with
    | ⟨0, _⟩ => simp [DotDims.rhsIdx, dot_S4x512x512_S8192x4x512_S4x512x8192_1_2_2_0_0_1]; rfl
    | ⟨1, _⟩ => simp [DotDims.rhsIdx, dot_S4x512x512_S8192x4x512_S4x512x8192_1_2_2_0_0_1]; rfl
    | ⟨2, _⟩ => simp [DotDims.rhsIdx, dot_S4x512x512_S8192x4x512_S4x512x8192_1_2_2_0_0_1]; exact c3
  rw [l3, r3]

theorem refOut_apply (hg : ∀ k, IsNum (g (ix1 k))) (s : Fin 8192) (j : Fin 4) (e : Fin 512) :
    (refOut X g W B U (ix2 s (⟨512 * j.val + e.val, by omega⟩ : Fin 2048)) : EReal) = poolF X g W B U (2 ^ (j.val + 1)) j.val j.isLt s e := by
  have hb : ∀ v : FVec Ideal S2048 .f32, (broadcastInDim S8192x2048 ![0, 1] bcast_S1x2048_S8192x2048_0_1 (broadcastInDim S1x2048 ![1] bcast_S2048_S1x2048_1 v) (ix2 s (⟨512 * j.val + e.val, by omega⟩ : Fin 2048)) : EReal)
      = v (ix1 ⟨512 * j.val + e.val, by omega⟩) := fun v =>
    (broadcastInDim_apply ![0, 1] bcast_S1x2048_S8192x2048_0_1 _ (ix2 s (⟨512 * j.val + e.val, by omega⟩ : Fin 2048)) (ix2 (0 : Fin 1) ⟨512 * j.val + e.val, by omega⟩) (fun a => by
      match a with
      | ⟨0, _⟩ => rfl
      | ⟨1, _⟩ => rfl)).trans (broadcastInDim_apply ![1] bcast_S2048_S1x2048_1 _ (ix2 (0 : Fin 1) (⟨512 * j.val + e.val, by omega⟩ : Fin 2048)) (ix1 ⟨512 * j.val + e.val, by omega⟩) (fun a => by
        match a with
        | ⟨0, _⟩ => rfl))
  have hd : (shapeCast S8192x2048 (transpose S8192x4x512 [2, 0, 1] (Host.dotGeneral dot_S4x512x512_S8192x4x512_S4x512x8192_1_2_2_0_0_1 none W (shapeCast S8192x4x512 (subf (refMeans X g) (refNorm X g)) shapeCasts_S8192x2048_S8192x4x512)) transposes_S4x512x8192_S8192x4x512_2_0_1) shapeCasts_S8192x4x512_S8192x2048 (ix2 s (⟨512 * j.val + e.val, by omega⟩ : Fin 2048)) : EReal)
      = ∑ c : Fin 512, (Ideal.div (winSum (hrow X g) (2 ^ (j.val + 1)) s.val (512 * j.val + c.val)) (rowsIn (2 ^ (j.val + 1)) s.val) - hrow X g s.val (512 * j.val + c.val)) * W (ix3 j c e) := by
    refine (shapeCast_apply _ _ _ (ix3 s j e) (by
      rw [Shape.rowMajor_val_two, Shape.rowMajor_val_three]
      show (s.val * 4 + j.val) * 512 + e.val = s.val * 2048 + (512 * j.val + e.val)
      omega)).trans ?_
    refine (transpose_apply _ _ transposes_S4x512x8192_S8192x4x512_2_0_1 _ (ix3 j e s) fun a => match a with | ⟨0, _⟩ => rfl | ⟨1, _⟩ => rfl | ⟨2, _⟩ => rfl).trans ?_
    refine (dot_apply W _ j e s).trans (Finset.sum_congr rfl fun c _ => ?_)
    rw [mul_comm]
    refine congrArg (fun y : EReal => y * W (ix3 j c e)) ?_
    refine (shapeCast_apply _ _ _ (ix2 s (⟨512 * j.val + c.val, by omega⟩ : Fin 2048)) (by
      rw [Shape.rowMajor_val_two, Shape.rowMajor_val_three]
      show s.val * 2048 + (512 * j.val + c.val) = (s.val * 4 + j.val) * 512 + c.val
      omega)).trans ?_
    exact congrArg₂ (fun a b : EReal => a - b) (refMeans_apply X g hg s j c) (refNorm_apply X g s _)
  unfold poolF
  rw [← hb B, ← hb U]
  refine Eq.trans ?_ (congrArg (fun y : EReal => X (ix2 s (⟨512 * j.val + e.val, by omega⟩ : Fin 2048)) + (y + _) * _) hd)
  rfl

end Ref

/-- The result of the reference's run is this. -/
theorem ref_out (m : (ℓ : Loc nD τ sig) → Buf (Elt Ideal) ℓ) (c : Dev nD) : addf ((launchContents m c) (Proc.devRef .tc main_arg0)) (mulf (addf (shapeCast _ (transpose S8192x4x512 [2, 0, 1] (Host.dotGeneral (φ₁ := .f32) (φ₂ := .f32) dot_S4x512x512_S8192x4x512_S4x512x8192_1_2_2_0_0_1 none ((launchContents m c) (Proc.devRef .tc main_arg2)) (shapeCast _ (subf (Value.res_main_v141 (launchContents m c)) (Value.res_main_v12 (launchContents m c))) shapeCasts_S8192x2048_S8192x4x512)) transposes_S4x512x8192_S8192x4x512_2_0_1) shapeCasts_S8192x4x512_S8192x2048) (broadcastInDim S8192x2048 ![0, 1] bcast_S1x2048_S8192x2048_0_1 (broadcastInDim S1x2048 ![1] bcast_S2048_S1x2048_1 ((launchContents m c) (Proc.devRef .tc main_arg3))))) (broadcastInDim S8192x2048 ![0, 1] bcast_S1x2048_S8192x2048_0_1 (broadcastInDim S1x2048 ![1] bcast_S2048_S1x2048_1 ((launchContents m c) (Proc.devRef .tc main_arg4)))))
    = refOut (m ((c : Thread nD τ).loc main_arg0)) (m ((c : Thread nD τ).loc main_arg1)) (m ((c : Thread nD τ).loc main_arg2)) (m ((c : Thread nD τ).loc main_arg3)) (m ((c : Thread nD τ).loc main_arg4)) := rfl

end Cert.Proof.Pool

end

end
-- ==== Proof.PoolOut.lean ====
/-
  The pooling mixer's result is its reference's where the gains are finite.
-/
module

public import proofs.«01_k».proof.Proof.PoolState
public import proofs.«01_k».proof.Proof.PoolRef
public import proofs.«01_k».proof.Pre_finite_gain
public import Idealize.ShloMosaic.Lib.ReduceAll

@[expose] public section

set_option maxRecDepth 16384

noncomputable section

namespace Cert.Proof.Pool

open Idealize.ShloMosaic
open Idealize.ShloMosaic.TcCoe
open Idealize.ShloMosaic.ValueIdx

/-- The side conditions of the precondition's shapes. -/
theorem facts_gain : Cert.Pre_finite_gain.Facts where
  bcast_S_S2048 := by decide
  reducesTo_S2048_S_d0 := by decide
  h_S_ := by decide

/-- The precondition, read: every gain is a number. -/
theorem gain_num [Cert.Pre_finite_gain.Facts] (X : FVec Ideal ⟨2, ![8192, 2048]⟩ .f32) (g : FVec Ideal ⟨1, ![2048]⟩ .f32) (W : FVec Ideal ⟨3, ![4, 512, 512]⟩ .f32) (B U : FVec Ideal ⟨1, ![2048]⟩ .f32)
    (h : Cert.Pre_finite_gain.fn (F := Ideal) X g W B U = fun _ => 1#1) (k : Fin 2048) : IsNum (g (ix1 k)) := by
  haveI : Subsingleton (Cert.Pre_finite_gain.S_).Idx := ⟨fun a b => funext fun i => i.elim0⟩
  have e := Host.reduce_andi_all _ _ _ _ (fun i => i.elim0) (congrFun h fun i => i.elim0) (ix1 k)
  have htop : Ideal.ofBits .f32 0x7F800000#32 = ⊤ := by simp [Ideal.ofBits, Ideal.ieee]
  have e' : Ideal.cmp .olt (max (g (ix1 k) : EReal) (-(g (ix1 k) : EReal))) (Ideal.ofBits .f32 0x7F800000#32) = 1#1 := e
  rw [htop] at e'
  have key : ∀ y : EReal, Ideal.cmp .olt (max y (-y)) ⊤ = 1#1 → IsNum y := by
    intro y hy
    induction y with
    | bot => simp [Ideal.cmp] at hy
    | top => simp [Ideal.cmp] at hy
    | coe r => exact ⟨r, rfl⟩
  exact key _ e'

/-- The result. -/
theorem out_eq (m : (ℓ : Loc Cert.Kernel4Ideal.nD Cert.Kernel4Ideal.τ Cert.Kernel4Ideal.sig) → Buf (Elt Ideal) ℓ) (c : Dev Cert.Kernel4Ideal.nD) (hg : ∀ k, IsNum (gA m c (ix1 k))) :
    @Eq (FVec Ideal ⟨2, ![8192, 2048]⟩ .f32) (refOut (xA m c) (gA m c) (wA m c) (bA m c) (uA m c)) (Cert.Kernel4Ideal.Value.G5 m c) := by
  funext y
  have hy : (y 1).val < 2048 := (y 1).isLt
  have e : y = ix2 (y 0) (⟨512 * (⟨(y 1).val / 512, by omega⟩ : Fin 4).val + (⟨(y 1).val % 512, Nat.mod_lt _ (by decide)⟩ : Fin 512).val, by show 512 * ((y 1).val / 512) + (y 1).val % 512 < 2048; omega⟩ : Fin 2048) := by
    refine (eq_ix2 y).trans (congrArg (ix2 (y 0)) (Fin.ext ?_))
    show (y 1).val = 512 * ((y 1).val / 512) + (y 1).val % 512
    omega
  rw [e]
  exact (refOut_apply (xA m c) (gA m c) (wA m c) (bA m c) (uA m c) hg (y 0) ⟨(y 1).val / 512, by omega⟩ ⟨(y 1).val % 512, Nat.mod_lt _ (by decide)⟩).trans
    (result_value m c (y 0) ⟨(y 1).val / 512, by omega⟩ ⟨(y 1).val % 512, Nat.mod_lt _ (by decide)⟩).symm

end Cert.Proof.Pool

end

end
-- ==== Proof.lean ====
/-
  The certificate: the kernels and their references run to the end with their arguments unchanged and every semaphore at
  zero, and at exact arithmetic each kernel's results are its reference's.
-/
module

public import proofs.«01_k».proof.Proof.Out
public import proofs.«01_k».proof.Proof.Gen.Kernel2.Frame
public import proofs.«01_k».proof.Proof.Gen.ReferenceIdeal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Result
public import proofs.«01_k».proof.Proof.ProjRef
public import proofs.«01_k».proof.Proof.ProjSame
public import proofs.«01_k».proof.Proof.Gen.Kernel4.Frame
public import proofs.«01_k».proof.Proof.PoolOut
public import proofs.«01_k».proof.Proof.Gen.Kernel3

@[expose] public section

set_option maxRecDepth 16384

noncomputable section

namespace Cert.Proof

open Idealize.ShloMosaic Idealize.SL.Sem

/-- The kernel's frame: the run at the bit patterns. -/
theorem frame_kernel : Cert.quiescent_Kernel (hKernel := Cert.Kernel.Gen.facts) := fun m ρ _ =>
  (θ_run (Cert.KernelIdeal.defs (F := Bits)) _ _).mono (fun _ h => ⟨fun c => (h.1 c).2, h.2⟩) (Ffn.run_main (F := Bits) m ρ)

/-- The same run at exact arithmetic. -/
theorem frame_kernelIdeal : Cert.quiescent_KernelIdeal (hKernelIdeal := Cert.KernelIdeal.Gen.facts) := fun m ρ _ =>
  (θ_run (Cert.KernelIdeal.defs (F := Ideal)) _ _).mono (fun _ h => ⟨fun c => (h.1 c).2, h.2⟩) (Ffn.run_main (F := Ideal) m ρ)

/-- The reference's frame. -/
theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- The kernel's result is the reference's. -/
theorem algebraic : Cert.algebraic_KernelIdeal_ReferenceIdeal (hKernelIdeal := Cert.KernelIdeal.Gen.facts)
    (hReferenceIdeal := Cert.ReferenceIdeal.Gen.facts) := fun m ρ m' ρ' _ hm =>
  ⟨fun c => Ffn.refOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    (θ_run (Cert.KernelIdeal.defs (F := Ideal)) _ _).mono (fun _ h c => ⟨Ffn.out_eq m c _ (h.1 c).1, (h.1 c).2⟩) (Ffn.run_main (F := Ideal) m ρ),
    (θ_run (Cert.ReferenceIdeal.defs (F := Ideal)) _ _).mono (fun r h c => ⟨(h c).1.trans (by
      obtain ⟨h0, h1, h2, h3⟩ := hm c
      rw [h0, h1, h2, h3]
      rfl), (h c).2⟩) (Cert.ReferenceIdeal.Value.run (F := Ideal) m' ρ')⟩

/-- The output projection's frames: the generated runs. -/
theorem frame_kernel2 : Cert.quiescent_Kernel2 (hKernel2 := Cert.Kernel2.Gen.facts) := fun m ρ _ => Cert.Kernel2.Gen.frame m ρ
theorem frame_kernel2Ideal : Cert.quiescent_Kernel2Ideal (hKernel2Ideal := Cert.Kernel2Ideal.Gen.facts) := fun m ρ _ => Cert.Kernel2Ideal.Gen.frame m ρ
theorem frame_reference2 : Cert.quiescent_Reference2Ideal (hReference2Ideal := Cert.Reference2Ideal.Gen.facts) := fun m ρ _ =>
  (θ_run (Cert.Reference2Ideal.defs (F := Ideal)) _ _).mono (fun r h => ⟨fun c => (h c).2, sem_eq_zero_of_no_sems (by decide) r.2⟩)
    (Cert.Reference2Ideal.Value.run (F := Ideal) m ρ)

/-- The output projection's result is the reference's. -/
theorem algebraic2 : Cert.algebraic_Kernel2Ideal_Reference2Ideal (hKernel2Ideal := Cert.Kernel2Ideal.Gen.facts)
    (hReference2Ideal := Cert.Reference2Ideal.Gen.facts) := fun m ρ m' ρ' _ hm =>
  ⟨fun c => Out.refOut (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2)),
    (θ_run (Cert.Kernel2Ideal.defs (F := Ideal)) _ _).mono (fun _ h c => ⟨(h c).1.trans (Out.out_eq m c), (h c).2⟩)
      (Cert.Kernel2Ideal.Value.run (F := Ideal) m ρ),
    (θ_run (Cert.Reference2Ideal.defs (F := Ideal)) _ _).mono (fun r h c => ⟨(h c).1.trans (by
      obtain ⟨h0, h1, h2⟩ := hm c
      rw [h0, h1, h2]
      exact Out.refOut_eq _ _ _), (h c).2⟩) (Cert.Reference2Ideal.Value.run (F := Ideal) m' ρ')⟩

/-- The input projection's frames: one run over any floats, at the bit patterns and at exact arithmetic. -/
theorem frame_kernel3 : Cert.quiescent_Kernel3 (hKernel3 := Cert.Kernel3.Gen.facts) := fun m ρ _ => by
  rw [Same.defs_eq, Same.main_eq]
  exact Proj.frame (F := Bits) m ρ
theorem frame_kernel3Ideal : Cert.quiescent_Kernel3Ideal (hKernel3Ideal := Cert.Kernel3Ideal.Gen.facts) := fun m ρ _ => Proj.frame (F := Ideal) m ρ
theorem frame_reference3 : Cert.quiescent_Reference3Ideal (hReference3Ideal := Cert.Reference3Ideal.Gen.facts) := fun m ρ _ =>
  (θ_run (Cert.Reference3Ideal.defs (F := Ideal)) _ _).mono (fun r h => ⟨fun c => (h c).2.2, sem_eq_zero_of_no_sems (by decide) r.2⟩)
    (Cert.Reference3Ideal.Value.run (F := Ideal) m ρ)

/-- The input projection's two results are the reference's. -/
theorem algebraic3 : Cert.algebraic_Kernel3Ideal_Reference3Ideal (hKernel3Ideal := Cert.Kernel3Ideal.Gen.facts)
    (hReference3Ideal := Cert.Reference3Ideal.Gen.facts) := fun m ρ m' ρ' _ hm =>
  ⟨fun c => Proj.qkvArr m c, fun c => Proj.sumArr m c,
    (θ_run (Cert.Kernel3Ideal.defs (F := Ideal)) _ _).mono (fun _ h c => ⟨(h.1 c).1, (h.1 c).2, h.2 c⟩)
      (θ_run_and (Proj.run_results m ρ) (Proj.unchanged (F := Ideal) m ρ)),
    (θ_run (Cert.Reference3Ideal.defs (F := Ideal)) _ _).mono (fun r h c => ⟨(h c).1.trans ((Proj.ref_out0 m' c).trans (by
        obtain ⟨h0, h1, h2, h3, h4, h5⟩ := hm c
        rw [h0, h1, h2, h4, h5]
        exact Proj.refQkv_eq _ _ _ _ _)),
      (h c).2.1.trans ((Proj.ref_out1 m' c).trans (by
        obtain ⟨h0, h1, h2, h3, h4, h5⟩ := hm c
        rw [h0, h1, h2, h3]
        exact Proj.refSums_eq _ _ _ _)), (h c).2.2⟩) (Cert.Reference3Ideal.Value.run (F := Ideal) m' ρ')⟩

/-- The pooling mixer's frames: the generated runs, with the precondition or without it. -/
theorem frame_kernel4 : Cert.quiescent_Kernel4 (hKernel4 := Cert.Kernel4.Gen.facts) := fun m ρ _ => Cert.Kernel4.Gen.frame m ρ
theorem frame_kernel4Ideal : Cert.quiescent_Kernel4Ideal (hKernel4Ideal := Cert.Kernel4Ideal.Gen.facts) := fun m ρ _ => Cert.Kernel4Ideal.Gen.frame m ρ
theorem frame_kernel4Ideal_gain : Cert.quiescent_Kernel4Ideal_pre_finite_gain (hKernel4Ideal := Cert.Kernel4Ideal.Gen.facts) (hPre_finite_gain := Pool.facts_gain) :=
  fun m ρ _ => Cert.Kernel4Ideal.Gen.frame m ρ
theorem frame_reference4 : Cert.quiescent_Reference4Ideal (hReference4Ideal := Cert.Reference4Ideal.Gen.facts) := fun m ρ _ =>
  (θ_run (Cert.Reference4Ideal.defs (F := Ideal)) _ _).mono (fun r h => ⟨fun c => (h c).2, sem_eq_zero_of_no_sems (by decide) r.2⟩)
    (Cert.Reference4Ideal.Value.run (F := Ideal) m ρ)
theorem frame_reference4_gain : Cert.quiescent_Reference4Ideal_pre_finite_gain (hReference4Ideal := Cert.Reference4Ideal.Gen.facts) (hPre_finite_gain := Pool.facts_gain) :=
  fun m ρ _ => frame_reference4 m ρ trivial

/-- The pooling mixer's result is the reference's where the gains are finite. -/
theorem algebraic4 : Cert.algebraic_Kernel4Ideal_Reference4Ideal_pre_finite_gain (hKernel4Ideal := Cert.Kernel4Ideal.Gen.facts)
    (hReference4Ideal := Cert.Reference4Ideal.Gen.facts) (hPre_finite_gain := Pool.facts_gain) := fun m ρ m' ρ' hp hm =>
  ⟨fun c => Cert.Kernel4Ideal.Value.G5 m c,
    Cert.Kernel4Ideal.Value.run (F := Ideal) m ρ,
    (θ_run (Cert.Reference4Ideal.defs (F := Ideal)) _ _).mono (fun r h c => ⟨(h c).1.trans ((Pool.ref_out m' c).trans (by
      obtain ⟨h0, h1, h2, h3, h4⟩ := hm c
      rw [h0, h1, h2, h3, h4]
      exact Pool.out_eq m c (letI := Pool.facts_gain; Pool.gain_num _ _ _ _ _ (hp c)))), (h c).2⟩) (Cert.Reference4Ideal.Value.run (F := Ideal) m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Pool.facts_gain,
  frame_kernel, frame_kernelIdeal, frame_reference, frame_kernel2, frame_kernel2Ideal, frame_reference2,
  frame_kernel3, frame_kernel3Ideal, frame_reference3,
  frame_kernel4, frame_kernel4Ideal, frame_kernel4Ideal_gain, frame_reference4, frame_reference4_gain,
  trivial, algebraic, trivial, algebraic2, trivial, algebraic3, trivial, algebraic4⟩

end Cert.Proof

end
